-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def Pre_DwOut (m : (ℓ : Loc Cert.DwOut.nD Cert.DwOut.τ Cert.DwOut.sig) → Buf (Elt Bits) ℓ) : Prop :=
  True

def Pre_DwOutIdeal (m : (ℓ : Loc Cert.DwOutIdeal.nD Cert.DwOutIdeal.τ Cert.DwOutIdeal.sig) → Buf (Elt Ideal) ℓ) : Prop :=
  True

def Pre_DwOutRefIdeal (m : (ℓ : Loc Cert.DwOutRefIdeal.nD Cert.DwOutRefIdeal.τ Cert.DwOutRefIdeal.sig) → Buf (Elt Ideal) ℓ) : Prop :=
  True

def Pre_DwGlu (m : (ℓ : Loc Cert.DwGlu.nD Cert.DwGlu.τ Cert.DwGlu.sig) → Buf (Elt Bits) ℓ) : Prop :=
  True

def Pre_DwGluIdeal (m : (ℓ : Loc Cert.DwGluIdeal.nD Cert.DwGluIdeal.τ Cert.DwGluIdeal.sig) → Buf (Elt Ideal) ℓ) : Prop :=
  True

def Pre_DwGluRefIdeal (m : (ℓ : Loc Cert.DwGluRefIdeal.nD Cert.DwGluRefIdeal.τ Cert.DwGluRefIdeal.sig) → Buf (Elt Ideal) ℓ) : Prop :=
  True

def Pre_DwEarly (m : (ℓ : Loc Cert.DwEarly.nD Cert.DwEarly.τ Cert.DwEarly.sig) → Buf (Elt Bits) ℓ) : Prop :=
  True

def Pre_DwEarlyIdeal (m : (ℓ : Loc Cert.DwEarlyIdeal.nD Cert.DwEarlyIdeal.τ Cert.DwEarlyIdeal.sig) → Buf (Elt Ideal) ℓ) : Prop :=
  True

def Pre_DwEarlyRefIdeal (m : (ℓ : Loc Cert.DwEarlyRefIdeal.nD Cert.DwEarlyRefIdeal.τ Cert.DwEarlyRefIdeal.sig) → Buf (Elt Ideal) ℓ) : Prop :=
  True

def Pre_DwLate (m : (ℓ : Loc Cert.DwLate.nD Cert.DwLate.τ Cert.DwLate.sig) → Buf (Elt Bits) ℓ) : Prop :=
  True

def Pre_DwLateIdeal (m : (ℓ : Loc Cert.DwLateIdeal.nD Cert.DwLateIdeal.τ Cert.DwLateIdeal.sig) → Buf (Elt Ideal) ℓ) : Prop :=
  True

def Pre_DwLateRefIdeal (m : (ℓ : Loc Cert.DwLateRefIdeal.nD Cert.DwLateRefIdeal.τ Cert.DwLateRefIdeal.sig) → Buf (Elt Ideal) ℓ) : Prop :=
  True

def Pre_Tail (m : (ℓ : Loc Cert.Tail.nD Cert.Tail.τ Cert.Tail.sig) → Buf (Elt Bits) ℓ) : Prop :=
  True

def Pre_TailIdeal (m : (ℓ : Loc Cert.TailIdeal.nD Cert.TailIdeal.τ Cert.TailIdeal.sig) → Buf (Elt Ideal) ℓ) : Prop :=
  True

def Pre_TailIdeal_finite_tail [hPre_finite_tail : Cert.Pre_finite_tail.Facts] (m : (ℓ : Loc Cert.TailIdeal.nD Cert.TailIdeal.τ Cert.TailIdeal.sig) → Buf (Elt Ideal) ℓ) : Prop :=
  ∀ c : Dev Cert.TailIdeal.nD,
    (Cert.Pre_finite_tail.fn (F := Ideal) (m ((c.tc : Thread Cert.TailIdeal.nD Cert.TailIdeal.τ).loc Cert.TailIdeal.main_arg0)) (m ((c.tc : Thread Cert.TailIdeal.nD Cert.TailIdeal.τ).loc Cert.TailIdeal.main_arg1)) (m ((c.tc : Thread Cert.TailIdeal.nD Cert.TailIdeal.τ).loc Cert.TailIdeal.main_arg2)) (m ((c.tc : Thread Cert.TailIdeal.nD Cert.TailIdeal.τ).loc Cert.TailIdeal.main_arg3)) (m ((c.tc : Thread Cert.TailIdeal.nD Cert.TailIdeal.τ).loc Cert.TailIdeal.main_arg4)) (m ((c.tc : Thread Cert.TailIdeal.nD Cert.TailIdeal.τ).loc Cert.TailIdeal.main_arg5)) (m ((c.tc : Thread Cert.TailIdeal.nD Cert.TailIdeal.τ).loc Cert.TailIdeal.main_arg6)) (m ((c.tc : Thread Cert.TailIdeal.nD Cert.TailIdeal.τ).loc Cert.TailIdeal.main_arg7)) (m ((c.tc : Thread Cert.TailIdeal.nD Cert.TailIdeal.τ).loc Cert.TailIdeal.main_arg8))) = (fun _ => 1#1)

def Pre_TailRefIdeal (m : (ℓ : Loc Cert.TailRefIdeal.nD Cert.TailRefIdeal.τ Cert.TailRefIdeal.sig) → Buf (Elt Ideal) ℓ) : Prop :=
  True

def Pre_TailRefIdeal_finite_tail [hPre_finite_tail : Cert.Pre_finite_tail.Facts] (m : (ℓ : Loc Cert.TailRefIdeal.nD Cert.TailRefIdeal.τ Cert.TailRefIdeal.sig) → Buf (Elt Ideal) ℓ) : Prop :=
  ∀ c : Dev Cert.TailRefIdeal.nD,
    (Cert.Pre_finite_tail.fn (F := Ideal) (m ((c.tc : Thread Cert.TailRefIdeal.nD Cert.TailRefIdeal.τ).loc Cert.TailRefIdeal.main_arg0)) (m ((c.tc : Thread Cert.TailRefIdeal.nD Cert.TailRefIdeal.τ).loc Cert.TailRefIdeal.main_arg1)) (m ((c.tc : Thread Cert.TailRefIdeal.nD Cert.TailRefIdeal.τ).loc Cert.TailRefIdeal.main_arg2)) (m ((c.tc : Thread Cert.TailRefIdeal.nD Cert.TailRefIdeal.τ).loc Cert.TailRefIdeal.main_arg3)) (m ((c.tc : Thread Cert.TailRefIdeal.nD Cert.TailRefIdeal.τ).loc Cert.TailRefIdeal.main_arg4)) (m ((c.tc : Thread Cert.TailRefIdeal.nD Cert.TailRefIdeal.τ).loc Cert.TailRefIdeal.main_arg5)) (m ((c.tc : Thread Cert.TailRefIdeal.nD Cert.TailRefIdeal.τ).loc Cert.TailRefIdeal.main_arg6)) (m ((c.tc : Thread Cert.TailRefIdeal.nD Cert.TailRefIdeal.τ).loc Cert.TailRefIdeal.main_arg7)) (m ((c.tc : Thread Cert.TailRefIdeal.nD Cert.TailRefIdeal.τ).loc Cert.TailRefIdeal.main_arg8))) = (fun _ => 1#1)

def Pre_BwdIn (m : (ℓ : Loc Cert.BwdIn.nD Cert.BwdIn.τ Cert.BwdIn.sig) → Buf (Elt Bits) ℓ) : Prop :=
  True

def Pre_BwdInIdeal (m : (ℓ : Loc Cert.BwdInIdeal.nD Cert.BwdInIdeal.τ Cert.BwdInIdeal.sig) → Buf (Elt Ideal) ℓ) : Prop :=
  True

def Pre_BwdInRefIdeal (m : (ℓ : Loc Cert.BwdInRefIdeal.nD Cert.BwdInRefIdeal.τ Cert.BwdInRefIdeal.sig) → Buf (Elt Ideal) ℓ) : Prop :=
  True

def Pre_ConvFwd (m : (ℓ : Loc Cert.ConvFwd.nD Cert.ConvFwd.τ Cert.ConvFwd.sig) → Buf (Elt Bits) ℓ) : Prop :=
  True

def Pre_ConvFwdIdeal (m : (ℓ : Loc Cert.ConvFwdIdeal.nD Cert.ConvFwdIdeal.τ Cert.ConvFwdIdeal.sig) → Buf (Elt Ideal) ℓ) : Prop :=
  True

def Pre_ConvFwdRefIdeal (m : (ℓ : Loc Cert.ConvFwdRefIdeal.nD Cert.ConvFwdRefIdeal.τ Cert.ConvFwdRefIdeal.sig) → Buf (Elt Ideal) ℓ) : Prop :=
  True

def Pre_NormIn (m : (ℓ : Loc Cert.NormIn.nD Cert.NormIn.τ Cert.NormIn.sig) → Buf (Elt Bits) ℓ) : Prop :=
  True

def Pre_NormInIdeal (m : (ℓ : Loc Cert.NormInIdeal.nD Cert.NormInIdeal.τ Cert.NormInIdeal.sig) → Buf (Elt Ideal) ℓ) : Prop :=
  True

def Pre_NormInRefIdeal (m : (ℓ : Loc Cert.NormInRefIdeal.nD Cert.NormInRefIdeal.τ Cert.NormInRefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_DwOut [hDwOut : Cert.DwOut.Facts] : Prop :=
  ∀ (m : (ℓ : Loc Cert.DwOut.nD Cert.DwOut.τ Cert.DwOut.sig) → Buf (Elt Bits) ℓ) (g : Dev Cert.DwOut.nD → PrngReg), Pre_DwOut m →
    θ_run (Cert.DwOut.defs (F := Bits)) (onTc (τ := Cert.DwOut.τ) (Cert.DwOut.main (F := Bits))) ⟨m, fun _ => 0, g⟩ (fun r => (∀ c : Dev Cert.DwOut.nD,
      r.2.mem ((c.tc : Thread Cert.DwOut.nD Cert.DwOut.τ).loc Cert.DwOut.main_arg0) = m ((c.tc : Thread Cert.DwOut.nD Cert.DwOut.τ).loc Cert.DwOut.main_arg0)
      ∧ r.2.mem ((c.tc : Thread Cert.DwOut.nD Cert.DwOut.τ).loc Cert.DwOut.main_arg1) = m ((c.tc : Thread Cert.DwOut.nD Cert.DwOut.τ).loc Cert.DwOut.main_arg1))
      ∧ r.2.sem = fun _ => 0)

def quiescent_DwOutIdeal [hDwOutIdeal : Cert.DwOutIdeal.Facts] : Prop :=
  ∀ (m : (ℓ : Loc Cert.DwOutIdeal.nD Cert.DwOutIdeal.τ Cert.DwOutIdeal.sig) → Buf (Elt Ideal) ℓ) (g : Dev Cert.DwOutIdeal.nD → PrngReg), Pre_DwOutIdeal m →
    θ_run (Cert.DwOutIdeal.defs (F := Ideal)) (onTc (τ := Cert.DwOutIdeal.τ) (Cert.DwOutIdeal.main (F := Ideal))) ⟨m, fun _ => 0, g⟩ (fun r => (∀ c : Dev Cert.DwOutIdeal.nD,
      r.2.mem ((c.tc : Thread Cert.DwOutIdeal.nD Cert.DwOutIdeal.τ).loc Cert.DwOutIdeal.main_arg0) = m ((c.tc : Thread Cert.DwOutIdeal.nD Cert.DwOutIdeal.τ).loc Cert.DwOutIdeal.main_arg0)
      ∧ r.2.mem ((c.tc : Thread Cert.DwOutIdeal.nD Cert.DwOutIdeal.τ).loc Cert.DwOutIdeal.main_arg1) = m ((c.tc : Thread Cert.DwOutIdeal.nD Cert.DwOutIdeal.τ).loc Cert.DwOutIdeal.main_arg1))
      ∧ r.2.sem = fun _ => 0)

def quiescent_DwOutRefIdeal [hDwOutRefIdeal : Cert.DwOutRefIdeal.Facts] : Prop :=
  ∀ (m : (ℓ : Loc Cert.DwOutRefIdeal.nD Cert.DwOutRefIdeal.τ Cert.DwOutRefIdeal.sig) → Buf (Elt Ideal) ℓ) (g : Dev Cert.DwOutRefIdeal.nD → PrngReg), Pre_DwOutRefIdeal m →
    θ_run (Cert.DwOutRefIdeal.defs (F := Ideal)) (onTc (τ := Cert.DwOutRefIdeal.τ) (Cert.DwOutRefIdeal.main (F := Ideal))) ⟨m, fun _ => 0, g⟩ (fun r => (∀ c : Dev Cert.DwOutRefIdeal.nD,
      r.2.mem ((c.tc : Thread Cert.DwOutRefIdeal.nD Cert.DwOutRefIdeal.τ).loc Cert.DwOutRefIdeal.main_arg0) = m ((c.tc : Thread Cert.DwOutRefIdeal.nD Cert.DwOutRefIdeal.τ).loc Cert.DwOutRefIdeal.main_arg0)
      ∧ r.2.mem ((c.tc : Thread Cert.DwOutRefIdeal.nD Cert.DwOutRefIdeal.τ).loc Cert.DwOutRefIdeal.main_arg1) = m ((c.tc : Thread Cert.DwOutRefIdeal.nD Cert.DwOutRefIdeal.τ).loc Cert.DwOutRefIdeal.main_arg1))
      ∧ r.2.sem = fun _ => 0)

def quiescent_DwGlu [hDwGlu : Cert.DwGlu.Facts] : Prop :=
  ∀ (m : (ℓ : Loc Cert.DwGlu.nD Cert.DwGlu.τ Cert.DwGlu.sig) → Buf (Elt Bits) ℓ) (g : Dev Cert.DwGlu.nD → PrngReg), Pre_DwGlu m →
    θ_run (Cert.DwGlu.defs (F := Bits)) (onTc (τ := Cert.DwGlu.τ) (Cert.DwGlu.main (F := Bits))) ⟨m, fun _ => 0, g⟩ (fun r => (∀ c : Dev Cert.DwGlu.nD,
      r.2.mem ((c.tc : Thread Cert.DwGlu.nD Cert.DwGlu.τ).loc Cert.DwGlu.main_arg0) = m ((c.tc : Thread Cert.DwGlu.nD Cert.DwGlu.τ).loc Cert.DwGlu.main_arg0)
      ∧ r.2.mem ((c.tc : Thread Cert.DwGlu.nD Cert.DwGlu.τ).loc Cert.DwGlu.main_arg1) = m ((c.tc : Thread Cert.DwGlu.nD Cert.DwGlu.τ).loc Cert.DwGlu.main_arg1))
      ∧ r.2.sem = fun _ => 0)

def quiescent_DwGluIdeal [hDwGluIdeal : Cert.DwGluIdeal.Facts] : Prop :=
  ∀ (m : (ℓ : Loc Cert.DwGluIdeal.nD Cert.DwGluIdeal.τ Cert.DwGluIdeal.sig) → Buf (Elt Ideal) ℓ) (g : Dev Cert.DwGluIdeal.nD → PrngReg), Pre_DwGluIdeal m →
    θ_run (Cert.DwGluIdeal.defs (F := Ideal)) (onTc (τ := Cert.DwGluIdeal.τ) (Cert.DwGluIdeal.main (F := Ideal))) ⟨m, fun _ => 0, g⟩ (fun r => (∀ c : Dev Cert.DwGluIdeal.nD,
      r.2.mem ((c.tc : Thread Cert.DwGluIdeal.nD Cert.DwGluIdeal.τ).loc Cert.DwGluIdeal.main_arg0) = m ((c.tc : Thread Cert.DwGluIdeal.nD Cert.DwGluIdeal.τ).loc Cert.DwGluIdeal.main_arg0)
      ∧ r.2.mem ((c.tc : Thread Cert.DwGluIdeal.nD Cert.DwGluIdeal.τ).loc Cert.DwGluIdeal.main_arg1) = m ((c.tc : Thread Cert.DwGluIdeal.nD Cert.DwGluIdeal.τ).loc Cert.DwGluIdeal.main_arg1))
      ∧ r.2.sem = fun _ => 0)

def quiescent_DwGluRefIdeal [hDwGluRefIdeal : Cert.DwGluRefIdeal.Facts] : Prop :=
  ∀ (m : (ℓ : Loc Cert.DwGluRefIdeal.nD Cert.DwGluRefIdeal.τ Cert.DwGluRefIdeal.sig) → Buf (Elt Ideal) ℓ) (g : Dev Cert.DwGluRefIdeal.nD → PrngReg), Pre_DwGluRefIdeal m →
    θ_run (Cert.DwGluRefIdeal.defs (F := Ideal)) (onTc (τ := Cert.DwGluRefIdeal.τ) (Cert.DwGluRefIdeal.main (F := Ideal))) ⟨m, fun _ => 0, g⟩ (fun r => (∀ c : Dev Cert.DwGluRefIdeal.nD,
      r.2.mem ((c.tc : Thread Cert.DwGluRefIdeal.nD Cert.DwGluRefIdeal.τ).loc Cert.DwGluRefIdeal.main_arg0) = m ((c.tc : Thread Cert.DwGluRefIdeal.nD Cert.DwGluRefIdeal.τ).loc Cert.DwGluRefIdeal.main_arg0)
      ∧ r.2.mem ((c.tc : Thread Cert.DwGluRefIdeal.nD Cert.DwGluRefIdeal.τ).loc Cert.DwGluRefIdeal.main_arg1) = m ((c.tc : Thread Cert.DwGluRefIdeal.nD Cert.DwGluRefIdeal.τ).loc Cert.DwGluRefIdeal.main_arg1))
      ∧ r.2.sem = fun _ => 0)

def quiescent_DwEarly [hDwEarly : Cert.DwEarly.Facts] : Prop :=
  ∀ (m : (ℓ : Loc Cert.DwEarly.nD Cert.DwEarly.τ Cert.DwEarly.sig) → Buf (Elt Bits) ℓ) (g : Dev Cert.DwEarly.nD → PrngReg), Pre_DwEarly m →
    θ_run (Cert.DwEarly.defs (F := Bits)) (onTc (τ := Cert.DwEarly.τ) (Cert.DwEarly.main (F := Bits))) ⟨m, fun _ => 0, g⟩ (fun r => (∀ c : Dev Cert.DwEarly.nD,
      r.2.mem ((c.tc : Thread Cert.DwEarly.nD Cert.DwEarly.τ).loc Cert.DwEarly.main_arg0) = m ((c.tc : Thread Cert.DwEarly.nD Cert.DwEarly.τ).loc Cert.DwEarly.main_arg0)
      ∧ r.2.mem ((c.tc : Thread Cert.DwEarly.nD Cert.DwEarly.τ).loc Cert.DwEarly.main_arg1) = m ((c.tc : Thread Cert.DwEarly.nD Cert.DwEarly.τ).loc Cert.DwEarly.main_arg1)
      ∧ r.2.mem ((c.tc : Thread Cert.DwEarly.nD Cert.DwEarly.τ).loc Cert.DwEarly.main_arg2) = m ((c.tc : Thread Cert.DwEarly.nD Cert.DwEarly.τ).loc Cert.DwEarly.main_arg2))
      ∧ r.2.sem = fun _ => 0)

def quiescent_DwEarlyIdeal [hDwEarlyIdeal : Cert.DwEarlyIdeal.Facts] : Prop :=
  ∀ (m : (ℓ : Loc Cert.DwEarlyIdeal.nD Cert.DwEarlyIdeal.τ Cert.DwEarlyIdeal.sig) → Buf (Elt Ideal) ℓ) (g : Dev Cert.DwEarlyIdeal.nD → PrngReg), Pre_DwEarlyIdeal m →
    θ_run (Cert.DwEarlyIdeal.defs (F := Ideal)) (onTc (τ := Cert.DwEarlyIdeal.τ) (Cert.DwEarlyIdeal.main (F := Ideal))) ⟨m, fun _ => 0, g⟩ (fun r => (∀ c : Dev Cert.DwEarlyIdeal.nD,
      r.2.mem ((c.tc : Thread Cert.DwEarlyIdeal.nD Cert.DwEarlyIdeal.τ).loc Cert.DwEarlyIdeal.main_arg0) = m ((c.tc : Thread Cert.DwEarlyIdeal.nD Cert.DwEarlyIdeal.τ).loc Cert.DwEarlyIdeal.main_arg0)
      ∧ r.2.mem ((c.tc : Thread Cert.DwEarlyIdeal.nD Cert.DwEarlyIdeal.τ).loc Cert.DwEarlyIdeal.main_arg1) = m ((c.tc : Thread Cert.DwEarlyIdeal.nD Cert.DwEarlyIdeal.τ).loc Cert.DwEarlyIdeal.main_arg1)
      ∧ r.2.mem ((c.tc : Thread Cert.DwEarlyIdeal.nD Cert.DwEarlyIdeal.τ).loc Cert.DwEarlyIdeal.main_arg2) = m ((c.tc : Thread Cert.DwEarlyIdeal.nD Cert.DwEarlyIdeal.τ).loc Cert.DwEarlyIdeal.main_arg2))
      ∧ r.2.sem = fun _ => 0)

def quiescent_DwEarlyRefIdeal [hDwEarlyRefIdeal : Cert.DwEarlyRefIdeal.Facts] : Prop :=
  ∀ (m : (ℓ : Loc Cert.DwEarlyRefIdeal.nD Cert.DwEarlyRefIdeal.τ Cert.DwEarlyRefIdeal.sig) → Buf (Elt Ideal) ℓ) (g : Dev Cert.DwEarlyRefIdeal.nD → PrngReg), Pre_DwEarlyRefIdeal m →
    θ_run (Cert.DwEarlyRefIdeal.defs (F := Ideal)) (onTc (τ := Cert.DwEarlyRefIdeal.τ) (Cert.DwEarlyRefIdeal.main (F := Ideal))) ⟨m, fun _ => 0, g⟩ (fun r => (∀ c : Dev Cert.DwEarlyRefIdeal.nD,
      r.2.mem ((c.tc : Thread Cert.DwEarlyRefIdeal.nD Cert.DwEarlyRefIdeal.τ).loc Cert.DwEarlyRefIdeal.main_arg0) = m ((c.tc : Thread Cert.DwEarlyRefIdeal.nD Cert.DwEarlyRefIdeal.τ).loc Cert.DwEarlyRefIdeal.main_arg0)
      ∧ r.2.mem ((c.tc : Thread Cert.DwEarlyRefIdeal.nD Cert.DwEarlyRefIdeal.τ).loc Cert.DwEarlyRefIdeal.main_arg1) = m ((c.tc : Thread Cert.DwEarlyRefIdeal.nD Cert.DwEarlyRefIdeal.τ).loc Cert.DwEarlyRefIdeal.main_arg1)
      ∧ r.2.mem ((c.tc : Thread Cert.DwEarlyRefIdeal.nD Cert.DwEarlyRefIdeal.τ).loc Cert.DwEarlyRefIdeal.main_arg2) = m ((c.tc : Thread Cert.DwEarlyRefIdeal.nD Cert.DwEarlyRefIdeal.τ).loc Cert.DwEarlyRefIdeal.main_arg2))
      ∧ r.2.sem = fun _ => 0)

def quiescent_DwLate [hDwLate : Cert.DwLate.Facts] : Prop :=
  ∀ (m : (ℓ : Loc Cert.DwLate.nD Cert.DwLate.τ Cert.DwLate.sig) → Buf (Elt Bits) ℓ) (g : Dev Cert.DwLate.nD → PrngReg), Pre_DwLate m →
    θ_run (Cert.DwLate.defs (F := Bits)) (onTc (τ := Cert.DwLate.τ) (Cert.DwLate.main (F := Bits))) ⟨m, fun _ => 0, g⟩ (fun r => (∀ c : Dev Cert.DwLate.nD,
      r.2.mem ((c.tc : Thread Cert.DwLate.nD Cert.DwLate.τ).loc Cert.DwLate.main_arg0) = m ((c.tc : Thread Cert.DwLate.nD Cert.DwLate.τ).loc Cert.DwLate.main_arg0)
      ∧ r.2.mem ((c.tc : Thread Cert.DwLate.nD Cert.DwLate.τ).loc Cert.DwLate.main_arg1) = m ((c.tc : Thread Cert.DwLate.nD Cert.DwLate.τ).loc Cert.DwLate.main_arg1)
      ∧ r.2.mem ((c.tc : Thread Cert.DwLate.nD Cert.DwLate.τ).loc Cert.DwLate.main_arg2) = m ((c.tc : Thread Cert.DwLate.nD Cert.DwLate.τ).loc Cert.DwLate.main_arg2)
      ∧ r.2.mem ((c.tc : Thread Cert.DwLate.nD Cert.DwLate.τ).loc Cert.DwLate.main_arg3) = m ((c.tc : Thread Cert.DwLate.nD Cert.DwLate.τ).loc Cert.DwLate.main_arg3))
      ∧ r.2.sem = fun _ => 0)

def quiescent_DwLateIdeal [hDwLateIdeal : Cert.DwLateIdeal.Facts] : Prop :=
  ∀ (m : (ℓ : Loc Cert.DwLateIdeal.nD Cert.DwLateIdeal.τ Cert.DwLateIdeal.sig) → Buf (Elt Ideal) ℓ) (g : Dev Cert.DwLateIdeal.nD → PrngReg), Pre_DwLateIdeal m →
    θ_run (Cert.DwLateIdeal.defs (F := Ideal)) (onTc (τ := Cert.DwLateIdeal.τ) (Cert.DwLateIdeal.main (F := Ideal))) ⟨m, fun _ => 0, g⟩ (fun r => (∀ c : Dev Cert.DwLateIdeal.nD,
      r.2.mem ((c.tc : Thread Cert.DwLateIdeal.nD Cert.DwLateIdeal.τ).loc Cert.DwLateIdeal.main_arg0) = m ((c.tc : Thread Cert.DwLateIdeal.nD Cert.DwLateIdeal.τ).loc Cert.DwLateIdeal.main_arg0)
      ∧ r.2.mem ((c.tc : Thread Cert.DwLateIdeal.nD Cert.DwLateIdeal.τ).loc Cert.DwLateIdeal.main_arg1) = m ((c.tc : Thread Cert.DwLateIdeal.nD Cert.DwLateIdeal.τ).loc Cert.DwLateIdeal.main_arg1)
      ∧ r.2.mem ((c.tc : Thread Cert.DwLateIdeal.nD Cert.DwLateIdeal.τ).loc Cert.DwLateIdeal.main_arg2) = m ((c.tc : Thread Cert.DwLateIdeal.nD Cert.DwLateIdeal.τ).loc Cert.DwLateIdeal.main_arg2)
      ∧ r.2.mem ((c.tc : Thread Cert.DwLateIdeal.nD Cert.DwLateIdeal.τ).loc Cert.DwLateIdeal.main_arg3) = m ((c.tc : Thread Cert.DwLateIdeal.nD Cert.DwLateIdeal.τ).loc Cert.DwLateIdeal.main_arg3))
      ∧ r.2.sem = fun _ => 0)

def quiescent_DwLateRefIdeal [hDwLateRefIdeal : Cert.DwLateRefIdeal.Facts] : Prop :=
  ∀ (m : (ℓ : Loc Cert.DwLateRefIdeal.nD Cert.DwLateRefIdeal.τ Cert.DwLateRefIdeal.sig) → Buf (Elt Ideal) ℓ) (g : Dev Cert.DwLateRefIdeal.nD → PrngReg), Pre_DwLateRefIdeal m →
    θ_run (Cert.DwLateRefIdeal.defs (F := Ideal)) (onTc (τ := Cert.DwLateRefIdeal.τ) (Cert.DwLateRefIdeal.main (F := Ideal))) ⟨m, fun _ => 0, g⟩ (fun r => (∀ c : Dev Cert.DwLateRefIdeal.nD,
      r.2.mem ((c.tc : Thread Cert.DwLateRefIdeal.nD Cert.DwLateRefIdeal.τ).loc Cert.DwLateRefIdeal.main_arg0) = m ((c.tc : Thread Cert.DwLateRefIdeal.nD Cert.DwLateRefIdeal.τ).loc Cert.DwLateRefIdeal.main_arg0)
      ∧ r.2.mem ((c.tc : Thread Cert.DwLateRefIdeal.nD Cert.DwLateRefIdeal.τ).loc Cert.DwLateRefIdeal.main_arg1) = m ((c.tc : Thread Cert.DwLateRefIdeal.nD Cert.DwLateRefIdeal.τ).loc Cert.DwLateRefIdeal.main_arg1)
      ∧ r.2.mem ((c.tc : Thread Cert.DwLateRefIdeal.nD Cert.DwLateRefIdeal.τ).loc Cert.DwLateRefIdeal.main_arg2) = m ((c.tc : Thread Cert.DwLateRefIdeal.nD Cert.DwLateRefIdeal.τ).loc Cert.DwLateRefIdeal.main_arg2)
      ∧ r.2.mem ((c.tc : Thread Cert.DwLateRefIdeal.nD Cert.DwLateRefIdeal.τ).loc Cert.DwLateRefIdeal.main_arg3) = m ((c.tc : Thread Cert.DwLateRefIdeal.nD Cert.DwLateRefIdeal.τ).loc Cert.DwLateRefIdeal.main_arg3))
      ∧ r.2.sem = fun _ => 0)

def quiescent_Tail [hTail : Cert.Tail.Facts] : Prop :=
  ∀ (m : (ℓ : Loc Cert.Tail.nD Cert.Tail.τ Cert.Tail.sig) → Buf (Elt Bits) ℓ) (g : Dev Cert.Tail.nD → PrngReg), Pre_Tail m →
    θ_run (Cert.Tail.defs (F := Bits)) (onTc (τ := Cert.Tail.τ) (Cert.Tail.main (F := Bits))) ⟨m, fun _ => 0, g⟩ (fun r => (∀ c : Dev Cert.Tail.nD,
      r.2.mem ((c.tc : Thread Cert.Tail.nD Cert.Tail.τ).loc Cert.Tail.main_arg0) = m ((c.tc : Thread Cert.Tail.nD Cert.Tail.τ).loc Cert.Tail.main_arg0)
      ∧ r.2.mem ((c.tc : Thread Cert.Tail.nD Cert.Tail.τ).loc Cert.Tail.main_arg1) = m ((c.tc : Thread Cert.Tail.nD Cert.Tail.τ).loc Cert.Tail.main_arg1)
      ∧ r.2.mem ((c.tc : Thread Cert.Tail.nD Cert.Tail.τ).loc Cert.Tail.main_arg2) = m ((c.tc : Thread Cert.Tail.nD Cert.Tail.τ).loc Cert.Tail.main_arg2)
      ∧ r.2.mem ((c.tc : Thread Cert.Tail.nD Cert.Tail.τ).loc Cert.Tail.main_arg3) = m ((c.tc : Thread Cert.Tail.nD Cert.Tail.τ).loc Cert.Tail.main_arg3)
      ∧ r.2.mem ((c.tc : Thread Cert.Tail.nD Cert.Tail.τ).loc Cert.Tail.main_arg4) = m ((c.tc : Thread Cert.Tail.nD Cert.Tail.τ).loc Cert.Tail.main_arg4)
      ∧ r.2.mem ((c.tc : Thread Cert.Tail.nD Cert.Tail.τ).loc Cert.Tail.main_arg5) = m ((c.tc : Thread Cert.Tail.nD Cert.Tail.τ).loc Cert.Tail.main_arg5)
      ∧ r.2.mem ((c.tc : Thread Cert.Tail.nD Cert.Tail.τ).loc Cert.Tail.main_arg6) = m ((c.tc : Thread Cert.Tail.nD Cert.Tail.τ).loc Cert.Tail.main_arg6)
      ∧ r.2.mem ((c.tc : Thread Cert.Tail.nD Cert.Tail.τ).loc Cert.Tail.main_arg7) = m ((c.tc : Thread Cert.Tail.nD Cert.Tail.τ).loc Cert.Tail.main_arg7)
      ∧ r.2.mem ((c.tc : Thread Cert.Tail.nD Cert.Tail.τ).loc Cert.Tail.main_arg8) = m ((c.tc : Thread Cert.Tail.nD Cert.Tail.τ).loc Cert.Tail.main_arg8))
      ∧ r.2.sem = fun _ => 0)

def quiescent_TailIdeal [hTailIdeal : Cert.TailIdeal.Facts] : Prop :=
  ∀ (m : (ℓ : Loc Cert.TailIdeal.nD Cert.TailIdeal.τ Cert.TailIdeal.sig) → Buf (Elt Ideal) ℓ) (g : Dev Cert.TailIdeal.nD → PrngReg), Pre_TailIdeal m →
    θ_run (Cert.TailIdeal.defs (F := Ideal)) (onTc (τ := Cert.TailIdeal.τ) (Cert.TailIdeal.main (F := Ideal))) ⟨m, fun _ => 0, g⟩ (fun r => (∀ c : Dev Cert.TailIdeal.nD,
      r.2.mem ((c.tc : Thread Cert.TailIdeal.nD Cert.TailIdeal.τ).loc Cert.TailIdeal.main_arg0) = m ((c.tc : Thread Cert.TailIdeal.nD Cert.TailIdeal.τ).loc Cert.TailIdeal.main_arg0)
      ∧ r.2.mem ((c.tc : Thread Cert.TailIdeal.nD Cert.TailIdeal.τ).loc Cert.TailIdeal.main_arg1) = m ((c.tc : Thread Cert.TailIdeal.nD Cert.TailIdeal.τ).loc Cert.TailIdeal.main_arg1)
      ∧ r.2.mem ((c.tc : Thread Cert.TailIdeal.nD Cert.TailIdeal.τ).loc Cert.TailIdeal.main_arg2) = m ((c.tc : Thread Cert.TailIdeal.nD Cert.TailIdeal.τ).loc Cert.TailIdeal.main_arg2)
      ∧ r.2.mem ((c.tc : Thread Cert.TailIdeal.nD Cert.TailIdeal.τ).loc Cert.TailIdeal.main_arg3) = m ((c.tc : Thread Cert.TailIdeal.nD Cert.TailIdeal.τ).loc Cert.TailIdeal.main_arg3)
      ∧ r.2.mem ((c.tc : Thread Cert.TailIdeal.nD Cert.TailIdeal.τ).loc Cert.TailIdeal.main_arg4) = m ((c.tc : Thread Cert.TailIdeal.nD Cert.TailIdeal.τ).loc Cert.TailIdeal.main_arg4)
      ∧ r.2.mem ((c.tc : Thread Cert.TailIdeal.nD Cert.TailIdeal.τ).loc Cert.TailIdeal.main_arg5) = m ((c.tc : Thread Cert.TailIdeal.nD Cert.TailIdeal.τ).loc Cert.TailIdeal.main_arg5)
      ∧ r.2.mem ((c.tc : Thread Cert.TailIdeal.nD Cert.TailIdeal.τ).loc Cert.TailIdeal.main_arg6) = m ((c.tc : Thread Cert.TailIdeal.nD Cert.TailIdeal.τ).loc Cert.TailIdeal.main_arg6)
      ∧ r.2.mem ((c.tc : Thread Cert.TailIdeal.nD Cert.TailIdeal.τ).loc Cert.TailIdeal.main_arg7) = m ((c.tc : Thread Cert.TailIdeal.nD Cert.TailIdeal.τ).loc Cert.TailIdeal.main_arg7)
      ∧ r.2.mem ((c.tc : Thread Cert.TailIdeal.nD Cert.TailIdeal.τ).loc Cert.TailIdeal.main_arg8) = m ((c.tc : Thread Cert.TailIdeal.nD Cert.TailIdeal.τ).loc Cert.TailIdeal.main_arg8))
      ∧ r.2.sem = fun _ => 0)

def quiescent_TailIdeal_pre_finite_tail [hTailIdeal : Cert.TailIdeal.Facts] [hPre_finite_tail : Cert.Pre_finite_tail.Facts] : Prop :=
  ∀ (m : (ℓ : Loc Cert.TailIdeal.nD Cert.TailIdeal.τ Cert.TailIdeal.sig) → Buf (Elt Ideal) ℓ) (g : Dev Cert.TailIdeal.nD → PrngReg), Pre_TailIdeal_finite_tail m →
    θ_run (Cert.TailIdeal.defs (F := Ideal)) (onTc (τ := Cert.TailIdeal.τ) (Cert.TailIdeal.main (F := Ideal))) ⟨m, fun _ => 0, g⟩ (fun r => (∀ c : Dev Cert.TailIdeal.nD,
      r.2.mem ((c.tc : Thread Cert.TailIdeal.nD Cert.TailIdeal.τ).loc Cert.TailIdeal.main_arg0) = m ((c.tc : Thread Cert.TailIdeal.nD Cert.TailIdeal.τ).loc Cert.TailIdeal.main_arg0)
      ∧ r.2.mem ((c.tc : Thread Cert.TailIdeal.nD Cert.TailIdeal.τ).loc Cert.TailIdeal.main_arg1) = m ((c.tc : Thread Cert.TailIdeal.nD Cert.TailIdeal.τ).loc Cert.TailIdeal.main_arg1)
      ∧ r.2.mem ((c.tc : Thread Cert.TailIdeal.nD Cert.TailIdeal.τ).loc Cert.TailIdeal.main_arg2) = m ((c.tc : Thread Cert.TailIdeal.nD Cert.TailIdeal.τ).loc Cert.TailIdeal.main_arg2)
      ∧ r.2.mem ((c.tc : Thread Cert.TailIdeal.nD Cert.TailIdeal.τ).loc Cert.TailIdeal.main_arg3) = m ((c.tc : Thread Cert.TailIdeal.nD Cert.TailIdeal.τ).loc Cert.TailIdeal.main_arg3)
      ∧ r.2.mem ((c.tc : Thread Cert.TailIdeal.nD Cert.TailIdeal.τ).loc Cert.TailIdeal.main_arg4) = m ((c.tc : Thread Cert.TailIdeal.nD Cert.TailIdeal.τ).loc Cert.TailIdeal.main_arg4)
      ∧ r.2.mem ((c.tc : Thread Cert.TailIdeal.nD Cert.TailIdeal.τ).loc Cert.TailIdeal.main_arg5) = m ((c.tc : Thread Cert.TailIdeal.nD Cert.TailIdeal.τ).loc Cert.TailIdeal.main_arg5)
      ∧ r.2.mem ((c.tc : Thread Cert.TailIdeal.nD Cert.TailIdeal.τ).loc Cert.TailIdeal.main_arg6) = m ((c.tc : Thread Cert.TailIdeal.nD Cert.TailIdeal.τ).loc Cert.TailIdeal.main_arg6)
      ∧ r.2.mem ((c.tc : Thread Cert.TailIdeal.nD Cert.TailIdeal.τ).loc Cert.TailIdeal.main_arg7) = m ((c.tc : Thread Cert.TailIdeal.nD Cert.TailIdeal.τ).loc Cert.TailIdeal.main_arg7)
      ∧ r.2.mem ((c.tc : Thread Cert.TailIdeal.nD Cert.TailIdeal.τ).loc Cert.TailIdeal.main_arg8) = m ((c.tc : Thread Cert.TailIdeal.nD Cert.TailIdeal.τ).loc Cert.TailIdeal.main_arg8))
      ∧ r.2.sem = fun _ => 0)

def quiescent_TailRefIdeal [hTailRefIdeal : Cert.TailRefIdeal.Facts] : Prop :=
  ∀ (m : (ℓ : Loc Cert.TailRefIdeal.nD Cert.TailRefIdeal.τ Cert.TailRefIdeal.sig) → Buf (Elt Ideal) ℓ) (g : Dev Cert.TailRefIdeal.nD → PrngReg), Pre_TailRefIdeal m →
    θ_run (Cert.TailRefIdeal.defs (F := Ideal)) (onTc (τ := Cert.TailRefIdeal.τ) (Cert.TailRefIdeal.main (F := Ideal))) ⟨m, fun _ => 0, g⟩ (fun r => (∀ c : Dev Cert.TailRefIdeal.nD,
      r.2.mem ((c.tc : Thread Cert.TailRefIdeal.nD Cert.TailRefIdeal.τ).loc Cert.TailRefIdeal.main_arg0) = m ((c.tc : Thread Cert.TailRefIdeal.nD Cert.TailRefIdeal.τ).loc Cert.TailRefIdeal.main_arg0)
      ∧ r.2.mem ((c.tc : Thread Cert.TailRefIdeal.nD Cert.TailRefIdeal.τ).loc Cert.TailRefIdeal.main_arg1) = m ((c.tc : Thread Cert.TailRefIdeal.nD Cert.TailRefIdeal.τ).loc Cert.TailRefIdeal.main_arg1)
      ∧ r.2.mem ((c.tc : Thread Cert.TailRefIdeal.nD Cert.TailRefIdeal.τ).loc Cert.TailRefIdeal.main_arg2) = m ((c.tc : Thread Cert.TailRefIdeal.nD Cert.TailRefIdeal.τ).loc Cert.TailRefIdeal.main_arg2)
      ∧ r.2.mem ((c.tc : Thread Cert.TailRefIdeal.nD Cert.TailRefIdeal.τ).loc Cert.TailRefIdeal.main_arg3) = m ((c.tc : Thread Cert.TailRefIdeal.nD Cert.TailRefIdeal.τ).loc Cert.TailRefIdeal.main_arg3)
      ∧ r.2.mem ((c.tc : Thread Cert.TailRefIdeal.nD Cert.TailRefIdeal.τ).loc Cert.TailRefIdeal.main_arg4) = m ((c.tc : Thread Cert.TailRefIdeal.nD Cert.TailRefIdeal.τ).loc Cert.TailRefIdeal.main_arg4)
      ∧ r.2.mem ((c.tc : Thread Cert.TailRefIdeal.nD Cert.TailRefIdeal.τ).loc Cert.TailRefIdeal.main_arg5) = m ((c.tc : Thread Cert.TailRefIdeal.nD Cert.TailRefIdeal.τ).loc Cert.TailRefIdeal.main_arg5)
      ∧ r.2.mem ((c.tc : Thread Cert.TailRefIdeal.nD Cert.TailRefIdeal.τ).loc Cert.TailRefIdeal.main_arg6) = m ((c.tc : Thread Cert.TailRefIdeal.nD Cert.TailRefIdeal.τ).loc Cert.TailRefIdeal.main_arg6)
      ∧ r.2.mem ((c.tc : Thread Cert.TailRefIdeal.nD Cert.TailRefIdeal.τ).loc Cert.TailRefIdeal.main_arg7) = m ((c.tc : Thread Cert.TailRefIdeal.nD Cert.TailRefIdeal.τ).loc Cert.TailRefIdeal.main_arg7)
      ∧ r.2.mem ((c.tc : Thread Cert.TailRefIdeal.nD Cert.TailRefIdeal.τ).loc Cert.TailRefIdeal.main_arg8) = m ((c.tc : Thread Cert.TailRefIdeal.nD Cert.TailRefIdeal.τ).loc Cert.TailRefIdeal.main_arg8))
      ∧ r.2.sem = fun _ => 0)

def quiescent_TailRefIdeal_pre_finite_tail [hTailRefIdeal : Cert.TailRefIdeal.Facts] [hPre_finite_tail : Cert.Pre_finite_tail.Facts] : Prop :=
  ∀ (m : (ℓ : Loc Cert.TailRefIdeal.nD Cert.TailRefIdeal.τ Cert.TailRefIdeal.sig) → Buf (Elt Ideal) ℓ) (g : Dev Cert.TailRefIdeal.nD → PrngReg), Pre_TailRefIdeal_finite_tail m →
    θ_run (Cert.TailRefIdeal.defs (F := Ideal)) (onTc (τ := Cert.TailRefIdeal.τ) (Cert.TailRefIdeal.main (F := Ideal))) ⟨m, fun _ => 0, g⟩ (fun r => (∀ c : Dev Cert.TailRefIdeal.nD,
      r.2.mem ((c.tc : Thread Cert.TailRefIdeal.nD Cert.TailRefIdeal.τ).loc Cert.TailRefIdeal.main_arg0) = m ((c.tc : Thread Cert.TailRefIdeal.nD Cert.TailRefIdeal.τ).loc Cert.TailRefIdeal.main_arg0)
      ∧ r.2.mem ((c.tc : Thread Cert.TailRefIdeal.nD Cert.TailRefIdeal.τ).loc Cert.TailRefIdeal.main_arg1) = m ((c.tc : Thread Cert.TailRefIdeal.nD Cert.TailRefIdeal.τ).loc Cert.TailRefIdeal.main_arg1)
      ∧ r.2.mem ((c.tc : Thread Cert.TailRefIdeal.nD Cert.TailRefIdeal.τ).loc Cert.TailRefIdeal.main_arg2) = m ((c.tc : Thread Cert.TailRefIdeal.nD Cert.TailRefIdeal.τ).loc Cert.TailRefIdeal.main_arg2)
      ∧ r.2.mem ((c.tc : Thread Cert.TailRefIdeal.nD Cert.TailRefIdeal.τ).loc Cert.TailRefIdeal.main_arg3) = m ((c.tc : Thread Cert.TailRefIdeal.nD Cert.TailRefIdeal.τ).loc Cert.TailRefIdeal.main_arg3)
      ∧ r.2.mem ((c.tc : Thread Cert.TailRefIdeal.nD Cert.TailRefIdeal.τ).loc Cert.TailRefIdeal.main_arg4) = m ((c.tc : Thread Cert.TailRefIdeal.nD Cert.TailRefIdeal.τ).loc Cert.TailRefIdeal.main_arg4)
      ∧ r.2.mem ((c.tc : Thread Cert.TailRefIdeal.nD Cert.TailRefIdeal.τ).loc Cert.TailRefIdeal.main_arg5) = m ((c.tc : Thread Cert.TailRefIdeal.nD Cert.TailRefIdeal.τ).loc Cert.TailRefIdeal.main_arg5)
      ∧ r.2.mem ((c.tc : Thread Cert.TailRefIdeal.nD Cert.TailRefIdeal.τ).loc Cert.TailRefIdeal.main_arg6) = m ((c.tc : Thread Cert.TailRefIdeal.nD Cert.TailRefIdeal.τ).loc Cert.TailRefIdeal.main_arg6)
      ∧ r.2.mem ((c.tc : Thread Cert.TailRefIdeal.nD Cert.TailRefIdeal.τ).loc Cert.TailRefIdeal.main_arg7) = m ((c.tc : Thread Cert.TailRefIdeal.nD Cert.TailRefIdeal.τ).loc Cert.TailRefIdeal.main_arg7)
      ∧ r.2.mem ((c.tc : Thread Cert.TailRefIdeal.nD Cert.TailRefIdeal.τ).loc Cert.TailRefIdeal.main_arg8) = m ((c.tc : Thread Cert.TailRefIdeal.nD Cert.TailRefIdeal.τ).loc Cert.TailRefIdeal.main_arg8))
      ∧ r.2.sem = fun _ => 0)

def quiescent_BwdIn [hBwdIn : Cert.BwdIn.Facts] : Prop :=
  ∀ (m : (ℓ : Loc Cert.BwdIn.nD Cert.BwdIn.τ Cert.BwdIn.sig) → Buf (Elt Bits) ℓ) (g : Dev Cert.BwdIn.nD → PrngReg), Pre_BwdIn m →
    θ_run (Cert.BwdIn.defs (F := Bits)) (onTc (τ := Cert.BwdIn.τ) (Cert.BwdIn.main (F := Bits))) ⟨m, fun _ => 0, g⟩ (fun r => (∀ c : Dev Cert.BwdIn.nD,
      r.2.mem ((c.tc : Thread Cert.BwdIn.nD Cert.BwdIn.τ).loc Cert.BwdIn.main_arg0) = m ((c.tc : Thread Cert.BwdIn.nD Cert.BwdIn.τ).loc Cert.BwdIn.main_arg0)
      ∧ r.2.mem ((c.tc : Thread Cert.BwdIn.nD Cert.BwdIn.τ).loc Cert.BwdIn.main_arg1) = m ((c.tc : Thread Cert.BwdIn.nD Cert.BwdIn.τ).loc Cert.BwdIn.main_arg1)
      ∧ r.2.mem ((c.tc : Thread Cert.BwdIn.nD Cert.BwdIn.τ).loc Cert.BwdIn.main_arg2) = m ((c.tc : Thread Cert.BwdIn.nD Cert.BwdIn.τ).loc Cert.BwdIn.main_arg2)
      ∧ r.2.mem ((c.tc : Thread Cert.BwdIn.nD Cert.BwdIn.τ).loc Cert.BwdIn.main_arg3) = m ((c.tc : Thread Cert.BwdIn.nD Cert.BwdIn.τ).loc Cert.BwdIn.main_arg3)
      ∧ r.2.mem ((c.tc : Thread Cert.BwdIn.nD Cert.BwdIn.τ).loc Cert.BwdIn.main_arg4) = m ((c.tc : Thread Cert.BwdIn.nD Cert.BwdIn.τ).loc Cert.BwdIn.main_arg4)
      ∧ r.2.mem ((c.tc : Thread Cert.BwdIn.nD Cert.BwdIn.τ).loc Cert.BwdIn.main_arg5) = m ((c.tc : Thread Cert.BwdIn.nD Cert.BwdIn.τ).loc Cert.BwdIn.main_arg5)
      ∧ r.2.mem ((c.tc : Thread Cert.BwdIn.nD Cert.BwdIn.τ).loc Cert.BwdIn.main_arg6) = m ((c.tc : Thread Cert.BwdIn.nD Cert.BwdIn.τ).loc Cert.BwdIn.main_arg6))
      ∧ r.2.sem = fun _ => 0)

def quiescent_BwdInIdeal [hBwdInIdeal : Cert.BwdInIdeal.Facts] : Prop :=
  ∀ (m : (ℓ : Loc Cert.BwdInIdeal.nD Cert.BwdInIdeal.τ Cert.BwdInIdeal.sig) → Buf (Elt Ideal) ℓ) (g : Dev Cert.BwdInIdeal.nD → PrngReg), Pre_BwdInIdeal m →
    θ_run (Cert.BwdInIdeal.defs (F := Ideal)) (onTc (τ := Cert.BwdInIdeal.τ) (Cert.BwdInIdeal.main (F := Ideal))) ⟨m, fun _ => 0, g⟩ (fun r => (∀ c : Dev Cert.BwdInIdeal.nD,
      r.2.mem ((c.tc : Thread Cert.BwdInIdeal.nD Cert.BwdInIdeal.τ).loc Cert.BwdInIdeal.main_arg0) = m ((c.tc : Thread Cert.BwdInIdeal.nD Cert.BwdInIdeal.τ).loc Cert.BwdInIdeal.main_arg0)
      ∧ r.2.mem ((c.tc : Thread Cert.BwdInIdeal.nD Cert.BwdInIdeal.τ).loc Cert.BwdInIdeal.main_arg1) = m ((c.tc : Thread Cert.BwdInIdeal.nD Cert.BwdInIdeal.τ).loc Cert.BwdInIdeal.main_arg1)
      ∧ r.2.mem ((c.tc : Thread Cert.BwdInIdeal.nD Cert.BwdInIdeal.τ).loc Cert.BwdInIdeal.main_arg2) = m ((c.tc : Thread Cert.BwdInIdeal.nD Cert.BwdInIdeal.τ).loc Cert.BwdInIdeal.main_arg2)
      ∧ r.2.mem ((c.tc : Thread Cert.BwdInIdeal.nD Cert.BwdInIdeal.τ).loc Cert.BwdInIdeal.main_arg3) = m ((c.tc : Thread Cert.BwdInIdeal.nD Cert.BwdInIdeal.τ).loc Cert.BwdInIdeal.main_arg3)
      ∧ r.2.mem ((c.tc : Thread Cert.BwdInIdeal.nD Cert.BwdInIdeal.τ).loc Cert.BwdInIdeal.main_arg4) = m ((c.tc : Thread Cert.BwdInIdeal.nD Cert.BwdInIdeal.τ).loc Cert.BwdInIdeal.main_arg4)
      ∧ r.2.mem ((c.tc : Thread Cert.BwdInIdeal.nD Cert.BwdInIdeal.τ).loc Cert.BwdInIdeal.main_arg5) = m ((c.tc : Thread Cert.BwdInIdeal.nD Cert.BwdInIdeal.τ).loc Cert.BwdInIdeal.main_arg5)
      ∧ r.2.mem ((c.tc : Thread Cert.BwdInIdeal.nD Cert.BwdInIdeal.τ).loc Cert.BwdInIdeal.main_arg6) = m ((c.tc : Thread Cert.BwdInIdeal.nD Cert.BwdInIdeal.τ).loc Cert.BwdInIdeal.main_arg6))
      ∧ r.2.sem = fun _ => 0)

def quiescent_BwdInRefIdeal [hBwdInRefIdeal : Cert.BwdInRefIdeal.Facts] : Prop :=
  ∀ (m : (ℓ : Loc Cert.BwdInRefIdeal.nD Cert.BwdInRefIdeal.τ Cert.BwdInRefIdeal.sig) → Buf (Elt Ideal) ℓ) (g : Dev Cert.BwdInRefIdeal.nD → PrngReg), Pre_BwdInRefIdeal m →
    θ_run (Cert.BwdInRefIdeal.defs (F := Ideal)) (onTc (τ := Cert.BwdInRefIdeal.τ) (Cert.BwdInRefIdeal.main (F := Ideal))) ⟨m, fun _ => 0, g⟩ (fun r => (∀ c : Dev Cert.BwdInRefIdeal.nD,
      r.2.mem ((c.tc : Thread Cert.BwdInRefIdeal.nD Cert.BwdInRefIdeal.τ).loc Cert.BwdInRefIdeal.main_arg0) = m ((c.tc : Thread Cert.BwdInRefIdeal.nD Cert.BwdInRefIdeal.τ).loc Cert.BwdInRefIdeal.main_arg0)
      ∧ r.2.mem ((c.tc : Thread Cert.BwdInRefIdeal.nD Cert.BwdInRefIdeal.τ).loc Cert.BwdInRefIdeal.main_arg1) = m ((c.tc : Thread Cert.BwdInRefIdeal.nD Cert.BwdInRefIdeal.τ).loc Cert.BwdInRefIdeal.main_arg1)
      ∧ r.2.mem ((c.tc : Thread Cert.BwdInRefIdeal.nD Cert.BwdInRefIdeal.τ).loc Cert.BwdInRefIdeal.main_arg2) = m ((c.tc : Thread Cert.BwdInRefIdeal.nD Cert.BwdInRefIdeal.τ).loc Cert.BwdInRefIdeal.main_arg2)
      ∧ r.2.mem ((c.tc : Thread Cert.BwdInRefIdeal.nD Cert.BwdInRefIdeal.τ).loc Cert.BwdInRefIdeal.main_arg3) = m ((c.tc : Thread Cert.BwdInRefIdeal.nD Cert.BwdInRefIdeal.τ).loc Cert.BwdInRefIdeal.main_arg3)
      ∧ r.2.mem ((c.tc : Thread Cert.BwdInRefIdeal.nD Cert.BwdInRefIdeal.τ).loc Cert.BwdInRefIdeal.main_arg4) = m ((c.tc : Thread Cert.BwdInRefIdeal.nD Cert.BwdInRefIdeal.τ).loc Cert.BwdInRefIdeal.main_arg4)
      ∧ r.2.mem ((c.tc : Thread Cert.BwdInRefIdeal.nD Cert.BwdInRefIdeal.τ).loc Cert.BwdInRefIdeal.main_arg5) = m ((c.tc : Thread Cert.BwdInRefIdeal.nD Cert.BwdInRefIdeal.τ).loc Cert.BwdInRefIdeal.main_arg5)
      ∧ r.2.mem ((c.tc : Thread Cert.BwdInRefIdeal.nD Cert.BwdInRefIdeal.τ).loc Cert.BwdInRefIdeal.main_arg6) = m ((c.tc : Thread Cert.BwdInRefIdeal.nD Cert.BwdInRefIdeal.τ).loc Cert.BwdInRefIdeal.main_arg6))
      ∧ r.2.sem = fun _ => 0)

def quiescent_ConvFwd [hConvFwd : Cert.ConvFwd.Facts] : Prop :=
  ∀ (m : (ℓ : Loc Cert.ConvFwd.nD Cert.ConvFwd.τ Cert.ConvFwd.sig) → Buf (Elt Bits) ℓ) (g : Dev Cert.ConvFwd.nD → PrngReg), Pre_ConvFwd m →
    θ_run (Cert.ConvFwd.defs (F := Bits)) (onTc (τ := Cert.ConvFwd.τ) (Cert.ConvFwd.main (F := Bits))) ⟨m, fun _ => 0, g⟩ (fun r => (∀ c : Dev Cert.ConvFwd.nD,
      r.2.mem ((c.tc : Thread Cert.ConvFwd.nD Cert.ConvFwd.τ).loc Cert.ConvFwd.main_arg0) = m ((c.tc : Thread Cert.ConvFwd.nD Cert.ConvFwd.τ).loc Cert.ConvFwd.main_arg0)
      ∧ r.2.mem ((c.tc : Thread Cert.ConvFwd.nD Cert.ConvFwd.τ).loc Cert.ConvFwd.main_arg1) = m ((c.tc : Thread Cert.ConvFwd.nD Cert.ConvFwd.τ).loc Cert.ConvFwd.main_arg1)
      ∧ r.2.mem ((c.tc : Thread Cert.ConvFwd.nD Cert.ConvFwd.τ).loc Cert.ConvFwd.main_arg2) = m ((c.tc : Thread Cert.ConvFwd.nD Cert.ConvFwd.τ).loc Cert.ConvFwd.main_arg2))
      ∧ r.2.sem = fun _ => 0)

def quiescent_ConvFwdIdeal [hConvFwdIdeal : Cert.ConvFwdIdeal.Facts] : Prop :=
  ∀ (m : (ℓ : Loc Cert.ConvFwdIdeal.nD Cert.ConvFwdIdeal.τ Cert.ConvFwdIdeal.sig) → Buf (Elt Ideal) ℓ) (g : Dev Cert.ConvFwdIdeal.nD → PrngReg), Pre_ConvFwdIdeal m →
    θ_run (Cert.ConvFwdIdeal.defs (F := Ideal)) (onTc (τ := Cert.ConvFwdIdeal.τ) (Cert.ConvFwdIdeal.main (F := Ideal))) ⟨m, fun _ => 0, g⟩ (fun r => (∀ c : Dev Cert.ConvFwdIdeal.nD,
      r.2.mem ((c.tc : Thread Cert.ConvFwdIdeal.nD Cert.ConvFwdIdeal.τ).loc Cert.ConvFwdIdeal.main_arg0) = m ((c.tc : Thread Cert.ConvFwdIdeal.nD Cert.ConvFwdIdeal.τ).loc Cert.ConvFwdIdeal.main_arg0)
      ∧ r.2.mem ((c.tc : Thread Cert.ConvFwdIdeal.nD Cert.ConvFwdIdeal.τ).loc Cert.ConvFwdIdeal.main_arg1) = m ((c.tc : Thread Cert.ConvFwdIdeal.nD Cert.ConvFwdIdeal.τ).loc Cert.ConvFwdIdeal.main_arg1)
      ∧ r.2.mem ((c.tc : Thread Cert.ConvFwdIdeal.nD Cert.ConvFwdIdeal.τ).loc Cert.ConvFwdIdeal.main_arg2) = m ((c.tc : Thread Cert.ConvFwdIdeal.nD Cert.ConvFwdIdeal.τ).loc Cert.ConvFwdIdeal.main_arg2))
      ∧ r.2.sem = fun _ => 0)

def quiescent_ConvFwdRefIdeal [hConvFwdRefIdeal : Cert.ConvFwdRefIdeal.Facts] : Prop :=
  ∀ (m : (ℓ : Loc Cert.ConvFwdRefIdeal.nD Cert.ConvFwdRefIdeal.τ Cert.ConvFwdRefIdeal.sig) → Buf (Elt Ideal) ℓ) (g : Dev Cert.ConvFwdRefIdeal.nD → PrngReg), Pre_ConvFwdRefIdeal m →
    θ_run (Cert.ConvFwdRefIdeal.defs (F := Ideal)) (onTc (τ := Cert.ConvFwdRefIdeal.τ) (Cert.ConvFwdRefIdeal.main (F := Ideal))) ⟨m, fun _ => 0, g⟩ (fun r => (∀ c : Dev Cert.ConvFwdRefIdeal.nD,
      r.2.mem ((c.tc : Thread Cert.ConvFwdRefIdeal.nD Cert.ConvFwdRefIdeal.τ).loc Cert.ConvFwdRefIdeal.main_arg0) = m ((c.tc : Thread Cert.ConvFwdRefIdeal.nD Cert.ConvFwdRefIdeal.τ).loc Cert.ConvFwdRefIdeal.main_arg0)
      ∧ r.2.mem ((c.tc : Thread Cert.ConvFwdRefIdeal.nD Cert.ConvFwdRefIdeal.τ).loc Cert.ConvFwdRefIdeal.main_arg1) = m ((c.tc : Thread Cert.ConvFwdRefIdeal.nD Cert.ConvFwdRefIdeal.τ).loc Cert.ConvFwdRefIdeal.main_arg1)
      ∧ r.2.mem ((c.tc : Thread Cert.ConvFwdRefIdeal.nD Cert.ConvFwdRefIdeal.τ).loc Cert.ConvFwdRefIdeal.main_arg2) = m ((c.tc : Thread Cert.ConvFwdRefIdeal.nD Cert.ConvFwdRefIdeal.τ).loc Cert.ConvFwdRefIdeal.main_arg2))
      ∧ r.2.sem = fun _ => 0)

def quiescent_NormIn [hNormIn : Cert.NormIn.Facts] : Prop :=
  ∀ (m : (ℓ : Loc Cert.NormIn.nD Cert.NormIn.τ Cert.NormIn.sig) → Buf (Elt Bits) ℓ) (g : Dev Cert.NormIn.nD → PrngReg), Pre_NormIn m →
    θ_run (Cert.NormIn.defs (F := Bits)) (onTc (τ := Cert.NormIn.τ) (Cert.NormIn.main (F := Bits))) ⟨m, fun _ => 0, g⟩ (fun r => (∀ c : Dev Cert.NormIn.nD,
      r.2.mem ((c.tc : Thread Cert.NormIn.nD Cert.NormIn.τ).loc Cert.NormIn.main_arg0) = m ((c.tc : Thread Cert.NormIn.nD Cert.NormIn.τ).loc Cert.NormIn.main_arg0)
      ∧ r.2.mem ((c.tc : Thread Cert.NormIn.nD Cert.NormIn.τ).loc Cert.NormIn.main_arg1) = m ((c.tc : Thread Cert.NormIn.nD Cert.NormIn.τ).loc Cert.NormIn.main_arg1))
      ∧ r.2.sem = fun _ => 0)

def quiescent_NormInIdeal [hNormInIdeal : Cert.NormInIdeal.Facts] : Prop :=
  ∀ (m : (ℓ : Loc Cert.NormInIdeal.nD Cert.NormInIdeal.τ Cert.NormInIdeal.sig) → Buf (Elt Ideal) ℓ) (g : Dev Cert.NormInIdeal.nD → PrngReg), Pre_NormInIdeal m →
    θ_run (Cert.NormInIdeal.defs (F := Ideal)) (onTc (τ := Cert.NormInIdeal.τ) (Cert.NormInIdeal.main (F := Ideal))) ⟨m, fun _ => 0, g⟩ (fun r => (∀ c : Dev Cert.NormInIdeal.nD,
      r.2.mem ((c.tc : Thread Cert.NormInIdeal.nD Cert.NormInIdeal.τ).loc Cert.NormInIdeal.main_arg0) = m ((c.tc : Thread Cert.NormInIdeal.nD Cert.NormInIdeal.τ).loc Cert.NormInIdeal.main_arg0)
      ∧ r.2.mem ((c.tc : Thread Cert.NormInIdeal.nD Cert.NormInIdeal.τ).loc Cert.NormInIdeal.main_arg1) = m ((c.tc : Thread Cert.NormInIdeal.nD Cert.NormInIdeal.τ).loc Cert.NormInIdeal.main_arg1))
      ∧ r.2.sem = fun _ => 0)

def quiescent_NormInRefIdeal [hNormInRefIdeal : Cert.NormInRefIdeal.Facts] : Prop :=
  ∀ (m : (ℓ : Loc Cert.NormInRefIdeal.nD Cert.NormInRefIdeal.τ Cert.NormInRefIdeal.sig) → Buf (Elt Ideal) ℓ) (g : Dev Cert.NormInRefIdeal.nD → PrngReg), Pre_NormInRefIdeal m →
    θ_run (Cert.NormInRefIdeal.defs (F := Ideal)) (onTc (τ := Cert.NormInRefIdeal.τ) (Cert.NormInRefIdeal.main (F := Ideal))) ⟨m, fun _ => 0, g⟩ (fun r => (∀ c : Dev Cert.NormInRefIdeal.nD,
      r.2.mem ((c.tc : Thread Cert.NormInRefIdeal.nD Cert.NormInRefIdeal.τ).loc Cert.NormInRefIdeal.main_arg0) = m ((c.tc : Thread Cert.NormInRefIdeal.nD Cert.NormInRefIdeal.τ).loc Cert.NormInRefIdeal.main_arg0)
      ∧ r.2.mem ((c.tc : Thread Cert.NormInRefIdeal.nD Cert.NormInRefIdeal.τ).loc Cert.NormInRefIdeal.main_arg1) = m ((c.tc : Thread Cert.NormInRefIdeal.nD Cert.NormInRefIdeal.τ).loc Cert.NormInRefIdeal.main_arg1))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v105) = v0 c
          ∧ r.2.mem ((c.tc : Thread Cert.ReferenceIdeal.nD Cert.ReferenceIdeal.τ).loc Cert.ReferenceIdeal.main_v106) = v1 c
          ∧ r.2.mem ((c.tc : Thread Cert.ReferenceIdeal.nD Cert.ReferenceIdeal.τ).loc Cert.ReferenceIdeal.main_v107) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_DwOut_DwOutIdeal : Prop :=
  True

def algebraic_DwOutIdeal_DwOutRefIdeal [hDwOutIdeal : Cert.DwOutIdeal.Facts] [hDwOutRefIdeal : Cert.DwOutRefIdeal.Facts] : Prop :=
  ∀ (m : (ℓ : Loc Cert.DwOutIdeal.nD Cert.DwOutIdeal.τ Cert.DwOutIdeal.sig) → Buf (Elt Ideal) ℓ) (g : Dev Cert.DwOutIdeal.nD → PrngReg)
    (m' : (ℓ : Loc Cert.DwOutRefIdeal.nD Cert.DwOutRefIdeal.τ Cert.DwOutRefIdeal.sig) → Buf (Elt Ideal) ℓ) (g' : Dev Cert.DwOutRefIdeal.nD → PrngReg), Pre_DwOutIdeal m →
    (∀ c : Dev Cert.DwOutIdeal.nD,
      m' ((c.tc : Thread Cert.DwOutRefIdeal.nD Cert.DwOutRefIdeal.τ).loc Cert.DwOutRefIdeal.main_arg0) = m ((c.tc : Thread Cert.DwOutIdeal.nD Cert.DwOutIdeal.τ).loc Cert.DwOutIdeal.main_arg0)
      ∧ m' ((c.tc : Thread Cert.DwOutRefIdeal.nD Cert.DwOutRefIdeal.τ).loc Cert.DwOutRefIdeal.main_arg1) = m ((c.tc : Thread Cert.DwOutIdeal.nD Cert.DwOutIdeal.τ).loc Cert.DwOutIdeal.main_arg1)) →
    ∃ (v0 : (c : Dev Cert.DwOutIdeal.nD) → Buf (Elt Ideal) ((c.tc : Thread Cert.DwOutIdeal.nD Cert.DwOutIdeal.τ).loc Cert.DwOutIdeal.main_v0)),
      θ_run (Cert.DwOutIdeal.defs (F := Ideal)) (onTc (τ := Cert.DwOutIdeal.τ) (Cert.DwOutIdeal.main (F := Ideal))) ⟨m, fun _ => 0, g⟩ (fun r => ∀ c : Dev Cert.DwOutIdeal.nD,
          r.2.mem ((c.tc : Thread Cert.DwOutIdeal.nD Cert.DwOutIdeal.τ).loc Cert.DwOutIdeal.main_v0) = v0 c
          ∧ r.2.mem ((c.tc : Thread Cert.DwOutIdeal.nD Cert.DwOutIdeal.τ).loc Cert.DwOutIdeal.main_arg0) = m ((c.tc : Thread Cert.DwOutIdeal.nD Cert.DwOutIdeal.τ).loc Cert.DwOutIdeal.main_arg0)
          ∧ r.2.mem ((c.tc : Thread Cert.DwOutIdeal.nD Cert.DwOutIdeal.τ).loc Cert.DwOutIdeal.main_arg1) = m ((c.tc : Thread Cert.DwOutIdeal.nD Cert.DwOutIdeal.τ).loc Cert.DwOutIdeal.main_arg1))
      ∧ θ_run (Cert.DwOutRefIdeal.defs (F := Ideal)) (onTc (τ := Cert.DwOutRefIdeal.τ) (Cert.DwOutRefIdeal.main (F := Ideal))) ⟨m', fun _ => 0, g'⟩ (fun r => ∀ c : Dev Cert.DwOutRefIdeal.nD,
          r.2.mem ((c.tc : Thread Cert.DwOutRefIdeal.nD Cert.DwOutRefIdeal.τ).loc Cert.DwOutRefIdeal.main_v8) = v0 c
          ∧ r.2.mem ((c.tc : Thread Cert.DwOutRefIdeal.nD Cert.DwOutRefIdeal.τ).loc Cert.DwOutRefIdeal.main_arg0) = m' ((c.tc : Thread Cert.DwOutRefIdeal.nD Cert.DwOutRefIdeal.τ).loc Cert.DwOutRefIdeal.main_arg0)
          ∧ r.2.mem ((c.tc : Thread Cert.DwOutRefIdeal.nD Cert.DwOutRefIdeal.τ).loc Cert.DwOutRefIdeal.main_arg1) = m' ((c.tc : Thread Cert.DwOutRefIdeal.nD Cert.DwOutRefIdeal.τ).loc Cert.DwOutRefIdeal.main_arg1))

def preserves_DwGlu_DwGluIdeal : Prop :=
  True

def algebraic_DwGluIdeal_DwGluRefIdeal [hDwGluIdeal : Cert.DwGluIdeal.Facts] [hDwGluRefIdeal : Cert.DwGluRefIdeal.Facts] : Prop :=
  ∀ (m : (ℓ : Loc Cert.DwGluIdeal.nD Cert.DwGluIdeal.τ Cert.DwGluIdeal.sig) → Buf (Elt Ideal) ℓ) (g : Dev Cert.DwGluIdeal.nD → PrngReg)
    (m' : (ℓ : Loc Cert.DwGluRefIdeal.nD Cert.DwGluRefIdeal.τ Cert.DwGluRefIdeal.sig) → Buf (Elt Ideal) ℓ) (g' : Dev Cert.DwGluRefIdeal.nD → PrngReg), Pre_DwGluIdeal m →
    (∀ c : Dev Cert.DwGluIdeal.nD,
      m' ((c.tc : Thread Cert.DwGluRefIdeal.nD Cert.DwGluRefIdeal.τ).loc Cert.DwGluRefIdeal.main_arg0) = m ((c.tc : Thread Cert.DwGluIdeal.nD Cert.DwGluIdeal.τ).loc Cert.DwGluIdeal.main_arg0)
      ∧ m' ((c.tc : Thread Cert.DwGluRefIdeal.nD Cert.DwGluRefIdeal.τ).loc Cert.DwGluRefIdeal.main_arg1) = m ((c.tc : Thread Cert.DwGluIdeal.nD Cert.DwGluIdeal.τ).loc Cert.DwGluIdeal.main_arg1)) →
    ∃ (v0 : (c : Dev Cert.DwGluIdeal.nD) → Buf (Elt Ideal) ((c.tc : Thread Cert.DwGluIdeal.nD Cert.DwGluIdeal.τ).loc Cert.DwGluIdeal.main_v0)),
      θ_run (Cert.DwGluIdeal.defs (F := Ideal)) (onTc (τ := Cert.DwGluIdeal.τ) (Cert.DwGluIdeal.main (F := Ideal))) ⟨m, fun _ => 0, g⟩ (fun r => ∀ c : Dev Cert.DwGluIdeal.nD,
          r.2.mem ((c.tc : Thread Cert.DwGluIdeal.nD Cert.DwGluIdeal.τ).loc Cert.DwGluIdeal.main_v0) = v0 c
          ∧ r.2.mem ((c.tc : Thread Cert.DwGluIdeal.nD Cert.DwGluIdeal.τ).loc Cert.DwGluIdeal.main_arg0) = m ((c.tc : Thread Cert.DwGluIdeal.nD Cert.DwGluIdeal.τ).loc Cert.DwGluIdeal.main_arg0)
          ∧ r.2.mem ((c.tc : Thread Cert.DwGluIdeal.nD Cert.DwGluIdeal.τ).loc Cert.DwGluIdeal.main_arg1) = m ((c.tc : Thread Cert.DwGluIdeal.nD Cert.DwGluIdeal.τ).loc Cert.DwGluIdeal.main_arg1))
      ∧ θ_run (Cert.DwGluRefIdeal.defs (F := Ideal)) (onTc (τ := Cert.DwGluRefIdeal.τ) (Cert.DwGluRefIdeal.main (F := Ideal))) ⟨m', fun _ => 0, g'⟩ (fun r => ∀ c : Dev Cert.DwGluRefIdeal.nD,
          r.2.mem ((c.tc : Thread Cert.DwGluRefIdeal.nD Cert.DwGluRefIdeal.τ).loc Cert.DwGluRefIdeal.main_v8) = v0 c
          ∧ r.2.mem ((c.tc : Thread Cert.DwGluRefIdeal.nD Cert.DwGluRefIdeal.τ).loc Cert.DwGluRefIdeal.main_arg0) = m' ((c.tc : Thread Cert.DwGluRefIdeal.nD Cert.DwGluRefIdeal.τ).loc Cert.DwGluRefIdeal.main_arg0)
          ∧ r.2.mem ((c.tc : Thread Cert.DwGluRefIdeal.nD Cert.DwGluRefIdeal.τ).loc Cert.DwGluRefIdeal.main_arg1) = m' ((c.tc : Thread Cert.DwGluRefIdeal.nD Cert.DwGluRefIdeal.τ).loc Cert.DwGluRefIdeal.main_arg1))

def preserves_DwEarly_DwEarlyIdeal : Prop :=
  True

def algebraic_DwEarlyIdeal_DwEarlyRefIdeal_on_early_parts [hDwEarlyIdeal : Cert.DwEarlyIdeal.Facts] [hDwEarlyRefIdeal : Cert.DwEarlyRefIdeal.Facts] [hOn_early_parts : Cert.On_early_parts.Facts] : Prop :=
  ∀ (m : (ℓ : Loc Cert.DwEarlyIdeal.nD Cert.DwEarlyIdeal.τ Cert.DwEarlyIdeal.sig) → Buf (Elt Ideal) ℓ) (g : Dev Cert.DwEarlyIdeal.nD → PrngReg)
    (m' : (ℓ : Loc Cert.DwEarlyRefIdeal.nD Cert.DwEarlyRefIdeal.τ Cert.DwEarlyRefIdeal.sig) → Buf (Elt Ideal) ℓ) (g' : Dev Cert.DwEarlyRefIdeal.nD → PrngReg), Pre_DwEarlyIdeal m →
    (∀ c : Dev Cert.DwEarlyIdeal.nD,
      m' ((c.tc : Thread Cert.DwEarlyRefIdeal.nD Cert.DwEarlyRefIdeal.τ).loc Cert.DwEarlyRefIdeal.main_arg0) = m ((c.tc : Thread Cert.DwEarlyIdeal.nD Cert.DwEarlyIdeal.τ).loc Cert.DwEarlyIdeal.main_arg0)
      ∧ m' ((c.tc : Thread Cert.DwEarlyRefIdeal.nD Cert.DwEarlyRefIdeal.τ).loc Cert.DwEarlyRefIdeal.main_arg1) = m ((c.tc : Thread Cert.DwEarlyIdeal.nD Cert.DwEarlyIdeal.τ).loc Cert.DwEarlyIdeal.main_arg1)
      ∧ m' ((c.tc : Thread Cert.DwEarlyRefIdeal.nD Cert.DwEarlyRefIdeal.τ).loc Cert.DwEarlyRefIdeal.main_arg2) = m ((c.tc : Thread Cert.DwEarlyIdeal.nD Cert.DwEarlyIdeal.τ).loc Cert.DwEarlyIdeal.main_arg2)) →
    ∃ (v0 : (c : Dev Cert.DwEarlyIdeal.nD) → Buf (Elt Ideal) ((c.tc : Thread Cert.DwEarlyIdeal.nD Cert.DwEarlyIdeal.τ).loc Cert.DwEarlyIdeal.main_v0)),
      θ_run (Cert.DwEarlyIdeal.defs (F := Ideal)) (onTc (τ := Cert.DwEarlyIdeal.τ) (Cert.DwEarlyIdeal.main (F := Ideal))) ⟨m, fun _ => 0, g⟩ (fun r => ∀ c : Dev Cert.DwEarlyIdeal.nD,
          (∀ i : (⟨3, ![8, 2048, 768]⟩ : Shape).Idx, (Cert.On_early_parts.fn (F := Ideal) (m ((c.tc : Thread Cert.DwEarlyIdeal.nD Cert.DwEarlyIdeal.τ).loc Cert.DwEarlyIdeal.main_arg0)) (m ((c.tc : Thread Cert.DwEarlyIdeal.nD Cert.DwEarlyIdeal.τ).loc Cert.DwEarlyIdeal.main_arg1)) (m ((c.tc : Thread Cert.DwEarlyIdeal.nD Cert.DwEarlyIdeal.τ).loc Cert.DwEarlyIdeal.main_arg2))) i = 1#1 → r.2.mem ((c.tc : Thread Cert.DwEarlyIdeal.nD Cert.DwEarlyIdeal.τ).loc Cert.DwEarlyIdeal.main_v0) i = v0 c i)
          ∧ r.2.mem ((c.tc : Thread Cert.DwEarlyIdeal.nD Cert.DwEarlyIdeal.τ).loc Cert.DwEarlyIdeal.main_arg0) = m ((c.tc : Thread Cert.DwEarlyIdeal.nD Cert.DwEarlyIdeal.τ).loc Cert.DwEarlyIdeal.main_arg0)
          ∧ r.2.mem ((c.tc : Thread Cert.DwEarlyIdeal.nD Cert.DwEarlyIdeal.τ).loc Cert.DwEarlyIdeal.main_arg1) = m ((c.tc : Thread Cert.DwEarlyIdeal.nD Cert.DwEarlyIdeal.τ).loc Cert.DwEarlyIdeal.main_arg1)
          ∧ r.2.mem ((c.tc : Thread Cert.DwEarlyIdeal.nD Cert.DwEarlyIdeal.τ).loc Cert.DwEarlyIdeal.main_arg2) = m ((c.tc : Thread Cert.DwEarlyIdeal.nD Cert.DwEarlyIdeal.τ).loc Cert.DwEarlyIdeal.main_arg2))
      ∧ θ_run (Cert.DwEarlyRefIdeal.defs (F := Ideal)) (onTc (τ := Cert.DwEarlyRefIdeal.τ) (Cert.DwEarlyRefIdeal.main (F := Ideal))) ⟨m', fun _ => 0, g'⟩ (fun r => ∀ c : Dev Cert.DwEarlyRefIdeal.nD,
          (∀ i : (⟨3, ![8, 2048, 768]⟩ : Shape).Idx, (Cert.On_early_parts.fn (F := Ideal) (m ((c.tc : Thread Cert.DwEarlyIdeal.nD Cert.DwEarlyIdeal.τ).loc Cert.DwEarlyIdeal.main_arg0)) (m ((c.tc : Thread Cert.DwEarlyIdeal.nD Cert.DwEarlyIdeal.τ).loc Cert.DwEarlyIdeal.main_arg1)) (m ((c.tc : Thread Cert.DwEarlyIdeal.nD Cert.DwEarlyIdeal.τ).loc Cert.DwEarlyIdeal.main_arg2))) i = 1#1 → r.2.mem ((c.tc : Thread Cert.DwEarlyRefIdeal.nD Cert.DwEarlyRefIdeal.τ).loc Cert.DwEarlyRefIdeal.main_v23) i = v0 c i)
          ∧ r.2.mem ((c.tc : Thread Cert.DwEarlyRefIdeal.nD Cert.DwEarlyRefIdeal.τ).loc Cert.DwEarlyRefIdeal.main_arg0) = m' ((c.tc : Thread Cert.DwEarlyRefIdeal.nD Cert.DwEarlyRefIdeal.τ).loc Cert.DwEarlyRefIdeal.main_arg0)
          ∧ r.2.mem ((c.tc : Thread Cert.DwEarlyRefIdeal.nD Cert.DwEarlyRefIdeal.τ).loc Cert.DwEarlyRefIdeal.main_arg1) = m' ((c.tc : Thread Cert.DwEarlyRefIdeal.nD Cert.DwEarlyRefIdeal.τ).loc Cert.DwEarlyRefIdeal.main_arg1)
          ∧ r.2.mem ((c.tc : Thread Cert.DwEarlyRefIdeal.nD Cert.DwEarlyRefIdeal.τ).loc Cert.DwEarlyRefIdeal.main_arg2) = m' ((c.tc : Thread Cert.DwEarlyRefIdeal.nD Cert.DwEarlyRefIdeal.τ).loc Cert.DwEarlyRefIdeal.main_arg2))

def preserves_DwLate_DwLateIdeal : Prop :=
  True

def algebraic_DwLateIdeal_DwLateRefIdeal_on_late_parts [hDwLateIdeal : Cert.DwLateIdeal.Facts] [hDwLateRefIdeal : Cert.DwLateRefIdeal.Facts] [hOn_late_parts : Cert.On_late_parts.Facts] : Prop :=
  ∀ (m : (ℓ : Loc Cert.DwLateIdeal.nD Cert.DwLateIdeal.τ Cert.DwLateIdeal.sig) → Buf (Elt Ideal) ℓ) (g : Dev Cert.DwLateIdeal.nD → PrngReg)
    (m' : (ℓ : Loc Cert.DwLateRefIdeal.nD Cert.DwLateRefIdeal.τ Cert.DwLateRefIdeal.sig) → Buf (Elt Ideal) ℓ) (g' : Dev Cert.DwLateRefIdeal.nD → PrngReg), Pre_DwLateIdeal m →
    (∀ c : Dev Cert.DwLateIdeal.nD,
      m' ((c.tc : Thread Cert.DwLateRefIdeal.nD Cert.DwLateRefIdeal.τ).loc Cert.DwLateRefIdeal.main_arg0) = m ((c.tc : Thread Cert.DwLateIdeal.nD Cert.DwLateIdeal.τ).loc Cert.DwLateIdeal.main_arg0)
      ∧ m' ((c.tc : Thread Cert.DwLateRefIdeal.nD Cert.DwLateRefIdeal.τ).loc Cert.DwLateRefIdeal.main_arg1) = m ((c.tc : Thread Cert.DwLateIdeal.nD Cert.DwLateIdeal.τ).loc Cert.DwLateIdeal.main_arg1)
      ∧ m' ((c.tc : Thread Cert.DwLateRefIdeal.nD Cert.DwLateRefIdeal.τ).loc Cert.DwLateRefIdeal.main_arg2) = m ((c.tc : Thread Cert.DwLateIdeal.nD Cert.DwLateIdeal.τ).loc Cert.DwLateIdeal.main_arg2)
      ∧ m' ((c.tc : Thread Cert.DwLateRefIdeal.nD Cert.DwLateRefIdeal.τ).loc Cert.DwLateRefIdeal.main_arg3) = m ((c.tc : Thread Cert.DwLateIdeal.nD Cert.DwLateIdeal.τ).loc Cert.DwLateIdeal.main_arg3)) →
    ∃ (v0 : (c : Dev Cert.DwLateIdeal.nD) → Buf (Elt Ideal) ((c.tc : Thread Cert.DwLateIdeal.nD Cert.DwLateIdeal.τ).loc Cert.DwLateIdeal.main_v0)),
      θ_run (Cert.DwLateIdeal.defs (F := Ideal)) (onTc (τ := Cert.DwLateIdeal.τ) (Cert.DwLateIdeal.main (F := Ideal))) ⟨m, fun _ => 0, g⟩ (fun r => ∀ c : Dev Cert.DwLateIdeal.nD,
          (∀ i : (⟨3, ![8, 2048, 768]⟩ : Shape).Idx, (Cert.On_late_parts.fn (F := Ideal) (m ((c.tc : Thread Cert.DwLateIdeal.nD Cert.DwLateIdeal.τ).loc Cert.DwLateIdeal.main_arg0)) (m ((c.tc : Thread Cert.DwLateIdeal.nD Cert.DwLateIdeal.τ).loc Cert.DwLateIdeal.main_arg1)) (m ((c.tc : Thread Cert.DwLateIdeal.nD Cert.DwLateIdeal.τ).loc Cert.DwLateIdeal.main_arg2)) (m ((c.tc : Thread Cert.DwLateIdeal.nD Cert.DwLateIdeal.τ).loc Cert.DwLateIdeal.main_arg3))) i = 1#1 → r.2.mem ((c.tc : Thread Cert.DwLateIdeal.nD Cert.DwLateIdeal.τ).loc Cert.DwLateIdeal.main_v0) i = v0 c i)
          ∧ r.2.mem ((c.tc : Thread Cert.DwLateIdeal.nD Cert.DwLateIdeal.τ).loc Cert.DwLateIdeal.main_arg0) = m ((c.tc : Thread Cert.DwLateIdeal.nD Cert.DwLateIdeal.τ).loc Cert.DwLateIdeal.main_arg0)
          ∧ r.2.mem ((c.tc : Thread Cert.DwLateIdeal.nD Cert.DwLateIdeal.τ).loc Cert.DwLateIdeal.main_arg1) = m ((c.tc : Thread Cert.DwLateIdeal.nD Cert.DwLateIdeal.τ).loc Cert.DwLateIdeal.main_arg1)
          ∧ r.2.mem ((c.tc : Thread Cert.DwLateIdeal.nD Cert.DwLateIdeal.τ).loc Cert.DwLateIdeal.main_arg2) = m ((c.tc : Thread Cert.DwLateIdeal.nD Cert.DwLateIdeal.τ).loc Cert.DwLateIdeal.main_arg2)
          ∧ r.2.mem ((c.tc : Thread Cert.DwLateIdeal.nD Cert.DwLateIdeal.τ).loc Cert.DwLateIdeal.main_arg3) = m ((c.tc : Thread Cert.DwLateIdeal.nD Cert.DwLateIdeal.τ).loc Cert.DwLateIdeal.main_arg3))
      ∧ θ_run (Cert.DwLateRefIdeal.defs (F := Ideal)) (onTc (τ := Cert.DwLateRefIdeal.τ) (Cert.DwLateRefIdeal.main (F := Ideal))) ⟨m', fun _ => 0, g'⟩ (fun r => ∀ c : Dev Cert.DwLateRefIdeal.nD,
          (∀ i : (⟨3, ![8, 2048, 768]⟩ : Shape).Idx, (Cert.On_late_parts.fn (F := Ideal) (m ((c.tc : Thread Cert.DwLateIdeal.nD Cert.DwLateIdeal.τ).loc Cert.DwLateIdeal.main_arg0)) (m ((c.tc : Thread Cert.DwLateIdeal.nD Cert.DwLateIdeal.τ).loc Cert.DwLateIdeal.main_arg1)) (m ((c.tc : Thread Cert.DwLateIdeal.nD Cert.DwLateIdeal.τ).loc Cert.DwLateIdeal.main_arg2)) (m ((c.tc : Thread Cert.DwLateIdeal.nD Cert.DwLateIdeal.τ).loc Cert.DwLateIdeal.main_arg3))) i = 1#1 → r.2.mem ((c.tc : Thread Cert.DwLateRefIdeal.nD Cert.DwLateRefIdeal.τ).loc Cert.DwLateRefIdeal.main_v23) i = v0 c i)
          ∧ r.2.mem ((c.tc : Thread Cert.DwLateRefIdeal.nD Cert.DwLateRefIdeal.τ).loc Cert.DwLateRefIdeal.main_arg0) = m' ((c.tc : Thread Cert.DwLateRefIdeal.nD Cert.DwLateRefIdeal.τ).loc Cert.DwLateRefIdeal.main_arg0)
          ∧ r.2.mem ((c.tc : Thread Cert.DwLateRefIdeal.nD Cert.DwLateRefIdeal.τ).loc Cert.DwLateRefIdeal.main_arg1) = m' ((c.tc : Thread Cert.DwLateRefIdeal.nD Cert.DwLateRefIdeal.τ).loc Cert.DwLateRefIdeal.main_arg1)
          ∧ r.2.mem ((c.tc : Thread Cert.DwLateRefIdeal.nD Cert.DwLateRefIdeal.τ).loc Cert.DwLateRefIdeal.main_arg2) = m' ((c.tc : Thread Cert.DwLateRefIdeal.nD Cert.DwLateRefIdeal.τ).loc Cert.DwLateRefIdeal.main_arg2)
          ∧ r.2.mem ((c.tc : Thread Cert.DwLateRefIdeal.nD Cert.DwLateRefIdeal.τ).loc Cert.DwLateRefIdeal.main_arg3) = m' ((c.tc : Thread Cert.DwLateRefIdeal.nD Cert.DwLateRefIdeal.τ).loc Cert.DwLateRefIdeal.main_arg3))

def preserves_Tail_TailIdeal : Prop :=
  IdealRules.named_const.Statement Cert.TailIdeal.κ "gelu" .f32 0x3D372713#32 ((8943 / 200000 : ℝ) : EReal)
  ∧ IdealRules.named_const.Statement Cert.TailIdeal.κ "gelu3" .f32 0x3E095D4F#32 ((26829 / 200000 : ℝ) : EReal)

def algebraic_TailIdeal_TailRefIdeal_pre_finite_tail [hTailIdeal : Cert.TailIdeal.Facts] [hTailRefIdeal : Cert.TailRefIdeal.Facts] [hPre_finite_tail : Cert.Pre_finite_tail.Facts] : Prop :=
  ∀ (m : (ℓ : Loc Cert.TailIdeal.nD Cert.TailIdeal.τ Cert.TailIdeal.sig) → Buf (Elt Ideal) ℓ) (g : Dev Cert.TailIdeal.nD → PrngReg)
    (m' : (ℓ : Loc Cert.TailRefIdeal.nD Cert.TailRefIdeal.τ Cert.TailRefIdeal.sig) → Buf (Elt Ideal) ℓ) (g' : Dev Cert.TailRefIdeal.nD → PrngReg), Pre_TailIdeal_finite_tail m →
    (∀ c : Dev Cert.TailIdeal.nD,
      m' ((c.tc : Thread Cert.TailRefIdeal.nD Cert.TailRefIdeal.τ).loc Cert.TailRefIdeal.main_arg0) = m ((c.tc : Thread Cert.TailIdeal.nD Cert.TailIdeal.τ).loc Cert.TailIdeal.main_arg0)
      ∧ m' ((c.tc : Thread Cert.TailRefIdeal.nD Cert.TailRefIdeal.τ).loc Cert.TailRefIdeal.main_arg1) = m ((c.tc : Thread Cert.TailIdeal.nD Cert.TailIdeal.τ).loc Cert.TailIdeal.main_arg1)
      ∧ m' ((c.tc : Thread Cert.TailRefIdeal.nD Cert.TailRefIdeal.τ).loc Cert.TailRefIdeal.main_arg2) = m ((c.tc : Thread Cert.TailIdeal.nD Cert.TailIdeal.τ).loc Cert.TailIdeal.main_arg2)
      ∧ m' ((c.tc : Thread Cert.TailRefIdeal.nD Cert.TailRefIdeal.τ).loc Cert.TailRefIdeal.main_arg3) = m ((c.tc : Thread Cert.TailIdeal.nD Cert.TailIdeal.τ).loc Cert.TailIdeal.main_arg3)
      ∧ m' ((c.tc : Thread Cert.TailRefIdeal.nD Cert.TailRefIdeal.τ).loc Cert.TailRefIdeal.main_arg4) = m ((c.tc : Thread Cert.TailIdeal.nD Cert.TailIdeal.τ).loc Cert.TailIdeal.main_arg4)
      ∧ m' ((c.tc : Thread Cert.TailRefIdeal.nD Cert.TailRefIdeal.τ).loc Cert.TailRefIdeal.main_arg5) = m ((c.tc : Thread Cert.TailIdeal.nD Cert.TailIdeal.τ).loc Cert.TailIdeal.main_arg5)
      ∧ m' ((c.tc : Thread Cert.TailRefIdeal.nD Cert.TailRefIdeal.τ).loc Cert.TailRefIdeal.main_arg6) = m ((c.tc : Thread Cert.TailIdeal.nD Cert.TailIdeal.τ).loc Cert.TailIdeal.main_arg6)
      ∧ m' ((c.tc : Thread Cert.TailRefIdeal.nD Cert.TailRefIdeal.τ).loc Cert.TailRefIdeal.main_arg7) = m ((c.tc : Thread Cert.TailIdeal.nD Cert.TailIdeal.τ).loc Cert.TailIdeal.main_arg7)
      ∧ m' ((c.tc : Thread Cert.TailRefIdeal.nD Cert.TailRefIdeal.τ).loc Cert.TailRefIdeal.main_arg8) = m ((c.tc : Thread Cert.TailIdeal.nD Cert.TailIdeal.τ).loc Cert.TailIdeal.main_arg8)) →
    ∃ (v0 : (c : Dev Cert.TailIdeal.nD) → Buf (Elt Ideal) ((c.tc : Thread Cert.TailIdeal.nD Cert.TailIdeal.τ).loc Cert.TailIdeal.main_v0_0)) (v1 : (c : Dev Cert.TailIdeal.nD) → Buf (Elt Ideal) ((c.tc : Thread Cert.TailIdeal.nD Cert.TailIdeal.τ).loc Cert.TailIdeal.main_v0_1)) (v2 : (c : Dev Cert.TailIdeal.nD) → Buf (Elt Ideal) ((c.tc : Thread Cert.TailIdeal.nD Cert.TailIdeal.τ).loc Cert.TailIdeal.main_v0_2)) (v3 : (c : Dev Cert.TailIdeal.nD) → Buf (Elt Ideal) ((c.tc : Thread Cert.TailIdeal.nD Cert.TailIdeal.τ).loc Cert.TailIdeal.main_v0_3)) (v4 : (c : Dev Cert.TailIdeal.nD) → Buf (Elt Ideal) ((c.tc : Thread Cert.TailIdeal.nD Cert.TailIdeal.τ).loc Cert.TailIdeal.main_v0_4)) (v5 : (c : Dev Cert.TailIdeal.nD) → Buf (Elt Ideal) ((c.tc : Thread Cert.TailIdeal.nD Cert.TailIdeal.τ).loc Cert.TailIdeal.main_v0_5)) (v6 : (c : Dev Cert.TailIdeal.nD) → Buf (Elt Ideal) ((c.tc : Thread Cert.TailIdeal.nD Cert.TailIdeal.τ).loc Cert.TailIdeal.main_v0_6)) (v7 : (c : Dev Cert.TailIdeal.nD) → Buf (Elt Ideal) ((c.tc : Thread Cert.TailIdeal.nD Cert.TailIdeal.τ).loc Cert.TailIdeal.main_v0_7)) (v8 : (c : Dev Cert.TailIdeal.nD) → Buf (Elt Ideal) ((c.tc : Thread Cert.TailIdeal.nD Cert.TailIdeal.τ).loc Cert.TailIdeal.main_v0_8)) (v9 : (c : Dev Cert.TailIdeal.nD) → Buf (Elt Ideal) ((c.tc : Thread Cert.TailIdeal.nD Cert.TailIdeal.τ).loc Cert.TailIdeal.main_v0_9)) (v10 : (c : Dev Cert.TailIdeal.nD) → Buf (Elt Ideal) ((c.tc : Thread Cert.TailIdeal.nD Cert.TailIdeal.τ).loc Cert.TailIdeal.main_v0_10)),
      θ_run (Cert.TailIdeal.defs (F := Ideal)) (onTc (τ := Cert.TailIdeal.τ) (Cert.TailIdeal.main (F := Ideal))) ⟨m, fun _ => 0, g⟩ (fun r => ∀ c : Dev Cert.TailIdeal.nD,
          r.2.mem ((c.tc : Thread Cert.TailIdeal.nD Cert.TailIdeal.τ).loc Cert.TailIdeal.main_v0_0) = v0 c
          ∧ r.2.mem ((c.tc : Thread Cert.TailIdeal.nD Cert.TailIdeal.τ).loc Cert.TailIdeal.main_v0_1) = v1 c
          ∧ r.2.mem ((c.tc : Thread Cert.TailIdeal.nD Cert.TailIdeal.τ).loc Cert.TailIdeal.main_v0_2) = v2 c
          ∧ r.2.mem ((c.tc : Thread Cert.TailIdeal.nD Cert.TailIdeal.τ).loc Cert.TailIdeal.main_v0_3) = v3 c
          ∧ r.2.mem ((c.tc : Thread Cert.TailIdeal.nD Cert.TailIdeal.τ).loc Cert.TailIdeal.main_v0_4) = v4 c
          ∧ r.2.mem ((c.tc : Thread Cert.TailIdeal.nD Cert.TailIdeal.τ).loc Cert.TailIdeal.main_v0_5) = v5 c
          ∧ r.2.mem ((c.tc : Thread Cert.TailIdeal.nD Cert.TailIdeal.τ).loc Cert.TailIdeal.main_v0_6) = v6 c
          ∧ r.2.mem ((c.tc : Thread Cert.TailIdeal.nD Cert.TailIdeal.τ).loc Cert.TailIdeal.main_v0_7) = v7 c
          ∧ r.2.mem ((c.tc : Thread Cert.TailIdeal.nD Cert.TailIdeal.τ).loc Cert.TailIdeal.main_v0_8) = v8 c
          ∧ r.2.mem ((c.tc : Thread Cert.TailIdeal.nD Cert.TailIdeal.τ).loc Cert.TailIdeal.main_v0_9) = v9 c
          ∧ r.2.mem ((c.tc : Thread Cert.TailIdeal.nD Cert.TailIdeal.τ).loc Cert.TailIdeal.main_v0_10) = v10 c
          ∧ r.2.mem ((c.tc : Thread Cert.TailIdeal.nD Cert.TailIdeal.τ).loc Cert.TailIdeal.main_arg0) = m ((c.tc : Thread Cert.TailIdeal.nD Cert.TailIdeal.τ).loc Cert.TailIdeal.main_arg0)
          ∧ r.2.mem ((c.tc : Thread Cert.TailIdeal.nD Cert.TailIdeal.τ).loc Cert.TailIdeal.main_arg1) = m ((c.tc : Thread Cert.TailIdeal.nD Cert.TailIdeal.τ).loc Cert.TailIdeal.main_arg1)
          ∧ r.2.mem ((c.tc : Thread Cert.TailIdeal.nD Cert.TailIdeal.τ).loc Cert.TailIdeal.main_arg2) = m ((c.tc : Thread Cert.TailIdeal.nD Cert.TailIdeal.τ).loc Cert.TailIdeal.main_arg2)
          ∧ r.2.mem ((c.tc : Thread Cert.TailIdeal.nD Cert.TailIdeal.τ).loc Cert.TailIdeal.main_arg3) = m ((c.tc : Thread Cert.TailIdeal.nD Cert.TailIdeal.τ).loc Cert.TailIdeal.main_arg3)
          ∧ r.2.mem ((c.tc : Thread Cert.TailIdeal.nD Cert.TailIdeal.τ).loc Cert.TailIdeal.main_arg4) = m ((c.tc : Thread Cert.TailIdeal.nD Cert.TailIdeal.τ).loc Cert.TailIdeal.main_arg4)
          ∧ r.2.mem ((c.tc : Thread Cert.TailIdeal.nD Cert.TailIdeal.τ).loc Cert.TailIdeal.main_arg5) = m ((c.tc : Thread Cert.TailIdeal.nD Cert.TailIdeal.τ).loc Cert.TailIdeal.main_arg5)
          ∧ r.2.mem ((c.tc : Thread Cert.TailIdeal.nD Cert.TailIdeal.τ).loc Cert.TailIdeal.main_arg6) = m ((c.tc : Thread Cert.TailIdeal.nD Cert.TailIdeal.τ).loc Cert.TailIdeal.main_arg6)
          ∧ r.2.mem ((c.tc : Thread Cert.TailIdeal.nD Cert.TailIdeal.τ).loc Cert.TailIdeal.main_arg7) = m ((c.tc : Thread Cert.TailIdeal.nD Cert.TailIdeal.τ).loc Cert.TailIdeal.main_arg7)
          ∧ r.2.mem ((c.tc : Thread Cert.TailIdeal.nD Cert.TailIdeal.τ).loc Cert.TailIdeal.main_arg8) = m ((c.tc : Thread Cert.TailIdeal.nD Cert.TailIdeal.τ).loc Cert.TailIdeal.main_arg8))
      ∧ θ_run (Cert.TailRefIdeal.defs (F := Ideal)) (onTc (τ := Cert.TailRefIdeal.τ) (Cert.TailRefIdeal.main (F := Ideal))) ⟨m', fun _ => 0, g'⟩ (fun r => ∀ c : Dev Cert.TailRefIdeal.nD,
          r.2.mem ((c.tc : Thread Cert.TailRefIdeal.nD Cert.TailRefIdeal.τ).loc Cert.TailRefIdeal.main_v74) = v0 c
          ∧ r.2.mem ((c.tc : Thread Cert.TailRefIdeal.nD Cert.TailRefIdeal.τ).loc Cert.TailRefIdeal.main_v125) = v1 c
          ∧ r.2.mem ((c.tc : Thread Cert.TailRefIdeal.nD Cert.TailRefIdeal.τ).loc Cert.TailRefIdeal.main_v127) = v2 c
          ∧ r.2.mem ((c.tc : Thread Cert.TailRefIdeal.nD Cert.TailRefIdeal.τ).loc Cert.TailRefIdeal.main_v129) = v3 c
          ∧ r.2.mem ((c.tc : Thread Cert.TailRefIdeal.nD Cert.TailRefIdeal.τ).loc Cert.TailRefIdeal.main_v130) = v4 c
          ∧ r.2.mem ((c.tc : Thread Cert.TailRefIdeal.nD Cert.TailRefIdeal.τ).loc Cert.TailRefIdeal.main_v131) = v5 c
          ∧ r.2.mem ((c.tc : Thread Cert.TailRefIdeal.nD Cert.TailRefIdeal.τ).loc Cert.TailRefIdeal.main_v133) = v6 c
          ∧ r.2.mem ((c.tc : Thread Cert.TailRefIdeal.nD Cert.TailRefIdeal.τ).loc Cert.TailRefIdeal.main_v134) = v7 c
          ∧ r.2.mem ((c.tc : Thread Cert.TailRefIdeal.nD Cert.TailRefIdeal.τ).loc Cert.TailRefIdeal.main_v135) = v8 c
          ∧ r.2.mem ((c.tc : Thread Cert.TailRefIdeal.nD Cert.TailRefIdeal.τ).loc Cert.TailRefIdeal.main_v77) = v9 c
          ∧ r.2.mem ((c.tc : Thread Cert.TailRefIdeal.nD Cert.TailRefIdeal.τ).loc Cert.TailRefIdeal.main_v103) = v10 c
          ∧ r.2.mem ((c.tc : Thread Cert.TailRefIdeal.nD Cert.TailRefIdeal.τ).loc Cert.TailRefIdeal.main_arg0) = m' ((c.tc : Thread Cert.TailRefIdeal.nD Cert.TailRefIdeal.τ).loc Cert.TailRefIdeal.main_arg0)
          ∧ r.2.mem ((c.tc : Thread Cert.TailRefIdeal.nD Cert.TailRefIdeal.τ).loc Cert.TailRefIdeal.main_arg1) = m' ((c.tc : Thread Cert.TailRefIdeal.nD Cert.TailRefIdeal.τ).loc Cert.TailRefIdeal.main_arg1)
          ∧ r.2.mem ((c.tc : Thread Cert.TailRefIdeal.nD Cert.TailRefIdeal.τ).loc Cert.TailRefIdeal.main_arg2) = m' ((c.tc : Thread Cert.TailRefIdeal.nD Cert.TailRefIdeal.τ).loc Cert.TailRefIdeal.main_arg2)
          ∧ r.2.mem ((c.tc : Thread Cert.TailRefIdeal.nD Cert.TailRefIdeal.τ).loc Cert.TailRefIdeal.main_arg3) = m' ((c.tc : Thread Cert.TailRefIdeal.nD Cert.TailRefIdeal.τ).loc Cert.TailRefIdeal.main_arg3)
          ∧ r.2.mem ((c.tc : Thread Cert.TailRefIdeal.nD Cert.TailRefIdeal.τ).loc Cert.TailRefIdeal.main_arg4) = m' ((c.tc : Thread Cert.TailRefIdeal.nD Cert.TailRefIdeal.τ).loc Cert.TailRefIdeal.main_arg4)
          ∧ r.2.mem ((c.tc : Thread Cert.TailRefIdeal.nD Cert.TailRefIdeal.τ).loc Cert.TailRefIdeal.main_arg5) = m' ((c.tc : Thread Cert.TailRefIdeal.nD Cert.TailRefIdeal.τ).loc Cert.TailRefIdeal.main_arg5)
          ∧ r.2.mem ((c.tc : Thread Cert.TailRefIdeal.nD Cert.TailRefIdeal.τ).loc Cert.TailRefIdeal.main_arg6) = m' ((c.tc : Thread Cert.TailRefIdeal.nD Cert.TailRefIdeal.τ).loc Cert.TailRefIdeal.main_arg6)
          ∧ r.2.mem ((c.tc : Thread Cert.TailRefIdeal.nD Cert.TailRefIdeal.τ).loc Cert.TailRefIdeal.main_arg7) = m' ((c.tc : Thread Cert.TailRefIdeal.nD Cert.TailRefIdeal.τ).loc Cert.TailRefIdeal.main_arg7)
          ∧ r.2.mem ((c.tc : Thread Cert.TailRefIdeal.nD Cert.TailRefIdeal.τ).loc Cert.TailRefIdeal.main_arg8) = m' ((c.tc : Thread Cert.TailRefIdeal.nD Cert.TailRefIdeal.τ).loc Cert.TailRefIdeal.main_arg8))

def preserves_BwdIn_BwdInIdeal : Prop :=
  True

def algebraic_BwdInIdeal_BwdInRefIdeal [hBwdInIdeal : Cert.BwdInIdeal.Facts] [hBwdInRefIdeal : Cert.BwdInRefIdeal.Facts] : Prop :=
  ∀ (m : (ℓ : Loc Cert.BwdInIdeal.nD Cert.BwdInIdeal.τ Cert.BwdInIdeal.sig) → Buf (Elt Ideal) ℓ) (g : Dev Cert.BwdInIdeal.nD → PrngReg)
    (m' : (ℓ : Loc Cert.BwdInRefIdeal.nD Cert.BwdInRefIdeal.τ Cert.BwdInRefIdeal.sig) → Buf (Elt Ideal) ℓ) (g' : Dev Cert.BwdInRefIdeal.nD → PrngReg), Pre_BwdInIdeal m →
    (∀ c : Dev Cert.BwdInIdeal.nD,
      m' ((c.tc : Thread Cert.BwdInRefIdeal.nD Cert.BwdInRefIdeal.τ).loc Cert.BwdInRefIdeal.main_arg0) = m ((c.tc : Thread Cert.BwdInIdeal.nD Cert.BwdInIdeal.τ).loc Cert.BwdInIdeal.main_arg0)
      ∧ m' ((c.tc : Thread Cert.BwdInRefIdeal.nD Cert.BwdInRefIdeal.τ).loc Cert.BwdInRefIdeal.main_arg1) = m ((c.tc : Thread Cert.BwdInIdeal.nD Cert.BwdInIdeal.τ).loc Cert.BwdInIdeal.main_arg1)
      ∧ m' ((c.tc : Thread Cert.BwdInRefIdeal.nD Cert.BwdInRefIdeal.τ).loc Cert.BwdInRefIdeal.main_arg2) = m ((c.tc : Thread Cert.BwdInIdeal.nD Cert.BwdInIdeal.τ).loc Cert.BwdInIdeal.main_arg2)
      ∧ m' ((c.tc : Thread Cert.BwdInRefIdeal.nD Cert.BwdInRefIdeal.τ).loc Cert.BwdInRefIdeal.main_arg3) = m ((c.tc : Thread Cert.BwdInIdeal.nD Cert.BwdInIdeal.τ).loc Cert.BwdInIdeal.main_arg3)
      ∧ m' ((c.tc : Thread Cert.BwdInRefIdeal.nD Cert.BwdInRefIdeal.τ).loc Cert.BwdInRefIdeal.main_arg4) = m ((c.tc : Thread Cert.BwdInIdeal.nD Cert.BwdInIdeal.τ).loc Cert.BwdInIdeal.main_arg4)
      ∧ m' ((c.tc : Thread Cert.BwdInRefIdeal.nD Cert.BwdInRefIdeal.τ).loc Cert.BwdInRefIdeal.main_arg5) = m ((c.tc : Thread Cert.BwdInIdeal.nD Cert.BwdInIdeal.τ).loc Cert.BwdInIdeal.main_arg5)
      ∧ m' ((c.tc : Thread Cert.BwdInRefIdeal.nD Cert.BwdInRefIdeal.τ).loc Cert.BwdInRefIdeal.main_arg6) = m ((c.tc : Thread Cert.BwdInIdeal.nD Cert.BwdInIdeal.τ).loc Cert.BwdInIdeal.main_arg6)) →
    ∃ (v0 : (c : Dev Cert.BwdInIdeal.nD) → Buf (Elt Ideal) ((c.tc : Thread Cert.BwdInIdeal.nD Cert.BwdInIdeal.τ).loc Cert.BwdInIdeal.main_v0_0)) (v1 : (c : Dev Cert.BwdInIdeal.nD) → Buf (Elt Ideal) ((c.tc : Thread Cert.BwdInIdeal.nD Cert.BwdInIdeal.τ).loc Cert.BwdInIdeal.main_v0_1)),
      θ_run (Cert.BwdInIdeal.defs (F := Ideal)) (onTc (τ := Cert.BwdInIdeal.τ) (Cert.BwdInIdeal.main (F := Ideal))) ⟨m, fun _ => 0, g⟩ (fun r => ∀ c : Dev Cert.BwdInIdeal.nD,
          r.2.mem ((c.tc : Thread Cert.BwdInIdeal.nD Cert.BwdInIdeal.τ).loc Cert.BwdInIdeal.main_v0_0) = v0 c
          ∧ r.2.mem ((c.tc : Thread Cert.BwdInIdeal.nD Cert.BwdInIdeal.τ).loc Cert.BwdInIdeal.main_v0_1) = v1 c
          ∧ r.2.mem ((c.tc : Thread Cert.BwdInIdeal.nD Cert.BwdInIdeal.τ).loc Cert.BwdInIdeal.main_arg0) = m ((c.tc : Thread Cert.BwdInIdeal.nD Cert.BwdInIdeal.τ).loc Cert.BwdInIdeal.main_arg0)
          ∧ r.2.mem ((c.tc : Thread Cert.BwdInIdeal.nD Cert.BwdInIdeal.τ).loc Cert.BwdInIdeal.main_arg1) = m ((c.tc : Thread Cert.BwdInIdeal.nD Cert.BwdInIdeal.τ).loc Cert.BwdInIdeal.main_arg1)
          ∧ r.2.mem ((c.tc : Thread Cert.BwdInIdeal.nD Cert.BwdInIdeal.τ).loc Cert.BwdInIdeal.main_arg2) = m ((c.tc : Thread Cert.BwdInIdeal.nD Cert.BwdInIdeal.τ).loc Cert.BwdInIdeal.main_arg2)
          ∧ r.2.mem ((c.tc : Thread Cert.BwdInIdeal.nD Cert.BwdInIdeal.τ).loc Cert.BwdInIdeal.main_arg3) = m ((c.tc : Thread Cert.BwdInIdeal.nD Cert.BwdInIdeal.τ).loc Cert.BwdInIdeal.main_arg3)
          ∧ r.2.mem ((c.tc : Thread Cert.BwdInIdeal.nD Cert.BwdInIdeal.τ).loc Cert.BwdInIdeal.main_arg4) = m ((c.tc : Thread Cert.BwdInIdeal.nD Cert.BwdInIdeal.τ).loc Cert.BwdInIdeal.main_arg4)
          ∧ r.2.mem ((c.tc : Thread Cert.BwdInIdeal.nD Cert.BwdInIdeal.τ).loc Cert.BwdInIdeal.main_arg5) = m ((c.tc : Thread Cert.BwdInIdeal.nD Cert.BwdInIdeal.τ).loc Cert.BwdInIdeal.main_arg5)
          ∧ r.2.mem ((c.tc : Thread Cert.BwdInIdeal.nD Cert.BwdInIdeal.τ).loc Cert.BwdInIdeal.main_arg6) = m ((c.tc : Thread Cert.BwdInIdeal.nD Cert.BwdInIdeal.τ).loc Cert.BwdInIdeal.main_arg6))
      ∧ θ_run (Cert.BwdInRefIdeal.defs (F := Ideal)) (onTc (τ := Cert.BwdInRefIdeal.τ) (Cert.BwdInRefIdeal.main (F := Ideal))) ⟨m', fun _ => 0, g'⟩ (fun r => ∀ c : Dev Cert.BwdInRefIdeal.nD,
          r.2.mem ((c.tc : Thread Cert.BwdInRefIdeal.nD Cert.BwdInRefIdeal.τ).loc Cert.BwdInRefIdeal.main_v54) = v0 c
          ∧ r.2.mem ((c.tc : Thread Cert.BwdInRefIdeal.nD Cert.BwdInRefIdeal.τ).loc Cert.BwdInRefIdeal.main_v37) = v1 c
          ∧ r.2.mem ((c.tc : Thread Cert.BwdInRefIdeal.nD Cert.BwdInRefIdeal.τ).loc Cert.BwdInRefIdeal.main_arg0) = m' ((c.tc : Thread Cert.BwdInRefIdeal.nD Cert.BwdInRefIdeal.τ).loc Cert.BwdInRefIdeal.main_arg0)
          ∧ r.2.mem ((c.tc : Thread Cert.BwdInRefIdeal.nD Cert.BwdInRefIdeal.τ).loc Cert.BwdInRefIdeal.main_arg1) = m' ((c.tc : Thread Cert.BwdInRefIdeal.nD Cert.BwdInRefIdeal.τ).loc Cert.BwdInRefIdeal.main_arg1)
          ∧ r.2.mem ((c.tc : Thread Cert.BwdInRefIdeal.nD Cert.BwdInRefIdeal.τ).loc Cert.BwdInRefIdeal.main_arg2) = m' ((c.tc : Thread Cert.BwdInRefIdeal.nD Cert.BwdInRefIdeal.τ).loc Cert.BwdInRefIdeal.main_arg2)
          ∧ r.2.mem ((c.tc : Thread Cert.BwdInRefIdeal.nD Cert.BwdInRefIdeal.τ).loc Cert.BwdInRefIdeal.main_arg3) = m' ((c.tc : Thread Cert.BwdInRefIdeal.nD Cert.BwdInRefIdeal.τ).loc Cert.BwdInRefIdeal.main_arg3)
          ∧ r.2.mem ((c.tc : Thread Cert.BwdInRefIdeal.nD Cert.BwdInRefIdeal.τ).loc Cert.BwdInRefIdeal.main_arg4) = m' ((c.tc : Thread Cert.BwdInRefIdeal.nD Cert.BwdInRefIdeal.τ).loc Cert.BwdInRefIdeal.main_arg4)
          ∧ r.2.mem ((c.tc : Thread Cert.BwdInRefIdeal.nD Cert.BwdInRefIdeal.τ).loc Cert.BwdInRefIdeal.main_arg5) = m' ((c.tc : Thread Cert.BwdInRefIdeal.nD Cert.BwdInRefIdeal.τ).loc Cert.BwdInRefIdeal.main_arg5)
          ∧ r.2.mem ((c.tc : Thread Cert.BwdInRefIdeal.nD Cert.BwdInRefIdeal.τ).loc Cert.BwdInRefIdeal.main_arg6) = m' ((c.tc : Thread Cert.BwdInRefIdeal.nD Cert.BwdInRefIdeal.τ).loc Cert.BwdInRefIdeal.main_arg6))

def preserves_ConvFwd_ConvFwdIdeal : Prop :=
  True

def algebraic_ConvFwdIdeal_ConvFwdRefIdeal [hConvFwdIdeal : Cert.ConvFwdIdeal.Facts] [hConvFwdRefIdeal : Cert.ConvFwdRefIdeal.Facts] : Prop :=
  ∀ (m : (ℓ : Loc Cert.ConvFwdIdeal.nD Cert.ConvFwdIdeal.τ Cert.ConvFwdIdeal.sig) → Buf (Elt Ideal) ℓ) (g : Dev Cert.ConvFwdIdeal.nD → PrngReg)
    (m' : (ℓ : Loc Cert.ConvFwdRefIdeal.nD Cert.ConvFwdRefIdeal.τ Cert.ConvFwdRefIdeal.sig) → Buf (Elt Ideal) ℓ) (g' : Dev Cert.ConvFwdRefIdeal.nD → PrngReg), Pre_ConvFwdIdeal m →
    (∀ c : Dev Cert.ConvFwdIdeal.nD,
      m' ((c.tc : Thread Cert.ConvFwdRefIdeal.nD Cert.ConvFwdRefIdeal.τ).loc Cert.ConvFwdRefIdeal.main_arg0) = m ((c.tc : Thread Cert.ConvFwdIdeal.nD Cert.ConvFwdIdeal.τ).loc Cert.ConvFwdIdeal.main_arg0)
      ∧ m' ((c.tc : Thread Cert.ConvFwdRefIdeal.nD Cert.ConvFwdRefIdeal.τ).loc Cert.ConvFwdRefIdeal.main_arg1) = m ((c.tc : Thread Cert.ConvFwdIdeal.nD Cert.ConvFwdIdeal.τ).loc Cert.ConvFwdIdeal.main_arg1)
      ∧ m' ((c.tc : Thread Cert.ConvFwdRefIdeal.nD Cert.ConvFwdRefIdeal.τ).loc Cert.ConvFwdRefIdeal.main_arg2) = m ((c.tc : Thread Cert.ConvFwdIdeal.nD Cert.ConvFwdIdeal.τ).loc Cert.ConvFwdIdeal.main_arg2)) →
    ∃ (v0 : (c : Dev Cert.ConvFwdIdeal.nD) → Buf (Elt Ideal) ((c.tc : Thread Cert.ConvFwdIdeal.nD Cert.ConvFwdIdeal.τ).loc Cert.ConvFwdIdeal.main_v0)),
      θ_run (Cert.ConvFwdIdeal.defs (F := Ideal)) (onTc (τ := Cert.ConvFwdIdeal.τ) (Cert.ConvFwdIdeal.main (F := Ideal))) ⟨m, fun _ => 0, g⟩ (fun r => ∀ c : Dev Cert.ConvFwdIdeal.nD,
          r.2.mem ((c.tc : Thread Cert.ConvFwdIdeal.nD Cert.ConvFwdIdeal.τ).loc Cert.ConvFwdIdeal.main_v0) = v0 c
          ∧ r.2.mem ((c.tc : Thread Cert.ConvFwdIdeal.nD Cert.ConvFwdIdeal.τ).loc Cert.ConvFwdIdeal.main_arg0) = m ((c.tc : Thread Cert.ConvFwdIdeal.nD Cert.ConvFwdIdeal.τ).loc Cert.ConvFwdIdeal.main_arg0)
          ∧ r.2.mem ((c.tc : Thread Cert.ConvFwdIdeal.nD Cert.ConvFwdIdeal.τ).loc Cert.ConvFwdIdeal.main_arg1) = m ((c.tc : Thread Cert.ConvFwdIdeal.nD Cert.ConvFwdIdeal.τ).loc Cert.ConvFwdIdeal.main_arg1)
          ∧ r.2.mem ((c.tc : Thread Cert.ConvFwdIdeal.nD Cert.ConvFwdIdeal.τ).loc Cert.ConvFwdIdeal.main_arg2) = m ((c.tc : Thread Cert.ConvFwdIdeal.nD Cert.ConvFwdIdeal.τ).loc Cert.ConvFwdIdeal.main_arg2))
      ∧ θ_run (Cert.ConvFwdRefIdeal.defs (F := Ideal)) (onTc (τ := Cert.ConvFwdRefIdeal.τ) (Cert.ConvFwdRefIdeal.main (F := Ideal))) ⟨m', fun _ => 0, g'⟩ (fun r => ∀ c : Dev Cert.ConvFwdRefIdeal.nD,
          r.2.mem ((c.tc : Thread Cert.ConvFwdRefIdeal.nD Cert.ConvFwdRefIdeal.τ).loc Cert.ConvFwdRefIdeal.main_v43) = v0 c
          ∧ r.2.mem ((c.tc : Thread Cert.ConvFwdRefIdeal.nD Cert.ConvFwdRefIdeal.τ).loc Cert.ConvFwdRefIdeal.main_arg0) = m' ((c.tc : Thread Cert.ConvFwdRefIdeal.nD Cert.ConvFwdRefIdeal.τ).loc Cert.ConvFwdRefIdeal.main_arg0)
          ∧ r.2.mem ((c.tc : Thread Cert.ConvFwdRefIdeal.nD Cert.ConvFwdRefIdeal.τ).loc Cert.ConvFwdRefIdeal.main_arg1) = m' ((c.tc : Thread Cert.ConvFwdRefIdeal.nD Cert.ConvFwdRefIdeal.τ).loc Cert.ConvFwdRefIdeal.main_arg1)
          ∧ r.2.mem ((c.tc : Thread Cert.ConvFwdRefIdeal.nD Cert.ConvFwdRefIdeal.τ).loc Cert.ConvFwdRefIdeal.main_arg2) = m' ((c.tc : Thread Cert.ConvFwdRefIdeal.nD Cert.ConvFwdRefIdeal.τ).loc Cert.ConvFwdRefIdeal.main_arg2))

def preserves_NormIn_NormInIdeal : Prop :=
  True

def algebraic_NormInIdeal_NormInRefIdeal [hNormInIdeal : Cert.NormInIdeal.Facts] [hNormInRefIdeal : Cert.NormInRefIdeal.Facts] : Prop :=
  ∀ (m : (ℓ : Loc Cert.NormInIdeal.nD Cert.NormInIdeal.τ Cert.NormInIdeal.sig) → Buf (Elt Ideal) ℓ) (g : Dev Cert.NormInIdeal.nD → PrngReg)
    (m' : (ℓ : Loc Cert.NormInRefIdeal.nD Cert.NormInRefIdeal.τ Cert.NormInRefIdeal.sig) → Buf (Elt Ideal) ℓ) (g' : Dev Cert.NormInRefIdeal.nD → PrngReg), Pre_NormInIdeal m →
    (∀ c : Dev Cert.NormInIdeal.nD,
      m' ((c.tc : Thread Cert.NormInRefIdeal.nD Cert.NormInRefIdeal.τ).loc Cert.NormInRefIdeal.main_arg0) = m ((c.tc : Thread Cert.NormInIdeal.nD Cert.NormInIdeal.τ).loc Cert.NormInIdeal.main_arg0)
      ∧ m' ((c.tc : Thread Cert.NormInRefIdeal.nD Cert.NormInRefIdeal.τ).loc Cert.NormInRefIdeal.main_arg1) = m ((c.tc : Thread Cert.NormInIdeal.nD Cert.NormInIdeal.τ).loc Cert.NormInIdeal.main_arg1)) →
    ∃ (v0 : (c : Dev Cert.NormInIdeal.nD) → Buf (Elt Ideal) ((c.tc : Thread Cert.NormInIdeal.nD Cert.NormInIdeal.τ).loc Cert.NormInIdeal.main_v0_0)) (v1 : (c : Dev Cert.NormInIdeal.nD) → Buf (Elt Ideal) ((c.tc : Thread Cert.NormInIdeal.nD Cert.NormInIdeal.τ).loc Cert.NormInIdeal.main_v0_1)) (v2 : (c : Dev Cert.NormInIdeal.nD) → Buf (Elt Ideal) ((c.tc : Thread Cert.NormInIdeal.nD Cert.NormInIdeal.τ).loc Cert.NormInIdeal.main_v0_2)),
      θ_run (Cert.NormInIdeal.defs (F := Ideal)) (onTc (τ := Cert.NormInIdeal.τ) (Cert.NormInIdeal.main (F := Ideal))) ⟨m, fun _ => 0, g⟩ (fun r => ∀ c : Dev Cert.NormInIdeal.nD,
          r.2.mem ((c.tc : Thread Cert.NormInIdeal.nD Cert.NormInIdeal.τ).loc Cert.NormInIdeal.main_v0_0) = v0 c
          ∧ r.2.mem ((c.tc : Thread Cert.NormInIdeal.nD Cert.NormInIdeal.τ).loc Cert.NormInIdeal.main_v0_1) = v1 c
          ∧ r.2.mem ((c.tc : Thread Cert.NormInIdeal.nD Cert.NormInIdeal.τ).loc Cert.NormInIdeal.main_v0_2) = v2 c
          ∧ r.2.mem ((c.tc : Thread Cert.NormInIdeal.nD Cert.NormInIdeal.τ).loc Cert.NormInIdeal.main_arg0) = m ((c.tc : Thread Cert.NormInIdeal.nD Cert.NormInIdeal.τ).loc Cert.NormInIdeal.main_arg0)
          ∧ r.2.mem ((c.tc : Thread Cert.NormInIdeal.nD Cert.NormInIdeal.τ).loc Cert.NormInIdeal.main_arg1) = m ((c.tc : Thread Cert.NormInIdeal.nD Cert.NormInIdeal.τ).loc Cert.NormInIdeal.main_arg1))
      ∧ θ_run (Cert.NormInRefIdeal.defs (F := Ideal)) (onTc (τ := Cert.NormInRefIdeal.τ) (Cert.NormInRefIdeal.main (F := Ideal))) ⟨m', fun _ => 0, g'⟩ (fun r => ∀ c : Dev Cert.NormInRefIdeal.nD,
          r.2.mem ((c.tc : Thread Cert.NormInRefIdeal.nD Cert.NormInRefIdeal.τ).loc Cert.NormInRefIdeal.main_v1) = v0 c
          ∧ r.2.mem ((c.tc : Thread Cert.NormInRefIdeal.nD Cert.NormInRefIdeal.τ).loc Cert.NormInRefIdeal.main_v16) = v1 c
          ∧ r.2.mem ((c.tc : Thread Cert.NormInRefIdeal.nD Cert.NormInRefIdeal.τ).loc Cert.NormInRefIdeal.main_v17) = v2 c
          ∧ r.2.mem ((c.tc : Thread Cert.NormInRefIdeal.nD Cert.NormInRefIdeal.τ).loc Cert.NormInRefIdeal.main_arg0) = m' ((c.tc : Thread Cert.NormInRefIdeal.nD Cert.NormInRefIdeal.τ).loc Cert.NormInRefIdeal.main_arg0)
          ∧ r.2.mem ((c.tc : Thread Cert.NormInRefIdeal.nD Cert.NormInRefIdeal.τ).loc Cert.NormInRefIdeal.main_arg1) = m' ((c.tc : Thread Cert.NormInRefIdeal.nD Cert.NormInRefIdeal.τ).loc Cert.NormInRefIdeal.main_arg1))

def Claim : Prop :=
  ∃ (hKernel : Cert.Kernel.Facts) (hKernelIdeal : Cert.KernelIdeal.Facts) (hReferenceIdeal : Cert.ReferenceIdeal.Facts) (hDwOut : Cert.DwOut.Facts) (hDwOutIdeal : Cert.DwOutIdeal.Facts) (hDwOutRefIdeal : Cert.DwOutRefIdeal.Facts) (hDwGlu : Cert.DwGlu.Facts) (hDwGluIdeal : Cert.DwGluIdeal.Facts) (hDwGluRefIdeal : Cert.DwGluRefIdeal.Facts) (hDwEarly : Cert.DwEarly.Facts) (hDwEarlyIdeal : Cert.DwEarlyIdeal.Facts) (hDwEarlyRefIdeal : Cert.DwEarlyRefIdeal.Facts) (hDwLate : Cert.DwLate.Facts) (hDwLateIdeal : Cert.DwLateIdeal.Facts) (hDwLateRefIdeal : Cert.DwLateRefIdeal.Facts) (hTail : Cert.Tail.Facts) (hTailIdeal : Cert.TailIdeal.Facts) (hTailRefIdeal : Cert.TailRefIdeal.Facts) (hBwdIn : Cert.BwdIn.Facts) (hBwdInIdeal : Cert.BwdInIdeal.Facts) (hBwdInRefIdeal : Cert.BwdInRefIdeal.Facts) (hConvFwd : Cert.ConvFwd.Facts) (hConvFwdIdeal : Cert.ConvFwdIdeal.Facts) (hConvFwdRefIdeal : Cert.ConvFwdRefIdeal.Facts) (hNormIn : Cert.NormIn.Facts) (hNormInIdeal : Cert.NormInIdeal.Facts) (hNormInRefIdeal : Cert.NormInRefIdeal.Facts) (hPre_finite : Cert.Pre_finite.Facts) (hPre_finite_tail : Cert.Pre_finite_tail.Facts) (hOn_early_parts : Cert.On_early_parts.Facts) (hOn_late_parts : Cert.On_late_parts.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_DwOut (hDwOut := hDwOut)
    ∧ quiescent_DwOutIdeal (hDwOutIdeal := hDwOutIdeal)
    ∧ quiescent_DwOutRefIdeal (hDwOutRefIdeal := hDwOutRefIdeal)
    ∧ quiescent_DwGlu (hDwGlu := hDwGlu)
    ∧ quiescent_DwGluIdeal (hDwGluIdeal := hDwGluIdeal)
    ∧ quiescent_DwGluRefIdeal (hDwGluRefIdeal := hDwGluRefIdeal)
    ∧ quiescent_DwEarly (hDwEarly := hDwEarly)
    ∧ quiescent_DwEarlyIdeal (hDwEarlyIdeal := hDwEarlyIdeal)
    ∧ quiescent_DwEarlyRefIdeal (hDwEarlyRefIdeal := hDwEarlyRefIdeal)
    ∧ quiescent_DwLate (hDwLate := hDwLate)
    ∧ quiescent_DwLateIdeal (hDwLateIdeal := hDwLateIdeal)
    ∧ quiescent_DwLateRefIdeal (hDwLateRefIdeal := hDwLateRefIdeal)
    ∧ quiescent_Tail (hTail := hTail)
    ∧ quiescent_TailIdeal (hTailIdeal := hTailIdeal)
    ∧ quiescent_TailIdeal_pre_finite_tail (hTailIdeal := hTailIdeal) (hPre_finite_tail := hPre_finite_tail)
    ∧ quiescent_TailRefIdeal (hTailRefIdeal := hTailRefIdeal)
    ∧ quiescent_TailRefIdeal_pre_finite_tail (hTailRefIdeal := hTailRefIdeal) (hPre_finite_tail := hPre_finite_tail)
    ∧ quiescent_BwdIn (hBwdIn := hBwdIn)
    ∧ quiescent_BwdInIdeal (hBwdInIdeal := hBwdInIdeal)
    ∧ quiescent_BwdInRefIdeal (hBwdInRefIdeal := hBwdInRefIdeal)
    ∧ quiescent_ConvFwd (hConvFwd := hConvFwd)
    ∧ quiescent_ConvFwdIdeal (hConvFwdIdeal := hConvFwdIdeal)
    ∧ quiescent_ConvFwdRefIdeal (hConvFwdRefIdeal := hConvFwdRefIdeal)
    ∧ quiescent_NormIn (hNormIn := hNormIn)
    ∧ quiescent_NormInIdeal (hNormInIdeal := hNormInIdeal)
    ∧ quiescent_NormInRefIdeal (hNormInRefIdeal := hNormInRefIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_DwOut_DwOutIdeal
    ∧ algebraic_DwOutIdeal_DwOutRefIdeal (hDwOutIdeal := hDwOutIdeal) (hDwOutRefIdeal := hDwOutRefIdeal)
    ∧ preserves_DwGlu_DwGluIdeal
    ∧ algebraic_DwGluIdeal_DwGluRefIdeal (hDwGluIdeal := hDwGluIdeal) (hDwGluRefIdeal := hDwGluRefIdeal)
    ∧ preserves_DwEarly_DwEarlyIdeal
    ∧ algebraic_DwEarlyIdeal_DwEarlyRefIdeal_on_early_parts (hDwEarlyIdeal := hDwEarlyIdeal) (hDwEarlyRefIdeal := hDwEarlyRefIdeal) (hOn_early_parts := hOn_early_parts)
    ∧ preserves_DwLate_DwLateIdeal
    ∧ algebraic_DwLateIdeal_DwLateRefIdeal_on_late_parts (hDwLateIdeal := hDwLateIdeal) (hDwLateRefIdeal := hDwLateRefIdeal) (hOn_late_parts := hOn_late_parts)
    ∧ preserves_Tail_TailIdeal
    ∧ algebraic_TailIdeal_TailRefIdeal_pre_finite_tail (hTailIdeal := hTailIdeal) (hTailRefIdeal := hTailRefIdeal) (hPre_finite_tail := hPre_finite_tail)
    ∧ preserves_BwdIn_BwdInIdeal
    ∧ algebraic_BwdInIdeal_BwdInRefIdeal (hBwdInIdeal := hBwdInIdeal) (hBwdInRefIdeal := hBwdInRefIdeal)
    ∧ preserves_ConvFwd_ConvFwdIdeal
    ∧ algebraic_ConvFwdIdeal_ConvFwdRefIdeal (hConvFwdIdeal := hConvFwdIdeal) (hConvFwdRefIdeal := hConvFwdRefIdeal)
    ∧ preserves_NormIn_NormInIdeal
    ∧ algebraic_NormInIdeal_NormInRefIdeal (hNormInIdeal := hNormInIdeal) (hNormInRefIdeal := hNormInRefIdeal)
-- ==== On_early_parts.lean ====
abbrev S2048x4096 : Shape := ⟨2, ![2048, 4096]⟩
abbrev S4x4096x1024 : Shape := ⟨3, ![4, 4096, 1024]⟩
abbrev S4096x1024 : Shape := ⟨2, ![4096, 1024]⟩
abbrev S8x2048x768 : Shape := ⟨3, ![8, 2048, 768]⟩
abbrev S_ : Shape := ⟨0, ![]⟩

class Facts : Prop where
  bcast_S_S8x2048x768 : S_.BroadcastsInDim S8x2048x768 (![] : Fin 0 → Fin S8x2048x768.rank)

variable [Facts]

def fn {F : FTy → Type} [FloatOps F] (main_arg0 : FVec F S2048x4096 .bf16) (main_arg1 : FVec F S4x4096x1024 .bf16) (main_arg2 : FVec F S4096x1024 .bf16) : IVec S8x2048x768 1 :=
  let main_v0 : IVec S8x2048x768 32 := iotaInDim S8x2048x768 32 0
  let main_c : IVec S_ 32 := constantI S_ 32 5#32
  let main_v1 : IVec S8x2048x768 32 := broadcastInDim S8x2048x768 ![] bcast_S_S8x2048x768 main_c
  let main_v2 : IVec S8x2048x768 1 := cmpi .slt main_v0 main_v1
  let main_c_0 : IVec S_ 32 := constantI S_ 32 7#32
  let main_v3 : IVec S8x2048x768 32 := broadcastInDim S8x2048x768 ![] bcast_S_S8x2048x768 main_c_0
  let main_v4 : IVec S8x2048x768 1 := cmpi .eq main_v0 main_v3
  let main_v5 : IVec S8x2048x768 1 := ori main_v2 main_v4
  main_v5
-- ==== On_late_parts.lean ====
abbrev S2048x4096 : Shape := ⟨2, ![2048, 4096]⟩
abbrev S4x4096x1024 : Shape := ⟨3, ![4, 4096, 1024]⟩
abbrev S4096x1024 : Shape := ⟨2, ![4096, 1024]⟩
abbrev S8x2048x768 : Shape := ⟨3, ![8, 2048, 768]⟩
abbrev S_ : Shape := ⟨0, ![]⟩

class Facts : Prop where
  bcast_S_S8x2048x768 : S_.BroadcastsInDim S8x2048x768 (![] : Fin 0 → Fin S8x2048x768.rank)

variable [Facts]

def fn {F : FTy → Type} [FloatOps F] (main_arg0 : FVec F S2048x4096 .bf16) (main_arg1 : FVec F S4x4096x1024 .bf16) (main_arg2 : FVec F S4096x1024 .bf16) (main_arg3 : FVec F S4096x1024 .bf16) : IVec S8x2048x768 1 :=
  let main_v0 : IVec S8x2048x768 32 := iotaInDim S8x2048x768 32 0
  let main_c : IVec S_ 32 := constantI S_ 32 5#32
  let main_v1 : IVec S8x2048x768 32 := broadcastInDim S8x2048x768 ![] bcast_S_S8x2048x768 main_c
  let main_v2 : IVec S8x2048x768 1 := cmpi .eq main_v0 main_v1
  let main_c_0 : IVec S_ 32 := constantI S_ 32 6#32
  let main_v3 : IVec S8x2048x768 32 := broadcastInDim S8x2048x768 ![] bcast_S_S8x2048x768 main_c_0
  let main_v4 : IVec S8x2048x768 1 := cmpi .eq main_v0 main_v3
  let main_v5 : IVec S8x2048x768 1 := ori main_v2 main_v4
  main_v5
-- ==== Pre_finite.lean ====
abbrev S4096x6144 : Shape := ⟨2, ![4096, 6144]⟩
abbrev S4096x1024 : Shape := ⟨2, ![4096, 1024]⟩
abbrev S8x1024 : Shape := ⟨2, ![8, 1024]⟩
abbrev S1x1024 : Shape := ⟨2, ![1, 1024]⟩
abbrev S_ : Shape := ⟨0, ![]⟩

class Facts : Prop where
  bitsLt_bf16_f32 : FTy.bits .bf16 < FTy.bits .f32
  bcast_S_S4096x6144 : S_.BroadcastsInDim S4096x6144 (![] : Fin 0 → Fin S4096x6144.rank)
  reducesTo_S4096x6144_S_d0_1 : S4096x6144.ReducesTo [0, 1] S_
  h_S_ : 0 < S_.numel
  bcast_S_S4096x1024 : S_.BroadcastsInDim S4096x1024 (![] : Fin 0 → Fin S4096x1024.rank)
  reducesTo_S4096x1024_S_d0_1 : S4096x1024.ReducesTo [0, 1] S_
  bcast_S_S8x1024 : S_.BroadcastsInDim S8x1024 (![] : Fin 0 → Fin S8x1024.rank)
  reducesTo_S8x1024_S_d0_1 : S8x1024.ReducesTo [0, 1] S_
  bcast_S_S1x1024 : S_.BroadcastsInDim S1x1024 (![] : Fin 0 → Fin S1x1024.rank)
  reducesTo_S1x1024_S_d0_1 : S1x1024.ReducesTo [0, 1] S_

variable [Facts]

def fn_part1 {F : FTy → Type} [FloatOps F] (main_v15 : IVec S_ 1) (main_v16 : FVec F S1x1024 .f32) (main_cst_4 : FVec F S_ .f32) : IVec S_ 1 :=
  let main_v17 : FVec F S1x1024 .f32 := broadcastInDim S1x1024 ![] bcast_S_S1x1024 main_cst_4
  let main_v18 : IVec S1x1024 1 := cmpf .olt main_v16 main_v17
  let main_c_5 : IVec S_ 1 := constantI S_ 1 1#1
  let main_v19 : IVec S_ 1 := (fun x v => Host.reduce IntOp.andi x v reducesTo_S1x1024_S_d0_1 h_S_) main_v18 main_c_5
  let main_v20 : IVec S_ 1 := andi main_v15 main_v19
  main_v20

def fn {F : FTy → Type} [FloatOps F] (main_arg0 : FVec F S4096x6144 .bf16) (main_arg1 : FVec F S4096x1024 .bf16) (main_arg2 : FVec F S8x1024 .f32) (main_arg3 : FVec F S1x1024 .f32) : IVec S_ 1 :=
  let main_v0 : FVec F S4096x6144 .f32 := (extf .f32 · bitsLt_bf16_f32) main_arg0
  let main_v1 : FVec F S4096x6144 .f32 := Host.absf main_v0
  let main_cst : FVec F S_ .f32 := constant S_ .f32 0x7F800000#32
  let main_v2 : FVec F S4096x6144 .f32 := broadcastInDim S4096x6144 ![] bcast_S_S4096x6144 main_cst
  let main_v3 : IVec S4096x6144 1 := cmpf .olt main_v1 main_v2
  let main_c : IVec S_ 1 := constantI S_ 1 1#1
  let main_v4 : IVec S_ 1 := (fun x v => Host.reduce IntOp.andi x v reducesTo_S4096x6144_S_d0_1 h_S_) main_v3 main_c
  let main_v5 : FVec F S4096x1024 .f32 := (extf .f32 · bitsLt_bf16_f32) main_arg1
  let main_v6 : FVec F S4096x1024 .f32 := Host.absf main_v5
  let main_cst_0 : FVec F S_ .f32 := constant S_ .f32 0x7F800000#32
  let main_v7 : FVec F S4096x1024 .f32 := broadcastInDim S4096x1024 ![] bcast_S_S4096x1024 main_cst_0
  let main_v8 : IVec S4096x1024 1 := cmpf .olt main_v6 main_v7
  let main_c_1 : IVec S_ 1 := constantI S_ 1 1#1
  let main_v9 : IVec S_ 1 := (fun x v => Host.reduce IntOp.andi x v reducesTo_S4096x1024_S_d0_1 h_S_) main_v8 main_c_1
  let main_v10 : IVec S_ 1 := andi main_v4 main_v9
  let main_v11 : FVec F S8x1024 .f32 := Host.absf main_arg2
  let main_cst_2 : FVec F S_ .f32 := constant S_ .f32 0x7F800000#32
  let main_v12 : FVec F S8x1024 .f32 := broadcastInDim S8x1024 ![] bcast_S_S8x1024 main_cst_2
  let main_v13 : IVec S8x1024 1 := cmpf .olt main_v11 main_v12
  let main_c_3 : IVec S_ 1 := constantI S_ 1 1#1
  let main_v14 : IVec S_ 1 := (fun x v => Host.reduce IntOp.andi x v reducesTo_S8x1024_S_d0_1 h_S_) main_v13 main_c_3
  let main_v15 : IVec S_ 1 := andi main_v10 main_v14
  let main_v16 : FVec F S1x1024 .f32 := Host.absf main_arg3
  let main_cst_4 : FVec F S_ .f32 := constant S_ .f32 0x7F800000#32
  fn_part1 (F := F) main_v15 main_v16 main_cst_4
-- ==== Pre_finite_tail.lean ====
abbrev S4096x2048 : Shape := ⟨2, ![4096, 2048]⟩
abbrev S8x512x2048 : Shape := ⟨3, ![8, 512, 2048]⟩
abbrev S4096x6144 : Shape := ⟨2, ![4096, 6144]⟩
abbrev S4096x1024 : Shape := ⟨2, ![4096, 1024]⟩
abbrev S1024x1024 : Shape := ⟨2, ![1024, 1024]⟩
abbrev S1x1024 : Shape := ⟨2, ![1, 1024]⟩
abbrev S2048x2048 : Shape := ⟨2, ![2048, 2048]⟩
abbrev S1x2048 : Shape := ⟨2, ![1, 2048]⟩
abbrev S_ : Shape := ⟨0, ![]⟩

class Facts : Prop where
  bcast_S_S4096x2048 : S_.BroadcastsInDim S4096x2048 (![] : Fin 0 → Fin S4096x2048.rank)
  reducesTo_S4096x2048_S_d0_1 : S4096x2048.ReducesTo [0, 1] S_
  h_S_ : 0 < S_.numel
  bcast_S_S8x512x2048 : S_.BroadcastsInDim S8x512x2048 (![] : Fin 0 → Fin S8x512x2048.rank)
  reducesTo_S8x512x2048_S_d0_1_2 : S8x512x2048.ReducesTo [0, 1, 2] S_
  bitsLt_bf16_f32 : FTy.bits .bf16 < FTy.bits .f32
  bcast_S_S4096x6144 : S_.BroadcastsInDim S4096x6144 (![] : Fin 0 → Fin S4096x6144.rank)
  reducesTo_S4096x6144_S_d0_1 : S4096x6144.ReducesTo [0, 1] S_
  bcast_S_S4096x1024 : S_.BroadcastsInDim S4096x1024 (![] : Fin 0 → Fin S4096x1024.rank)
  reducesTo_S4096x1024_S_d0_1 : S4096x1024.ReducesTo [0, 1] S_
  bcast_S_S1024x1024 : S_.BroadcastsInDim S1024x1024 (![] : Fin 0 → Fin S1024x1024.rank)
  reducesTo_S1024x1024_S_d0_1 : S1024x1024.ReducesTo [0, 1] S_
  bcast_S_S1x1024 : S_.BroadcastsInDim S1x1024 (![] : Fin 0 → Fin S1x1024.rank)
  reducesTo_S1x1024_S_d0_1 : S1x1024.ReducesTo [0, 1] S_
  bcast_S_S2048x2048 : S_.BroadcastsInDim S2048x2048 (![] : Fin 0 → Fin S2048x2048.rank)
  reducesTo_S2048x2048_S_d0_1 : S2048x2048.ReducesTo [0, 1] S_
  bcast_S_S1x2048 : S_.BroadcastsInDim S1x2048 (![] : Fin 0 → Fin S1x2048.rank)
  reducesTo_S1x2048_S_d0_1 : S1x2048.ReducesTo [0, 1] S_

variable [Facts]

def fn_part2 {F : FTy → Type} [FloatOps F] (main_arg7 : FVec F S2048x2048 .bf16) (main_arg8 : FVec F S1x2048 .f32) (main_v31 : IVec S_ 1) (main_v34 : IVec S1x1024 1) : IVec S_ 1 :=
  let main_c_11 : IVec S_ 1 := constantI S_ 1 1#1
  let main_v35 : IVec S_ 1 := (fun x v => Host.reduce IntOp.andi x v reducesTo_S1x1024_S_d0_1 h_S_) main_v34 main_c_11
  let main_v36 : IVec S_ 1 := andi main_v31 main_v35
  let main_v37 : FVec F S2048x2048 .f32 := (extf .f32 · bitsLt_bf16_f32) main_arg7
  let main_v38 : FVec F S2048x2048 .f32 := Host.absf main_v37
  let main_cst_12 : FVec F S_ .f32 := constant S_ .f32 0x7F800000#32
  let main_v39 : FVec F S2048x2048 .f32 := broadcastInDim S2048x2048 ![] bcast_S_S2048x2048 main_cst_12
  let main_v40 : IVec S2048x2048 1 := cmpf .olt main_v38 main_v39
  let main_c_13 : IVec S_ 1 := constantI S_ 1 1#1
  let main_v41 : IVec S_ 1 := (fun x v => Host.reduce IntOp.andi x v reducesTo_S2048x2048_S_d0_1 h_S_) main_v40 main_c_13
  let main_v42 : IVec S_ 1 := andi main_v36 main_v41
  let main_v43 : FVec F S1x2048 .f32 := Host.absf main_arg8
  let main_cst_14 : FVec F S_ .f32 := constant S_ .f32 0x7F800000#32
  let main_v44 : FVec F S1x2048 .f32 := broadcastInDim S1x2048 ![] bcast_S_S1x2048 main_cst_14
  let main_v45 : IVec S1x2048 1 := cmpf .olt main_v43 main_v44
  let main_c_15 : IVec S_ 1 := constantI S_ 1 1#1
  let main_v46 : IVec S_ 1 := (fun x v => Host.reduce IntOp.andi x v reducesTo_S1x2048_S_d0_1 h_S_) main_v45 main_c_15
  let main_v47 : IVec S_ 1 := andi main_v42 main_v46
  main_v47

def fn_part1 {F : FTy → Type} [FloatOps F] (main_arg4 : FVec F S4096x1024 .f32) (main_arg5 : FVec F S1024x1024 .bf16) (main_arg6 : FVec F S1x1024 .f32) (main_arg7 : FVec F S2048x2048 .bf16) (main_arg8 : FVec F S1x2048 .f32) (main_v14 : IVec S_ 1) (main_v16 : FVec F S4096x1024 .f32) (main_cst_4 : FVec F S_ .f32) : IVec S_ 1 :=
  let main_v17 : FVec F S4096x1024 .f32 := broadcastInDim S4096x1024 ![] bcast_S_S4096x1024 main_cst_4
  let main_v18 : IVec S4096x1024 1 := cmpf .olt main_v16 main_v17
  let main_c_5 : IVec S_ 1 := constantI S_ 1 1#1
  let main_v19 : IVec S_ 1 := (fun x v => Host.reduce IntOp.andi x v reducesTo_S4096x1024_S_d0_1 h_S_) main_v18 main_c_5
  let main_v20 : IVec S_ 1 := andi main_v14 main_v19
  let main_v21 : FVec F S4096x1024 .f32 := Host.absf main_arg4
  let main_cst_6 : FVec F S_ .f32 := constant S_ .f32 0x7F800000#32
  let main_v22 : FVec F S4096x1024 .f32 := broadcastInDim S4096x1024 ![] bcast_S_S4096x1024 main_cst_6
  let main_v23 : IVec S4096x1024 1 := cmpf .olt main_v21 main_v22
  let main_c_7 : IVec S_ 1 := constantI S_ 1 1#1
  let main_v24 : IVec S_ 1 := (fun x v => Host.reduce IntOp.andi x v reducesTo_S4096x1024_S_d0_1 h_S_) main_v23 main_c_7
  let main_v25 : IVec S_ 1 := andi main_v20 main_v24
  let main_v26 : FVec F S1024x1024 .f32 := (extf .f32 · bitsLt_bf16_f32) main_arg5
  let main_v27 : FVec F S1024x1024 .f32 := Host.absf main_v26
  let main_cst_8 : FVec F S_ .f32 := constant S_ .f32 0x7F800000#32
  let main_v28 : FVec F S1024x1024 .f32 := broadcastInDim S1024x1024 ![] bcast_S_S1024x1024 main_cst_8
  let main_v29 : IVec S1024x1024 1 := cmpf .olt main_v27 main_v28
  let main_c_9 : IVec S_ 1 := constantI S_ 1 1#1
  let main_v30 : IVec S_ 1 := (fun x v => Host.reduce IntOp.andi x v reducesTo_S1024x1024_S_d0_1 h_S_) main_v29 main_c_9
  let main_v31 : IVec S_ 1 := andi main_v25 main_v30
  let main_v32 : FVec F S1x1024 .f32 := Host.absf main_arg6
  let main_cst_10 : FVec F S_ .f32 := constant S_ .f32 0x7F800000#32
  let main_v33 : FVec F S1x1024 .f32 := broadcastInDim S1x1024 ![] bcast_S_S1x1024 main_cst_10
  let main_v34 : IVec S1x1024 1 := cmpf .olt main_v32 main_v33
  fn_part2 (F := F) main_arg7 main_arg8 main_v31 main_v34

def fn {F : FTy → Type} [FloatOps F] (main_arg0 : FVec F S4096x2048 .f32) (main_arg1 : FVec F S8x512x2048 .f32) (main_arg2 : FVec F S4096x6144 .bf16) (main_arg3 : FVec F S4096x1024 .bf16) (main_arg4 : FVec F S4096x1024 .f32) (main_arg5 : FVec F S1024x1024 .bf16) (main_arg6 : FVec F S1x1024 .f32) (main_arg7 : FVec F S2048x2048 .bf16) (main_arg8 : FVec F S1x2048 .f32) : IVec S_ 1 :=
  let main_v0 : FVec F S4096x2048 .f32 := Host.absf main_arg0
  let main_cst : FVec F S_ .f32 := constant S_ .f32 0x7F800000#32
  let main_v1 : FVec F S4096x2048 .f32 := broadcastInDim S4096x2048 ![] bcast_S_S4096x2048 main_cst
  let main_v2 : IVec S4096x2048 1 := cmpf .olt main_v0 main_v1
  let main_c : IVec S_ 1 := constantI S_ 1 1#1
  let main_v3 : IVec S_ 1 := (fun x v => Host.reduce IntOp.andi x v reducesTo_S4096x2048_S_d0_1 h_S_) main_v2 main_c
  let main_v4 : FVec F S8x512x2048 .f32 := Host.absf main_arg1
  let main_cst_0 : FVec F S_ .f32 := constant S_ .f32 0x7F800000#32
  let main_v5 : FVec F S8x512x2048 .f32 := broadcastInDim S8x512x2048 ![] bcast_S_S8x512x2048 main_cst_0
  let main_v6 : IVec S8x512x2048 1 := cmpf .olt main_v4 main_v5
  let main_c_1 : IVec S_ 1 := constantI S_ 1 1#1
  let main_v7 : IVec S_ 1 := (fun x v => Host.reduce IntOp.andi x v reducesTo_S8x512x2048_S_d0_1_2 h_S_) main_v6 main_c_1
  let main_v8 : IVec S_ 1 := andi main_v3 main_v7
  let main_v9 : FVec F S4096x6144 .f32 := (extf .f32 · bitsLt_bf16_f32) main_arg2
  let main_v10 : FVec F S4096x6144 .f32 := Host.absf main_v9
  let main_cst_2 : FVec F S_ .f32 := constant S_ .f32 0x7F800000#32
  let main_v11 : FVec F S4096x6144 .f32 := broadcastInDim S4096x6144 ![] bcast_S_S4096x6144 main_cst_2
  let main_v12 : IVec S4096x6144 1 := cmpf .olt main_v10 main_v11
  let main_c_3 : IVec S_ 1 := constantI S_ 1 1#1
  let main_v13 : IVec S_ 1 := (fun x v => Host.reduce IntOp.andi x v reducesTo_S4096x6144_S_d0_1 h_S_) main_v12 main_c_3
  let main_v14 : IVec S_ 1 := andi main_v8 main_v13
  let main_v15 : FVec F S4096x1024 .f32 := (extf .f32 · bitsLt_bf16_f32) main_arg3
  let main_v16 : FVec F S4096x1024 .f32 := Host.absf main_v15
  let main_cst_4 : FVec F S_ .f32 := constant S_ .f32 0x7F800000#32
  fn_part1 (F := F) main_arg4 main_arg5 main_arg6 main_arg7 main_arg8 main_v14 main_v16 main_cst_4
-- ==== Kernel.lean ====
abbrev S4096x6144 : Shape := ⟨2, ![4096, 6144]⟩
abbrev S4096x1024 : Shape := ⟨2, ![4096, 1024]⟩
abbrev S8x1024 : Shape := ⟨2, ![8, 1024]⟩
abbrev S1x1024 : Shape := ⟨2, ![1, 1024]⟩
abbrev S4x4096x1024 : Shape := ⟨3, ![4, 4096, 1024]⟩
abbrev S4096x128 : Shape := ⟨2, ![4096, 128]⟩
abbrev S8x128 : Shape := ⟨2, ![8, 128]⟩
abbrev S1x128 : Shape := ⟨2, ![1, 128]⟩
abbrev S4x4096x128 : Shape := ⟨3, ![4, 4096, 128]⟩
abbrev S4088x128 : Shape := ⟨2, ![4088, 128]⟩
abbrev S1x4096x128 : Shape := ⟨3, ![1, 4096, 128]⟩
abbrev S128 : Shape := ⟨1, ![128]⟩
abbrev S5x128 : Shape := ⟨2, ![5, 128]⟩

abbrev nBuf : Space → Nat
  | .hbm => 7
  | .vmem => 20
  | .smem => 0
  | _ => 0

abbrev bufTy : (tb : Table) → Fin (tcTables nBuf tb) → BufTy
  | .hbm, ⟨0, _⟩ => ⟨S4096x6144, .bf16⟩
  | .hbm, ⟨1, _⟩ => ⟨S4096x1024, .bf16⟩
  | .hbm, ⟨2, _⟩ => ⟨S8x1024, .f32⟩
  | .hbm, ⟨3, _⟩ => ⟨S1x1024, .f32⟩
  | .hbm, ⟨4, _⟩ => ⟨S4x4096x1024, .bf16⟩
  | .hbm, ⟨5, _⟩ => ⟨S1x1024, .f32⟩
  | .hbm, ⟨6, _⟩ => ⟨S8x1024, .f32⟩
  | .local _ .vmem, ⟨0, _⟩ => ⟨S4096x128, .bf16⟩
  | .local _ .vmem, ⟨1, _⟩ => ⟨S4096x128, .bf16⟩
  | .local _ .vmem, ⟨2, _⟩ => ⟨S4096x128, .bf16⟩
  | .local _ .vmem, ⟨3, _⟩ => ⟨S4096x128, .bf16⟩
  | .local _ .vmem, ⟨4, _⟩ => ⟨S4096x128, .bf16⟩
  | .local _ .vmem, ⟨5, _⟩ => ⟨S4096x128, .bf16⟩
  | .local _ .vmem, ⟨6, _⟩ => ⟨S4096x128, .bf16⟩
  | .local _ .vmem, ⟨7, _⟩ => ⟨S4096x128, .bf16⟩
  | .local _ .vmem, ⟨8, _⟩ => ⟨S4096x128, .bf16⟩
  | .local _ .vmem, ⟨9, _⟩ => ⟨S4096x128, .bf16⟩
  | .local _ .vmem, ⟨10, _⟩ => ⟨S8x128, .f32⟩
  | .local _ .vmem, ⟨11, _⟩ => ⟨S8x128, .f32⟩
  | .local _ .vmem, ⟨12, _⟩ => ⟨S1x128, .f32⟩
  | .local _ .vmem, ⟨13, _⟩ => ⟨S1x128, .f32⟩
  | .local _ .vmem, ⟨14, _⟩ => ⟨S4x4096x128, .bf16⟩
  | .local _ .vmem, ⟨15, _⟩ => ⟨S4x4096x128, .bf16⟩
  | .local _ .vmem, ⟨16, _⟩ => ⟨S1x128, .f32⟩
  | .local _ .vmem, ⟨17, _⟩ => ⟨S1x128, .f32⟩
  | .local _ .vmem, ⟨18, _⟩ => ⟨S8x128, .f32⟩
  | .local _ .vmem, ⟨19, _⟩ => ⟨S8x128, .f32⟩
  | _, _ => ⟨S4096x6144, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_1 (i : grid0.Coords) : Fin 2 → Nat :=
  let arg0 : BitVec 32 := BitVec.ofNat 32 (i 0).val
  let c8_i32 : BitVec 32 := 8#32
  let v0 : BitVec 32 := Scalar.addi c8_i32 arg0
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let c16_i32 : BitVec 32 := 16#32
  let v0 : BitVec 32 := Scalar.addi c16_i32 arg0
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let c24_i32 : BitVec 32 := 24#32
  let v0 : BitVec 32 := Scalar.addi c24_i32 arg0
  let c0_i32 : BitVec 32 := 0#32
  let c0_i32_0 : BitVec 32 := 0#32
  ![c0_i32.toNat, v0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S4096x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4096x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4096x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4096x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S4096x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S8x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S4x4096x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S8x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== ReferenceIdeal.lean ====
abbrev S4096x6144 : Shape := ⟨2, ![4096, 6144]⟩
abbrev S4096x1024 : Shape := ⟨2, ![4096, 1024]⟩
abbrev S8x1024 : Shape := ⟨2, ![8, 1024]⟩
abbrev S1x1024 : Shape := ⟨2, ![1, 1024]⟩
abbrev S512x8x6144 : Shape := ⟨3, ![512, 8, 6144]⟩
abbrev S8x512x6144 : Shape := ⟨3, ![8, 512, 6144]⟩
abbrev S1x4096x6144 : Shape := ⟨3, ![1, 4096, 6144]⟩
abbrev S1x4096x4096 : Shape := ⟨3, ![1, 4096, 4096]⟩
abbrev S1x4096x1024 : Shape := ⟨3, ![1, 4096, 1024]⟩
abbrev S3x1024 : Shape := ⟨2, ![3, 1024]⟩
abbrev S1024 : Shape := ⟨1, ![1024]⟩
abbrev S_ : Shape := ⟨0, ![]⟩
abbrev S1x2x1024 : Shape := ⟨3, ![1, 2, 1024]⟩
abbrev S1x4098x1024 : Shape := ⟨3, ![1, 4098, 1024]⟩
abbrev S1x1x1024 : Shape := ⟨3, ![1, 1, 1024]⟩
abbrev S512x8x1024 : Shape := ⟨3, ![512, 8, 1024]⟩
abbrev S8x512x1024 : Shape := ⟨3, ![8, 512, 1024]⟩
abbrev S4x4096x1024 : Shape := ⟨3, ![4, 4096, 1024]⟩

abbrev nBuf : Space → Nat
  | .hbm => 145
  | .vmem => 0
  | .smem => 0
  | _ => 0

abbrev hbmTy0_0 (i : Nat) : BufTy := match i % 128 with
  | 0 => ⟨S4096x6144, .bf16⟩
  | 1 => ⟨S4096x1024, .bf16⟩
  | 2 => ⟨S8x1024, .f32⟩
  | 3 => ⟨S1x1024, .f32⟩
  | 4 => ⟨S4096x6144, .f32⟩
  | 5 => ⟨S512x8x6144, .f32⟩
  | 6 => ⟨S8x512x6144, .f32⟩
  | 7 => ⟨S1x4096x6144, .f32⟩
  | 8 => ⟨S1x4096x4096, .f32⟩
  | 9 => ⟨S1x4096x1024, .f32⟩
  | 10 => ⟨S1x4096x1024, .f32⟩
  | 11 => ⟨S1x4096x1024, .f32⟩
  | 12 => ⟨S1x4096x1024, .f32⟩
  | 13 => ⟨S3x1024, .f32⟩
  | 14 => ⟨S1024, .f32⟩
  | 15 => ⟨S1x4096x1024, .f32⟩
  | 16 => ⟨S_, .f32⟩
  | 17 => ⟨S1x2x1024, .f32⟩
  | 18 => ⟨S1x4098x1024, .f32⟩
  | 19 => ⟨S_, .f32⟩
  | 20 => ⟨S1x2x1024, .f32⟩
  | 21 => ⟨S1x1x1024, .f32⟩
  | 22 => ⟨S1x1024, .f32⟩
  | 23 => ⟨S1024, .f32⟩
  | 24 => ⟨S1x1x1024, .f32⟩
  | 25 => ⟨S1x4096x1024, .f32⟩
  | 26 => ⟨S1x4096x1024, .f32⟩
  | 27 => ⟨S1x4096x1024, .f32⟩
  | 28 => ⟨S1x4096x1024, .f32⟩
  | 29 => ⟨S1x4096x1024, .f32⟩
  | 30 => ⟨S1x1024, .f32⟩
  | 31 => ⟨S1024, .f32⟩
  | 32 => ⟨S1x1x1024, .f32⟩
  | 33 => ⟨S1x4096x1024, .f32⟩
  | 34 => ⟨S1x4096x1024, .f32⟩
  | 35 => ⟨S1x4096x1024, .f32⟩
  | 36 => ⟨S1x4096x1024, .f32⟩
  | 37 => ⟨S1x1024, .f32⟩
  | 38 => ⟨S1024, .f32⟩
  | 39 => ⟨S1x1x1024, .f32⟩
  | 40 => ⟨S1x4096x1024, .f32⟩
  | 41 => ⟨S1x4096x1024, .f32⟩
  | 42 => ⟨S1x4096x1024, .f32⟩
  | 43 => ⟨S1x4096x1024, .f32⟩
  | 44 => ⟨S1x4096x1024, .f32⟩
  | 45 => ⟨S1x4096x1024, .f32⟩
  | 46 => ⟨S1x4096x1024, .f32⟩
  | 47 => ⟨S_, .f32⟩
  | 48 => ⟨S1x4096x1024, .f32⟩
  | 49 => ⟨S1x4096x1024, .f32⟩
  | 50 => ⟨S_, .f32⟩
  | 51 => ⟨S1x4096x1024, .f32⟩
  | 52 => ⟨S1x4096x1024, .f32⟩
  | 53 => ⟨S_, .f32⟩
  | 54 => ⟨S1x4096x1024, .f32⟩
  | 55 => ⟨S1x4096x1024, .f32⟩
  | 56 => ⟨S1x4096x1024, .f32⟩
  | 57 => ⟨S1x4096x1024, .f32⟩
  | 58 => ⟨S1x4096x1024, .f32⟩
  | 59 => ⟨S4096x1024, .f32⟩
  | 60 => ⟨S512x8x1024, .f32⟩
  | 61 => ⟨S8x512x1024, .f32⟩
  | 62 => ⟨S1x4096x1024, .f32⟩
  | 63 => ⟨S1x4096x1024, .f32⟩
  | 64 => ⟨S1x4096x1024, .f32⟩
  | 65 => ⟨S1x4096x1024, .f32⟩
  | 66 => ⟨S1x4096x1024, .f32⟩
  | 67 => ⟨S1x4096x1024, .f32⟩
  | 68 => ⟨S1x4096x1024, .f32⟩
  | 69 => ⟨S1x4096x1024, .f32⟩
  | 70 => ⟨S1x4096x1024, .f32⟩
  | 71 => ⟨S1x4096x1024, .f32⟩
  | 72 => ⟨S1x4096x1024, .f32⟩
  | 73 => ⟨S1x4096x1024, .f32⟩
  | 74 => ⟨S_, .f32⟩
  | 75 => ⟨S1x1024, .f32⟩
  | 76 => ⟨S1x1x1024, .f32⟩
  | 77 => ⟨S_, .f32⟩
  | 78 => ⟨S1x4098x1024, .f32⟩
  | 79 => ⟨S_, .f32⟩
  | 80 => ⟨S1024, .f32⟩
  | 81 => ⟨S1x1024, .f32⟩
  | 82 => ⟨S_, .f32⟩
  | 83 => ⟨S3x1024, .f32⟩
  | 84 => ⟨S1x4096x1024, .f32⟩
  | 85 => ⟨S1x4096x1024, .f32⟩
  | 86 => ⟨S1x4096x1024, .f32⟩
  | 87 => ⟨S_, .f32⟩
  | 88 => ⟨S1x1024, .f32⟩
  | 89 => ⟨S1x1x1024, .f32⟩
  | 90 => ⟨S_, .f32⟩
  | 91 => ⟨S1x4098x1024, .f32⟩
  | 92 => ⟨S1x4098x1024, .f32⟩
  | 93 => ⟨S_, .f32⟩
  | 94 => ⟨S1024, .f32⟩
  | 95 => ⟨S1x1024, .f32⟩
  | 96 => ⟨S_, .f32⟩
  | 97 => ⟨S3x1024, .f32⟩
  | 98 => ⟨S3x1024, .f32⟩
  | 99 => ⟨S_, .f32⟩
  | 100 => ⟨S1x1024, .f32⟩
  | 101 => ⟨S1x1x1024, .f32⟩
  | 102 => ⟨S1x4096x1024, .f32⟩
  | 103 => ⟨S1x4096x1024, .f32⟩
  | 104 => ⟨S1x4096x1024, .f32⟩
  | 105 => ⟨S_, .f32⟩
  | 106 => ⟨S1x1024, .f32⟩
  | 107 => ⟨S1x1x1024, .f32⟩
  | 108 => ⟨S_, .f32⟩
  | 109 => ⟨S1x4098x1024, .f32⟩
  | 110 => ⟨S1x4098x1024, .f32⟩
  | 111 => ⟨S_, .f32⟩
  | 112 => ⟨S1024, .f32⟩
  | 113 => ⟨S1x1024, .f32⟩
  | 114 => ⟨S_, .f32⟩
  | 115 => ⟨S3x1024, .f32⟩
  | 116 => ⟨S3x1024, .f32⟩
  | 117 => ⟨S_, .f32⟩
  | 118 => ⟨S1024, .f32⟩
  | 119 => ⟨S1x2x1024, .f32⟩
  | 120 => ⟨S1x4096x1024, .f32⟩
  | 121 => ⟨S1x4096x1024, .f32⟩
  | 122 => ⟨S1x4096x1024, .f32⟩
  | 123 => ⟨S8x512x1024, .f32⟩
  | 124 => ⟨S512x8x1024, .f32⟩
  | 125 => ⟨S4096x1024, .f32⟩
  | 126 => ⟨S8x512x1024, .f32⟩
  | 127 => ⟨S512x8x1024, .f32⟩
  | _ => ⟨S4096x6144, .bf16⟩

abbrev hbmTy0_1 (i : Nat) : BufTy := match i % 128 with
  | 0 => ⟨S4096x1024, .f32⟩
  | 1 => ⟨S8x512x1024, .f32⟩
  | 2 => ⟨S512x8x1024, .f32⟩
  | 3 => ⟨S4096x1024, .f32⟩
  | 4 => ⟨S8x512x1024, .f32⟩
  | 5 => ⟨S512x8x1024, .f32⟩
  | 6 => ⟨S4096x1024, .f32⟩
  | 7 => ⟨S1x4096x1024, .f32⟩
  | 8 => ⟨S1x4096x1024, .f32⟩
  | 9 => ⟨S1x4096x1024, .f32⟩
  | 10 => ⟨S1x4096x1024, .f32⟩
  | 11 => ⟨S4x4096x1024, .f32⟩
  | 12 => ⟨S4x4096x1024, .bf16⟩
  | 13 => ⟨S1x1024, .f32⟩
  | 14 => ⟨S_, .i32⟩
  | 15 => ⟨S_, .f32⟩
  | 16 => ⟨S8x1024, .f32⟩
  | _ => ⟨S4096x6144, .bf16⟩

abbrev hbmTy (i : Nat) : BufTy := match i / 128 with
  | 0 => hbmTy0_0 i
  | 1 => hbmTy0_1 i
  | _ => ⟨S4096x6144, .bf16⟩

abbrev bufTy : (tb : Table) → Fin (tcTables nBuf tb) → BufTy
  | .hbm, ⟨i, _⟩ => hbmTy i
  | _, _ => ⟨S4096x6144, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_cst : Ref sig .tc := ⟨.hbm, 16, rfl⟩
abbrev main_v12 : Ref sig .tc := ⟨.hbm, 17, rfl⟩
abbrev main_v13 : Ref sig .tc := ⟨.hbm, 18, rfl⟩
abbrev main_cst_0 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_v37 : Ref sig .tc := ⟨.hbm, 43, rfl⟩
abbrev main_v38 : Ref sig .tc := ⟨.hbm, 44, rfl⟩
abbrev main_call0_v0 : Ref sig .tc := ⟨.hbm, 45, rfl⟩
abbrev main_call0_v1 : Ref sig .tc := ⟨.hbm, 46, rfl⟩
abbrev main_call0_cst : Ref sig .tc := ⟨.hbm, 47, rfl⟩
abbrev main_call0_v2 : Ref sig .tc := ⟨.hbm, 48, rfl⟩
abbrev main_call0_v3 : Ref sig .tc := ⟨.hbm, 49, rfl⟩
abbrev main_call0_cst_0 : Ref sig .tc := ⟨.hbm, 50, rfl⟩
abbrev main_call0_v4 : Ref sig .tc := ⟨.hbm, 51, rfl⟩
abbrev main_v39_2 : Ref sig .tc := ⟨.hbm, 52, rfl⟩
abbrev main_call0_cst_1 : Ref sig .tc := ⟨.hbm, 53, rfl⟩
abbrev main_call0_v6 : Ref sig .tc := ⟨.hbm, 54, rfl⟩
abbrev main_call0_v7 : Ref sig .tc := ⟨.hbm, 55, rfl⟩
abbrev main_v39_1 : Ref sig .tc := ⟨.hbm, 56, rfl⟩
abbrev main_v39_0 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_call1_v0 : Ref sig .tc := ⟨.hbm, 65, rfl⟩
abbrev main_call1_v1 : Ref sig .tc := ⟨.hbm, 66, rfl⟩
abbrev main_call1_v2 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_cst_1 : Ref sig .tc := ⟨.hbm, 74, rfl⟩
abbrev main_v53 : Ref sig .tc := ⟨.hbm, 75, rfl⟩
abbrev main_v54 : Ref sig .tc := ⟨.hbm, 76, rfl⟩
abbrev main_cst_2 : Ref sig .tc := ⟨.hbm, 77, rfl⟩
abbrev main_v55 : Ref sig .tc := ⟨.hbm, 78, rfl⟩
abbrev main_cst_3 : Ref sig .tc := ⟨.hbm, 79, rfl⟩
abbrev main_v56 : Ref sig .tc := ⟨.hbm, 80, rfl⟩
abbrev main_v57 : Ref sig .tc := ⟨.hbm, 81, rfl⟩
abbrev main_cst_4 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_cst_5 : Ref sig .tc := ⟨.hbm, 87, rfl⟩
abbrev main_v62 : Ref sig .tc := ⟨.hbm, 88, rfl⟩
abbrev main_v63 : Ref sig .tc := ⟨.hbm, 89, rfl⟩
abbrev main_cst_6 : Ref sig .tc := ⟨.hbm, 90, rfl⟩
abbrev main_v64 : Ref sig .tc := ⟨.hbm, 91, rfl⟩
abbrev main_v65 : Ref sig .tc := ⟨.hbm, 92, rfl⟩
abbrev main_cst_7 : Ref sig .tc := ⟨.hbm, 93, rfl⟩
abbrev main_v66 : Ref sig .tc := ⟨.hbm, 94, rfl⟩
abbrev main_v67 : Ref sig .tc := ⟨.hbm, 95, rfl⟩
abbrev main_cst_8 : Ref sig .tc := ⟨.hbm, 96, rfl⟩
abbrev main_v68 : Ref sig .tc := ⟨.hbm, 97, rfl⟩
abbrev main_v69 : Ref sig .tc := ⟨.hbm, 98, rfl⟩
abbrev main_cst_9 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_cst_10 : Ref sig .tc := ⟨.hbm, 105, rfl⟩
abbrev main_v75 : Ref sig .tc := ⟨.hbm, 106, rfl⟩
abbrev main_v76 : Ref sig .tc := ⟨.hbm, 107, rfl⟩
abbrev main_cst_11 : Ref sig .tc := ⟨.hbm, 108, rfl⟩
abbrev main_v77 : Ref sig .tc := ⟨.hbm, 109, rfl⟩
abbrev main_v78 : Ref sig .tc := ⟨.hbm, 110, rfl⟩
abbrev main_cst_12 : Ref sig .tc := ⟨.hbm, 111, rfl⟩
abbrev main_v79 : Ref sig .tc := ⟨.hbm, 112, rfl⟩
abbrev main_v80 : Ref sig .tc := ⟨.hbm, 113, rfl⟩
abbrev main_cst_13 : Ref sig .tc := ⟨.hbm, 114, rfl⟩
abbrev main_v81 : Ref sig .tc := ⟨.hbm, 115, rfl⟩
abbrev main_v82 : Ref sig .tc := ⟨.hbm, 116, rfl⟩
abbrev main_cst_14 : Ref sig .tc := ⟨.hbm, 117, rfl⟩
abbrev main_v83 : Ref sig .tc := ⟨.hbm, 118, rfl⟩
abbrev main_v84 : Ref sig .tc := ⟨.hbm, 119, rfl⟩
abbrev main_v85 : Ref sig .tc := ⟨.hbm, 120, rfl⟩
abbrev main_v86 : Ref sig .tc := ⟨.hbm, 121, rfl⟩
abbrev main_v87 : Ref sig .tc := ⟨.hbm, 122, rfl⟩
abbrev main_v88 : Ref sig .tc := ⟨.hbm, 123, rfl⟩
abbrev main_v89 : Ref sig .tc := ⟨.hbm, 124, rfl⟩
abbrev main_v90 : Ref sig .tc := ⟨.hbm, 125, rfl⟩
abbrev main_v91 : Ref sig .tc := ⟨.hbm, 126, rfl⟩
abbrev main_v92 : Ref sig .tc := ⟨.hbm, 127, rfl⟩
abbrev main_v93 : Ref sig .tc := ⟨.hbm, 128, rfl⟩
abbrev main_v94 : Ref sig .tc := ⟨.hbm, 129, rfl⟩
abbrev main_v95 : Ref sig .tc := ⟨.hbm, 130, rfl⟩
abbrev main_v96 : Ref sig .tc := ⟨.hbm, 131, rfl⟩
abbrev main_v97 : Ref sig .tc := ⟨.hbm, 132, rfl⟩
abbrev main_v98 : Ref sig .tc := ⟨.hbm, 133, rfl⟩
abbrev main_v99 : Ref sig .tc := ⟨.hbm, 134, rfl⟩
abbrev main_v100 : Ref sig .tc := ⟨.hbm, 135, rfl⟩
abbrev main_v101 : Ref sig .tc := ⟨.hbm, 136, rfl⟩
abbrev main_v102 : Ref sig .tc := ⟨.hbm, 137, rfl⟩
abbrev main_v103 : Ref sig .tc := ⟨.hbm, 138, rfl⟩
abbrev main_v104 : Ref sig .tc := ⟨.hbm, 139, rfl⟩
abbrev main_v105 : Ref sig .tc := ⟨.hbm, 140, rfl⟩
abbrev main_v106 : Ref sig .tc := ⟨.hbm, 141, rfl⟩
abbrev main_c : Ref sig .tc := ⟨.hbm, 142, rfl⟩
abbrev main_call2_v0 : Ref sig .tc := ⟨.hbm, 143, rfl⟩
abbrev main_v107 : Ref sig .tc := ⟨.hbm, 144, rfl⟩

abbrev nD : Nat := 1
abbrev τ : Topo := Topo.v7x

variable {F : FTy → Type} [FloatOps F]
-- ==== DwOut.lean ====
abbrev S2048x4096 : Shape := ⟨2, ![2048, 4096]⟩
abbrev S4096x2048 : Shape := ⟨2, ![4096, 2048]⟩
abbrev S8x256x2048 : Shape := ⟨3, ![8, 256, 2048]⟩
abbrev S256x4096 : Shape := ⟨2, ![256, 4096]⟩
abbrev S4096x1024 : Shape := ⟨2, ![4096, 1024]⟩
abbrev S1x256x1024 : Shape := ⟨3, ![1, 256, 1024]⟩
abbrev S256x1024 : Shape := ⟨2, ![256, 1024]⟩

abbrev nBuf : Space → Nat
  | .hbm => 3
  | .vmem => 6
  | .smem => 0
  | _ => 0

abbrev bufTy : (tb : Table) → Fin (tcTables nBuf tb) → BufTy
  | .hbm, ⟨0, _⟩ => ⟨S2048x4096, .bf16⟩
  | .hbm, ⟨1, _⟩ => ⟨S4096x2048, .bf16⟩
  | .hbm, ⟨2, _⟩ => ⟨S8x256x2048, .bf16⟩
  | .local _ .vmem, ⟨0, _⟩ => ⟨S256x4096, .bf16⟩
  | .local _ .vmem, ⟨1, _⟩ => ⟨S256x4096, .bf16⟩
  | .local _ .vmem, ⟨2, _⟩ => ⟨S4096x1024, .bf16⟩
  | .local _ .vmem, ⟨3, _⟩ => ⟨S4096x1024, .bf16⟩
  | .local _ .vmem, ⟨4, _⟩ => ⟨S1x256x1024, .bf16⟩
  | .local _ .vmem, ⟨5, _⟩ => ⟨S1x256x1024, .bf16⟩
  | _, _ => ⟨S2048x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat, arg0.toNat]

abbrev stage0_0 : Fin 2 → Memref sig .tc .vmem S256x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== DwOutRefIdeal.lean ====
abbrev S2048x4096 : Shape := ⟨2, ![2048, 4096]⟩
abbrev S4096x2048 : Shape := ⟨2, ![4096, 2048]⟩
abbrev S_ : Shape := ⟨0, ![]⟩
abbrev S2048x2048 : Shape := ⟨2, ![2048, 2048]⟩
abbrev S8x256x2048 : Shape := ⟨3, ![8, 256, 2048]⟩

abbrev nBuf : Space → Nat
  | .hbm => 12
  | .vmem => 0
  | .smem => 0
  | _ => 0

abbrev bufTy : (tb : Table) → Fin (tcTables nBuf tb) → BufTy
  | .hbm, ⟨0, _⟩ => ⟨S2048x4096, .bf16⟩
  | .hbm, ⟨1, _⟩ => ⟨S4096x2048, .bf16⟩
  | .hbm, ⟨2, _⟩ => ⟨S2048x4096, .f32⟩
  | .hbm, ⟨3, _⟩ => ⟨S4096x2048, .f32⟩
  | .hbm, ⟨4, _⟩ => ⟨S4096x2048, .f32⟩
  | .hbm, ⟨5, _⟩ => ⟨S_, .f32⟩
  | .hbm, ⟨6, _⟩ => ⟨S2048x2048, .f32⟩
  | .hbm, ⟨7, _⟩ => ⟨S4096x2048, .f32⟩
  | .hbm, ⟨8, _⟩ => ⟨S2048x2048, .f32⟩
  | .hbm, ⟨9, _⟩ => ⟨S2048x2048, .f32⟩
  | .hbm, ⟨10, _⟩ => ⟨S2048x2048, .bf16⟩
  | .hbm, ⟨11, _⟩ => ⟨S8x256x2048, .bf16⟩
  | _, _ => ⟨S2048x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== DwGlu.lean ====
abbrev S1024x4096 : Shape := ⟨2, ![1024, 4096]⟩
abbrev S4096x1024 : Shape := ⟨2, ![4096, 1024]⟩
abbrev S8x128x1024 : Shape := ⟨3, ![8, 128, 1024]⟩
abbrev S128x4096 : Shape := ⟨2, ![128, 4096]⟩
abbrev S1x128x1024 : Shape := ⟨3, ![1, 128, 1024]⟩
abbrev S128x1024 : Shape := ⟨2, ![128, 1024]⟩

abbrev nBuf : Space → Nat
  | .hbm => 3
  | .vmem => 5
  | .smem => 0
  | _ => 0

abbrev bufTy : (tb : Table) → Fin (tcTables nBuf tb) → BufTy
  | .hbm, ⟨0, _⟩ => ⟨S1024x4096, .bf16⟩
  | .hbm, ⟨1, _⟩ => ⟨S4096x1024, .bf16⟩
  | .hbm, ⟨2, _⟩ => ⟨S8x128x1024, .bf16⟩
  | .local _ .vmem, ⟨0, _⟩ => ⟨S128x4096, .bf16⟩
  | .local _ .vmem, ⟨1, _⟩ => ⟨S128x4096, .bf16⟩
  | .local _ .vmem, ⟨2, _⟩ => ⟨S4096x1024, .bf16⟩
  | .local _ .vmem, ⟨3, _⟩ => ⟨S1x128x1024, .bf16⟩
  | .local _ .vmem, ⟨4, _⟩ => ⟨S1x128x1024, .bf16⟩
  | _, _ => ⟨S1024x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

abbrev stage0_0 : Fin 2 → Memref sig .tc .vmem S128x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S1x128x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]
-- ==== DwGluRefIdeal.lean ====
abbrev S1024x4096 : Shape := ⟨2, ![1024, 4096]⟩
abbrev S4096x1024 : Shape := ⟨2, ![4096, 1024]⟩
abbrev S_ : Shape := ⟨0, ![]⟩
abbrev S1024x1024 : Shape := ⟨2, ![1024, 1024]⟩
abbrev S8x128x1024 : Shape := ⟨3, ![8, 128, 1024]⟩

abbrev nBuf : Space → Nat
  | .hbm => 12
  | .vmem => 0
  | .smem => 0
  | _ => 0

abbrev bufTy : (tb : Table) → Fin (tcTables nBuf tb) → BufTy
  | .hbm, ⟨0, _⟩ => ⟨S1024x4096, .bf16⟩
  | .hbm, ⟨1, _⟩ => ⟨S4096x1024, .bf16⟩
  | .hbm, ⟨2, _⟩ => ⟨S1024x4096, .f32⟩
  | .hbm, ⟨3, _⟩ => ⟨S4096x1024, .f32⟩
  | .hbm, ⟨4, _⟩ => ⟨S4096x1024, .f32⟩
  | .hbm, ⟨5, _⟩ => ⟨S_, .f32⟩
  | .hbm, ⟨6, _⟩ => ⟨S1024x1024, .f32⟩
  | .hbm, ⟨7, _⟩ => ⟨S4096x1024, .f32⟩
  | .hbm, ⟨8, _⟩ => ⟨S1024x1024, .f32⟩
  | .hbm, ⟨9, _⟩ => ⟨S1024x1024, .f32⟩
  | .hbm, ⟨10, _⟩ => ⟨S1024x1024, .bf16⟩
  | .hbm, ⟨11, _⟩ => ⟨S8x128x1024, .bf16⟩
  | _, _ => ⟨S1024x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== DwEarly.lean ====
abbrev S2048x4096 : Shape := ⟨2, ![2048, 4096]⟩
abbrev S4x4096x1024 : Shape := ⟨3, ![4, 4096, 1024]⟩
abbrev S4096x1024 : Shape := ⟨2, ![4096, 1024]⟩
abbrev S8x2048x768 : Shape := ⟨3, ![8, 2048, 768]⟩
abbrev S1024x4096 : Shape := ⟨2, ![1024, 4096]⟩
abbrev S1x4096x256 : Shape := ⟨3, ![1, 4096, 256]⟩
abbrev S4096x256 : Shape := ⟨2, ![4096, 256]⟩
abbrev S1x1024x256 : Shape := ⟨3, ![1, 1024, 256]⟩
abbrev S1024x256 : Shape := ⟨2, ![1024, 256]⟩

abbrev nBuf : Space → Nat
  | .hbm => 4
  | .vmem => 8
  | .smem => 0
  | _ => 0

abbrev bufTy : (tb : Table) → Fin (tcTables nBuf tb) → BufTy
  | .hbm, ⟨0, _⟩ => ⟨S2048x4096, .bf16⟩
  | .hbm, ⟨1, _⟩ => ⟨S4x4096x1024, .bf16⟩
  | .hbm, ⟨2, _⟩ => ⟨S4096x1024, .bf16⟩
  | .hbm, ⟨3, _⟩ => ⟨S8x2048x768, .bf16⟩
  | .local _ .vmem, ⟨0, _⟩ => ⟨S1024x4096, .bf16⟩
  | .local _ .vmem, ⟨1, _⟩ => ⟨S1024x4096, .bf16⟩
  | .local _ .vmem, ⟨2, _⟩ => ⟨S1x4096x256, .bf16⟩
  | .local _ .vmem, ⟨3, _⟩ => ⟨S1x4096x256, .bf16⟩
  | .local _ .vmem, ⟨4, _⟩ => ⟨S4096x256, .bf16⟩
  | .local _ .vmem, ⟨5, _⟩ => ⟨S4096x256, .bf16⟩
  | .local _ .vmem, ⟨6, _⟩ => ⟨S1x1024x256, .bf16⟩
  | .local _ .vmem, ⟨7, _⟩ => ⟨S1x1024x256, .bf16⟩
  | _, _ => ⟨S2048x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![2, 18], ![false, false]⟩

def k0_cond1 (i : grid0.Coords) : BitVec 1 :=
  let arg1 : BitVec 32 := BitVec.ofNat 32 (i 1).val
  let c15_i32 : BitVec 32 := 15#32
  let v0 : BitVec 1 := Scalar.cmpi .sge arg1 c15_i32
  let c1_i32 : BitVec 32 := 1#32
  let c0_i32 : BitVec 32 := 0#32
  let v1 : BitVec 32 := Scalar.select v0 c1_i32 c0_i32
  let c0_i32_0 : BitVec 32 := 0#32
  let v2 : BitVec 1 := Scalar.cmpi .eq v1 c0_i32_0
  let v3 : BitVec 32 := Scalar.extui v2
  let c0_i32_1 : BitVec 32 := 0#32
  let v4 : BitVec 1 := Scalar.cmpi .ne v3 c0_i32_1
  v4

def k0_cond2 (i : grid0.Coords) : BitVec 1 :=
  let arg1 : BitVec 32 := BitVec.ofNat 32 (i 1).val
  let c15_i32_2 : BitVec 32 := 15#32
  let v5 : BitVec 1 := Scalar.cmpi .sge arg1 c15_i32_2
  let c1_i32_3 : BitVec 32 := 1#32
  let c0_i32_4 : BitVec 32 := 0#32
  let v6 : BitVec 32 := Scalar.select v5 c1_i32_3 c0_i32_4
  let c1_i32_5 : BitVec 32 := 1#32
  let v7 : BitVec 1 := Scalar.cmpi .eq v6 c1_i32_5
  let v8 : BitVec 32 := Scalar.extui v7
  let c0_i32_6 : BitVec 32 := 0#32
  let v9 : BitVec 1 := Scalar.cmpi .ne v8 c0_i32_6
  v9

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 1 := Scalar.cmpi .sge arg1 c4_i32
  let c1_i32 : BitVec 32 := 1#32
  let c0_i32 : BitVec 32 := 0#32
  let v1 : BitVec 32 := Scalar.select v0 c1_i32 c0_i32
  let c8_i32 : BitVec 32 := 8#32
  let v2 : BitVec 1 := Scalar.cmpi .sge arg1 c8_i32
  let c2_i32 : BitVec 32 := 2#32
  let v3 : BitVec 32 := Scalar.select v2 c2_i32 v1
  let c12_i32 : BitVec 32 := 12#32
  let v4 : BitVec 1 := Scalar.cmpi .sge arg1 c12_i32
  let c3_i32 : BitVec 32 := 3#32
  let v5 : BitVec 32 := Scalar.select v4 c3_i32 v3
  let c1_i32_0 : BitVec 32 := 1#32
  let v6 : BitVec 1 := Scalar.cmpi .sge arg1 c1_i32_0
  let c1_i32_1 : BitVec 32 := 1#32
  let c0_i32_2 : BitVec 32 := 0#32
  let v7 : BitVec 32 := Scalar.select v6 c1_i32_1 c0_i32_2
  let c2_i32_3 : BitVec 32 := 2#32
  let v8 : BitVec 1 := Scalar.cmpi .sge arg1 c2_i32_3
  let c2_i32_4 : BitVec 32 := 2#32
  let v9 : BitVec 32 := Scalar.select v8 c2_i32_4 v7
  let c3_i32_5 : BitVec 32 := 3#32
  let v10 : BitVec 1 := Scalar.cmpi .sge arg1 c3_i32_5
  let c3_i32_6 : BitVec 32 := 3#32
  let v11 : BitVec 32 := Scalar.select v10 c3_i32_6 v9
  let c4_i32_7 : BitVec 32 := 4#32
  let v12 : BitVec 1 := Scalar.cmpi .sge arg1 c4_i32_7
  let c0_i32_8 : BitVec 32 := 0#32
  let v13 : BitVec 32 := Scalar.select v12 c0_i32_8 v11
  let c5_i32 : BitVec 32 := 5#32
  let v14 : BitVec 1 := Scalar.cmpi .sge arg1 c5_i32
  let c1_i32_9 : BitVec 32 := 1#32
  let v15 : BitVec 32 := Scalar.select v14 c1_i32_9 v13
  let c6_i32 : BitVec 32 := 6#32
  let v16 : BitVec 1 := Scalar.cmpi .sge arg1 c6_i32
  let c2_i32_10 : BitVec 32 := 2#32
  let v17 : BitVec 32 := Scalar.select v16 c2_i32_10 v15
  let c7_i32 : BitVec 32 := 7#32
  let v18 : BitVec 1 := Scalar.cmpi .sge arg1 c7_i32
  let c3_i32_11 : BitVec 32 := 3#32
  let v19 : BitVec 32 := Scalar.select v18 c3_i32_11 v17
  let c8_i32_12 : BitVec 32 := 8#32
  let v20 : BitVec 1 := Scalar.cmpi .sge arg1 c8_i32_12
  let c0_i32_13 : BitVec 32 := 0#32
  let v21 : BitVec 32 := Scalar.select v20 c0_i32_13 v19
  let c9_i32 : BitVec 32 := 9#32
  let v22 : BitVec 1 := Scalar.cmpi .sge arg1 c9_i32
  let c1_i32_14 : BitVec 32 := 1#32
  let v23 : BitVec 32 := Scalar.select v22 c1_i32_14 v21
  let c10_i32 : BitVec 32 := 10#32
  let v24 : BitVec 1 := Scalar.cmpi .sge arg1 c10_i32
  let c2_i32_15 : BitVec 32 := 2#32
  let v25 : BitVec 32 := Scalar.select v24 c2_i32_15 v23
  let c11_i32 : BitVec 32 := 11#32
  let v26 : BitVec 1 := Scalar.cmpi .sge arg1 c11_i32
  let c3_i32_16 : BitVec 32 := 3#32
  let v27 : BitVec 32 := Scalar.select v26 c3_i32_16 v25
  let c12_i32_17 : BitVec 32 := 12#32
  let v28 : BitVec 1 := Scalar.cmpi .sge arg1 c12_i32_17
  let c0_i32_18 : BitVec 32 := 0#32
  let v29 : BitVec 32 := Scalar.select v28 c0_i32_18 v27
  let c13_i32 : BitVec 32 := 13#32
  let v30 : BitVec 1 := Scalar.cmpi .sge arg1 c13_i32
  let c1_i32_19 : BitVec 32 := 1#32
  let v31 : BitVec 32 := Scalar.select v30 c1_i32_19 v29
  let c14_i32 : BitVec 32 := 14#32
  let v32 : BitVec 1 := Scalar.cmpi .sge arg1 c14_i32
  let c2_i32_20 : BitVec 32 := 2#32
  let v33 : BitVec 32 := Scalar.select v32 c2_i32_20 v31
  let c0_i32_21 : BitVec 32 := 0#32
  let c0_i32_22 : BitVec 32 := 0#32
  ![v5.toNat, c0_i32_21.toNat, v33.toNat]

def cc0_transform_2 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 1 := Scalar.cmpi .sge arg1 c16_i32
  let c2_i32 : BitVec 32 := 2#32
  let c1_i32 : BitVec 32 := 1#32
  let v1 : BitVec 32 := Scalar.select v0 c2_i32 c1_i32
  let c17_i32 : BitVec 32 := 17#32
  let v2 : BitVec 1 := Scalar.cmpi .sge arg1 c17_i32
  let c3_i32 : BitVec 32 := 3#32
  let v3 : BitVec 32 := Scalar.select v2 c3_i32 v1
  let c0_i32 : BitVec 32 := 0#32
  let c0_i32_0 : BitVec 32 := 0#32
  ![c0_i32.toNat, v3.toNat]

def cc0_transform_3 (i : grid0.Coords) : Fin 3 → Nat :=
  let arg0 : BitVec 32 := BitVec.ofNat 32 (i 0).val
  let arg1 : BitVec 32 := BitVec.ofNat 32 (i 1).val
  let c3_i32 : BitVec 32 := 3#32
  let v0 : BitVec 1 := Scalar.cmpi .sge arg1 c3_i32
  let c1_i32 : BitVec 32 := 1#32
  let c0_i32 : BitVec 32 := 0#32
  let v1 : BitVec 32 := Scalar.select v0 c1_i32 c0_i32
  let c6_i32 : BitVec 32 := 6#32
  let v2 : BitVec 1 := Scalar.cmpi .sge arg1 c6_i32
  let c2_i32 : BitVec 32 := 2#32
  let v3 : BitVec 32 := Scalar.select v2 c2_i32 v1
  let c9_i32 : BitVec 32 := 9#32
  let v4 : BitVec 1 := Scalar.cmpi .sge arg1 c9_i32
  let c3_i32_0 : BitVec 32 := 3#32
  let v5 : BitVec 32 := Scalar.select v4 c3_i32_0 v3
  let c12_i32 : BitVec 32 := 12#32
  let v6 : BitVec 1 := Scalar.cmpi .sge arg1 c12_i32
  let c4_i32 : BitVec 32 := 4#32
  let v7 : BitVec 32 := Scalar.select v6 c4_i32 v5
  let c15_i32 : BitVec 32 := 15#32
  let v8 : BitVec 1 := Scalar.cmpi .sge arg1 c15_i32
  let c7_i32 : BitVec 32 := 7#32
  let v9 : BitVec 32 := Scalar.select v8 c7_i32 v7
  let c1_i32_1 : BitVec 32 := 1#32
  let v10 : BitVec 1 := Scalar.cmpi .sge arg1 c1_i32_1
  let c1_i32_2 : BitVec 32 := 1#32
  let c0_i32_3 : BitVec 32 := 0#32
  let v11 : BitVec 32 := Scalar.select v10 c1_i32_2 c0_i32_3
  let c2_i32_4 : BitVec 32 := 2#32
  let v12 : BitVec 1 := Scalar.cmpi .sge arg1 c2_i32_4
  let c2_i32_5 : BitVec 32 := 2#32
  let v13 : BitVec 32 := Scalar.select v12 c2_i32_5 v11
  let c3_i32_6 : BitVec 32 := 3#32
  let v14 : BitVec 1 := Scalar.cmpi .sge arg1 c3_i32_6
  let c0_i32_7 : BitVec 32 := 0#32
  let v15 : BitVec 32 := Scalar.select v14 c0_i32_7 v13
  let c4_i32_8 : BitVec 32 := 4#32
  let v16 : BitVec 1 := Scalar.cmpi .sge arg1 c4_i32_8
  let c1_i32_9 : BitVec 32 := 1#32
  let v17 : BitVec 32 := Scalar.select v16 c1_i32_9 v15
  let c5_i32 : BitVec 32 := 5#32
  let v18 : BitVec 1 := Scalar.cmpi .sge arg1 c5_i32
  let c2_i32_10 : BitVec 32 := 2#32
  let v19 : BitVec 32 := Scalar.select v18 c2_i32_10 v17
  let c6_i32_11 : BitVec 32 := 6#32
  let v20 : BitVec 1 := Scalar.cmpi .sge arg1 c6_i32_11
  let c0_i32_12 : BitVec 32 := 0#32
  let v21 : BitVec 32 := Scalar.select v20 c0_i32_12 v19
  let c7_i32_13 : BitVec 32 := 7#32
  let v22 : BitVec 1 := Scalar.cmpi .sge arg1 c7_i32_13
  let c1_i32_14 : BitVec 32 := 1#32
  let v23 : BitVec 32 := Scalar.select v22 c1_i32_14 v21
  let c8_i32 : BitVec 32 := 8#32
  let v24 : BitVec 1 := Scalar.cmpi .sge arg1 c8_i32
  let c2_i32_15 : BitVec 32 := 2#32
  let v25 : BitVec 32 := Scalar.select v24 c2_i32_15 v23
  let c9_i32_16 : BitVec 32 := 9#32
  let v26 : BitVec 1 := Scalar.cmpi .sge arg1 c9_i32_16
  let c0_i32_17 : BitVec 32 := 0#32
  let v27 : BitVec 32 := Scalar.select v26 c0_i32_17 v25
  let c10_i32 : BitVec 32 := 10#32
  let v28 : BitVec 1 := Scalar.cmpi .sge arg1 c10_i32
  let c1_i32_18 : BitVec 32 := 1#32
  let v29 : BitVec 32 := Scalar.select v28 c1_i32_18 v27
  let c11_i32 : BitVec 32 := 11#32
  let v30 : BitVec 1 := Scalar.cmpi .sge arg1 c11_i32
  let c2_i32_19 : BitVec 32 := 2#32
  let v31 : BitVec 32 := Scalar.select v30 c2_i32_19 v29
  let c12_i32_20 : BitVec 32 := 12#32
  let v32 : BitVec 1 := Scalar.cmpi .sge arg1 c12_i32_20
  let c0_i32_21 : BitVec 32 := 0#32
  let v33 : BitVec 32 := Scalar.select v32 c0_i32_21 v31
  let c13_i32 : BitVec 32 := 13#32
  let v34 : BitVec 1 := Scalar.cmpi .sge arg1 c13_i32
  let c1_i32_22 : BitVec 32 := 1#32
  let v35 : BitVec 32 := Scalar.select v34 c1_i32_22 v33
  let c14_i32 : BitVec 32 := 14#32
  let v36 : BitVec 1 := Scalar.cmpi .sge arg1 c14_i32
  let c2_i32_23 : BitVec 32 := 2#32
  let v37 : BitVec 32 := Scalar.select v36 c2_i32_23 v35
  let c15_i32_24 : BitVec 32 := 15#32
  let v38 : BitVec 1 := Scalar.cmpi .sge arg1 c15_i32_24
  let c0_i32_25 : BitVec 32 := 0#32
  let v39 : BitVec 32 := Scalar.select v38 c0_i32_25 v37
  let c16_i32 : BitVec 32 := 16#32
  let v40 : BitVec 1 := Scalar.cmpi .sge arg1 c16_i32
  let c1_i32_26 : BitVec 32 := 1#32
  let v41 : BitVec 32 := Scalar.select v40 c1_i32_26 v39
  let c17_i32 : BitVec 32 := 17#32
  let v42 : BitVec 1 := Scalar.cmpi .sge arg1 c17_i32
  let c2_i32_27 : BitVec 32 := 2#32
  let v43 : BitVec 32 := Scalar.select v42 c2_i32_27 v41
  let c0_i32_28 : BitVec 32 := 0#32
  ![v9.toNat, arg0.toNat, v43.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x4096x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S4096x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x1024x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== DwEarlyRefIdeal.lean ====
abbrev S2048x4096 : Shape := ⟨2, ![2048, 4096]⟩
abbrev S4x4096x1024 : Shape := ⟨3, ![4, 4096, 1024]⟩
abbrev S4096x1024 : Shape := ⟨2, ![4096, 1024]⟩
abbrev S1x4096x1024 : Shape := ⟨3, ![1, 4096, 1024]⟩
abbrev S_ : Shape := ⟨0, ![]⟩
abbrev S4096x2048 : Shape := ⟨2, ![4096, 2048]⟩
abbrev S4096x6144 : Shape := ⟨2, ![4096, 6144]⟩
abbrev S2048x6144 : Shape := ⟨2, ![2048, 6144]⟩
abbrev S6144x2048 : Shape := ⟨2, ![6144, 2048]⟩
abbrev S2048x8x768 : Shape := ⟨3, ![2048, 8, 768]⟩
abbrev S8x2048x768 : Shape := ⟨3, ![8, 2048, 768]⟩

abbrev nBuf : Space → Nat
  | .hbm => 29
  | .vmem => 0
  | .smem => 0
  | _ => 0

abbrev bufTy : (tb : Table) → Fin (tcTables nBuf tb) → BufTy
  | .hbm, ⟨0, _⟩ => ⟨S2048x4096, .bf16⟩
  | .hbm, ⟨1, _⟩ => ⟨S4x4096x1024, .bf16⟩
  | .hbm, ⟨2, _⟩ => ⟨S4096x1024, .bf16⟩
  | .hbm, ⟨3, _⟩ => ⟨S1x4096x1024, .bf16⟩
  | .hbm, ⟨4, _⟩ => ⟨S4096x1024, .bf16⟩
  | .hbm, ⟨5, _⟩ => ⟨S1x4096x1024, .bf16⟩
  | .hbm, ⟨6, _⟩ => ⟨S4096x1024, .bf16⟩
  | .hbm, ⟨7, _⟩ => ⟨S1x4096x1024, .bf16⟩
  | .hbm, ⟨8, _⟩ => ⟨S4096x1024, .bf16⟩
  | .hbm, ⟨9, _⟩ => ⟨S1x4096x1024, .bf16⟩
  | .hbm, ⟨10, _⟩ => ⟨S4096x1024, .bf16⟩
  | .hbm, ⟨11, _⟩ => ⟨S_, .f32⟩
  | .hbm, ⟨12, _⟩ => ⟨S4096x1024, .f32⟩
  | .hbm, ⟨13, _⟩ => ⟨S2048x4096, .f32⟩
  | .hbm, ⟨14, _⟩ => ⟨S4096x2048, .f32⟩
  | .hbm, ⟨15, _⟩ => ⟨S4096x1024, .f32⟩
  | .hbm, ⟨16, _⟩ => ⟨S4096x1024, .f32⟩
  | .hbm, ⟨17, _⟩ => ⟨S4096x1024, .f32⟩
  | .hbm, ⟨18, _⟩ => ⟨S4096x1024, .f32⟩
  | .hbm, ⟨19, _⟩ => ⟨S4096x1024, .f32⟩
  | .hbm, ⟨20, _⟩ => ⟨S4096x6144, .f32⟩
  | .hbm, ⟨21, _⟩ => ⟨S_, .f32⟩
  | .hbm, ⟨22, _⟩ => ⟨S2048x6144, .f32⟩
  | .hbm, ⟨23, _⟩ => ⟨S4096x6144, .f32⟩
  | .hbm, ⟨24, _⟩ => ⟨S6144x2048, .f32⟩
  | .hbm, ⟨25, _⟩ => ⟨S2048x6144, .f32⟩
  | .hbm, ⟨26, _⟩ => ⟨S2048x6144, .bf16⟩
  | .hbm, ⟨27, _⟩ => ⟨S2048x8x768, .bf16⟩
  | .hbm, ⟨28, _⟩ => ⟨S8x2048x768, .bf16⟩
  | _, _ => ⟨S2048x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_cst : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_cst_0 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩

abbrev nD : Nat := 1
abbrev τ : Topo := Topo.v7x

variable {F : FTy → Type} [FloatOps F]
-- ==== DwLate.lean ====
abbrev S2048x4096 : Shape := ⟨2, ![2048, 4096]⟩
abbrev S4x4096x1024 : Shape := ⟨3, ![4, 4096, 1024]⟩
abbrev S4096x1024 : Shape := ⟨2, ![4096, 1024]⟩
abbrev S8x2048x768 : Shape := ⟨3, ![8, 2048, 768]⟩
abbrev S1024x4096 : Shape := ⟨2, ![1024, 4096]⟩
abbrev S1x4096x256 : Shape := ⟨3, ![1, 4096, 256]⟩
abbrev S4096x256 : Shape := ⟨2, ![4096, 256]⟩
abbrev S1x1024x256 : Shape := ⟨3, ![1, 1024, 256]⟩
abbrev S1024x256 : Shape := ⟨2, ![1024, 256]⟩

abbrev nBuf : Space → Nat
  | .hbm => 5
  | .vmem => 8
  | .smem => 0
  | _ => 0

abbrev bufTy : (tb : Table) → Fin (tcTables nBuf tb) → BufTy
  | .hbm, ⟨0, _⟩ => ⟨S2048x4096, .bf16⟩
  | .hbm, ⟨1, _⟩ => ⟨S4x4096x1024, .bf16⟩
  | .hbm, ⟨2, _⟩ => ⟨S4096x1024, .bf16⟩
  | .hbm, ⟨3, _⟩ => ⟨S4096x1024, .bf16⟩
  | .hbm, ⟨4, _⟩ => ⟨S8x2048x768, .bf16⟩
  | .local _ .vmem, ⟨0, _⟩ => ⟨S1024x4096, .bf16⟩
  | .local _ .vmem, ⟨1, _⟩ => ⟨S1024x4096, .bf16⟩
  | .local _ .vmem, ⟨2, _⟩ => ⟨S1x4096x256, .bf16⟩
  | .local _ .vmem, ⟨3, _⟩ => ⟨S4096x256, .bf16⟩
  | .local _ .vmem, ⟨4, _⟩ => ⟨S4096x256, .bf16⟩
  | .local _ .vmem, ⟨5, _⟩ => ⟨S4096x256, .bf16⟩
  | .local _ .vmem, ⟨6, _⟩ => ⟨S1x1024x256, .bf16⟩
  | .local _ .vmem, ⟨7, _⟩ => ⟨S1x1024x256, .bf16⟩
  | _, _ => ⟨S2048x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨2, ![2, 6], ![false, false]⟩

def k0_cond1 (i : grid0.Coords) : BitVec 1 :=
  let arg1 : BitVec 32 := BitVec.ofNat 32 (i 1).val
  let c5_i32 : BitVec 32 := 5#32
  let v2 : BitVec 1 := Scalar.cmpi .sge arg1 c5_i32
  let c2_i32 : BitVec 32 := 2#32
  let c1_i32 : BitVec 32 := 1#32
  let v0 : BitVec 1 := Scalar.cmpi .sge arg1 c1_i32
  let c1_i32_0 : BitVec 32 := 1#32
  let c0_i32 : BitVec 32 := 0#32
  let v1 : BitVec 32 := Scalar.select v0 c1_i32_0 c0_i32
  let v3 : BitVec 32 := Scalar.select v2 c2_i32 v1
  let c0_i32_1 : BitVec 32 := 0#32
  let v4 : BitVec 1 := Scalar.cmpi .eq v3 c0_i32_1
  let v5 : BitVec 32 := Scalar.extui v4
  let c0_i32_2 : BitVec 32 := 0#32
  let v6 : BitVec 1 := Scalar.cmpi .ne v5 c0_i32_2
  v6

def k0_cond2 (i : grid0.Coords) : BitVec 1 :=
  let arg1 : BitVec 32 := BitVec.ofNat 32 (i 1).val
  let c5_i32_6 : BitVec 32 := 5#32
  let v9 : BitVec 1 := Scalar.cmpi .sge arg1 c5_i32_6
  let c2_i32_7 : BitVec 32 := 2#32
  let c1_i32_3 : BitVec 32 := 1#32
  let v7 : BitVec 1 := Scalar.cmpi .sge arg1 c1_i32_3
  let c1_i32_4 : BitVec 32 := 1#32
  let c0_i32_5 : BitVec 32 := 0#32
  let v8 : BitVec 32 := Scalar.select v7 c1_i32_4 c0_i32_5
  let v10 : BitVec 32 := Scalar.select v9 c2_i32_7 v8
  let c1_i32_8 : BitVec 32 := 1#32
  let v11 : BitVec 1 := Scalar.cmpi .eq v10 c1_i32_8
  let v12 : BitVec 32 := Scalar.extui v11
  let c0_i32_9 : BitVec 32 := 0#32
  let v13 : BitVec 1 := Scalar.cmpi .ne v12 c0_i32_9
  v13

def k0_cond3 (i : grid0.Coords) : BitVec 1 :=
  let arg1 : BitVec 32 := BitVec.ofNat 32 (i 1).val
  let c5_i32_13 : BitVec 32 := 5#32
  let v16 : BitVec 1 := Scalar.cmpi .sge arg1 c5_i32_13
  let c2_i32_14 : BitVec 32 := 2#32
  let c1_i32_10 : BitVec 32 := 1#32
  let v14 : BitVec 1 := Scalar.cmpi .sge arg1 c1_i32_10
  let c1_i32_11 : BitVec 32 := 1#32
  let c0_i32_12 : BitVec 32 := 0#32
  let v15 : BitVec 32 := Scalar.select v14 c1_i32_11 c0_i32_12
  let v17 : BitVec 32 := Scalar.select v16 c2_i32_14 v15
  let c2_i32_15 : BitVec 32 := 2#32
  let v18 : BitVec 1 := Scalar.cmpi .eq v17 c2_i32_15
  let v19 : BitVec 32 := Scalar.extui v18
  let c0_i32_16 : BitVec 32 := 0#32
  let v20 : BitVec 1 := Scalar.cmpi .ne v19 c0_i32_16
  v20

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c3_i32 : BitVec 32 := 3#32
  let c0_i32 : BitVec 32 := 0#32
  let c3_i32_0 : BitVec 32 := 3#32
  let c0_i32_1 : BitVec 32 := 0#32
  ![c3_i32.toNat, c0_i32.toNat, c3_i32_0.toNat]

def cc0_transform_2 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 1 := Scalar.cmpi .sge arg1 c2_i32
  let c1_i32 : BitVec 32 := 1#32
  let c0_i32 : BitVec 32 := 0#32
  let v1 : BitVec 32 := Scalar.select v0 c1_i32 c0_i32
  let c3_i32 : BitVec 32 := 3#32
  let v2 : BitVec 1 := Scalar.cmpi .sge arg1 c3_i32
  let c2_i32_0 : BitVec 32 := 2#32
  let v3 : BitVec 32 := Scalar.select v2 c2_i32_0 v1
  let c4_i32 : BitVec 32 := 4#32
  let v4 : BitVec 1 := Scalar.cmpi .sge arg1 c4_i32
  let c3_i32_1 : BitVec 32 := 3#32
  let v5 : BitVec 32 := Scalar.select v4 c3_i32_1 v3
  let c0_i32_2 : BitVec 32 := 0#32
  let c0_i32_3 : BitVec 32 := 0#32
  ![c0_i32_2.toNat, v5.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c3_i32 : BitVec 32 := 3#32
  let v0 : BitVec 1 := Scalar.cmpi .sge arg1 c3_i32
  let c6_i32 : BitVec 32 := 6#32
  let c5_i32 : BitVec 32 := 5#32
  let v1 : BitVec 32 := Scalar.select v0 c6_i32 c5_i32
  let c1_i32 : BitVec 32 := 1#32
  let v2 : BitVec 1 := Scalar.cmpi .sge arg1 c1_i32
  let c1_i32_0 : BitVec 32 := 1#32
  let c0_i32 : BitVec 32 := 0#32
  let v3 : BitVec 32 := Scalar.select v2 c1_i32_0 c0_i32
  let c2_i32 : BitVec 32 := 2#32
  let v4 : BitVec 1 := Scalar.cmpi .sge arg1 c2_i32
  let c2_i32_1 : BitVec 32 := 2#32
  let v5 : BitVec 32 := Scalar.select v4 c2_i32_1 v3
  let c3_i32_2 : BitVec 32 := 3#32
  let v6 : BitVec 1 := Scalar.cmpi .sge arg1 c3_i32_2
  let c0_i32_3 : BitVec 32 := 0#32
  let v7 : BitVec 32 := Scalar.select v6 c0_i32_3 v5
  let c4_i32 : BitVec 32 := 4#32
  let v8 : BitVec 1 := Scalar.cmpi .sge arg1 c4_i32
  let c1_i32_4 : BitVec 32 := 1#32
  let v9 : BitVec 32 := Scalar.select v8 c1_i32_4 v7
  let c5_i32_5 : BitVec 32 := 5#32
  let v10 : BitVec 1 := Scalar.cmpi .sge arg1 c5_i32_5
  let c2_i32_6 : BitVec 32 := 2#32
  let v11 : BitVec 32 := Scalar.select v10 c2_i32_6 v9
  let c0_i32_7 : BitVec 32 := 0#32
  ![v1.toNat, arg0.toNat, v11.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x4096x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S4096x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 1 → Memref sig .tc .vmem S4096x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x1024x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== DwLateRefIdeal.lean ====
abbrev S2048x4096 : Shape := ⟨2, ![2048, 4096]⟩
abbrev S4x4096x1024 : Shape := ⟨3, ![4, 4096, 1024]⟩
abbrev S4096x1024 : Shape := ⟨2, ![4096, 1024]⟩
abbrev S1x4096x1024 : Shape := ⟨3, ![1, 4096, 1024]⟩
abbrev S4096x2048 : Shape := ⟨2, ![4096, 2048]⟩
abbrev S4096x6144 : Shape := ⟨2, ![4096, 6144]⟩
abbrev S_ : Shape := ⟨0, ![]⟩
abbrev S2048x6144 : Shape := ⟨2, ![2048, 6144]⟩
abbrev S6144x2048 : Shape := ⟨2, ![6144, 2048]⟩
abbrev S2048x8x768 : Shape := ⟨3, ![2048, 8, 768]⟩
abbrev S8x2048x768 : Shape := ⟨3, ![8, 2048, 768]⟩

abbrev nBuf : Space → Nat
  | .hbm => 29
  | .vmem => 0
  | .smem => 0
  | _ => 0

abbrev bufTy : (tb : Table) → Fin (tcTables nBuf tb) → BufTy
  | .hbm, ⟨0, _⟩ => ⟨S2048x4096, .bf16⟩
  | .hbm, ⟨1, _⟩ => ⟨S4x4096x1024, .bf16⟩
  | .hbm, ⟨2, _⟩ => ⟨S4096x1024, .bf16⟩
  | .hbm, ⟨3, _⟩ => ⟨S4096x1024, .bf16⟩
  | .hbm, ⟨4, _⟩ => ⟨S1x4096x1024, .bf16⟩
  | .hbm, ⟨5, _⟩ => ⟨S4096x1024, .bf16⟩
  | .hbm, ⟨6, _⟩ => ⟨S1x4096x1024, .bf16⟩
  | .hbm, ⟨7, _⟩ => ⟨S4096x1024, .bf16⟩
  | .hbm, ⟨8, _⟩ => ⟨S1x4096x1024, .bf16⟩
  | .hbm, ⟨9, _⟩ => ⟨S4096x1024, .bf16⟩
  | .hbm, ⟨10, _⟩ => ⟨S1x4096x1024, .bf16⟩
  | .hbm, ⟨11, _⟩ => ⟨S4096x1024, .bf16⟩
  | .hbm, ⟨12, _⟩ => ⟨S2048x4096, .f32⟩
  | .hbm, ⟨13, _⟩ => ⟨S4096x2048, .f32⟩
  | .hbm, ⟨14, _⟩ => ⟨S4096x1024, .f32⟩
  | .hbm, ⟨15, _⟩ => ⟨S4096x1024, .f32⟩
  | .hbm, ⟨16, _⟩ => ⟨S4096x1024, .f32⟩
  | .hbm, ⟨17, _⟩ => ⟨S4096x1024, .f32⟩
  | .hbm, ⟨18, _⟩ => ⟨S4096x1024, .f32⟩
  | .hbm, ⟨19, _⟩ => ⟨S4096x1024, .f32⟩
  | .hbm, ⟨20, _⟩ => ⟨S4096x6144, .f32⟩
  | .hbm, ⟨21, _⟩ => ⟨S_, .f32⟩
  | .hbm, ⟨22, _⟩ => ⟨S2048x6144, .f32⟩
  | .hbm, ⟨23, _⟩ => ⟨S4096x6144, .f32⟩
  | .hbm, ⟨24, _⟩ => ⟨S6144x2048, .f32⟩
  | .hbm, ⟨25, _⟩ => ⟨S2048x6144, .f32⟩
  | .hbm, ⟨26, _⟩ => ⟨S2048x6144, .bf16⟩
  | .hbm, ⟨27, _⟩ => ⟨S2048x8x768, .bf16⟩
  | .hbm, ⟨28, _⟩ => ⟨S8x2048x768, .bf16⟩
  | _, _ => ⟨S2048x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_cst : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩

abbrev nD : Nat := 1
abbrev τ : Topo := Topo.v7x

variable {F : FTy → Type} [FloatOps F]
-- ==== Tail.lean ====
abbrev S4096x2048 : Shape := ⟨2, ![4096, 2048]⟩
abbrev S8x512x2048 : Shape := ⟨3, ![8, 512, 2048]⟩
abbrev S4096x6144 : Shape := ⟨2, ![4096, 6144]⟩
abbrev S4096x1024 : Shape := ⟨2, ![4096, 1024]⟩
abbrev S1024x1024 : Shape := ⟨2, ![1024, 1024]⟩
abbrev S1x1024 : Shape := ⟨2, ![1, 1024]⟩
abbrev S2048x2048 : Shape := ⟨2, ![2048, 2048]⟩
abbrev S1x2048 : Shape := ⟨2, ![1, 2048]⟩
abbrev S2048x4096 : Shape := ⟨2, ![2048, 4096]⟩
abbrev S1024x4096 : Shape := ⟨2, ![1024, 4096]⟩
abbrev S1x128 : Shape := ⟨2, ![1, 128]⟩
abbrev S256x2048 : Shape := ⟨2, ![256, 2048]⟩
abbrev S8x32x2048 : Shape := ⟨3, ![8, 32, 2048]⟩
abbrev S256x1024 : Shape := ⟨2, ![256, 1024]⟩
abbrev S2048x256 : Shape := ⟨2, ![2048, 256]⟩
abbrev S1024x256 : Shape := ⟨2, ![1024, 256]⟩
abbrev S_ : Shape := ⟨0, ![]⟩
abbrev S256 : Shape := ⟨1, ![256]⟩
abbrev S256x1 : Shape := ⟨2, ![256, 1]⟩
abbrev S32x8x2048 : Shape := ⟨3, ![32, 8, 2048]⟩
abbrev S1 : Shape := ⟨1, ![1]⟩
abbrev S1x1 : Shape := ⟨2, ![1, 1]⟩
abbrev S2048 : Shape := ⟨1, ![2048]⟩
abbrev S1024 : Shape := ⟨1, ![1024]⟩

abbrev nBuf : Space → Nat
  | .hbm => 20
  | .vmem => 33
  | .smem => 0
  | _ => 0

abbrev bufTy : (tb : Table) → Fin (tcTables nBuf tb) → BufTy
  | .hbm, ⟨0, _⟩ => ⟨S4096x2048, .f32⟩
  | .hbm, ⟨1, _⟩ => ⟨S8x512x2048, .f32⟩
  | .hbm, ⟨2, _⟩ => ⟨S4096x6144, .bf16⟩
  | .hbm, ⟨3, _⟩ => ⟨S4096x1024, .bf16⟩
  | .hbm, ⟨4, _⟩ => ⟨S4096x1024, .f32⟩
  | .hbm, ⟨5, _⟩ => ⟨S1024x1024, .bf16⟩
  | .hbm, ⟨6, _⟩ => ⟨S1x1024, .f32⟩
  | .hbm, ⟨7, _⟩ => ⟨S2048x2048, .bf16⟩
  | .hbm, ⟨8, _⟩ => ⟨S1x2048, .f32⟩
  | .hbm, ⟨9, _⟩ => ⟨S4096x2048, .f32⟩
  | .hbm, ⟨10, _⟩ => ⟨S4096x2048, .bf16⟩
  | .hbm, ⟨11, _⟩ => ⟨S2048x4096, .bf16⟩
  | .hbm, ⟨12, _⟩ => ⟨S4096x1024, .bf16⟩
  | .hbm, ⟨13, _⟩ => ⟨S4096x1024, .bf16⟩
  | .hbm, ⟨14, _⟩ => ⟨S4096x1024, .bf16⟩
  | .hbm, ⟨15, _⟩ => ⟨S1024x4096, .bf16⟩
  | .hbm, ⟨16, _⟩ => ⟨S4096x1024, .bf16⟩
  | .hbm, ⟨17, _⟩ => ⟨S1x128, .f32⟩
  | .hbm, ⟨18, _⟩ => ⟨S1x2048, .f32⟩
  | .hbm, ⟨19, _⟩ => ⟨S1x1024, .f32⟩
  | .local _ .vmem, ⟨0, _⟩ => ⟨S256x2048, .f32⟩
  | .local _ .vmem, ⟨1, _⟩ => ⟨S256x2048, .f32⟩
  | .local _ .vmem, ⟨2, _⟩ => ⟨S8x32x2048, .f32⟩
  | .local _ .vmem, ⟨3, _⟩ => ⟨S8x32x2048, .f32⟩
  | .local _ .vmem, ⟨4, _⟩ => ⟨S256x1024, .bf16⟩
  | .local _ .vmem, ⟨5, _⟩ => ⟨S256x1024, .bf16⟩
  | .local _ .vmem, ⟨6, _⟩ => ⟨S256x1024, .bf16⟩
  | .local _ .vmem, ⟨7, _⟩ => ⟨S256x1024, .bf16⟩
  | .local _ .vmem, ⟨8, _⟩ => ⟨S256x1024, .f32⟩
  | .local _ .vmem, ⟨9, _⟩ => ⟨S256x1024, .f32⟩
  | .local _ .vmem, ⟨10, _⟩ => ⟨S1x1024, .f32⟩
  | .local _ .vmem, ⟨11, _⟩ => ⟨S1x2048, .f32⟩
  | .local _ .vmem, ⟨12, _⟩ => ⟨S256x2048, .f32⟩
  | .local _ .vmem, ⟨13, _⟩ => ⟨S256x2048, .f32⟩
  | .local _ .vmem, ⟨14, _⟩ => ⟨S256x2048, .bf16⟩
  | .local _ .vmem, ⟨15, _⟩ => ⟨S256x2048, .bf16⟩
  | .local _ .vmem, ⟨16, _⟩ => ⟨S2048x256, .bf16⟩
  | .local _ .vmem, ⟨17, _⟩ => ⟨S2048x256, .bf16⟩
  | .local _ .vmem, ⟨18, _⟩ => ⟨S256x1024, .bf16⟩
  | .local _ .vmem, ⟨19, _⟩ => ⟨S256x1024, .bf16⟩
  | .local _ .vmem, ⟨20, _⟩ => ⟨S256x1024, .bf16⟩
  | .local _ .vmem, ⟨21, _⟩ => ⟨S256x1024, .bf16⟩
  | .local _ .vmem, ⟨22, _⟩ => ⟨S256x1024, .bf16⟩
  | .local _ .vmem, ⟨23, _⟩ => ⟨S256x1024, .bf16⟩
  | .local _ .vmem, ⟨24, _⟩ => ⟨S1024x256, .bf16⟩
  | .local _ .vmem, ⟨25, _⟩ => ⟨S1024x256, .bf16⟩
  | .local _ .vmem, ⟨26, _⟩ => ⟨S256x1024, .bf16⟩
  | .local _ .vmem, ⟨27, _⟩ => ⟨S256x1024, .bf16⟩
  | .local _ .vmem, ⟨28, _⟩ => ⟨S1x128, .f32⟩
  | .local _ .vmem, ⟨29, _⟩ => ⟨S1x2048, .f32⟩
  | .local _ .vmem, ⟨30, _⟩ => ⟨S1x1024, .f32⟩
  | .local _ .vmem, ⟨31, _⟩ => ⟨S1024x1024, .bf16⟩
  | .local _ .vmem, ⟨32, _⟩ => ⟨S2048x2048, .bf16⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | _, _ => false

abbrev semScoped : Fin 0 → Bool
  | ⟨_, h⟩ => absurd h (Nat.not_lt_zero _)

abbrev dmaSemScoped : Fin 33 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | _ => false

abbrev sig : RefSig :=
  ofTc nBuf bufTy 0 33 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0_0 : Ref sig .tc := ⟨.hbm, 9, rfl⟩
abbrev main_v0_1 : Ref sig .tc := ⟨.hbm, 10, rfl⟩
abbrev main_v0_2 : Ref sig .tc := ⟨.hbm, 11, rfl⟩
abbrev main_v0_3 : Ref sig .tc := ⟨.hbm, 12, rfl⟩
abbrev main_v0_4 : Ref sig .tc := ⟨.hbm, 13, rfl⟩
abbrev main_v0_5 : Ref sig .tc := ⟨.hbm, 14, rfl⟩
abbrev main_v0_6 : Ref sig .tc := ⟨.hbm, 15, rfl⟩
abbrev main_v0_7 : Ref sig .tc := ⟨.hbm, 16, rfl⟩
abbrev main_v0_8 : Ref sig .tc := ⟨.hbm, 17, rfl⟩
abbrev main_v0_9 : Ref sig .tc := ⟨.hbm, 18, rfl⟩
abbrev main_v0_10 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_stg12_0 : Ref sig .tc := ⟨.vmem, 22, rfl⟩
abbrev cc0_stg12_1 : Ref sig .tc := ⟨.vmem, 23, rfl⟩
abbrev cc0_stg13_0 : Ref sig .tc := ⟨.vmem, 24, rfl⟩
abbrev cc0_stg13_1 : Ref sig .tc := ⟨.vmem, 25, rfl⟩
abbrev cc0_stg14_0 : Ref sig .tc := ⟨.vmem, 26, rfl⟩
abbrev cc0_stg14_1 : Ref sig .tc := ⟨.vmem, 27, rfl⟩
abbrev cc0_stg15_0 : Ref sig .tc := ⟨.vmem, 28, rfl⟩
abbrev cc0_stg16_0 : Ref sig .tc := ⟨.vmem, 29, rfl⟩
abbrev cc0_stg17_0 : Ref sig .tc := ⟨.vmem, 30, rfl⟩
abbrev cc0_scratch0 : Ref sig .tc := ⟨.vmem, 31, rfl⟩
abbrev cc0_scratch1 : Ref sig .tc := ⟨.vmem, 32, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20
abbrev cc0_sem11_1 : DmaSem sig := 21
abbrev cc0_sem12_0 : DmaSem sig := 22
abbrev cc0_sem12_1 : DmaSem sig := 23
abbrev cc0_sem13_0 : DmaSem sig := 24
abbrev cc0_sem13_1 : DmaSem sig := 25
abbrev cc0_sem14_0 : DmaSem sig := 26
abbrev cc0_sem14_1 : DmaSem sig := 27
abbrev cc0_sem15_0 : DmaSem sig := 28
abbrev cc0_sem16_0 : DmaSem sig := 29
abbrev cc0_sem17_0 : DmaSem sig := 30

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let c5_i32 : BitVec 32 := 5#32
  let c0_i32 : BitVec 32 := 0#32
  ![arg0.toNat, c5_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x32x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S256x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x2048 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S2048x256 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S1024x256 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S256x1024 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 1 → Memref sig .tc .vmem S1x128 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S1x2048 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S1x1024 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]
-- ==== TailIdeal.lean ====
variable {F : FTy → Type} [FloatOps F] [Named F]
def κ : String → Option EReal := fun
  | "gelu" => some ((8943 / 200000 : ℝ) : EReal)
  | "gelu3" => some ((26829 / 200000 : ℝ) : EReal)
  | _ => none
-- ==== TailRefIdeal.lean ====
abbrev S4096x2048 : Shape := ⟨2, ![4096, 2048]⟩
abbrev S8x512x2048 : Shape := ⟨3, ![8, 512, 2048]⟩
abbrev S4096x6144 : Shape := ⟨2, ![4096, 6144]⟩
abbrev S4096x1024 : Shape := ⟨2, ![4096, 1024]⟩
abbrev S1024x1024 : Shape := ⟨2, ![1024, 1024]⟩
abbrev S1x1024 : Shape := ⟨2, ![1, 1024]⟩
abbrev S2048x2048 : Shape := ⟨2, ![2048, 2048]⟩
abbrev S1x2048 : Shape := ⟨2, ![1, 2048]⟩
abbrev S512x8x2048 : Shape := ⟨3, ![512, 8, 2048]⟩
abbrev S_ : Shape := ⟨0, ![]⟩
abbrev S4096 : Shape := ⟨1, ![4096]⟩
abbrev S4096x1 : Shape := ⟨2, ![4096, 1]⟩
abbrev S2048 : Shape := ⟨1, ![2048]⟩
abbrev S1024 : Shape := ⟨1, ![1024]⟩
abbrev S2048x4096 : Shape := ⟨2, ![2048, 4096]⟩
abbrev S1024x4096 : Shape := ⟨2, ![1024, 4096]⟩
abbrev S1x128 : Shape := ⟨2, ![1, 128]⟩

abbrev nBuf : Space → Nat
  | .hbm => 191
  | .vmem => 0
  | .smem => 0
  | _ => 0

abbrev hbmTy0_0 (i : Nat) : BufTy := match i % 128 with
  | 0 => ⟨S4096x2048, .f32⟩
  | 1 => ⟨S8x512x2048, .f32⟩
  | 2 => ⟨S4096x6144, .bf16⟩
  | 3 => ⟨S4096x1024, .bf16⟩
  | 4 => ⟨S4096x1024, .f32⟩
  | 5 => ⟨S1024x1024, .bf16⟩
  | 6 => ⟨S1x1024, .f32⟩
  | 7 => ⟨S2048x2048, .bf16⟩
  | 8 => ⟨S1x2048, .f32⟩
  | 9 => ⟨S512x8x2048, .f32⟩
  | 10 => ⟨S4096x2048, .f32⟩
  | 11 => ⟨S1024x1024, .f32⟩
  | 12 => ⟨S2048x2048, .f32⟩
  | 13 => ⟨S_, .f32⟩
  | 14 => ⟨S4096x1024, .f32⟩
  | 15 => ⟨S4096x1024, .f32⟩
  | 16 => ⟨S4096x1024, .f32⟩
  | 17 => ⟨S4096x1024, .f32⟩
  | 18 => ⟨S_, .f32⟩
  | 19 => ⟨S4096x1024, .f32⟩
  | 20 => ⟨S4096x1024, .f32⟩
  | 21 => ⟨S_, .f32⟩
  | 22 => ⟨S4096x1024, .f32⟩
  | 23 => ⟨S4096x1024, .f32⟩
  | 24 => ⟨S4096x1024, .f32⟩
  | 25 => ⟨S_, .f32⟩
  | 26 => ⟨S4096x1024, .f32⟩
  | 27 => ⟨S4096x1024, .f32⟩
  | 28 => ⟨S4096x1024, .f32⟩
  | 29 => ⟨S_, .f32⟩
  | 30 => ⟨S4096x1024, .f32⟩
  | 31 => ⟨S4096x1024, .f32⟩
  | 32 => ⟨S_, .f32⟩
  | 33 => ⟨S4096x1024, .f32⟩
  | 34 => ⟨S4096x1024, .f32⟩
  | 35 => ⟨S4096x1024, .f32⟩
  | 36 => ⟨S_, .f32⟩
  | 37 => ⟨S4096x1024, .f32⟩
  | 38 => ⟨S4096x1024, .f32⟩
  | 39 => ⟨S4096x1024, .f32⟩
  | 40 => ⟨S4096x1024, .f32⟩
  | 41 => ⟨S4096x1024, .f32⟩
  | 42 => ⟨S4096x1024, .f32⟩
  | 43 => ⟨S4096x1024, .bf16⟩
  | 44 => ⟨S4096x1024, .f32⟩
  | 45 => ⟨S4096x1024, .f32⟩
  | 46 => ⟨S4096x1024, .f32⟩
  | 47 => ⟨S_, .f32⟩
  | 48 => ⟨S4096x1024, .f32⟩
  | 49 => ⟨S4096x1024, .f32⟩
  | 50 => ⟨S_, .f32⟩
  | 51 => ⟨S4096x1024, .f32⟩
  | 52 => ⟨S4096x1024, .f32⟩
  | 53 => ⟨S_, .f32⟩
  | 54 => ⟨S4096x1024, .f32⟩
  | 55 => ⟨S4096x1024, .f32⟩
  | 56 => ⟨S4096x1024, .f32⟩
  | 57 => ⟨S4096x1024, .f32⟩
  | 58 => ⟨S4096x1024, .f32⟩
  | 59 => ⟨S4096x1024, .f32⟩
  | 60 => ⟨S_, .f32⟩
  | 61 => ⟨S4096x1024, .f32⟩
  | 62 => ⟨S4096x1024, .f32⟩
  | 63 => ⟨S_, .f32⟩
  | 64 => ⟨S4096x1024, .f32⟩
  | 65 => ⟨S4096x1024, .f32⟩
  | 66 => ⟨S_, .f32⟩
  | 67 => ⟨S4096x1024, .f32⟩
  | 68 => ⟨S4096x1024, .f32⟩
  | 69 => ⟨S4096x1024, .f32⟩
  | 70 => ⟨S4096x1024, .f32⟩
  | 71 => ⟨S4096x1024, .f32⟩
  | 72 => ⟨S4096x1024, .f32⟩
  | 73 => ⟨S4096x2048, .f32⟩
  | 74 => ⟨S4096x2048, .f32⟩
  | 75 => ⟨S4096x2048, .f32⟩
  | 76 => ⟨S_, .f32⟩
  | 77 => ⟨S4096, .f32⟩
  | 78 => ⟨S4096x1, .f32⟩
  | 79 => ⟨S_, .f32⟩
  | 80 => ⟨S4096x1, .f32⟩
  | 81 => ⟨S4096x1, .f32⟩
  | 82 => ⟨S_, .f32⟩
  | 83 => ⟨S4096x1, .f32⟩
  | 84 => ⟨S4096x1, .f32⟩
  | 85 => ⟨S4096x1, .f32⟩
  | 86 => ⟨S4096x1, .f32⟩
  | 87 => ⟨S_, .f32⟩
  | 88 => ⟨S4096x1, .f32⟩
  | 89 => ⟨S4096x1, .f32⟩
  | 90 => ⟨S4096x2048, .f32⟩
  | 91 => ⟨S4096x2048, .f32⟩
  | 92 => ⟨S4096x2048, .f32⟩
  | 93 => ⟨S4096x2048, .f32⟩
  | 94 => ⟨S4096x2048, .f32⟩
  | 95 => ⟨S4096x2048, .f32⟩
  | 96 => ⟨S4096x2048, .f32⟩
  | 97 => ⟨S_, .f32⟩
  | 98 => ⟨S4096x2048, .f32⟩
  | 99 => ⟨S4096x2048, .f32⟩
  | 100 => ⟨S_, .f32⟩
  | 101 => ⟨S4096, .f32⟩
  | 102 => ⟨S_, .f32⟩
  | 103 => ⟨S4096, .f32⟩
  | 104 => ⟨S4096, .f32⟩
  | 105 => ⟨S_, .f32⟩
  | 106 => ⟨S_, .f32⟩
  | 107 => ⟨S_, .f32⟩
  | 108 => ⟨S_, .f32⟩
  | 109 => ⟨S_, .f32⟩
  | 110 => ⟨S_, .f32⟩
  | 111 => ⟨S_, .f32⟩
  | 112 => ⟨S4096, .f32⟩
  | 113 => ⟨S_, .f32⟩
  | 114 => ⟨S4096, .f32⟩
  | 115 => ⟨S4096, .f32⟩
  | 116 => ⟨S4096x2048, .f32⟩
  | 117 => ⟨S4096x2048, .f32⟩
  | 118 => ⟨S4096x2048, .f32⟩
  | 119 => ⟨S_, .f32⟩
  | 120 => ⟨S2048, .f32⟩
  | 121 => ⟨S1x2048, .f32⟩
  | 122 => ⟨S4096x2048, .f32⟩
  | 123 => ⟨S4096x2048, .f32⟩
  | 124 => ⟨S4096x2048, .f32⟩
  | 125 => ⟨S_, .f32⟩
  | 126 => ⟨S4096, .f32⟩
  | 127 => ⟨S4096x1, .f32⟩
  | _ => ⟨S4096x2048, .f32⟩

abbrev hbmTy0_1 (i : Nat) : BufTy := match i % 128 with
  | 0 => ⟨S4096x2048, .f32⟩
  | 1 => ⟨S4096x2048, .f32⟩
  | 2 => ⟨S4096x1, .f32⟩
  | 3 => ⟨S_, .f32⟩
  | 4 => ⟨S4096x1, .f32⟩
  | 5 => ⟨S4096x1, .f32⟩
  | 6 => ⟨S_, .f32⟩
  | 7 => ⟨S4096, .f32⟩
  | 8 => ⟨S4096x2048, .f32⟩
  | 9 => ⟨S4096x2048, .f32⟩
  | 10 => ⟨S4096x2048, .f32⟩
  | 11 => ⟨S4096x2048, .f32⟩
  | 12 => ⟨S4096x2048, .f32⟩
  | 13 => ⟨S4096x2048, .f32⟩
  | 14 => ⟨S4096x1024, .f32⟩
  | 15 => ⟨S4096x1024, .f32⟩
  | 16 => ⟨S4096x1024, .f32⟩
  | 17 => ⟨S4096x1024, .f32⟩
  | 18 => ⟨S4096x1024, .f32⟩
  | 19 => ⟨S4096x1024, .f32⟩
  | 20 => ⟨S4096x1024, .f32⟩
  | 21 => ⟨S4096x1024, .f32⟩
  | 22 => ⟨S4096x1024, .f32⟩
  | 23 => ⟨S4096x1024, .f32⟩
  | 24 => ⟨S_, .f32⟩
  | 25 => ⟨S1024, .f32⟩
  | 26 => ⟨S1x1024, .f32⟩
  | 27 => ⟨S4096x1024, .f32⟩
  | 28 => ⟨S4096x1024, .f32⟩
  | 29 => ⟨S4096x1024, .f32⟩
  | 30 => ⟨S4096x1024, .f32⟩
  | 31 => ⟨S4096x1024, .f32⟩
  | 32 => ⟨S_, .f32⟩
  | 33 => ⟨S4096x1024, .f32⟩
  | 34 => ⟨S4096x1024, .f32⟩
  | 35 => ⟨S_, .f32⟩
  | 36 => ⟨S4096x1024, .f32⟩
  | 37 => ⟨S4096x1024, .f32⟩
  | 38 => ⟨S_, .f32⟩
  | 39 => ⟨S4096x1024, .f32⟩
  | 40 => ⟨S4096x1024, .f32⟩
  | 41 => ⟨S4096x1024, .f32⟩
  | 42 => ⟨S4096x1024, .f32⟩
  | 43 => ⟨S4096x1024, .f32⟩
  | 44 => ⟨S4096x1024, .f32⟩
  | 45 => ⟨S4096x1024, .f32⟩
  | 46 => ⟨S4096x1024, .f32⟩
  | 47 => ⟨S4096x1024, .f32⟩
  | 48 => ⟨S_, .f32⟩
  | 49 => ⟨S4096x1024, .f32⟩
  | 50 => ⟨S4096x1024, .f32⟩
  | 51 => ⟨S4096x1024, .f32⟩
  | 52 => ⟨S4096x2048, .bf16⟩
  | 53 => ⟨S2048x4096, .f32⟩
  | 54 => ⟨S2048x4096, .bf16⟩
  | 55 => ⟨S4096x1024, .f32⟩
  | 56 => ⟨S4096x1024, .bf16⟩
  | 57 => ⟨S4096x1024, .bf16⟩
  | 58 => ⟨S4096x1024, .bf16⟩
  | 59 => ⟨S1024x4096, .f32⟩
  | 60 => ⟨S1024x4096, .bf16⟩
  | 61 => ⟨S4096x1024, .bf16⟩
  | 62 => ⟨S1x128, .f32⟩
  | _ => ⟨S4096x2048, .f32⟩

abbrev hbmTy (i : Nat) : BufTy := match i / 128 with
  | 0 => hbmTy0_0 i
  | 1 => hbmTy0_1 i
  | _ => ⟨S4096x2048, .f32⟩

abbrev bufTy : (tb : Table) → Fin (tcTables nBuf tb) → BufTy
  | .hbm, ⟨i, _⟩ => hbmTy i
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst_0 : Ref sig .tc := ⟨.hbm, 18, rfl⟩
abbrev main_v8 : Ref sig .tc := ⟨.hbm, 19, rfl⟩
abbrev main_v9 : Ref sig .tc := ⟨.hbm, 20, rfl⟩
abbrev main_cst_1 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_cst_2 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_cst_3 : Ref sig .tc := ⟨.hbm, 29, rfl⟩
abbrev main_v16 : Ref sig .tc := ⟨.hbm, 30, rfl⟩
abbrev main_v17 : Ref sig .tc := ⟨.hbm, 31, rfl⟩
abbrev main_cst_4 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_cst_5 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_cst_6 : Ref sig .tc := ⟨.hbm, 47, rfl⟩
abbrev main_v31 : Ref sig .tc := ⟨.hbm, 48, rfl⟩
abbrev main_v32 : Ref sig .tc := ⟨.hbm, 49, rfl⟩
abbrev main_cst_7 : Ref sig .tc := ⟨.hbm, 50, rfl⟩
abbrev main_v33 : Ref sig .tc := ⟨.hbm, 51, rfl⟩
abbrev main_v34 : Ref sig .tc := ⟨.hbm, 52, rfl⟩
abbrev main_cst_8 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_call0_v0 : Ref sig .tc := ⟨.hbm, 58, rfl⟩
abbrev main_call0_v1 : Ref sig .tc := ⟨.hbm, 59, rfl⟩
abbrev main_call0_cst : Ref sig .tc := ⟨.hbm, 60, rfl⟩
abbrev main_call0_v2 : Ref sig .tc := ⟨.hbm, 61, rfl⟩
abbrev main_call0_v3 : Ref sig .tc := ⟨.hbm, 62, rfl⟩
abbrev main_call0_cst_0 : Ref sig .tc := ⟨.hbm, 63, rfl⟩
abbrev main_call0_v4 : Ref sig .tc := ⟨.hbm, 64, rfl⟩
abbrev main_v39_2 : Ref sig .tc := ⟨.hbm, 65, rfl⟩
abbrev main_call0_cst_1 : Ref sig .tc := ⟨.hbm, 66, rfl⟩
abbrev main_call0_v6 : Ref sig .tc := ⟨.hbm, 67, rfl⟩
abbrev main_call0_v7 : Ref sig .tc := ⟨.hbm, 68, rfl⟩
abbrev main_v39_1 : Ref sig .tc := ⟨.hbm, 69, rfl⟩
abbrev main_v39_0 : Ref sig .tc := ⟨.hbm, 70, rfl⟩
abbrev main_v40 : Ref sig .tc := ⟨.hbm, 71, rfl⟩
abbrev main_v41 : Ref sig .tc := ⟨.hbm, 72, rfl⟩
abbrev main_v42 : Ref sig .tc := ⟨.hbm, 73, rfl⟩
abbrev main_v43 : Ref sig .tc := ⟨.hbm, 74, rfl⟩
abbrev main_v44 : Ref sig .tc := ⟨.hbm, 75, rfl⟩
abbrev main_cst_9 : Ref sig .tc := ⟨.hbm, 76, rfl⟩
abbrev main_v45 : Ref sig .tc := ⟨.hbm, 77, rfl⟩
abbrev main_v46 : Ref sig .tc := ⟨.hbm, 78, rfl⟩
abbrev main_cst_10 : Ref sig .tc := ⟨.hbm, 79, rfl⟩
abbrev main_v47 : Ref sig .tc := ⟨.hbm, 80, rfl⟩
abbrev main_v48 : Ref sig .tc := ⟨.hbm, 81, rfl⟩
abbrev main_cst_11 : Ref sig .tc := ⟨.hbm, 82, rfl⟩
abbrev main_v49 : Ref sig .tc := ⟨.hbm, 83, rfl⟩
abbrev main_v50 : Ref sig .tc := ⟨.hbm, 84, rfl⟩
abbrev main_v51 : Ref sig .tc := ⟨.hbm, 85, rfl⟩
abbrev main_v52 : Ref sig .tc := ⟨.hbm, 86, rfl⟩
abbrev main_cst_12 : Ref sig .tc := ⟨.hbm, 87, rfl⟩
abbrev main_v53 : Ref sig .tc := ⟨.hbm, 88, rfl⟩
abbrev main_v54 : Ref sig .tc := ⟨.hbm, 89, rfl⟩
abbrev main_v55 : Ref sig .tc := ⟨.hbm, 90, rfl⟩
abbrev main_v56 : Ref sig .tc := ⟨.hbm, 91, rfl⟩
abbrev main_v57 : Ref sig .tc := ⟨.hbm, 92, rfl⟩
abbrev main_v58 : Ref sig .tc := ⟨.hbm, 93, rfl⟩
abbrev main_v59 : Ref sig .tc := ⟨.hbm, 94, rfl⟩
abbrev main_v60 : Ref sig .tc := ⟨.hbm, 95, rfl⟩
abbrev main_v61 : Ref sig .tc := ⟨.hbm, 96, rfl⟩
abbrev main_cst_13 : Ref sig .tc := ⟨.hbm, 97, rfl⟩
abbrev main_v62 : Ref sig .tc := ⟨.hbm, 98, rfl⟩
abbrev main_v63 : Ref sig .tc := ⟨.hbm, 99, rfl⟩
abbrev main_cst_14 : Ref sig .tc := ⟨.hbm, 100, rfl⟩
abbrev main_v64 : Ref sig .tc := ⟨.hbm, 101, rfl⟩
abbrev main_cst_15 : Ref sig .tc := ⟨.hbm, 102, rfl⟩
abbrev main_v65 : Ref sig .tc := ⟨.hbm, 103, rfl⟩
abbrev main_v66 : Ref sig .tc := ⟨.hbm, 104, rfl⟩
abbrev main_cst_16 : Ref sig .tc := ⟨.hbm, 105, rfl⟩
abbrev main_v67 : Ref sig .tc := ⟨.hbm, 106, rfl⟩
abbrev main_cst_17 : Ref sig .tc := ⟨.hbm, 107, rfl⟩
abbrev main_v68 : Ref sig .tc := ⟨.hbm, 108, rfl⟩
abbrev main_cst_18 : Ref sig .tc := ⟨.hbm, 109, rfl⟩
abbrev main_cst_19 : Ref sig .tc := ⟨.hbm, 110, rfl⟩
abbrev main_v69 : Ref sig .tc := ⟨.hbm, 111, rfl⟩
abbrev main_v70 : Ref sig .tc := ⟨.hbm, 112, rfl⟩
abbrev main_cst_20 : Ref sig .tc := ⟨.hbm, 113, rfl⟩
abbrev main_v71 : Ref sig .tc := ⟨.hbm, 114, rfl⟩
abbrev main_v72 : Ref sig .tc := ⟨.hbm, 115, rfl⟩
abbrev main_v73 : Ref sig .tc := ⟨.hbm, 116, rfl⟩
abbrev main_v74 : Ref sig .tc := ⟨.hbm, 117, rfl⟩
abbrev main_v75 : Ref sig .tc := ⟨.hbm, 118, rfl⟩
abbrev main_cst_21 : Ref sig .tc := ⟨.hbm, 119, rfl⟩
abbrev main_v76 : Ref sig .tc := ⟨.hbm, 120, rfl⟩
abbrev main_v77 : Ref sig .tc := ⟨.hbm, 121, rfl⟩
abbrev main_v78 : Ref sig .tc := ⟨.hbm, 122, rfl⟩
abbrev main_v79 : Ref sig .tc := ⟨.hbm, 123, rfl⟩
abbrev main_v80 : Ref sig .tc := ⟨.hbm, 124, rfl⟩
abbrev main_cst_22 : Ref sig .tc := ⟨.hbm, 125, rfl⟩
abbrev main_v81 : Ref sig .tc := ⟨.hbm, 126, rfl⟩
abbrev main_v82 : Ref sig .tc := ⟨.hbm, 127, rfl⟩
abbrev main_v83 : Ref sig .tc := ⟨.hbm, 128, rfl⟩
abbrev main_v84 : Ref sig .tc := ⟨.hbm, 129, rfl⟩
abbrev main_v85 : Ref sig .tc := ⟨.hbm, 130, rfl⟩
abbrev main_cst_23 : Ref sig .tc := ⟨.hbm, 131, rfl⟩
abbrev main_v86 : Ref sig .tc := ⟨.hbm, 132, rfl⟩
abbrev main_v87 : Ref sig .tc := ⟨.hbm, 133, rfl⟩
abbrev main_cst_24 : Ref sig .tc := ⟨.hbm, 134, rfl⟩
abbrev main_v88 : Ref sig .tc := ⟨.hbm, 135, rfl⟩
abbrev main_v89 : Ref sig .tc := ⟨.hbm, 136, rfl⟩
abbrev main_v90 : Ref sig .tc := ⟨.hbm, 137, rfl⟩
abbrev main_v91 : Ref sig .tc := ⟨.hbm, 138, rfl⟩
abbrev main_v92 : Ref sig .tc := ⟨.hbm, 139, rfl⟩
abbrev main_v93 : Ref sig .tc := ⟨.hbm, 140, rfl⟩
abbrev main_v94 : Ref sig .tc := ⟨.hbm, 141, rfl⟩
abbrev main_v95 : Ref sig .tc := ⟨.hbm, 142, rfl⟩
abbrev main_v96 : Ref sig .tc := ⟨.hbm, 143, rfl⟩
abbrev main_v97 : Ref sig .tc := ⟨.hbm, 144, rfl⟩
abbrev main_call1_v0 : Ref sig .tc := ⟨.hbm, 145, rfl⟩
abbrev main_call1_v1 : Ref sig .tc := ⟨.hbm, 146, rfl⟩
abbrev main_call1_v2 : Ref sig .tc := ⟨.hbm, 147, rfl⟩
abbrev main_v98 : Ref sig .tc := ⟨.hbm, 148, rfl⟩
abbrev main_v99 : Ref sig .tc := ⟨.hbm, 149, rfl⟩
abbrev main_v100 : Ref sig .tc := ⟨.hbm, 150, rfl⟩
abbrev main_v101 : Ref sig .tc := ⟨.hbm, 151, rfl⟩
abbrev main_cst_25 : Ref sig .tc := ⟨.hbm, 152, rfl⟩
abbrev main_v102 : Ref sig .tc := ⟨.hbm, 153, rfl⟩
abbrev main_v103 : Ref sig .tc := ⟨.hbm, 154, rfl⟩
abbrev main_v104 : Ref sig .tc := ⟨.hbm, 155, rfl⟩
abbrev main_v105 : Ref sig .tc := ⟨.hbm, 156, rfl⟩
abbrev main_v106 : Ref sig .tc := ⟨.hbm, 157, rfl⟩
abbrev main_v107 : Ref sig .tc := ⟨.hbm, 158, rfl⟩
abbrev main_v108 : Ref sig .tc := ⟨.hbm, 159, rfl⟩
abbrev main_cst_26 : Ref sig .tc := ⟨.hbm, 160, rfl⟩
abbrev main_v109 : Ref sig .tc := ⟨.hbm, 161, rfl⟩
abbrev main_v110 : Ref sig .tc := ⟨.hbm, 162, rfl⟩
abbrev main_cst_27 : Ref sig .tc := ⟨.hbm, 163, rfl⟩
abbrev main_v111 : Ref sig .tc := ⟨.hbm, 164, rfl⟩
abbrev main_v112 : Ref sig .tc := ⟨.hbm, 165, rfl⟩
abbrev main_cst_28 : Ref sig .tc := ⟨.hbm, 166, rfl⟩
abbrev main_v113 : Ref sig .tc := ⟨.hbm, 167, rfl⟩
abbrev main_v114 : Ref sig .tc := ⟨.hbm, 168, rfl⟩
abbrev main_v115 : Ref sig .tc := ⟨.hbm, 169, rfl⟩
abbrev main_v116 : Ref sig .tc := ⟨.hbm, 170, rfl⟩
abbrev main_v117 : Ref sig .tc := ⟨.hbm, 171, rfl⟩
abbrev main_v118 : Ref sig .tc := ⟨.hbm, 172, rfl⟩
abbrev main_v119 : Ref sig .tc := ⟨.hbm, 173, rfl⟩
abbrev main_v120 : Ref sig .tc := ⟨.hbm, 174, rfl⟩
abbrev main_v121 : Ref sig .tc := ⟨.hbm, 175, rfl⟩
abbrev main_cst_29 : Ref sig .tc := ⟨.hbm, 176, rfl⟩
abbrev main_v122 : Ref sig .tc := ⟨.hbm, 177, rfl⟩
abbrev main_v123 : Ref sig .tc := ⟨.hbm, 178, rfl⟩
abbrev main_v124 : Ref sig .tc := ⟨.hbm, 179, rfl⟩
abbrev main_v125 : Ref sig .tc := ⟨.hbm, 180, rfl⟩
abbrev main_v126 : Ref sig .tc := ⟨.hbm, 181, rfl⟩
abbrev main_v127 : Ref sig .tc := ⟨.hbm, 182, rfl⟩
abbrev main_v128 : Ref sig .tc := ⟨.hbm, 183, rfl⟩
abbrev main_v129 : Ref sig .tc := ⟨.hbm, 184, rfl⟩
abbrev main_v130 : Ref sig .tc := ⟨.hbm, 185, rfl⟩
abbrev main_v131 : Ref sig .tc := ⟨.hbm, 186, rfl⟩
abbrev main_v132 : Ref sig .tc := ⟨.hbm, 187, rfl⟩
abbrev main_v133 : Ref sig .tc := ⟨.hbm, 188, rfl⟩
abbrev main_v134 : Ref sig .tc := ⟨.hbm, 189, rfl⟩
abbrev main_v135 : Ref sig .tc := ⟨.hbm, 190, rfl⟩

abbrev nD : Nat := 1
abbrev τ : Topo := Topo.v7x

variable {F : FTy → Type} [FloatOps F]
-- ==== BwdIn.lean ====
abbrev S4x4096x1024 : Shape := ⟨3, ![4, 4096, 1024]⟩
abbrev S4096x1024 : Shape := ⟨2, ![4096, 1024]⟩
abbrev S8x3x2048x256 : Shape := ⟨4, ![8, 3, 2048, 256]⟩
abbrev S4096x2048 : Shape := ⟨2, ![4096, 2048]⟩
abbrev S1x2048 : Shape := ⟨2, ![1, 2048]⟩
abbrev S4x256x1024 : Shape := ⟨3, ![4, 256, 1024]⟩
abbrev S256x1024 : Shape := ⟨2, ![256, 1024]⟩
abbrev S256x2048 : Shape := ⟨2, ![256, 2048]⟩
abbrev S8x2048x768 : Shape := ⟨3, ![8, 2048, 768]⟩
abbrev S8x3 : Shape := ⟨2, ![8, 3]⟩
abbrev S1x1 : Shape := ⟨2, ![1, 1]⟩
abbrev S_ : Shape := ⟨0, ![]⟩
abbrev S1x2048x256 : Shape := ⟨3, ![1, 2048, 256]⟩
abbrev S2048x256 : Shape := ⟨2, ![2048, 256]⟩
abbrev S1x1x2048x256 : Shape := ⟨4, ![1, 1, 2048, 256]⟩
abbrev S1x256x256 : Shape := ⟨3, ![1, 256, 256]⟩
abbrev S256x256 : Shape := ⟨2, ![256, 256]⟩
abbrev S256x768 : Shape := ⟨2, ![256, 768]⟩
abbrev S1x2048x768 : Shape := ⟨3, ![1, 2048, 768]⟩
abbrev S2048x768 : Shape := ⟨2, ![2048, 768]⟩
abbrev S256 : Shape := ⟨1, ![256]⟩
abbrev S256x1 : Shape := ⟨2, ![256, 1]⟩
abbrev S2048 : Shape := ⟨1, ![2048]⟩

abbrev nBuf : Space → Nat
  | .hbm => 9
  | .vmem => 15
  | .smem => 0
  | _ => 0

abbrev bufTy : (tb : Table) → Fin (tcTables nBuf tb) → BufTy
  | .hbm, ⟨0, _⟩ => ⟨S4x4096x1024, .bf16⟩
  | .hbm, ⟨1, _⟩ => ⟨S4096x1024, .bf16⟩
  | .hbm, ⟨2, _⟩ => ⟨S4096x1024, .bf16⟩
  | .hbm, ⟨3, _⟩ => ⟨S8x3x2048x256, .bf16⟩
  | .hbm, ⟨4, _⟩ => ⟨S4096x2048, .f32⟩
  | .hbm, ⟨5, _⟩ => ⟨S4096x2048, .f32⟩
  | .hbm, ⟨6, _⟩ => ⟨S1x2048, .f32⟩
  | .hbm, ⟨7, _⟩ => ⟨S4096x2048, .f32⟩
  | .hbm, ⟨8, _⟩ => ⟨S1x2048, .f32⟩
  | .local _ .vmem, ⟨0, _⟩ => ⟨S4x256x1024, .bf16⟩
  | .local _ .vmem, ⟨1, _⟩ => ⟨S4x256x1024, .bf16⟩
  | .local _ .vmem, ⟨2, _⟩ => ⟨S256x1024, .bf16⟩
  | .local _ .vmem, ⟨3, _⟩ => ⟨S256x1024, .bf16⟩
  | .local _ .vmem, ⟨4, _⟩ => ⟨S256x1024, .bf16⟩
  | .local _ .vmem, ⟨5, _⟩ => ⟨S256x1024, .bf16⟩
  | .local _ .vmem, ⟨6, _⟩ => ⟨S256x2048, .f32⟩
  | .local _ .vmem, ⟨7, _⟩ => ⟨S256x2048, .f32⟩
  | .local _ .vmem, ⟨8, _⟩ => ⟨S256x2048, .f32⟩
  | .local _ .vmem, ⟨9, _⟩ => ⟨S256x2048, .f32⟩
  | .local _ .vmem, ⟨10, _⟩ => ⟨S1x2048, .f32⟩
  | .local _ .vmem, ⟨11, _⟩ => ⟨S256x2048, .f32⟩
  | .local _ .vmem, ⟨12, _⟩ => ⟨S256x2048, .f32⟩
  | .local _ .vmem, ⟨13, _⟩ => ⟨S1x2048, .f32⟩
  | .local _ .vmem, ⟨14, _⟩ => ⟨S8x2048x768, .bf16⟩
  | _, _ => ⟨S4x4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 38 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | _ => false

abbrev sig : RefSig :=
  ofTc nBuf bufTy 0 38 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12
abbrev cc0_sem7_0 : DmaSem sig := 13

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S4x256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== BwdInRefIdeal.lean ====
abbrev S4x4096x1024 : Shape := ⟨3, ![4, 4096, 1024]⟩
abbrev S4096x1024 : Shape := ⟨2, ![4096, 1024]⟩
abbrev S8x3x2048x256 : Shape := ⟨4, ![8, 3, 2048, 256]⟩
abbrev S4096x2048 : Shape := ⟨2, ![4096, 2048]⟩
abbrev S1x2048 : Shape := ⟨2, ![1, 2048]⟩
abbrev S2048x8x3x256 : Shape := ⟨4, ![2048, 8, 3, 256]⟩
abbrev S2048x6144 : Shape := ⟨2, ![2048, 6144]⟩
abbrev S1x4096x1024 : Shape := ⟨3, ![1, 4096, 1024]⟩
abbrev S4096x6144 : Shape := ⟨2, ![4096, 6144]⟩
abbrev S_ : Shape := ⟨0, ![]⟩
abbrev S4096 : Shape := ⟨1, ![4096]⟩
abbrev S4096x1 : Shape := ⟨2, ![4096, 1]⟩
abbrev S2048 : Shape := ⟨1, ![2048]⟩

abbrev nBuf : Space → Nat
  | .hbm => 70
  | .vmem => 0
  | .smem => 0
  | _ => 0

abbrev bufTy : (tb : Table) → Fin (tcTables nBuf tb) → BufTy
  | .hbm, ⟨0, _⟩ => ⟨S4x4096x1024, .bf16⟩
  | .hbm, ⟨1, _⟩ => ⟨S4096x1024, .bf16⟩
  | .hbm, ⟨2, _⟩ => ⟨S4096x1024, .bf16⟩
  | .hbm, ⟨3, _⟩ => ⟨S8x3x2048x256, .bf16⟩
  | .hbm, ⟨4, _⟩ => ⟨S4096x2048, .f32⟩
  | .hbm, ⟨5, _⟩ => ⟨S4096x2048, .f32⟩
  | .hbm, ⟨6, _⟩ => ⟨S1x2048, .f32⟩
  | .hbm, ⟨7, _⟩ => ⟨S8x3x2048x256, .f32⟩
  | .hbm, ⟨8, _⟩ => ⟨S2048x8x3x256, .f32⟩
  | .hbm, ⟨9, _⟩ => ⟨S2048x6144, .f32⟩
  | .hbm, ⟨10, _⟩ => ⟨S1x4096x1024, .bf16⟩
  | .hbm, ⟨11, _⟩ => ⟨S4096x1024, .bf16⟩
  | .hbm, ⟨12, _⟩ => ⟨S1x4096x1024, .bf16⟩
  | .hbm, ⟨13, _⟩ => ⟨S4096x1024, .bf16⟩
  | .hbm, ⟨14, _⟩ => ⟨S1x4096x1024, .bf16⟩
  | .hbm, ⟨15, _⟩ => ⟨S4096x1024, .bf16⟩
  | .hbm, ⟨16, _⟩ => ⟨S1x4096x1024, .bf16⟩
  | .hbm, ⟨17, _⟩ => ⟨S4096x1024, .bf16⟩
  | .hbm, ⟨18, _⟩ => ⟨S4096x1024, .f32⟩
  | .hbm, ⟨19, _⟩ => ⟨S4096x1024, .f32⟩
  | .hbm, ⟨20, _⟩ => ⟨S4096x1024, .f32⟩
  | .hbm, ⟨21, _⟩ => ⟨S4096x1024, .f32⟩
  | .hbm, ⟨22, _⟩ => ⟨S4096x1024, .f32⟩
  | .hbm, ⟨23, _⟩ => ⟨S4096x1024, .f32⟩
  | .hbm, ⟨24, _⟩ => ⟨S4096x6144, .f32⟩
  | .hbm, ⟨25, _⟩ => ⟨S4096x2048, .f32⟩
  | .hbm, ⟨26, _⟩ => ⟨S_, .f32⟩
  | .hbm, ⟨27, _⟩ => ⟨S4096, .f32⟩
  | .hbm, ⟨28, _⟩ => ⟨S4096x1, .f32⟩
  | .hbm, ⟨29, _⟩ => ⟨S_, .f32⟩
  | .hbm, ⟨30, _⟩ => ⟨S4096x1, .f32⟩
  | .hbm, ⟨31, _⟩ => ⟨S4096x1, .f32⟩
  | .hbm, ⟨32, _⟩ => ⟨S_, .f32⟩
  | .hbm, ⟨33, _⟩ => ⟨S4096x1, .f32⟩
  | .hbm, ⟨34, _⟩ => ⟨S4096x1, .f32⟩
  | .hbm, ⟨35, _⟩ => ⟨S4096x1, .f32⟩
  | .hbm, ⟨36, _⟩ => ⟨S4096x1, .f32⟩
  | .hbm, ⟨37, _⟩ => ⟨S_, .f32⟩
  | .hbm, ⟨38, _⟩ => ⟨S4096x1, .f32⟩
  | .hbm, ⟨39, _⟩ => ⟨S4096x1, .f32⟩
  | .hbm, ⟨40, _⟩ => ⟨S4096x2048, .f32⟩
  | .hbm, ⟨41, _⟩ => ⟨S4096x2048, .f32⟩
  | .hbm, ⟨42, _⟩ => ⟨S4096x2048, .f32⟩
  | .hbm, ⟨43, _⟩ => ⟨S4096x2048, .f32⟩
  | .hbm, ⟨44, _⟩ => ⟨S4096x6144, .f32⟩
  | .hbm, ⟨45, _⟩ => ⟨S4096x2048, .f32⟩
  | .hbm, ⟨46, _⟩ => ⟨S4096x2048, .f32⟩
  | .hbm, ⟨47, _⟩ => ⟨S_, .f32⟩
  | .hbm, ⟨48, _⟩ => ⟨S2048, .f32⟩
  | .hbm, ⟨49, _⟩ => ⟨S1x2048, .f32⟩
  | .hbm, ⟨50, _⟩ => ⟨S4096x2048, .f32⟩
  | .hbm, ⟨51, _⟩ => ⟨S4096x2048, .f32⟩
  | .hbm, ⟨52, _⟩ => ⟨S4096x2048, .f32⟩
  | .hbm, ⟨53, _⟩ => ⟨S_, .f32⟩
  | .hbm, ⟨54, _⟩ => ⟨S4096, .f32⟩
  | .hbm, ⟨55, _⟩ => ⟨S4096x1, .f32⟩
  | .hbm, ⟨56, _⟩ => ⟨S4096x2048, .f32⟩
  | .hbm, ⟨57, _⟩ => ⟨S4096x2048, .f32⟩
  | .hbm, ⟨58, _⟩ => ⟨S4096x1, .f32⟩
  | .hbm, ⟨59, _⟩ => ⟨S_, .f32⟩
  | .hbm, ⟨60, _⟩ => ⟨S4096x1, .f32⟩
  | .hbm, ⟨61, _⟩ => ⟨S4096x1, .f32⟩
  | .hbm, ⟨62, _⟩ => ⟨S_, .f32⟩
  | .hbm, ⟨63, _⟩ => ⟨S4096, .f32⟩
  | .hbm, ⟨64, _⟩ => ⟨S4096x2048, .f32⟩
  | .hbm, ⟨65, _⟩ => ⟨S4096x2048, .f32⟩
  | .hbm, ⟨66, _⟩ => ⟨S4096x2048, .f32⟩
  | .hbm, ⟨67, _⟩ => ⟨S4096x2048, .f32⟩
  | .hbm, ⟨68, _⟩ => ⟨S4096x2048, .f32⟩
  | .hbm, ⟨69, _⟩ => ⟨S4096x2048, .f32⟩
  | _, _ => ⟨S4x4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_cst : Ref sig .tc := ⟨.hbm, 26, rfl⟩
abbrev main_v19 : Ref sig .tc := ⟨.hbm, 27, rfl⟩
abbrev main_v20 : Ref sig .tc := ⟨.hbm, 28, rfl⟩
abbrev main_cst_0 : Ref sig .tc := ⟨.hbm, 29, rfl⟩
abbrev main_v21 : Ref sig .tc := ⟨.hbm, 30, rfl⟩
abbrev main_v22 : Ref sig .tc := ⟨.hbm, 31, rfl⟩
abbrev main_cst_1 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_cst_2 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_cst_3 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_cst_4 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_cst_5 : Ref sig .tc := ⟨.hbm, 59, rfl⟩
abbrev main_v46 : Ref sig .tc := ⟨.hbm, 60, rfl⟩
abbrev main_v47 : Ref sig .tc := ⟨.hbm, 61, rfl⟩
abbrev main_cst_6 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩

abbrev nD : Nat := 1
abbrev τ : Topo := Topo.v7x

variable {F : FTy → Type} [FloatOps F]
-- ==== ConvFwd.lean ====
abbrev S4096x6144 : Shape := ⟨2, ![4096, 6144]⟩
abbrev S8x1024 : Shape := ⟨2, ![8, 1024]⟩
abbrev S1x1024 : Shape := ⟨2, ![1, 1024]⟩
abbrev S4096x1024 : Shape := ⟨2, ![4096, 1024]⟩
abbrev S4096x128 : Shape := ⟨2, ![4096, 128]⟩
abbrev S8x128 : Shape := ⟨2, ![8, 128]⟩
abbrev S1x128 : Shape := ⟨2, ![1, 128]⟩
abbrev S4088x128 : Shape := ⟨2, ![4088, 128]⟩

abbrev nBuf : Space → Nat
  | .hbm => 4
  | .vmem => 14
  | .smem => 0
  | _ => 0

abbrev bufTy : (tb : Table) → Fin (tcTables nBuf tb) → BufTy
  | .hbm, ⟨0, _⟩ => ⟨S4096x6144, .bf16⟩
  | .hbm, ⟨1, _⟩ => ⟨S8x1024, .f32⟩
  | .hbm, ⟨2, _⟩ => ⟨S1x1024, .f32⟩
  | .hbm, ⟨3, _⟩ => ⟨S4096x1024, .bf16⟩
  | .local _ .vmem, ⟨0, _⟩ => ⟨S4096x128, .bf16⟩
  | .local _ .vmem, ⟨1, _⟩ => ⟨S4096x128, .bf16⟩
  | .local _ .vmem, ⟨2, _⟩ => ⟨S4096x128, .bf16⟩
  | .local _ .vmem, ⟨3, _⟩ => ⟨S4096x128, .bf16⟩
  | .local _ .vmem, ⟨4, _⟩ => ⟨S4096x128, .bf16⟩
  | .local _ .vmem, ⟨5, _⟩ => ⟨S4096x128, .bf16⟩
  | .local _ .vmem, ⟨6, _⟩ => ⟨S4096x128, .bf16⟩
  | .local _ .vmem, ⟨7, _⟩ => ⟨S4096x128, .bf16⟩
  | .local _ .vmem, ⟨8, _⟩ => ⟨S8x128, .f32⟩
  | .local _ .vmem, ⟨9, _⟩ => ⟨S8x128, .f32⟩
  | .local _ .vmem, ⟨10, _⟩ => ⟨S1x128, .f32⟩
  | .local _ .vmem, ⟨11, _⟩ => ⟨S1x128, .f32⟩
  | .local _ .vmem, ⟨12, _⟩ => ⟨S4096x128, .bf16⟩
  | .local _ .vmem, ⟨13, _⟩ => ⟨S4096x128, .bf16⟩
  | _, _ => ⟨S4096x6144, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_1 (i : grid0.Coords) : Fin 2 → Nat :=
  let arg0 : BitVec 32 := BitVec.ofNat 32 (i 0).val
  let c8_i32 : BitVec 32 := 8#32
  let v0 : BitVec 32 := Scalar.addi c8_i32 arg0
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let c16_i32 : BitVec 32 := 16#32
  let v0 : BitVec 32 := Scalar.addi c16_i32 arg0
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let c24_i32 : BitVec 32 := 24#32
  let v0 : BitVec 32 := Scalar.addi c24_i32 arg0
  let c0_i32 : BitVec 32 := 0#32
  let c0_i32_0 : BitVec 32 := 0#32
  ![c0_i32.toNat, v0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S4096x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4096x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4096x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4096x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S8x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S4096x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== ConvFwdRefIdeal.lean ====
abbrev S4096x6144 : Shape := ⟨2, ![4096, 6144]⟩
abbrev S8x1024 : Shape := ⟨2, ![8, 1024]⟩
abbrev S1x1024 : Shape := ⟨2, ![1, 1024]⟩
abbrev S512x8x6144 : Shape := ⟨3, ![512, 8, 6144]⟩
abbrev S8x512x6144 : Shape := ⟨3, ![8, 512, 6144]⟩
abbrev S1x4096x6144 : Shape := ⟨3, ![1, 4096, 6144]⟩
abbrev S1x4096x4096 : Shape := ⟨3, ![1, 4096, 4096]⟩
abbrev S1x4096x1024 : Shape := ⟨3, ![1, 4096, 1024]⟩
abbrev S3x1024 : Shape := ⟨2, ![3, 1024]⟩
abbrev S1024 : Shape := ⟨1, ![1024]⟩
abbrev S_ : Shape := ⟨0, ![]⟩
abbrev S1x2x1024 : Shape := ⟨3, ![1, 2, 1024]⟩
abbrev S1x4098x1024 : Shape := ⟨3, ![1, 4098, 1024]⟩
abbrev S1x1x1024 : Shape := ⟨3, ![1, 1, 1024]⟩
abbrev S8x512x1024 : Shape := ⟨3, ![8, 512, 1024]⟩
abbrev S512x8x1024 : Shape := ⟨3, ![512, 8, 1024]⟩
abbrev S4096x1024 : Shape := ⟨2, ![4096, 1024]⟩

abbrev nBuf : Space → Nat
  | .hbm => 56
  | .vmem => 0
  | .smem => 0
  | _ => 0

abbrev bufTy : (tb : Table) → Fin (tcTables nBuf tb) → BufTy
  | .hbm, ⟨0, _⟩ => ⟨S4096x6144, .bf16⟩
  | .hbm, ⟨1, _⟩ => ⟨S8x1024, .f32⟩
  | .hbm, ⟨2, _⟩ => ⟨S1x1024, .f32⟩
  | .hbm, ⟨3, _⟩ => ⟨S4096x6144, .f32⟩
  | .hbm, ⟨4, _⟩ => ⟨S512x8x6144, .f32⟩
  | .hbm, ⟨5, _⟩ => ⟨S8x512x6144, .f32⟩
  | .hbm, ⟨6, _⟩ => ⟨S1x4096x6144, .f32⟩
  | .hbm, ⟨7, _⟩ => ⟨S1x4096x4096, .f32⟩
  | .hbm, ⟨8, _⟩ => ⟨S1x4096x1024, .f32⟩
  | .hbm, ⟨9, _⟩ => ⟨S1x4096x1024, .f32⟩
  | .hbm, ⟨10, _⟩ => ⟨S1x4096x1024, .f32⟩
  | .hbm, ⟨11, _⟩ => ⟨S1x4096x1024, .f32⟩
  | .hbm, ⟨12, _⟩ => ⟨S3x1024, .f32⟩
  | .hbm, ⟨13, _⟩ => ⟨S1024, .f32⟩
  | .hbm, ⟨14, _⟩ => ⟨S1x4096x1024, .f32⟩
  | .hbm, ⟨15, _⟩ => ⟨S_, .f32⟩
  | .hbm, ⟨16, _⟩ => ⟨S1x2x1024, .f32⟩
  | .hbm, ⟨17, _⟩ => ⟨S1x4098x1024, .f32⟩
  | .hbm, ⟨18, _⟩ => ⟨S1x1x1024, .f32⟩
  | .hbm, ⟨19, _⟩ => ⟨S1x1024, .f32⟩
  | .hbm, ⟨20, _⟩ => ⟨S1024, .f32⟩
  | .hbm, ⟨21, _⟩ => ⟨S1x1x1024, .f32⟩
  | .hbm, ⟨22, _⟩ => ⟨S1x4096x1024, .f32⟩
  | .hbm, ⟨23, _⟩ => ⟨S1x4096x1024, .f32⟩
  | .hbm, ⟨24, _⟩ => ⟨S1x4096x1024, .f32⟩
  | .hbm, ⟨25, _⟩ => ⟨S1x4096x1024, .f32⟩
  | .hbm, ⟨26, _⟩ => ⟨S1x4096x1024, .f32⟩
  | .hbm, ⟨27, _⟩ => ⟨S1x1024, .f32⟩
  | .hbm, ⟨28, _⟩ => ⟨S1024, .f32⟩
  | .hbm, ⟨29, _⟩ => ⟨S1x1x1024, .f32⟩
  | .hbm, ⟨30, _⟩ => ⟨S1x4096x1024, .f32⟩
  | .hbm, ⟨31, _⟩ => ⟨S1x4096x1024, .f32⟩
  | .hbm, ⟨32, _⟩ => ⟨S1x4096x1024, .f32⟩
  | .hbm, ⟨33, _⟩ => ⟨S1x4096x1024, .f32⟩
  | .hbm, ⟨34, _⟩ => ⟨S1x1024, .f32⟩
  | .hbm, ⟨35, _⟩ => ⟨S1024, .f32⟩
  | .hbm, ⟨36, _⟩ => ⟨S1x1x1024, .f32⟩
  | .hbm, ⟨37, _⟩ => ⟨S1x4096x1024, .f32⟩
  | .hbm, ⟨38, _⟩ => ⟨S1x4096x1024, .f32⟩
  | .hbm, ⟨39, _⟩ => ⟨S1x4096x1024, .f32⟩
  | .hbm, ⟨40, _⟩ => ⟨S1x4096x1024, .f32⟩
  | .hbm, ⟨41, _⟩ => ⟨S1x4096x1024, .f32⟩
  | .hbm, ⟨42, _⟩ => ⟨S1x4096x1024, .f32⟩
  | .hbm, ⟨43, _⟩ => ⟨S1x4096x1024, .f32⟩
  | .hbm, ⟨44, _⟩ => ⟨S_, .f32⟩
  | .hbm, ⟨45, _⟩ => ⟨S1x4096x1024, .f32⟩
  | .hbm, ⟨46, _⟩ => ⟨S1x4096x1024, .f32⟩
  | .hbm, ⟨47, _⟩ => ⟨S_, .f32⟩
  | .hbm, ⟨48, _⟩ => ⟨S1x4096x1024, .f32⟩
  | .hbm, ⟨49, _⟩ => ⟨S1x4096x1024, .f32⟩
  | .hbm, ⟨50, _⟩ => ⟨S1x4096x1024, .f32⟩
  | .hbm, ⟨51, _⟩ => ⟨S1x4096x1024, .f32⟩
  | .hbm, ⟨52, _⟩ => ⟨S8x512x1024, .f32⟩
  | .hbm, ⟨53, _⟩ => ⟨S512x8x1024, .f32⟩
  | .hbm, ⟨54, _⟩ => ⟨S4096x1024, .f32⟩
  | .hbm, ⟨55, _⟩ => ⟨S4096x1024, .bf16⟩
  | _, _ => ⟨S4096x6144, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_cst : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_v29 : Ref sig .tc := ⟨.hbm, 33, rfl⟩
abbrev main_v30 : Ref sig .tc := ⟨.hbm, 34, rfl⟩
abbrev main_v31 : Ref sig .tc := ⟨.hbm, 35, rfl⟩
abbrev main_v32 : Ref sig .tc := ⟨.hbm, 36, rfl⟩
abbrev main_v33 : Ref sig .tc := ⟨.hbm, 37, rfl⟩
abbrev main_v34 : Ref sig .tc := ⟨.hbm, 38, rfl⟩
abbrev main_v35 : Ref sig .tc := ⟨.hbm, 39, rfl⟩
abbrev main_v36 : Ref sig .tc := ⟨.hbm, 40, rfl⟩
abbrev main_v37 : Ref sig .tc := ⟨.hbm, 41, rfl⟩
abbrev main_call0_v0 : Ref sig .tc := ⟨.hbm, 42, rfl⟩
abbrev main_call0_v1 : Ref sig .tc := ⟨.hbm, 43, rfl⟩
abbrev main_call0_cst : Ref sig .tc := ⟨.hbm, 44, rfl⟩
abbrev main_call0_v2 : Ref sig .tc := ⟨.hbm, 45, rfl⟩
abbrev main_call0_v3 : Ref sig .tc := ⟨.hbm, 46, rfl⟩
abbrev main_call0_cst_0 : Ref sig .tc := ⟨.hbm, 47, rfl⟩
abbrev main_call0_v4 : Ref sig .tc := ⟨.hbm, 48, rfl⟩
abbrev main_call0_v5 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩

abbrev nD : Nat := 1
abbrev τ : Topo := Topo.v7x

variable {F : FTy → Type} [FloatOps F]
-- ==== NormIn.lean ====
abbrev S8x512x2048 : Shape := ⟨3, ![8, 512, 2048]⟩
abbrev S1x2048 : Shape := ⟨2, ![1, 2048]⟩
abbrev S4096x2048 : Shape := ⟨2, ![4096, 2048]⟩
abbrev S2048x4096 : Shape := ⟨2, ![2048, 4096]⟩
abbrev S8x64x2048 : Shape := ⟨3, ![8, 64, 2048]⟩
abbrev S512x2048 : Shape := ⟨2, ![512, 2048]⟩
abbrev S2048x512 : Shape := ⟨2, ![2048, 512]⟩
abbrev S64x8x2048 : Shape := ⟨3, ![64, 8, 2048]⟩
abbrev S512 : Shape := ⟨1, ![512]⟩
abbrev S512x1 : Shape := ⟨2, ![512, 1]⟩

abbrev nBuf : Space → Nat
  | .hbm => 5
  | .vmem => 9
  | .smem => 0
  | _ => 0

abbrev bufTy : (tb : Table) → Fin (tcTables nBuf tb) → BufTy
  | .hbm, ⟨0, _⟩ => ⟨S8x512x2048, .f32⟩
  | .hbm, ⟨1, _⟩ => ⟨S1x2048, .f32⟩
  | .hbm, ⟨2, _⟩ => ⟨S4096x2048, .f32⟩
  | .hbm, ⟨3, _⟩ => ⟨S4096x2048, .bf16⟩
  | .hbm, ⟨4, _⟩ => ⟨S2048x4096, .bf16⟩
  | .local _ .vmem, ⟨0, _⟩ => ⟨S8x64x2048, .f32⟩
  | .local _ .vmem, ⟨1, _⟩ => ⟨S8x64x2048, .f32⟩
  | .local _ .vmem, ⟨2, _⟩ => ⟨S1x2048, .f32⟩
  | .local _ .vmem, ⟨3, _⟩ => ⟨S512x2048, .f32⟩
  | .local _ .vmem, ⟨4, _⟩ => ⟨S512x2048, .f32⟩
  | .local _ .vmem, ⟨5, _⟩ => ⟨S512x2048, .bf16⟩
  | .local _ .vmem, ⟨6, _⟩ => ⟨S512x2048, .bf16⟩
  | .local _ .vmem, ⟨7, _⟩ => ⟨S2048x512, .bf16⟩
  | .local _ .vmem, ⟨8, _⟩ => ⟨S2048x512, .bf16⟩
  | _, _ => ⟨S8x512x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_v0_2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S8x64x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2048x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== NormInRefIdeal.lean ====
abbrev S8x512x2048 : Shape := ⟨3, ![8, 512, 2048]⟩
abbrev S1x2048 : Shape := ⟨2, ![1, 2048]⟩
abbrev S512x8x2048 : Shape := ⟨3, ![512, 8, 2048]⟩
abbrev S4096x2048 : Shape := ⟨2, ![4096, 2048]⟩
abbrev S2048 : Shape := ⟨1, ![2048]⟩
abbrev S_ : Shape := ⟨0, ![]⟩
abbrev S4096 : Shape := ⟨1, ![4096]⟩
abbrev S4096x1 : Shape := ⟨2, ![4096, 1]⟩
abbrev S2048x4096 : Shape := ⟨2, ![2048, 4096]⟩

abbrev nBuf : Space → Nat
  | .hbm => 23
  | .vmem => 0
  | .smem => 0
  | _ => 0

abbrev bufTy : (tb : Table) → Fin (tcTables nBuf tb) → BufTy
  | .hbm, ⟨0, _⟩ => ⟨S8x512x2048, .f32⟩
  | .hbm, ⟨1, _⟩ => ⟨S1x2048, .f32⟩
  | .hbm, ⟨2, _⟩ => ⟨S512x8x2048, .f32⟩
  | .hbm, ⟨3, _⟩ => ⟨S4096x2048, .f32⟩
  | .hbm, ⟨4, _⟩ => ⟨S2048, .f32⟩
  | .hbm, ⟨5, _⟩ => ⟨S4096x2048, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S4096x2048, .f32⟩
  | .hbm, ⟨17, _⟩ => ⟨S4096x2048, .f32⟩
  | .hbm, ⟨18, _⟩ => ⟨S1x2048, .f32⟩
  | .hbm, ⟨19, _⟩ => ⟨S4096x2048, .f32⟩
  | .hbm, ⟨20, _⟩ => ⟨S4096x2048, .f32⟩
  | .hbm, ⟨21, _⟩ => ⟨S4096x2048, .bf16⟩
  | .hbm, ⟨22, _⟩ => ⟨S2048x4096, .bf16⟩
  | _, _ => ⟨S8x512x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_v5 : Ref sig .tc := ⟨.hbm, 8, rfl⟩
abbrev main_cst_0 : Ref sig .tc := ⟨.hbm, 9, rfl⟩
abbrev main_v6 : Ref sig .tc := ⟨.hbm, 10, rfl⟩
abbrev main_v7 : Ref sig .tc := ⟨.hbm, 11, rfl⟩
abbrev main_cst_1 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩

abbrev nD : Nat := 1
abbrev τ : Topo := Topo.v7x

variable {F : FTy → Type} [FloatOps F]
-- ==== Proof.ConvSpec.lean ====
/-
  The gradient of the gated convolution, one channel at a time, over the extended reals. A channel is a function of the
  row; row `j * 8 + c` holds time `c * 512 + j`. Nothing here mentions a program.
-/
module

public import Idealize.ShloMosaic.Lib.Pointwise

@[expose] public section

noncomputable section

namespace Cert.Conv

open Idealize.ShloMosaic

/-- The value one time step earlier: eight rows up, and across the seam between two chunks of 512 steps for the first
    eight rows. -/
def prv (f : Fin 4096 → EReal) (r : Fin 4096) : EReal :=
  if h : (r : ℕ) < 8 then (if (r : ℕ) = 0 then 0 else f ⟨4087 + r, by omega⟩) else f ⟨r - 8, by omega⟩

/-- The value one time step later. -/
def nxt (f : Fin 4096 → EReal) (r : Fin 4096) : EReal :=
  if h : (r : ℕ) < 4088 then f ⟨r + 8, by omega⟩ else (if (r : ℕ) = 4095 then 0 else f ⟨r - 4087, by omega⟩)

/-- One channel: the two gates and the input of the convolution, the output gate, the incoming gradient, the three taps
    and the bias. -/
structure Chan where
  B : Fin 4096 → EReal
  C : Fin 4096 → EReal
  V : Fin 4096 → EReal
  Z : Fin 4096 → EReal
  D : Fin 4096 → EReal
  w0 : EReal
  w1 : EReal
  w2 : EReal
  b : EReal

namespace Chan

variable (x : Chan)

/-- The logistic function of the output gate. -/
def sg (r : Fin 4096) : EReal := Ideal.div 1 (1 + Ideal.exp (0 - x.Z r))
/-- What is convolved. -/
def cv (r : Fin 4096) : EReal := x.C r * x.V r
/-- The causal convolution of width three. -/
def conv (r : Fin 4096) : EReal := x.b + x.w0 * prv (prv x.cv) r + x.w1 * prv x.cv r + x.w2 * x.cv r
/-- The gradient behind the output gate. -/
def gg (r : Fin 4096) : EReal := x.D r * (x.Z r * x.sg r)
/-- The gradient of the convolution's result. -/
def dcn (r : Fin 4096) : EReal := x.gg r * x.B r
/-- The gradient of what is convolved. -/
def dcv (r : Fin 4096) : EReal := x.w2 * x.dcn r + x.w1 * nxt x.dcn r + x.w0 * nxt (nxt x.dcn) r
/-- The gradient of the output gate. -/
def dz (r : Fin 4096) : EReal := x.D r * x.B r * x.conv r * (x.sg r * (1 + x.Z r * (1 - x.sg r)))
/-- The four gradients of the projection's columns, in the order in which they are stacked. -/
def d4 (p : Fin 4) (r : Fin 4096) : EReal :=
  match p with
  | 0 => x.gg r * x.conv r
  | 1 => x.dcv r * x.V r
  | 2 => x.dcv r * x.C r
  | 3 => x.dz r
/-- The gradient of the bias. -/
def db : EReal := ∑ r : Fin 4096, x.dcn r
/-- The gradient of the taps; the rows past the third are zero. -/
def dw (k : Fin 8) : EReal :=
  match k with
  | 0 => ∑ r : Fin 4096, x.dcn r * prv (prv x.cv) r
  | 1 => ∑ r : Fin 4096, x.dcn r * prv x.cv r
  | 2 => ∑ r : Fin 4096, x.dcn r * x.cv r
  | _ => 0

end Chan

end Cert.Conv
-- ==== Proof.ConvPay.lean ====
/-
  What the body of the convolution's gradient computes from its blocks, read at an index: each stored value is the
  function of `ConvSpec` at the channel the lane holds.
-/
module

public import proofs.«01_k».proof.Proof.Gen.KernelIdeal.Value
public import proofs.«01_k».proof.Proof.ConvSpec

@[expose] public section

set_option maxRecDepth 16384

noncomputable section

namespace Cert.KernelIdeal.Hand

open Cert.KernelIdeal Cert.KernelIdeal.Gen Idealize.ShloMosaic Cert.Conv

variable (x0 x1 x2 x3 x4 : Vec Ideal S4096x128 .bf16) (x5 : Vec Ideal S8x128 .f32) (x6 : Vec Ideal S1x128 .f32)

/-- The channel in lane `l` of the blocks. -/
def lane (l : Fin 128) : Chan :=
  ⟨fun r => x0 (ix2 r l), fun r => x1 (ix2 r l), fun r => x2 (ix2 r l), fun r => x3 (ix2 r l), fun r => x4 (ix2 r l),
    x5 (ix2 0 l), x5 (ix2 1 l), x5 (ix2 2 l), x6 (ix2 0 l)⟩

/-- A word equality selects as the numbers' equality does. -/
theorem sel_eq {α : Type} (n : ℕ) (hn : n < 8) (k : ℕ) (hk : k < 8) (a b : α) :
    Scalar.select (IntOp.cmpi CmpIPredicate.eq (BitVec.ofNat 32 n) (BitVec.ofNat 32 k)) a b = if n = k then a else b := by
  have h : (BitVec.ofNat 32 n = BitVec.ofNat 32 k) ↔ n = k := by
    constructor
    · intro h
      have := congrArg BitVec.toNat h
      simp only [BitVec.toNat_ofNat] at this
      omega
    · rintro rfl; rfl
  by_cases e : n = k
  · subst e; simp [Scalar.select, IntOp.cmpi]
  · have : (BitVec.ofNat 32 n == BitVec.ofNat 32 k) = false := by simpa using fun c => e (h.1 c)
    simp [Scalar.select, IntOp.cmpi, e, this]

theorem pay6_at (r : Fin 4096) (l : Fin 128) : k0_pay6 x1 x2 (ix2 r l) = (lane x0 x1 x2 x3 x4 x5 x6 l).cv r := by
  pointwise [k0_pay6]
  rfl

theorem pay7_at (r : Fin 4096) (l : Fin 128) :
    k0_pay7 x1 x2 (ix2 r l) = prv (lane x0 x1 x2 x3 x4 x5 x6 l).cv r := by
  pointwise [k0_pay7]
  simp only [pay6_at x0 x1 x2 x3 x4 x5 x6, prv]
  split
  · rename_i h
    rw [sel_eq _ h 0 (by decide)]
    split
    · rfl
    · rename_i h0
      congr 1; apply Fin.ext; show 4088 + ((r : ℕ) + 8 - 1) % 8 = 4087 + r; omega
  · rfl

theorem pay8_at (r : Fin 4096) (l : Fin 128) :
    k0_pay8 x1 x2 (ix2 r l) = prv (prv (lane x0 x1 x2 x3 x4 x5 x6 l).cv) r := by
  pointwise [k0_pay8]
  simp only [pay7_at x0 x1 x2 x3 x4 x5 x6]
  generalize prv (lane x0 x1 x2 x3 x4 x5 x6 l).cv = f
  simp only [prv]
  split
  · rename_i h
    rw [sel_eq _ h 0 (by decide)]
    split
    · rfl
    · rename_i h0
      congr 1; apply Fin.ext; show 4088 + ((r : ℕ) + 8 - 1) % 8 = 4087 + r; omega
  · rfl

theorem ld0 (x : Vec Ideal S4096x128 .bf16) : View.ld x r0_0 = x :=
  View.ld_unit_zero (by funext a; fin_cases a <;> rfl) ..
theorem ldb : View.ld x6 r0_4 = x6 :=
  View.ld_unit_zero (by funext a; fin_cases a <;> rfl) ..

/-- The gradient of the convolution's result. -/
theorem dcn_at (r : Fin 4096) (l : Fin 128) :
    k0_pay33 x0 x1 x2 x3 x4 x5 x6 (ix2 r l) = (lane x0 x1 x2 x3 x4 x5 x6 l).dcn r := by
  unfold k0_pay33 k0_pay29 k0_pay28
  rw [ld0, ld0, ld0]
  pointwise [k0_pay15, k0_pay14, k0_pay13, k0_pay12, k0_pay2, k0_pay5]
  rfl

/-- The convolution. -/
theorem conv_at (r : Fin 4096) (l : Fin 128) :
    k0_pay11 (View.ld x5 r0_3) (k0_pay30 x0 x1 x2 x3 x4 x5 x6) (k0_pay31 x0 x1 x2 x3 x4 x5 x6)
      (k0_pay32 x0 x1 x2 x3 x4 x5 x6) (ix2 r l) = (lane x0 x1 x2 x3 x4 x5 x6 l).conv r := by
  unfold k0_pay30 k0_pay31 k0_pay32
  rw [ld0, ld0, ldb]
  pointwise [k0_pay11, k0_pay9, k0_pay10]
  rw [pay8_at x0 x1 x2 x3 x4 x5 x6, pay7_at x0 x1 x2 x3 x4 x5 x6, pay6_at x0 x1 x2 x3 x4 x5 x6]
  rfl

theorem out0_at (u : Fin 1) (r : Fin 4096) (l : Fin 128) :
    k0_pay16 (k0_pay29 x0 x1 x2 x3 x4 x5 x6) (View.ld x5 r0_3) (k0_pay30 x0 x1 x2 x3 x4 x5 x6)
      (k0_pay31 x0 x1 x2 x3 x4 x5 x6) (k0_pay32 x0 x1 x2 x3 x4 x5 x6) (View.ld x4 r0_0) (ix3 u r l)
      = (lane x0 x1 x2 x3 x4 x5 x6 l).d4 0 r := by
  pointwise [k0_pay16]
  rw [conv_at]
  unfold k0_pay29
  rw [ld0, ld0]
  pointwise [k0_pay14, k0_pay13, k0_pay12, k0_pay5]
  rfl

theorem out3_at (u : Fin 1) (r : Fin 4096) (l : Fin 128) :
    k0_pay17 (k0_pay28 x0 x1 x2 x3 x4 x5 x6) (k0_pay29 x0 x1 x2 x3 x4 x5 x6) (View.ld x5 r0_3)
      (k0_pay30 x0 x1 x2 x3 x4 x5 x6) (k0_pay31 x0 x1 x2 x3 x4 x5 x6) (k0_pay32 x0 x1 x2 x3 x4 x5 x6)
      (View.ld x4 r0_0) (ix3 u r l) = (lane x0 x1 x2 x3 x4 x5 x6 l).d4 3 r := by
  pointwise [k0_pay17]
  rw [conv_at]
  unfold k0_pay29 k0_pay28
  rw [ld0, ld0, ld0]
  pointwise [k0_pay13, k0_pay12, k0_pay5, k0_pay2]
  rfl

theorem pay34_at (k : Fin 8) (l : Fin 128) :
    k0_pay34 x0 x1 x2 x3 x4 x5 x6 (ix2 k l)
      = if (k : ℕ) = 7 then 0 else (lane x0 x1 x2 x3 x4 x5 x6 l).dcn ⟨(k + 1) % 8, by omega⟩ := by
  have hk := k.isLt
  unfold k0_pay34
  pointwise [k0_pay18]
  rw [sel_eq _ hk 7 (by decide)]
  refine if_congr Iff.rfl rfl ?_
  refine (dcn_at x0 x1 x2 x3 x4 x5 x6 _ l).trans (congrArg _ (Fin.ext ?_))
  show ((k : ℕ) + 8 - 7) % 8 = (k + 1) % 8
  omega

theorem pay35_at (j : Fin 4088) (l : Fin 128) :
    k0_pay35 x0 x1 x2 x3 x4 x5 x6 (ix2 j l) = (lane x0 x1 x2 x3 x4 x5 x6 l).dcn ⟨8 + j, by omega⟩ := by
  unfold k0_pay35
  pointwise [k0_pay19]
  exact dcn_at x0 x1 x2 x3 x4 x5 x6 _ l

/-- The rows shifted by one step: the first eight rows, moved up by one row and zero in the last, close the array. -/
def later (a : Vec Ideal S4088x128 .f32) (b : Vec Ideal S8x128 .f32) : Vec Ideal S4096x128 .f32 :=
  concatenate S4096x128 0 [⟨S4088x128, a⟩, ⟨S8x128, b⟩] concatenates_S4088x128_S8x128_S4096x128_d0

theorem later_at (r : Fin 4096) (l : Fin 128) :
    later (k0_pay35 x0 x1 x2 x3 x4 x5 x6) (k0_pay34 x0 x1 x2 x3 x4 x5 x6) (ix2 r l)
      = nxt (lane x0 x1 x2 x3 x4 x5 x6 l).dcn r := by
  pointwise [later]
  unfold nxt
  split
  · rw [pay35_at]; congr 1; apply Fin.ext; show 8 + (r : ℕ) = r + 8; omega
  · rename_i h
    rw [pay34_at]
    have hr := r.isLt
    by_cases h5 : (r : ℕ) = 4095
    · rw [if_pos h5, if_pos (by show (r : ℕ) - 4088 = 7; omega)]
    · rw [if_neg h5, if_neg (by show ¬ (r : ℕ) - 4088 = 7; omega)]
      refine congrArg _ (Fin.ext ?_)
      show ((r : ℕ) - 4088 + 1) % 8 = r - 4087
      omega

/-- A second shift by one step. -/
def later2 (a : Vec Ideal S4096x128 .f32) : Vec Ideal S4096x128 .f32 :=
  later (extractStridedSlice S4088x128 ![8, 0] a slices_S4096x128_o8_0_S4088x128)
    (select (cmpi .eq (iota .tc S8x128 32 [0] iota_S8x128_d0_w32) (broadcast S8x128 7#32))
      (broadcast S8x128 (Scalar.ofBits (F := Ideal) .f32 0x00000000#32))
      (dynamicRotate 0 7#32 none (extractStridedSlice S8x128 ![0, 0] a slices_S4096x128_o0_0_S8x128) rotates_S8x128_d0))

theorem later_if (a : Vec Ideal S4088x128 .f32) (b : Vec Ideal S8x128 .f32) (r : Fin 4096) (l : Fin 128) :
    later a b (ix2 r l)
      = if h : (r : ℕ) < 4088 then a (ix2 ⟨r, h⟩ l) else b (ix2 ⟨r - 4088, by omega⟩ l) := by
  pointwise [later]

theorem last_at (a : Vec Ideal S4096x128 .f32) (k : Fin 8) (l : Fin 128) :
    select (cmpi .eq (iota .tc S8x128 32 [0] iota_S8x128_d0_w32) (broadcast S8x128 7#32))
      (broadcast S8x128 (Scalar.ofBits (F := Ideal) .f32 0x00000000#32))
      (dynamicRotate 0 7#32 none (extractStridedSlice S8x128 ![0, 0] a slices_S4096x128_o0_0_S8x128) rotates_S8x128_d0)
      (ix2 k l) = if (k : ℕ) = 7 then 0 else a (ix2 ⟨(k + 1) % 8, by omega⟩ l) := by
  have hk : (k : ℕ) < 8 := k.isLt
  pointwise
  rw [sel_eq _ hk 7 (by decide)]
  refine if_congr Iff.rfl rfl (congrArg (fun i => a (ix2 i l)) (Fin.ext ?_))
  show ((k : ℕ) + 8 - 7) % 8 = (k + 1) % 8
  omega

theorem later2_at (a : Vec Ideal S4096x128 .f32) (f : Fin 4096 → EReal) (l : Fin 128)
    (h : ∀ r, a (ix2 r l) = f r) (r : Fin 4096) : later2 a (ix2 r l) = nxt f r := by
  have hr : (r : ℕ) < 4096 := r.isLt
  unfold later2
  rw [later_if]
  unfold nxt
  split
  · pointwise
    rw [h]; congr 1; apply Fin.ext; show 8 + (r : ℕ) = r + 8; omega
  · rename_i h8
    rw [last_at]
    by_cases h5 : (r : ℕ) = 4095
    · rw [if_pos h5, if_pos (by show (r : ℕ) - 4088 = 7; omega)]
    · rw [if_neg h5, if_neg (by show ¬ (r : ℕ) - 4088 = 7; omega), h]
      refine congrArg _ (Fin.ext ?_)
      show ((r : ℕ) - 4088 + 1) % 8 = r - 4087
      omega

theorem dcv_at (r : Fin 4096) (l : Fin 128) :
    k0_pay20 (View.ld x5 r0_1) (View.ld x5 r0_2) (View.ld x5 r0_3) (k0_pay33 x0 x1 x2 x3 x4 x5 x6)
      (k0_pay34 x0 x1 x2 x3 x4 x5 x6) (k0_pay35 x0 x1 x2 x3 x4 x5 x6) (ix2 r l)
      = (lane x0 x1 x2 x3 x4 x5 x6 l).dcv r := by
  have e : k0_pay20 (View.ld x5 r0_1) (View.ld x5 r0_2) (View.ld x5 r0_3) (k0_pay33 x0 x1 x2 x3 x4 x5 x6)
      (k0_pay34 x0 x1 x2 x3 x4 x5 x6) (k0_pay35 x0 x1 x2 x3 x4 x5 x6)
      = addf (addf (mulf (broadcastTo S4096x128 (View.ld x5 r0_3) broadcasts_S1x128_S4096x128) (k0_pay33 x0 x1 x2 x3 x4 x5 x6))
          (mulf (broadcastTo S4096x128 (View.ld x5 r0_2) broadcasts_S1x128_S4096x128)
            (later (k0_pay35 x0 x1 x2 x3 x4 x5 x6) (k0_pay34 x0 x1 x2 x3 x4 x5 x6))))
          (mulf (broadcastTo S4096x128 (View.ld x5 r0_1) broadcasts_S1x128_S4096x128)
            (later2 (later (k0_pay35 x0 x1 x2 x3 x4 x5 x6) (k0_pay34 x0 x1 x2 x3 x4 x5 x6)))) := rfl
  rw [e]
  pointwise
  rw [later_at, dcn_at, later2_at _ _ _ fun r => later_at x0 x1 x2 x3 x4 x5 x6 r l]
  rfl

theorem out1_at (u : Fin 1) (r : Fin 4096) (l : Fin 128) :
    k0_pay21 (k0_pay4 (View.ld x2 r0_0)) (View.ld x5 r0_1) (View.ld x5 r0_2) (View.ld x5 r0_3)
      (k0_pay33 x0 x1 x2 x3 x4 x5 x6) (k0_pay34 x0 x1 x2 x3 x4 x5 x6) (k0_pay35 x0 x1 x2 x3 x4 x5 x6) (ix3 u r l)
      = (lane x0 x1 x2 x3 x4 x5 x6 l).d4 1 r := by
  pointwise [k0_pay21]
  rw [dcv_at, ld0]
  rfl

theorem out2_at (u : Fin 1) (r : Fin 4096) (l : Fin 128) :
    k0_pay22 (k0_pay3 (View.ld x1 r0_0)) (View.ld x5 r0_1) (View.ld x5 r0_2) (View.ld x5 r0_3)
      (k0_pay33 x0 x1 x2 x3 x4 x5 x6) (k0_pay34 x0 x1 x2 x3 x4 x5 x6) (k0_pay35 x0 x1 x2 x3 x4 x5 x6) (ix3 u r l)
      = (lane x0 x1 x2 x3 x4 x5 x6 l).d4 2 r := by
  pointwise [k0_pay22]
  rw [dcv_at, ld0]
  rfl

theorem emb0 (u : Fin 1) (r : Fin 4096) (l : Fin 128) :
    r0_5.emb (ix3 u r l) = (ix3 (0 : Fin 4) r l : S4x4096x128.Idx) := by
  funext a; apply Fin.ext; rw [Rect.emb_apply]; fin_cases a <;> simp [ix3]
theorem emb1 (u : Fin 1) (r : Fin 4096) (l : Fin 128) :
    r0_7.emb (ix3 u r l) = (ix3 (1 : Fin 4) r l : S4x4096x128.Idx) := by
  funext a; apply Fin.ext; rw [Rect.emb_apply]; fin_cases a <;> simp [ix3]
theorem emb2 (u : Fin 1) (r : Fin 4096) (l : Fin 128) :
    r0_8.emb (ix3 u r l) = (ix3 (2 : Fin 4) r l : S4x4096x128.Idx) := by
  funext a; apply Fin.ext; rw [Rect.emb_apply]; fin_cases a <;> simp [ix3]
theorem emb3 (u : Fin 1) (r : Fin 4096) (l : Fin 128) :
    r0_6.emb (ix3 u r l) = (ix3 (3 : Fin 4) r l : S4x4096x128.Idx) := by
  funext a; apply Fin.ext; rw [Rect.emb_apply]; fin_cases a <;> simp [ix3]

/-- The block of the four stacked gradients. -/
theorem out7_at (p : Fin 4) (r : Fin 4096) (l : Fin 128) :
    out0_7 x0 x1 x2 x3 x4 x5 x6 (ix3 p r l) = (lane x0 x1 x2 x3 x4 x5 x6 l).d4 p r := by
  unfold out0_7
  let G : S4x4096x128.Idx → Elt Ideal .bf16 := fun y => (lane x0 x1 x2 x3 x4 x5 x6 (y 2)).d4 (y 0) (y 1)
  refine View.canon_apply_of_pieces (Val := Elt Ideal) G _ ?_ (ix3 p r l) (cover0_7 _ _ _ _ _)
  intro q hq x
  simp only [List.mem_cons, List.not_mem_nil, or_false] at hq
  rcases hq with rfl | rfl | rfl | rfl
  · rw [eq_ix3 x]; exact (out2_at ..).trans (congrArg G (emb2 ..)).symm
  · rw [eq_ix3 x]; exact (out1_at ..).trans (congrArg G (emb1 ..)).symm
  · rw [eq_ix3 x]; exact (out3_at ..).trans (congrArg G (emb3 ..)).symm
  · rw [eq_ix3 x]; exact (out0_at ..).trans (congrArg G (emb0 ..)).symm

/-- The block of the bias's gradient. -/
theorem out8_at (l : Fin 128) : out0_8 x0 x1 x2 x3 x4 x5 x6 (ix2 0 l) = (lane x0 x1 x2 x3 x4 x5 x6 l).db := by
  unfold out0_8
  rw [View.canon_unit_zero (by funext a; fin_cases a <;> rfl)]
  pointwise [k0_pay23]
  simp only [dcn_at]
  rfl

theorem out9_at (k : Fin 8) (l : Fin 128) :
    out0_9 x0 x1 x2 x3 x4 x5 x6 (ix2 k l) = (lane x0 x1 x2 x3 x4 x5 x6 l).dw k := by
  unfold out0_9
  rw [View.canon_unit_zero (by funext a; fin_cases a <;> rfl), ld0, ld0]
  pointwise [k0_pay1, k0_pay24, k0_pay25, k0_pay26, k0_pay27, k0_pay30]
  simp only [dcn_at, pay8_at x0 x1 x2 x3 x4 x5 x6, pay7_at x0 x1 x2 x3 x4 x5 x6, ld0, pay6_at x0 x1 x2 x3 x4 x5 x6]
  fin_cases k <;> simp [Chan.dw]

end Cert.KernelIdeal.Hand
-- ==== Proof.ConvArr.lean ====
/-
  The three result arrays of the convolution's gradient, index by index, as functions of the argument arrays: every
  grid point stages 128 channels, and a channel's results need that channel alone.
-/
module

public import proofs.«01_k».proof.Proof.ConvPay
public import Idealize.ShloMosaic.Lib.Pipeline.ValueKit

@[expose] public section

set_option maxRecDepth 16384

noncomputable section

namespace Cert.Conv

open Idealize.ShloMosaic

/-- Channel `q` of the argument arrays. -/
def chan (a0 : (⟨2, ![4096, 6144]⟩ : Shape).Idx → EReal) (a1 : (⟨2, ![4096, 1024]⟩ : Shape).Idx → EReal)
    (a2 : (⟨2, ![8, 1024]⟩ : Shape).Idx → EReal) (a3 : (⟨2, ![1, 1024]⟩ : Shape).Idx → EReal) (q : Fin 1024) : Chan :=
  ⟨fun r => a0 (ix2 r ⟨q, by omega⟩), fun r => a0 (ix2 r ⟨1024 + q, by omega⟩), fun r => a0 (ix2 r ⟨2048 + q, by omega⟩),
    fun r => a0 (ix2 r ⟨3072 + q, by omega⟩), fun r => a1 (ix2 r q), a2 (ix2 0 q), a2 (ix2 1 q), a2 (ix2 2 q), a3 (ix2 0 q)⟩

end Cert.Conv

namespace Cert.KernelIdeal.Hand

open Cert.KernelIdeal Cert.KernelIdeal.Gen Idealize.ShloMosaic Idealize.ShloMosaic.TcCoe Cert.Conv
open Idealize.ShloMosaic.Pipeline (Dat)

variable (m : (ℓ : Loc nD τ sig) → Buf (Elt Ideal) ℓ)

theorem idx_facts : ∀ t : Fin grid0.N,
    (win0_0.index t 0 = 0 ∧ win0_0.index t 1 = t.val) ∧ (win0_1.index t 0 = 0 ∧ win0_1.index t 1 = 8 + t.val)
    ∧ (win0_2.index t 0 = 0 ∧ win0_2.index t 1 = 16 + t.val) ∧ (win0_3.index t 0 = 0 ∧ win0_3.index t 1 = 24 + t.val)
    ∧ (win0_4.index t 0 = 0 ∧ win0_4.index t 1 = t.val) ∧ (win0_5.index t 0 = 0 ∧ win0_5.index t 1 = t.val)
    ∧ (win0_6.index t 0 = 0 ∧ win0_6.index t 1 = t.val)
    ∧ (win0_7.index t 0 = 0 ∧ win0_7.index t 1 = 0 ∧ win0_7.index t 2 = t.val)
    ∧ (win0_8.index t 0 = 0 ∧ win0_8.index t 1 = t.val) ∧ (win0_9.index t 0 = 0 ∧ win0_9.index t 1 = t.val) := by
  decide +kernel

/-- The column lane `l` of point `t`'s blocks stands at. -/
def col (t : Fin grid0.N) (l : Fin 128) : Fin 1024 := ⟨t * 128 + l, by have := t.isLt; have := N_0; omega⟩

theorem blk0 (c : Dev nD) (t : Fin grid0.N) (r : Fin 4096) (l : Fin 128) :
    iblk m c 0 t (ix2 r l) = m ((c : Thread nD τ).loc main_arg0) (ix2 r ⟨col t l, by omega⟩) := by
  have e := (idx_facts t).1
  show V m c (Pipeline.arrRef spec0 0) ((win0_0.rect t).emb (ix2 r l)) = _
  refine (congrArg (V m c main_arg0) ?_).trans (congrFun (V_main_arg0 m c) _)
  funext a; apply Fin.ext; rw [win0_0.rect_emb_val]
  fin_cases a
  · show win0_0.index t 0 * 4096 + r.val = r.val; rw [e.1]; omega
  · show win0_0.index t 1 * 128 + l.val = t.val * 128 + l.val; rw [e.2]

theorem blk1 (c : Dev nD) (t : Fin grid0.N) (r : Fin 4096) (l : Fin 128) :
    iblk m c 1 t (ix2 r l) = m ((c : Thread nD τ).loc main_arg0) (ix2 r ⟨1024 + col t l, by omega⟩) := by
  have e := (idx_facts t).2.1
  show V m c (Pipeline.arrRef spec0 1) ((win0_1.rect t).emb (ix2 r l)) = _
  refine (congrArg (V m c main_arg0) ?_).trans (congrFun (V_main_arg0 m c) _)
  funext a; apply Fin.ext; rw [win0_1.rect_emb_val]
  fin_cases a
  · show win0_1.index t 0 * 4096 + r.val = r.val; rw [e.1]; omega
  · show win0_1.index t 1 * 128 + l.val = 1024 + (t.val * 128 + l.val); rw [e.2]; omega

theorem blk2 (c : Dev nD) (t : Fin grid0.N) (r : Fin 4096) (l : Fin 128) :
    iblk m c 2 t (ix2 r l) = m ((c : Thread nD τ).loc main_arg0) (ix2 r ⟨2048 + col t l, by omega⟩) := by
  have e := (idx_facts t).2.2.1
  show V m c (Pipeline.arrRef spec0 2) ((win0_2.rect t).emb (ix2 r l)) = _
  refine (congrArg (V m c main_arg0) ?_).trans (congrFun (V_main_arg0 m c) _)
  funext a; apply Fin.ext; rw [win0_2.rect_emb_val]
  fin_cases a
  · show win0_2.index t 0 * 4096 + r.val = r.val; rw [e.1]; omega
  · show win0_2.index t 1 * 128 + l.val = 2048 + (t.val * 128 + l.val); rw [e.2]; omega

theorem blk3 (c : Dev nD) (t : Fin grid0.N) (r : Fin 4096) (l : Fin 128) :
    iblk m c 3 t (ix2 r l) = m ((c : Thread nD τ).loc main_arg0) (ix2 r ⟨3072 + col t l, by omega⟩) := by
  have e := (idx_facts t).2.2.2.1
  show V m c (Pipeline.arrRef spec0 3) ((win0_3.rect t).emb (ix2 r l)) = _
  refine (congrArg (V m c main_arg0) ?_).trans (congrFun (V_main_arg0 m c) _)
  funext a; apply Fin.ext; rw [win0_3.rect_emb_val]
  fin_cases a
  · show win0_3.index t 0 * 4096 + r.val = r.val; rw [e.1]; omega
  · show win0_3.index t 1 * 128 + l.val = 3072 + (t.val * 128 + l.val); rw [e.2]; omega

theorem blk4 (c : Dev nD) (t : Fin grid0.N) (r : Fin 4096) (l : Fin 128) :
    iblk m c 4 t (ix2 r l) = m ((c : Thread nD τ).loc main_arg1) (ix2 r (col t l)) := by
  have e := (idx_facts t).2.2.2.2.1
  show V m c (Pipeline.arrRef spec0 4) ((win0_4.rect t).emb (ix2 r l)) = _
  refine (congrArg (V m c main_arg1) ?_).trans (congrFun (V_main_arg1 m c) _)
  funext a; apply Fin.ext; rw [win0_4.rect_emb_val]
  fin_cases a
  · show win0_4.index t 0 * 4096 + r.val = r.val; rw [e.1]; omega
  · show win0_4.index t 1 * 128 + l.val = t.val * 128 + l.val; rw [e.2]

theorem blk5 (c : Dev nD) (t : Fin grid0.N) (r : Fin 8) (l : Fin 128) :
    iblk m c 5 t (ix2 r l) = m ((c : Thread nD τ).loc main_arg2) (ix2 r (col t l)) := by
  have e := (idx_facts t).2.2.2.2.2.1
  show V m c (Pipeline.arrRef spec0 5) ((win0_5.rect t).emb (ix2 r l)) = _
  refine (congrArg (V m c main_arg2) ?_).trans (congrFun (V_main_arg2 m c) _)
  funext a; apply Fin.ext; rw [win0_5.rect_emb_val]
  fin_cases a
  · show win0_5.index t 0 * 8 + r.val = r.val; rw [e.1]; omega
  · show win0_5.index t 1 * 128 + l.val = t.val * 128 + l.val; rw [e.2]

theorem blk6 (c : Dev nD) (t : Fin grid0.N) (r : Fin 1) (l : Fin 128) :
    iblk m c 6 t (ix2 r l) = m ((c : Thread nD τ).loc main_arg3) (ix2 r (col t l)) := by
  have e := (idx_facts t).2.2.2.2.2.2.1
  show V m c (Pipeline.arrRef spec0 6) ((win0_6.rect t).emb (ix2 r l)) = _
  refine (congrArg (V m c main_arg3) ?_).trans (congrFun (V_main_arg3 m c) _)
  funext a; apply Fin.ext; rw [win0_6.rect_emb_val]
  fin_cases a
  · show win0_6.index t 0 * 1 + r.val = r.val; rw [e.1]; omega
  · show win0_6.index t 1 * 128 + l.val = t.val * 128 + l.val; rw [e.2]

/-- Channel `q` of device `c`'s argument arrays. -/
def ch (c : Dev nD) (q : Fin 1024) : Chan :=
  chan (m ((c : Thread nD τ).loc main_arg0)) (m ((c : Thread nD τ).loc main_arg1))
    (m ((c : Thread nD τ).loc main_arg2)) (m ((c : Thread nD τ).loc main_arg3)) q

theorem lane_blk (c : Dev nD) (t : Fin grid0.N) (l : Fin 128) :
    lane (iblk m c 0 t) (iblk m c 1 t) (iblk m c 2 t) (iblk m c 3 t) (iblk m c 4 t) (iblk m c 5 t) (iblk m c 6 t) l
      = ch m c (col t l) := by
  unfold lane ch chan
  congr 1
  · funext r; exact blk0 m c t r l
  · funext r; exact blk1 m c t r l
  · funext r; exact blk2 m c t r l
  · funext r; exact blk3 m c t r l
  · funext r; exact blk4 m c t r l
  · exact blk5 m c t 0 l
  · exact blk5 m c t 1 l
  · exact blk5 m c t 2 l
  · exact blk6 m c t 0 l

theorem out7_blk (c : Dev nD) (t : Fin grid0.N) (y : S4x4096x128.Idx) :
    out0_7 (iblk m c 0 t) (iblk m c 1 t) (iblk m c 2 t) (iblk m c 3 t) (iblk m c 4 t) (iblk m c 5 t) (iblk m c 6 t) y
      = (fun i => (ch m c (i 2)).d4 (i 0) (i 1) : S4x4096x1024.Idx → EReal) (ix3 (y 0) (y 1) (col t (y 2))) := by
  refine (congrArg _ (eq_ix3 y)).trans ?_
  exact (out7_at ..).trans (congrArg (fun x : Chan => x.d4 (y 0) (y 1)) (lane_blk m c t (y 2)))

theorem arr7 (c : Dev nD) :
    (dats m 0 c).arrAt 7 cfg0.N = (fun i => (ch m c (i 2)).d4 (i 0) (i 1) : S4x4096x1024.Idx → EReal) := by
  refine (dats m 0 c).arrAt_eq_of_covers 7 _ (by decide +kernel) fun t hf y => ?_
  obtain ⟨e0, e1, e2⟩ := (idx_facts t).2.2.2.2.2.2.2.1
  blk_simp
  rw [after0_7]
  refine (out7_blk m c t y).trans (congrArg (fun i => (ch m c (i 2)).d4 (i 0) (i 1) : S4x4096x1024.Idx → EReal) ?_)
  show _ = (win0_7.rect t).emb y
  funext a; apply Fin.ext; rw [win0_7.rect_emb_val]
  fin_cases a
  · show (y 0).val = win0_7.index t 0 * 4 + (y 0).val; rw [e0]; omega
  · show (y 1).val = win0_7.index t 1 * 4096 + (y 1).val; rw [e1]; omega
  · show t.val * 128 + (y 2).val = win0_7.index t 2 * 128 + (y 2).val; rw [e2]

theorem out8_blk (c : Dev nD) (t : Fin grid0.N) (y : S1x128.Idx) :
    out0_8 (iblk m c 0 t) (iblk m c 1 t) (iblk m c 2 t) (iblk m c 3 t) (iblk m c 4 t) (iblk m c 5 t) (iblk m c 6 t) y
      = (fun i => (ch m c (i 1)).db : S1x1024.Idx → EReal) (ix2 (y 0) (col t (y 1))) := by
  refine (congrArg _ (eq_ix2 y)).trans ?_
  rw [show y 0 = (0 : Fin 1) from Subsingleton.elim (α := Fin 1) _ _]
  exact (out8_at ..).trans (congrArg Chan.db (lane_blk m c t (y 1)))

theorem arr8 (c : Dev nD) :
    (dats m 0 c).arrAt 8 cfg0.N = (fun i => (ch m c (i 1)).db : S1x1024.Idx → EReal) := by
  refine (dats m 0 c).arrAt_eq_of_covers 8 _ (by decide +kernel) fun t hf y => ?_
  obtain ⟨e0, e1⟩ := (idx_facts t).2.2.2.2.2.2.2.2.1
  blk_simp
  rw [after0_8]
  refine (out8_blk m c t y).trans (congrArg (fun i => (ch m c (i 1)).db : S1x1024.Idx → EReal) ?_)
  show _ = (win0_8.rect t).emb y
  funext a; apply Fin.ext; rw [win0_8.rect_emb_val]
  fin_cases a
  · show (y 0).val = win0_8.index t 0 * 1 + (y 0).val; rw [e0]; omega
  · show t.val * 128 + (y 1).val = win0_8.index t 1 * 128 + (y 1).val; rw [e1]

theorem out9_blk (c : Dev nD) (t : Fin grid0.N) (y : S8x128.Idx) :
    out0_9 (iblk m c 0 t) (iblk m c 1 t) (iblk m c 2 t) (iblk m c 3 t) (iblk m c 4 t) (iblk m c 5 t) (iblk m c 6 t) y
      = (fun i => (ch m c (i 1)).dw (i 0) : S8x1024.Idx → EReal) (ix2 (y 0) (col t (y 1))) := by
  refine (congrArg _ (eq_ix2 y)).trans ?_
  exact (out9_at ..).trans (congrArg (fun x : Chan => x.dw (y 0)) (lane_blk m c t (y 1)))

theorem arr9 (c : Dev nD) :
    (dats m 0 c).arrAt 9 cfg0.N = (fun i => (ch m c (i 1)).dw (i 0) : S8x1024.Idx → EReal) := by
  refine (dats m 0 c).arrAt_eq_of_covers 9 _ (by decide +kernel) fun t hf y => ?_
  obtain ⟨e0, e1⟩ := (idx_facts t).2.2.2.2.2.2.2.2.2
  blk_simp
  rw [after0_9]
  refine (out9_blk m c t y).trans (congrArg (fun i => (ch m c (i 1)).dw (i 0) : S8x1024.Idx → EReal) ?_)
  show _ = (win0_9.rect t).emb y
  funext a; apply Fin.ext; rw [win0_9.rect_emb_val]
  fin_cases a
  · show (y 0).val = win0_9.index t 0 * 8 + (y 0).val; rw [e0]; omega
  · show t.val * 128 + (y 1).val = win0_9.index t 1 * 128 + (y 1).val; rw [e1]

end Cert.KernelIdeal.Hand
-- ==== Proof.ConvRef.lean ====
/-
  The reference's gradient of the gated convolution, read at an index in time order.
-/
module

public import proofs.«01_k».proof.Proof.Gen.ReferenceIdeal.Read
public import proofs.«01_k».proof.Proof.ConvArr

@[expose] public section

set_option maxRecDepth 16384

noncomputable section

namespace Cert.Conv

open Idealize.ShloMosaic

/-- The row that holds time `t`. -/
def row (t : Fin 4096) : Fin 4096 := ⟨(t % 512) * 8 + t / 512, by omega⟩
/-- The time row `r` holds. -/
def tim (r : Fin 4096) : Fin 4096 := ⟨(r % 8) * 512 + r / 8, by omega⟩

theorem row_tim (r : Fin 4096) : row (tim r) = r := by
  apply Fin.ext; show ((r % 8 * 512 + r / 8 : ℕ) % 512) * 8 + (r % 8 * 512 + r / 8 : ℕ) / 512 = r; omega
theorem tim_row (t : Fin 4096) : tim (row t) = t := by
  apply Fin.ext; show ((t % 512 * 8 + t / 512 : ℕ) % 8) * 512 + (t % 512 * 8 + t / 512 : ℕ) / 8 = t; omega

/-- Rows and times, one for one. -/
def rowEquiv : Fin 4096 ≃ Fin 4096 := ⟨row, tim, tim_row, row_tim⟩

theorem prv_row (f : Fin 4096 → EReal) (t : Fin 4096) :
    prv f (row t) = if h : (t : ℕ) < 1 then 0 else f (row ⟨t - 1, by omega⟩) := by
  have ht := t.isLt
  unfold prv row
  by_cases h0 : (t : ℕ) < 1
  · have : (t : ℕ) = 0 := by omega
    simp [this]
  · rw [dif_neg h0]
    by_cases h8 : (t % 512 * 8 + t / 512 : ℕ) < 8
    · rw [dif_pos h8, if_neg (by show ¬ (t % 512 * 8 + t / 512 : ℕ) = 0; omega)]
      congr 1; apply Fin.ext; show 4087 + (t % 512 * 8 + t / 512 : ℕ) = (t - 1) % 512 * 8 + (t - 1) / 512; omega
    · rw [dif_neg h8]
      congr 1; apply Fin.ext; show (t % 512 * 8 + t / 512 : ℕ) - 8 = (t - 1) % 512 * 8 + (t - 1) / 512; omega

theorem prv_prv_row (f : Fin 4096 → EReal) (t : Fin 4096) :
    prv (prv f) (row t) = if h : (t : ℕ) < 2 then 0 else f (row ⟨t - 2, by omega⟩) := by
  rw [prv_row]
  by_cases h0 : (t : ℕ) < 1
  · rw [dif_pos h0, dif_pos (by omega)]
  · rw [dif_neg h0, prv_row]
    by_cases h1 : (t : ℕ) < 2
    · rw [dif_pos h1, dif_pos (by show (t : ℕ) - 1 < 1; omega)]
    · rw [dif_neg h1, dif_neg (by show ¬ (t : ℕ) - 1 < 1; omega)]
      rfl

theorem nxt_row (f : Fin 4096 → EReal) (t : Fin 4096) :
    nxt f (row t) = if h : (t : ℕ) + 1 < 4096 then f (row ⟨t + 1, h⟩) else 0 := by
  have ht := t.isLt
  unfold nxt row
  by_cases h0 : (t : ℕ) + 1 < 4096
  · rw [dif_pos h0]
    by_cases h8 : (t % 512 * 8 + t / 512 : ℕ) < 4088
    · rw [dif_pos h8]
      congr 1; apply Fin.ext; show (t % 512 * 8 + t / 512 : ℕ) + 8 = (t + 1) % 512 * 8 + (t + 1) / 512; omega
    · rw [dif_neg h8, if_neg (by show ¬ (t % 512 * 8 + t / 512 : ℕ) = 4095; omega)]
      congr 1; apply Fin.ext; show (t % 512 * 8 + t / 512 : ℕ) - 4087 = (t + 1) % 512 * 8 + (t + 1) / 512; omega
  · have e : (t : ℕ) = 4095 := by omega
    rw [dif_neg h0]
    simp [e]

theorem nxt_nxt_row (f : Fin 4096 → EReal) (t : Fin 4096) :
    nxt (nxt f) (row t) = if h : (t : ℕ) + 2 < 4096 then f (row ⟨t + 2, h⟩) else 0 := by
  rw [nxt_row]
  by_cases h0 : (t : ℕ) + 1 < 4096
  · rw [dif_pos h0, nxt_row]
  · rw [dif_neg h0, dif_neg (by omega)]

end Cert.Conv

namespace Cert.ReferenceIdeal.Hand

open Cert.ReferenceIdeal Cert.ReferenceIdeal.Read Idealize.ShloMosaic Cert.Conv

variable (x0 : (⟨S4096x6144, .bf16⟩ : BufTy).Contents (Elt Ideal)) (x1 : (⟨S4096x1024, .bf16⟩ : BufTy).Contents (Elt Ideal))
  (x2 : (⟨S8x1024, .f32⟩ : BufTy).Contents (Elt Ideal)) (x3 : (⟨S1x1024, .f32⟩ : BufTy).Contents (Elt Ideal))

theorem proj_at (u : Fin 1) (t : Fin 4096) (q : Fin 6144) : val_main_v3 x0 (ix3 u t q) = x0 (ix2 (row t) q) := by
  pointwise [val_main_v3, val_main_v2, val_main_v1, val_main_v0]
  rfl

theorem ct_at (u : Fin 1) (t : Fin 4096) (q : Fin 1024) : val_main_v44 x1 (ix3 u t q) = (chan x0 x1 x2 x3 q).D (row t) := by
  pointwise [val_main_v44, val_main_v43, val_main_v42, val_main_v41]
  rfl

theorem b_at (u : Fin 1) (t : Fin 4096) (q : Fin 1024) : val_main_v5 x0 (ix3 u t q) = (chan x0 x1 x2 x3 q).B (row t) := by
  pointwise [val_main_v5, val_main_v4]
  exact proj_at ..
theorem c_at (u : Fin 1) (t : Fin 4096) (q : Fin 1024) : val_main_v6 x0 (ix3 u t q) = (chan x0 x1 x2 x3 q).C (row t) := by
  pointwise [val_main_v6, val_main_v4]
  exact proj_at ..
theorem v_at (u : Fin 1) (t : Fin 4096) (q : Fin 1024) : val_main_v7 x0 (ix3 u t q) = (chan x0 x1 x2 x3 q).V (row t) := by
  pointwise [val_main_v7, val_main_v4]
  exact proj_at ..
theorem z_at (u : Fin 1) (t : Fin 4096) (q : Fin 1024) : val_main_v8 x0 (ix3 u t q) = (chan x0 x1 x2 x3 q).Z (row t) := by
  pointwise [val_main_v8, val_main_v4]
  exact proj_at ..

theorem cv_at (u : Fin 1) (t : Fin 4096) (q : Fin 1024) : val_main_v11 x0 (ix3 u t q) = (chan x0 x1 x2 x3 q).cv (row t) := by
  pointwise [val_main_v11]
  rw [c_at x0 x1 x2 x3, v_at x0 x1 x2 x3]
  rfl

theorem s2_at (u : Fin 1) (t : Fin 4096) (q : Fin 1024) :
    val_main_v19 x0 (ix3 u t q) = prv (prv (chan x0 x1 x2 x3 q).cv) (row t) := by
  pointwise [val_main_v19, val_main_v13, val_main_v12, val_main_cst]
  rw [prv_prv_row]
  refine dite_congr rfl (fun _ => rfl) fun _ => cv_at x0 x1 x2 x3 ..

theorem s1_at (u : Fin 1) (t : Fin 4096) (q : Fin 1024) :
    val_main_v27 x0 (ix3 u t q) = prv (chan x0 x1 x2 x3 q).cv (row t) := by
  pointwise [val_main_v27, val_main_v13, val_main_v12, val_main_cst]
  rw [prv_row]
  by_cases h : (t : ℕ) < 1
  · rw [dif_pos h, dif_pos (by omega)]
  · rw [dif_neg h, dif_neg (by omega), cv_at x0 x1 x2 x3]
    congr 2; apply Fin.ext; show 1 + (t : ℕ) - 2 = t - 1; omega

theorem s0_at (u : Fin 1) (t : Fin 4096) (q : Fin 1024) :
    val_main_v34 x0 (ix3 u t q) = (chan x0 x1 x2 x3 q).cv (row t) := by
  pointwise [val_main_v34, val_main_v13]
  exact cv_at x0 x1 x2 x3 ..

theorem conv_at (u : Fin 1) (t : Fin 4096) (q : Fin 1024) :
    val_main_v37 x0 x2 x3 (ix3 u t q) = (chan x0 x1 x2 x3 q).conv (row t) := by
  pointwise [val_main_v37, val_main_v30, val_main_v23, val_main_v36, val_main_v29, val_main_v21, val_main_v22, val_main_v20, val_main_v28, val_main_v35, val_main_v15, val_main_v18, val_main_v26, val_main_v33, val_main_v17, val_main_v25, val_main_v32, val_main_v16, val_main_v24, val_main_v31, val_main_v10, val_main_v9]
  rw [s2_at x0 x1 x2 x3, s1_at x0 x1 x2 x3, s0_at x0 x1 x2 x3]
  rfl

theorem sg_at (u : Fin 1) (t : Fin 4096) (q : Fin 1024) :
    val_main_v39_2 x0 (ix3 u t q) = (chan x0 x1 x2 x3 q).sg (row t) := by
  pointwise [val_main_v39_2, val_main_call0_v4, val_main_call0_v3, val_main_call0_v2, val_main_call0_v1, val_main_call0_v0,
    val_main_call0_cst_0, val_main_call0_cst]
  rw [z_at x0 x1 x2 x3, ← zero_sub]
  rfl

theorem gg_at (u : Fin 1) (t : Fin 4096) (q : Fin 1024) :
    val_main_v46 x0 x1 (ix3 u t q) = (chan x0 x1 x2 x3 q).gg (row t) := by
  pointwise [val_main_v46, val_main_v39_0]
  rw [z_at x0 x1 x2 x3, sg_at x0 x1 x2 x3, ct_at x0 x1 x2 x3]
  rfl

theorem dcn_at (u : Fin 1) (t : Fin 4096) (q : Fin 1024) :
    val_main_v48 x0 x1 (ix3 u t q) = (chan x0 x1 x2 x3 q).dcn (row t) := by
  pointwise [val_main_v48]
  rw [gg_at x0 x1 x2 x3, b_at x0 x1 x2 x3, mul_comm]
  rfl

theorem dcv_at (u : Fin 1) (t : Fin 4096) (q : Fin 1024) :
    val_main_v85 x0 x1 x2 (ix3 u t q) = (chan x0 x1 x2 x3 q).dcv (row t) := by
  pointwise [val_main_v85, val_main_v78, val_main_v65, val_main_v55, val_main_v64, val_main_v77, val_main_v51, val_main_v60,
    val_main_v73, val_main_v50, val_main_v59, val_main_v72, val_main_v18, val_main_v26, val_main_v33, val_main_v17, val_main_v25,
    val_main_v32, val_main_v16, val_main_v24, val_main_v31, val_main_v9, val_main_cst_2, val_main_cst_6, val_main_cst_11]
  simp only [dcn_at x0 x1 x2 x3]
  have ht := t.isLt
  unfold Chan.dcv
  rw [nxt_nxt_row, nxt_row]
  refine congrArg₂ _ (congrArg₂ _ rfl ?_) ?_
  · by_cases h : (t : ℕ) + 1 < 4096
    · rw [dif_pos (by omega), dif_pos h]
      refine congrArg _ (congrArg _ (congrArg row (Fin.ext ?_)))
      show 2 + (t : ℕ) - 1 = t + 1; omega
    · rw [dif_neg (by omega), dif_neg h, mul_zero]
  · by_cases h : (t : ℕ) + 2 < 4096
    · rw [dif_pos (by omega), dif_pos h]
      refine congrArg _ (congrArg _ (congrArg row (Fin.ext ?_)))
      show 2 + (t : ℕ) = t + 2; omega
    · rw [dif_neg (by omega), dif_neg h, mul_zero]

theorem dz_at (u : Fin 1) (t : Fin 4096) (q : Fin 1024) :
    val_main_v47 x0 x1 x2 x3 (ix3 u t q)
      = (fun (x : Chan) (r : Fin 4096) => x.B r * x.conv r * x.D r * x.sg r
          + x.Z r * (x.B r * x.conv r * x.D r) * (x.sg r * (1 - x.sg r))) (chan x0 x1 x2 x3 q) (row t) := by
  pointwise [val_main_v47, val_main_call1_v1, val_main_call1_v2, val_main_call1_v0, val_main_v45, val_main_v38, val_main_v39_1,
    val_main_call0_v7, val_main_call0_v6, val_main_call0_cst_1]
  rw [conv_at x0 x1 x2 x3, ct_at x0 x1 x2 x3, sg_at x0 x1 x2 x3, z_at x0 x1 x2 x3, b_at x0 x1 x2 x3]

theorem res0_at (p : Fin 4) (r : Fin 4096) (q : Fin 1024) :
    val_main_v105 x0 x1 x2 x3 (ix3 p r q) = if (p : ℕ) < 3 then (chan x0 x1 x2 x3 q).d4 p r else
      (fun (x : Chan) (r : Fin 4096) => x.B r * x.conv r * x.D r * x.sg r
          + x.Z r * (x.B r * x.conv r * x.D r) * (x.sg r * (1 - x.sg r))) (chan x0 x1 x2 x3 q) r := by
  pointwise [val_main_v105, val_main_v104, val_main_v103, val_main_v102, val_main_v101, val_main_v100, val_main_v99, val_main_v98,
    val_main_v97, val_main_v96, val_main_v95, val_main_v94, val_main_v93, val_main_v92, val_main_v91, val_main_v90, val_main_v89, val_main_v88]
  have e : (⟨(r : ℕ) % 8 * 512 + r / 8, by omega⟩ : Fin 4096) = tim r := rfl
  simp only [e, conv_at x0 x1 x2 x3, gg_at x0 x1 x2 x3, val_main_v49_apply, val_main_v86_apply, val_main_v87_apply,
    dcv_at x0 x1 x2 x3, v_at x0 x1 x2 x3, c_at x0 x1 x2 x3, dz_at x0 x1 x2 x3, row_tim]
  fin_cases p
  · rfl
  · rfl
  · exact mul_comm (G := EReal) _ _
  · rfl

/-- Index `r` read at its place in time, summed: the same sum over the rows as they lie. -/
theorem sum_row (f : Fin 4096 → EReal) : ∑ t : Fin 4096, f (row t) = ∑ r : Fin 4096, f r :=
  rowEquiv.sum_comp f

/-- A sum over two axes of size one, started at zero, is the operand's element. -/
theorem unit_sum (x : S1x1x1024.Idx → EReal) (q : Fin 1024) :
    Ideal.hostReduceAdd Gen.reducesTo_S1x1x1024_S1024_d0_1 x 0 (ix1 q) = x (ix3 0 0 q) := by
  unfold Ideal.hostReduceAdd
  rw [zero_add, Finset.sum_filter]
  refine (Finset.sum_eq_single (ix3 0 0 q) (fun i _ hi => if_neg fun e => hi ?_) (fun h => absurd (Finset.mem_univ _) h)).trans
    (if_pos (by funext b; fin_cases b; rfl))
  funext a
  apply Fin.ext
  fin_cases a
  · exact Nat.lt_one_iff.mp (i 0).isLt
  · exact Nat.lt_one_iff.mp (i 1).isLt
  · exact congrArg Fin.val (congrFun e 0)

theorem v71_at (q : Fin 1024) : val_main_v71 x0 x1 (ix3 0 0 q) = (chan x0 x1 x2 x3 q).db := by
  rw [val_main_v71_apply, val_main_v70_apply, val_main_cst_9_apply, Ideal.ofBits_def, Ideal.ofBits_zero_f32]
  refine (zero_add _).trans ((Finset.sum_congr rfl fun t _ => ?_).trans (sum_row (fun r => (chan x0 x1 x2 x3 q).dcn r)))
  exact (congrArg (val_main_v48 x0 x1) (by funext a; apply Fin.ext; fin_cases a; rfl; rfl; show ((0 * 1 + 0) * 1024 + (q : ℕ)) % 1024 = q; omega)).trans (dcn_at x0 x1 x2 x3 0 t q)

theorem v76_at (q : Fin 1024) : val_main_v76 x0 x1 (ix3 0 0 q)
    = (fun x : Chan => ∑ r : Fin 4096, x.dcn r * prv (prv x.cv) r) (chan x0 x1 x2 x3 q) := by
  rw [val_main_v76_apply, val_main_v75_apply, val_main_cst_10_apply, Ideal.ofBits_def, Ideal.ofBits_zero_f32]
  refine (zero_add _).trans ((Finset.sum_congr rfl fun t _ => ?_).trans
    (sum_row (fun r => (fun x : Chan => x.dcn r * prv (prv x.cv) r) (chan x0 x1 x2 x3 q))))
  refine (congrArg (val_main_v74 x0 x1) (by funext a; apply Fin.ext; fin_cases a; rfl; rfl; show ((0 * 1 + 0) * 1024 + (q : ℕ)) % 1024 = q; omega : _ = ix3 0 t q)).trans ?_
  pointwise [val_main_v74]
  rw [dcn_at x0 x1 x2 x3, s2_at x0 x1 x2 x3]

theorem v63_at (q : Fin 1024) : val_main_v63 x0 x1 (ix3 0 0 q)
    = (fun x : Chan => ∑ r : Fin 4096, x.dcn r * prv x.cv r) (chan x0 x1 x2 x3 q) := by
  rw [val_main_v63_apply, val_main_v62_apply, val_main_cst_5_apply, Ideal.ofBits_def, Ideal.ofBits_zero_f32]
  refine (zero_add _).trans ((Finset.sum_congr rfl fun t _ => ?_).trans
    (sum_row (fun r => (fun x : Chan => x.dcn r * prv x.cv r) (chan x0 x1 x2 x3 q))))
  refine (congrArg (val_main_v61 x0 x1) (by funext a; apply Fin.ext; fin_cases a; rfl; rfl; show ((0 * 1 + 0) * 1024 + (q : ℕ)) % 1024 = q; omega : _ = ix3 0 t q)).trans ?_
  pointwise [val_main_v61]
  rw [dcn_at x0 x1 x2 x3, s1_at x0 x1 x2 x3]

theorem v54_at (q : Fin 1024) : val_main_v54 x0 x1 (ix3 0 0 q)
    = (fun x : Chan => ∑ r : Fin 4096, x.dcn r * x.cv r) (chan x0 x1 x2 x3 q) := by
  rw [val_main_v54_apply, val_main_v53_apply, val_main_cst_1_apply, Ideal.ofBits_def, Ideal.ofBits_zero_f32]
  refine (zero_add _).trans ((Finset.sum_congr rfl fun t _ => ?_).trans
    (sum_row (fun r => (fun x : Chan => x.dcn r * x.cv r) (chan x0 x1 x2 x3 q))))
  refine (congrArg (val_main_v52 x0 x1) (by funext a; apply Fin.ext; fin_cases a; rfl; rfl; show ((0 * 1 + 0) * 1024 + (q : ℕ)) % 1024 = q; omega : _ = ix3 0 t q)).trans ?_
  pointwise [val_main_v52]
  rw [dcn_at x0 x1 x2 x3, s0_at x0 x1 x2 x3]

theorem res1_at (u : Fin 1) (q : Fin 1024) :
    val_main_v106 x0 x1 (ix2 u q) = (chan x0 x1 x2 x3 q).db := by
  pointwise [val_main_v106, val_main_v83, val_main_cst_14]
  rw [unit_sum]
  exact v71_at x0 x1 x2 x3 q

theorem res2_at (k : Fin 8) (q : Fin 1024) :
    val_main_v107 x0 x1 (ix2 k q) = (chan x0 x1 x2 x3 q).dw k := by
  pointwise [val_main_v107, val_main_v82, val_main_v81, val_main_v69, val_main_v58, val_main_v68, val_main_v80, val_main_v67,
    val_main_v57, val_main_v79, val_main_v66, val_main_v56, val_main_cst_4, val_main_cst_8, val_main_cst_13, val_main_cst_3,
    val_main_cst_7, val_main_cst_12, val_main_call2_v0, val_main_c]
  simp only [unit_sum, v76_at x0 x1 x2 x3, v63_at x0 x1 x2 x3, v54_at x0 x1 x2 x3]
  have hz : FloatOps.sitofp (F := Ideal) FTy.f32 0#32 = (0 : EReal) := by
    show ((((0#32 : BitVec 32).toInt : ℤ) : ℝ) : EReal) = 0
    simp
  rw [hz]
  fin_cases k <;> simp [Chan.dw]

end Cert.ReferenceIdeal.Hand
-- ==== Proof.Finite.lean ====
/-
  Finite extended reals: what sums and products keep, and what the test `|x| < ∞` over a whole array says.
-/
module

public import Idealize.ShloMosaic.Lib.ReduceAll
public import Idealize.ShloMosaic.Lib.Pointwise
public import proofs.«01_k».proof.Pre_finite

@[expose] public section

noncomputable section

namespace Cert

open Idealize.ShloMosaic

/-- `x` is a real number. -/
def Fn (x : EReal) : Prop := ∃ a : ℝ, x = a

theorem Fn.coe (a : ℝ) : Fn (a : EReal) := ⟨a, rfl⟩
theorem Fn.zero : Fn 0 := ⟨0, rfl⟩
theorem Fn.one : Fn 1 := ⟨1, rfl⟩
theorem Fn.add {x y : EReal} : Fn x → Fn y → Fn (x + y) := by
  rintro ⟨a, rfl⟩ ⟨b, rfl⟩; exact ⟨a + b, (EReal.coe_add a b).symm⟩
theorem Fn.sub {x y : EReal} : Fn x → Fn y → Fn (x - y) := by
  rintro ⟨a, rfl⟩ ⟨b, rfl⟩; exact ⟨a - b, (EReal.coe_sub a b).symm⟩
theorem Fn.mul {x y : EReal} : Fn x → Fn y → Fn (x * y) := by
  rintro ⟨a, rfl⟩ ⟨b, rfl⟩; exact ⟨a * b, (EReal.coe_mul a b).symm⟩
theorem Fn.sum {ι : Type} (s : Finset ι) {f : ι → EReal} (h : ∀ i, Fn (f i)) : Fn (∑ i ∈ s, f i) := by
  classical
  induction s using Finset.induction_on with
  | empty => exact Fn.zero
  | insert i s hi ih => rw [Finset.sum_insert hi]; exact (h i).add ih

/-- An extended real whose absolute value is below infinity is a real. -/
theorem Fn.of_abs_lt {x : EReal} (h : max x (-x) < ⊤) : Fn x := by
  induction x with
  | bot => simp at h
  | coe a => exact ⟨a, rfl⟩
  | top => simp at h

/-- The test of one array, `all (|x| < ∞)`, gives every element a real. -/
theorem fn_of_all {s t u v : Shape} {axes : List (Fin s.rank)} [Subsingleton t.Idx] (x : FVec Ideal s .f32) (init : u.Idx → BitVec 1)
    (h : s.ReducesTo axes t) (hu : 0 < u.numel) (j : t.Idx) {dims : Fin v.rank → Fin s.rank} (hb : v.BroadcastsInDim s dims)
    (e : Host.reduce IntOp.andi (cmpf .olt (Host.absf x) (broadcastInDim s dims hb (constant v .f32 0x7F800000#32))) init h hu j = 1#1)
    (i : s.Idx) : Fn (x i) := by
  have e' := Host.reduce_andi_all _ _ h hu j e i
  have et : Ideal.ofBits .f32 0x7F800000#32 = ⊤ := by simp [Ideal.ofBits, Ideal.ieee]
  refine Fn.of_abs_lt ?_
  have e2 : Ideal.cmp .olt (max (x i) (-x i)) (Ideal.ofBits .f32 0x7F800000#32) = 1#1 := e'
  rw [et] at e2
  by_contra hn
  simp [Ideal.cmp, hn] at e2

namespace Pre_finite

variable [Facts] (x0 : FVec Ideal S4096x6144 .bf16) (x1 : FVec Ideal S4096x1024 .bf16) (x2 : FVec Ideal S8x1024 .f32)
  (x3 : FVec Ideal S1x1024 .f32)

instance : Subsingleton S_.Idx := ⟨fun a b => funext fun k => k.elim0⟩

/-- Under the precondition every element of the four arguments is a real. -/
theorem all_fn (e : fn (F := Ideal) x0 x1 x2 x3 = fun _ => 1#1) :
    (∀ i, Fn (x0 i)) ∧ (∀ i, Fn (x1 i)) ∧ (∀ i, Fn (x2 i)) ∧ (∀ i, Fn (x3 i)) := by
  have e0 := congrFun e (Shape.Idx.first Facts.h_S_)
  unfold fn fn_part1 at e0
  simp only [andi] at e0
  obtain ⟨e1, h3⟩ := IntOp.andi_eq_one.mp e0
  obtain ⟨e2, h2⟩ := IntOp.andi_eq_one.mp e1
  obtain ⟨h0, h1⟩ := IntOp.andi_eq_one.mp e2
  exact ⟨fn_of_all _ _ _ _ _ _ h0, fn_of_all _ _ _ _ _ _ h1, fn_of_all _ _ _ _ _ _ h2, fn_of_all _ _ _ _ _ _ h3⟩

end Pre_finite

end Cert

end
-- ==== Proof.ConvFin.lean ====
/-
  On real arguments the gradient of the gate is one product, whichever way the two factors are multiplied out.
-/
module

public import proofs.«01_k».proof.Proof.ConvSpec
public import proofs.«01_k».proof.Proof.Finite

@[expose] public section

noncomputable section

namespace Cert.Conv

open Idealize.ShloMosaic

/-- Every number of the channel is a real. -/
structure Reals (x : Chan) : Prop where
  B : ∀ r, Fn (x.B r)
  C : ∀ r, Fn (x.C r)
  V : ∀ r, Fn (x.V r)
  Z : ∀ r, Fn (x.Z r)
  D : ∀ r, Fn (x.D r)
  w0 : Fn x.w0
  w1 : Fn x.w1
  w2 : Fn x.w2
  b : Fn x.b

theorem fn_prv {f : Fin 4096 → EReal} (h : ∀ r, Fn (f r)) (r : Fin 4096) : Fn (prv f r) := by
  unfold prv
  split
  · split
    · exact Fn.zero
    · exact h _
  · exact h _

theorem Reals.cv {x : Chan} (h : Reals x) (r : Fin 4096) : Fn (x.cv r) := (h.C r).mul (h.V r)

theorem Reals.conv {x : Chan} (h : Reals x) (r : Fin 4096) : Fn (x.conv r) :=
  (((h.b.add (h.w0.mul (fn_prv (fn_prv h.cv) r)))).add (h.w1.mul (fn_prv h.cv r))).add (h.w2.mul (h.cv r))

/-- The sigmoid of a real is a real. -/
theorem fn_sigmoid {z : EReal} (h : Fn z) : Fn (Ideal.div 1 (1 + Ideal.exp (0 - z))) := by
  obtain ⟨a, rfl⟩ := h
  refine ⟨1 / (1 + Real.exp (-a)), ?_⟩
  have e : (0 : EReal) - (a : EReal) = ((-a : ℝ) : EReal) := by rw [zero_sub, EReal.coe_neg]
  have hp := Real.exp_pos (-a)
  rw [e, Ideal.exp_coe, ← EReal.coe_one, ← EReal.coe_add, Ideal.div_coe (by positivity), ← EReal.coe_mul, one_mul]

theorem Reals.sg {x : Chan} (h : Reals x) (r : Fin 4096) : Fn (x.sg r) := fn_sigmoid (h.Z r)

/-- The two ways to multiply out the gradient of `z · sigmoid z`. -/
theorem Reals.dz {x : Chan} (h : Reals x) (r : Fin 4096) :
    x.B r * x.conv r * x.D r * x.sg r + x.Z r * (x.B r * x.conv r * x.D r) * (x.sg r * (1 - x.sg r)) = x.dz r := by
  unfold Chan.dz
  obtain ⟨b, hb⟩ := h.B r
  obtain ⟨c, hc⟩ := h.conv r
  obtain ⟨d, hd⟩ := h.D r
  obtain ⟨s, hs⟩ := h.sg r
  obtain ⟨z, hz⟩ := h.Z r
  rw [hb, hc, hd, hs, hz]
  norm_cast
  ring

end Cert.Conv

end
-- ==== Proof.ConvClaims.lean ====
/-
  The claims about the gradient of the gated convolution.
-/
module

public import proofs.«01_k».proof.Defs
public import proofs.«01_k».proof.Proof.Gen.Kernel.Frame
public import proofs.«01_k».proof.Proof.Gen.KernelIdeal.Frame
public import proofs.«01_k».proof.Proof.Gen.ReferenceIdeal.Run
public import proofs.«01_k».proof.Proof.ConvRef
public import proofs.«01_k».proof.Proof.ConvFin

@[expose] public section

noncomputable section

namespace Cert.ConvClaims

open Idealize.ShloMosaic Idealize.SL.Sem Cert.Conv

variable [Cert.Pre_finite.Facts]

theorem frame_k : Cert.quiescent_Kernel := fun m ρ _ => Cert.Kernel.Gen.frame m ρ
theorem frame_ki : Cert.quiescent_KernelIdeal := fun m ρ _ => Cert.KernelIdeal.Gen.frame m ρ
theorem frame_kip : Cert.quiescent_KernelIdeal_pre_finite := fun m ρ _ => Cert.KernelIdeal.Gen.frame m ρ

/-- The reference declares no semaphore; its run leaves the arguments. -/
theorem frame_ri : Cert.quiescent_ReferenceIdeal := fun m ρ _ =>
  (θ_run Cert.ReferenceIdeal.defs _ _).mono (fun r h => ⟨fun c => (h c).2.2.2, sem_eq_zero_of_no_sems (by decide) r.2⟩)
    (Cert.ReferenceIdeal.Value.run (F := Ideal) m ρ)

theorem frame_rip : Cert.quiescent_ReferenceIdeal_pre_finite := fun m ρ _ =>
  (θ_run Cert.ReferenceIdeal.defs _ _).mono (fun r h => ⟨fun c => (h c).2.2.2, sem_eq_zero_of_no_sems (by decide) r.2⟩)
    (Cert.ReferenceIdeal.Value.run (F := Ideal) m ρ)

/-- Real arguments make every channel real. -/
theorem reals {x0 : FVec Ideal Cert.KernelIdeal.S4096x6144 .bf16} {x1 : FVec Ideal Cert.KernelIdeal.S4096x1024 .bf16}
    {x2 : FVec Ideal Cert.KernelIdeal.S8x1024 .f32} {x3 : FVec Ideal Cert.KernelIdeal.S1x1024 .f32}
    (e : Cert.Pre_finite.fn (F := Ideal) x0 x1 x2 x3 = fun _ => 1#1) (q : Fin 1024) : Reals (chan x0 x1 x2 x3 q) := by
  obtain ⟨h0, h1, h2, h3⟩ := Cert.Pre_finite.all_fn x0 x1 x2 x3 e
  exact ⟨fun _ => h0 _, fun _ => h0 _, fun _ => h0 _, fun _ => h0 _, fun _ => h1 _, h2 _, h2 _, h2 _, h3 _⟩

section Ref

open Cert.ReferenceIdeal Cert.ReferenceIdeal.Read Cert.ReferenceIdeal.Hand

variable {x0 : FVec Ideal Cert.KernelIdeal.S4096x6144 .bf16} {x1 : FVec Ideal Cert.KernelIdeal.S4096x1024 .bf16}
    {x2 : FVec Ideal Cert.KernelIdeal.S8x1024 .f32} {x3 : FVec Ideal Cert.KernelIdeal.S1x1024 .f32}

theorem ref0 (e : Cert.Pre_finite.fn (F := Ideal) x0 x1 x2 x3 = fun _ => 1#1) :
    val_main_v105 (F := Ideal) x0 x1 x2 x3
      = (fun i => (chan x0 x1 x2 x3 (i 2)).d4 (i 0) (i 1) : Cert.KernelIdeal.S4x4096x1024.Idx → EReal) := by
  funext i
  obtain ⟨p, r, q, rfl⟩ : ∃ (p : Fin 4) (r : Fin 4096) (q : Fin 1024), i = ix3 p r q :=
    ⟨i 0, i 1, i 2, by funext a; fin_cases a <;> rfl⟩
  refine (res0_at x0 x1 x2 x3 p r q).trans ?_
  show _ = (chan x0 x1 x2 x3 q).d4 p r
  split
  · rfl
  · rename_i h
    have hp : p = 3 := by apply Fin.ext; show (p : ℕ) = 3; omega
    subst hp
    exact (reals e q).dz r

theorem ref1 : val_main_v106 (F := Ideal) x0 x1
    = (fun i => (chan x0 x1 x2 x3 (i 1)).db : Cert.KernelIdeal.S1x1024.Idx → EReal) := by
  funext i
  obtain ⟨u, q, rfl⟩ : ∃ (u : Fin 1) (q : Fin 1024), i = ix2 u q := ⟨i 0, i 1, by funext a; fin_cases a <;> rfl⟩
  exact res1_at x0 x1 x2 x3 u q

theorem ref2 : val_main_v107 (F := Ideal) x0 x1
    = (fun i => (chan x0 x1 x2 x3 (i 1)).dw (i 0) : Cert.KernelIdeal.S8x1024.Idx → EReal) := by
  funext i
  obtain ⟨k, q, rfl⟩ : ∃ (k : Fin 8) (q : Fin 1024), i = ix2 k q := ⟨i 0, i 1, by funext a; fin_cases a <;> rfl⟩
  exact res2_at x0 x1 x2 x3 k q

end Ref

/-- Kernel and reference end at the channel's gradients. -/
theorem algebraic : Cert.algebraic_KernelIdeal_ReferenceIdeal_pre_finite := by
  intro m ρ m' ρ' hpre hagree
  refine ⟨fun c => (fun i => (Cert.KernelIdeal.Hand.ch m c (i 2)).d4 (i 0) (i 1) : Cert.KernelIdeal.S4x4096x1024.Idx → EReal),
    fun c => (fun i => (Cert.KernelIdeal.Hand.ch m c (i 1)).db : Cert.KernelIdeal.S1x1024.Idx → EReal),
    fun c => (fun i => (Cert.KernelIdeal.Hand.ch m c (i 1)).dw (i 0) : Cert.KernelIdeal.S8x1024.Idx → EReal), ?_, ?_⟩
  · exact (θ_run Cert.KernelIdeal.defs _ _).mono (fun _ h c =>
      ⟨(h c).1.trans (Cert.KernelIdeal.Hand.arr7 m c), (h c).2.1.trans (Cert.KernelIdeal.Hand.arr8 m c),
        (h c).2.2.1.trans (Cert.KernelIdeal.Hand.arr9 m c), (h c).2.2.2⟩) (Cert.KernelIdeal.Value.run_blocks (F := Ideal) m ρ)
  · refine (θ_run Cert.ReferenceIdeal.defs _ _).mono (fun _ h c =>
      ⟨(h c).1.trans ((Cert.ReferenceIdeal.Read.val_main_v105_eq m' c).trans ?_),
        (h c).2.1.trans ((Cert.ReferenceIdeal.Read.val_main_v106_eq _ _).trans ?_),
        (h c).2.2.1.trans ((Cert.ReferenceIdeal.Read.val_main_v107_eq m' c).trans ?_), (h c).2.2.2⟩)
      (Cert.ReferenceIdeal.Value.run (F := Ideal) m' ρ')
    · rw [(hagree c).1, (hagree c).2.1, (hagree c).2.2.1, (hagree c).2.2.2]
      exact ref0 (hpre c)
    · rw [(hagree c).1, (hagree c).2.1]
      exact ref1
    · rw [(hagree c).1, (hagree c).2.1]
      exact ref2

end Cert.ConvClaims

end
-- ==== Proof.DwOut.lean ====
/-
  The gradient of the output projection's weights: each grid point writes one tile of the
  product of the two arguments, and the tiles fill the array.
-/
module

public import proofs.«01_k».proof.Defs
public import proofs.«01_k».proof.Proof.Gen.DwOut.Frame
public import proofs.«01_k».proof.Proof.Gen.DwOutIdeal.Value
public import proofs.«01_k».proof.Proof.Gen.DwOutRefIdeal.Read
public import Idealize.ShloMosaic.Lib.Pointwise
public import Idealize.ShloMosaic.Lib.Pipeline.ValueKit
public import Idealize.ShloMosaic.Lib.Quiescent

@[expose] public section

set_option maxRecDepth 16384

noncomputable section

namespace Cert.DwOutIdeal.Hand

open Cert.DwOutIdeal Cert.DwOutIdeal.Gen Idealize.ShloMosaic Idealize.ShloMosaic.TcCoe
open Idealize.ShloMosaic.Pipeline (Dat)

/-- Row `r` of device `p`'s part. -/
def row (p : Fin 8) (r : Fin 256) : Fin 2048 := ⟨p * 256 + r, by omega⟩

/-- Row `p * 256 + r`, column `q` of the product of the two arguments, as the devices' parts hold it. -/
def grad (a : S2048x4096.Idx → EReal) (b : S4096x2048.Idx → EReal) (i : S8x256x2048.Idx) : EReal :=
  ∑ k : Fin 4096, a (ix2 (row (i 0) (i 1)) k) * b (ix2 k (i 2))

/-- A tile's element is the sum over the rows of the batch. -/
theorem tile_at (x : FVec Ideal S256x4096 .bf16) (y : FVec Ideal S4096x1024 .bf16) (u : Fin 1) (r : Fin 256) (l : Fin 1024) :
    out0_2 (F := Ideal) x y (ix3 u r l) = ∑ k : Fin 4096, x (ix2 r k) * y (ix2 k l) := by
  unfold out0_2
  rw [View.canon_unit_zero (by funext a; fin_cases a <;> rfl), View.ld_unit_zero (by funext a; fin_cases a <;> rfl),
    View.ld_unit_zero (by funext a; fin_cases a <;> rfl)]
  pointwise [k0_pay1]

variable (m : (ℓ : Loc nD τ sig) → Buf (Elt Ideal) ℓ)

theorem idx_facts : ∀ t : Fin grid0.N,
    (win0_0.index t 0 = t.val % 8 ∧ win0_0.index t 1 = 0) ∧ (win0_1.index t 0 = 0 ∧ win0_1.index t 1 = t.val / 8)
    ∧ (win0_2.index t 0 = t.val % 8 ∧ win0_2.index t 1 = 0 ∧ win0_2.index t 2 = t.val / 8) := by
  decide +kernel

theorem blk0 (c : Dev nD) (t : Fin grid0.N) (r : Fin 256) (k : Fin 4096) :
    iblk m c 0 t (ix2 r k) = m ((c : Thread nD τ).loc main_arg0) (ix2 ⟨t % 8 * 256 + r, by omega⟩ k) := by
  have e := (idx_facts t).1
  show V m c (Pipeline.arrRef spec0 0) ((win0_0.rect t).emb (ix2 r k)) = _
  refine (congrArg (V m c main_arg0) ?_).trans (congrFun (V_main_arg0 m c) _)
  funext a; apply Fin.ext; rw [win0_0.rect_emb_val]
  fin_cases a
  · show win0_0.index t 0 * 256 + r.val = t.val % 8 * 256 + r.val; rw [e.1]
  · show win0_0.index t 1 * 4096 + k.val = k.val; rw [e.2]; omega

theorem blk1 (c : Dev nD) (t : Fin grid0.N) (k : Fin 4096) (l : Fin 1024) :
    iblk m c 1 t (ix2 k l) = m ((c : Thread nD τ).loc main_arg1) (ix2 k ⟨t / 8 * 1024 + l, by have := t.isLt; have := N_0; omega⟩) := by
  have e := (idx_facts t).2.1
  show V m c (Pipeline.arrRef spec0 1) ((win0_1.rect t).emb (ix2 k l)) = _
  refine (congrArg (V m c main_arg1) ?_).trans (congrFun (V_main_arg1 m c) _)
  funext a; apply Fin.ext; rw [win0_1.rect_emb_val]
  fin_cases a
  · show win0_1.index t 0 * 4096 + k.val = k.val; rw [e.1]; omega
  · show win0_1.index t 1 * 1024 + l.val = t.val / 8 * 1024 + l.val; rw [e.2]

theorem arr (c : Dev nD) :
    (dats m 0 c).arrAt 2 cfg0.N = (grad (m ((c : Thread nD τ).loc main_arg0)) (m ((c : Thread nD τ).loc main_arg1)) : S8x256x2048.Idx → EReal) := by
  refine (dats m 0 c).arrAt_eq_of_covers 2 _ (by decide +kernel) fun t hf y => ?_
  obtain ⟨e0, e1, e2⟩ := (idx_facts t).2.2
  blk_simp
  rw [after0_2]
  have h0 : (y 0).val = 0 := by have : (y 0).val < 1 := (y 0).isLt; omega
  have h2 : (y 2).val < 1024 := (y 2).isLt
  refine ((congrArg _ (eq_ix3 y)).trans (tile_at _ _ (y 0) (y 1) (y 2))).trans ?_
  have hy : (win0_2.rect t).emb y = (ix3 ⟨t % 8, by omega⟩ (y 1) ⟨t / 8 * 1024 + y 2, by have := t.isLt; have := N_0; omega⟩ : S8x256x2048.Idx) := by
    funext a; apply Fin.ext; rw [win0_2.rect_emb_val]
    fin_cases a
    · show win0_2.index t 0 * 1 + (y 0).val = t.val % 8; rw [e0]; omega
    · show win0_2.index t 1 * 256 + (y 1).val = (y 1).val; rw [e1]; omega
    · show win0_2.index t 2 * 1024 + (y 2).val = t.val / 8 * 1024 + (y 2).val; rw [e2]
  refine Eq.trans ?_ (congrArg (grad (m ((c : Thread nD τ).loc main_arg0)) (m ((c : Thread nD τ).loc main_arg1))) hy).symm
  refine Finset.sum_congr rfl fun k _ => ?_
  exact congrArg₂ (· * ·) (blk0 m c t (y 1) k) (blk1 m c t k (y 2))

end Cert.DwOutIdeal.Hand

namespace Cert.DwOutRefIdeal.Hand

open Cert.DwOutRefIdeal Cert.DwOutRefIdeal.Gen Cert.DwOutRefIdeal.Read Idealize.ShloMosaic Idealize.ShloMosaic.TcCoe

/-- The derivative of the product in the weights is the same sum. -/
theorem ref (a : FVec Ideal S2048x4096 .bf16) (b : FVec Ideal S4096x2048 .bf16) :
    val_main_v8 (F := Ideal) a b = Cert.DwOutIdeal.Hand.grad a b := by
  funext i
  obtain ⟨p, r, q, rfl⟩ : ∃ (p : Fin 8) (r : Fin 256) (q : Fin 2048), i = ix3 p r q :=
    ⟨i 0, i 1, i 2, by funext a; fin_cases a <;> rfl⟩
  rw [val_main_v8_apply, val_main_v7_apply, Ideal.truncf_def, val_main_v6_apply, val_main_v5_apply]
  refine Finset.sum_congr rfl fun k _ => ?_
  rw [val_main_v2_apply, val_main_v1_apply, val_main_v0_apply, Ideal.extf_def, Ideal.extf_def, mul_comm]
  have ea : idx_main_v1 (ridx_main_v5 (idx_main_v6 (idx_main_v8 (ix3 p r q))) k) = (ix2 (Cert.DwOutIdeal.Hand.row p r) k : S2048x4096.Idx) := by
    funext a; apply Fin.ext
    fin_cases a
    · show ((p.val * 256 + r.val) * 2048 + q.val) / 2048 = p.val * 256 + r.val; omega
    · rfl
  have eb : lidx_main_v5 (idx_main_v6 (idx_main_v8 (ix3 p r q))) k = (ix2 k q : S4096x2048.Idx) := by
    funext a; apply Fin.ext
    fin_cases a
    · rfl
    · show ((p.val * 256 + r.val) * 2048 + q.val) % 2048 = q.val; omega
  exact congrArg₂ (· * ·) (congrArg a ea) (congrArg b eb)

end Cert.DwOutRefIdeal.Hand

namespace Cert.DwOutClaims

open Idealize.ShloMosaic Idealize.SL.Sem

theorem frame_k : Cert.quiescent_DwOut := fun m ρ _ => Cert.DwOut.Gen.frame m ρ
theorem frame_ki : Cert.quiescent_DwOutIdeal := fun m ρ _ => Cert.DwOutIdeal.Gen.frame m ρ
theorem frame_ri : Cert.quiescent_DwOutRefIdeal := fun m ρ _ =>
  (θ_run Cert.DwOutRefIdeal.defs _ _).mono (fun r h => ⟨fun c => (h c).2, sem_eq_zero_of_no_sems (by decide) r.2⟩)
    (Cert.DwOutRefIdeal.Value.run (F := Ideal) m ρ)

/-- Both end at the product. -/
theorem algebraic : Cert.algebraic_DwOutIdeal_DwOutRefIdeal := by
  intro m ρ m' ρ' _ hagree
  refine ⟨fun c => Cert.DwOutIdeal.Hand.grad _ _, (θ_run Cert.DwOutIdeal.defs _ _).mono (fun _ h c =>
      ⟨(h c).1.trans (Cert.DwOutIdeal.Hand.arr m c), (h c).2⟩) (Cert.DwOutIdeal.Value.run_blocks (F := Ideal) m ρ), ?_⟩
  refine (θ_run Cert.DwOutRefIdeal.defs _ _).mono (fun _ h c =>
      ⟨(h c).1.trans ((Cert.DwOutRefIdeal.Read.val_main_v8_eq _ _).trans ?_), (h c).2⟩)
      (Cert.DwOutRefIdeal.Value.run (F := Ideal) m' ρ')
  rw [(hagree c).1, (hagree c).2]
  exact Cert.DwOutRefIdeal.Hand.ref _ _

end Cert.DwOutClaims

end
-- ==== Proof.DwGlu.lean ====
/-
  The gradient of the gated linear unit's weights: each grid point writes one tile of the
  product of the two arguments, and the tiles fill the array.
-/
module

public import proofs.«01_k».proof.Defs
public import proofs.«01_k».proof.Proof.Gen.DwGlu.Frame
public import proofs.«01_k».proof.Proof.Gen.DwGluIdeal.Value
public import proofs.«01_k».proof.Proof.Gen.DwGluRefIdeal.Read
public import Idealize.ShloMosaic.Lib.Pointwise
public import Idealize.ShloMosaic.Lib.Pipeline.ValueKit
public import Idealize.ShloMosaic.Lib.Quiescent

@[expose] public section

set_option maxRecDepth 16384

noncomputable section

namespace Cert.DwGluIdeal.Hand

open Cert.DwGluIdeal Cert.DwGluIdeal.Gen Idealize.ShloMosaic Idealize.ShloMosaic.TcCoe
open Idealize.ShloMosaic.Pipeline (Dat)

/-- Row `r` of device `p`'s part. -/
def row (p : Fin 8) (r : Fin 128) : Fin 1024 := ⟨p * 128 + r, by omega⟩

/-- Row `p * 128 + r`, column `q` of the product of the two arguments, as the devices' parts hold it. -/
def grad (a : S1024x4096.Idx → EReal) (b : S4096x1024.Idx → EReal) (i : S8x128x1024.Idx) : EReal :=
  ∑ k : Fin 4096, a (ix2 (row (i 0) (i 1)) k) * b (ix2 k (i 2))

/-- A tile's element is the sum over the rows of the batch. -/
theorem tile_at (x : FVec Ideal S128x4096 .bf16) (y : FVec Ideal S4096x1024 .bf16) (u : Fin 1) (r : Fin 128) (l : Fin 1024) :
    out0_2 (F := Ideal) x y (ix3 u r l) = ∑ k : Fin 4096, x (ix2 r k) * y (ix2 k l) := by
  unfold out0_2
  rw [View.canon_unit_zero (by funext a; fin_cases a <;> rfl), View.ld_unit_zero (by funext a; fin_cases a <;> rfl),
    View.ld_unit_zero (by funext a; fin_cases a <;> rfl)]
  pointwise [k0_pay1]

variable (m : (ℓ : Loc nD τ sig) → Buf (Elt Ideal) ℓ)

theorem idx_facts : ∀ t : Fin grid0.N,
    (win0_0.index t 0 = t.val ∧ win0_0.index t 1 = 0) ∧ (win0_1.index t 0 = 0 ∧ win0_1.index t 1 = 0)
    ∧ (win0_2.index t 0 = t.val ∧ win0_2.index t 1 = 0 ∧ win0_2.index t 2 = 0) := by
  decide +kernel

theorem blk0 (c : Dev nD) (t : Fin grid0.N) (r : Fin 128) (k : Fin 4096) :
    iblk m c 0 t (ix2 r k) = m ((c : Thread nD τ).loc main_arg0) (ix2 ⟨t * 128 + r, by have := t.isLt; have := N_0; omega⟩ k) := by
  have e := (idx_facts t).1
  show V m c (Pipeline.arrRef spec0 0) ((win0_0.rect t).emb (ix2 r k)) = _
  refine (congrArg (V m c main_arg0) ?_).trans (congrFun (V_main_arg0 m c) _)
  funext a; apply Fin.ext; rw [win0_0.rect_emb_val]
  fin_cases a
  · show win0_0.index t 0 * 128 + r.val = t.val * 128 + r.val; rw [e.1]
  · show win0_0.index t 1 * 4096 + k.val = k.val; rw [e.2]; omega

theorem blk1 (c : Dev nD) (t : Fin grid0.N) (k : Fin 4096) (l : Fin 1024) :
    iblk m c 1 t (ix2 k l) = m ((c : Thread nD τ).loc main_arg1) (ix2 k l) := by
  have e := (idx_facts t).2.1
  show V m c (Pipeline.arrRef spec0 1) ((win0_1.rect t).emb (ix2 k l)) = _
  refine (congrArg (V m c main_arg1) ?_).trans (congrFun (V_main_arg1 m c) _)
  funext a; apply Fin.ext; rw [win0_1.rect_emb_val]
  fin_cases a
  · show win0_1.index t 0 * 4096 + k.val = k.val; rw [e.1]; omega
  · show win0_1.index t 1 * 1024 + l.val = l.val; rw [e.2]; omega

theorem arr (c : Dev nD) :
    (dats m 0 c).arrAt 2 cfg0.N = (grad (m ((c : Thread nD τ).loc main_arg0)) (m ((c : Thread nD τ).loc main_arg1)) : S8x128x1024.Idx → EReal) := by
  refine (dats m 0 c).arrAt_eq_of_covers 2 _ (by decide +kernel) fun t hf y => ?_
  obtain ⟨e0, e1, e2⟩ := (idx_facts t).2.2
  blk_simp
  rw [after0_2]
  have h0 : (y 0).val = 0 := by have : (y 0).val < 1 := (y 0).isLt; omega
  have h2 : (y 2).val < 1024 := (y 2).isLt
  refine ((congrArg _ (eq_ix3 y)).trans (tile_at _ _ (y 0) (y 1) (y 2))).trans ?_
  have hy : (win0_2.rect t).emb y = (ix3 ⟨t, by have := t.isLt; have := N_0; omega⟩ (y 1) (y 2) : S8x128x1024.Idx) := by
    funext a; apply Fin.ext; rw [win0_2.rect_emb_val]
    fin_cases a
    · show win0_2.index t 0 * 1 + (y 0).val = t.val; rw [e0]; omega
    · show win0_2.index t 1 * 128 + (y 1).val = (y 1).val; rw [e1]; omega
    · show win0_2.index t 2 * 1024 + (y 2).val = (y 2).val; rw [e2]; omega
  refine Eq.trans ?_ (congrArg (grad (m ((c : Thread nD τ).loc main_arg0)) (m ((c : Thread nD τ).loc main_arg1))) hy).symm
  refine Finset.sum_congr rfl fun k _ => ?_
  exact congrArg₂ (· * ·) (blk0 m c t (y 1) k) (blk1 m c t k (y 2))

end Cert.DwGluIdeal.Hand

namespace Cert.DwGluRefIdeal.Hand

open Cert.DwGluRefIdeal Cert.DwGluRefIdeal.Gen Cert.DwGluRefIdeal.Read Idealize.ShloMosaic Idealize.ShloMosaic.TcCoe

/-- The derivative of the product in the weights is the same sum. -/
theorem ref (a : FVec Ideal S1024x4096 .bf16) (b : FVec Ideal S4096x1024 .bf16) :
    val_main_v8 (F := Ideal) a b = Cert.DwGluIdeal.Hand.grad a b := by
  funext i
  obtain ⟨p, r, q, rfl⟩ : ∃ (p : Fin 8) (r : Fin 128) (q : Fin 1024), i = ix3 p r q :=
    ⟨i 0, i 1, i 2, by funext a; fin_cases a <;> rfl⟩
  rw [val_main_v8_apply, val_main_v7_apply, Ideal.truncf_def, val_main_v6_apply, val_main_v5_apply]
  refine Finset.sum_congr rfl fun k _ => ?_
  rw [val_main_v2_apply, val_main_v1_apply, val_main_v0_apply, Ideal.extf_def, Ideal.extf_def, mul_comm]
  have ea : idx_main_v1 (ridx_main_v5 (idx_main_v6 (idx_main_v8 (ix3 p r q))) k) = (ix2 (Cert.DwGluIdeal.Hand.row p r) k : S1024x4096.Idx) := by
    funext a; apply Fin.ext
    fin_cases a
    · show ((p.val * 128 + r.val) * 1024 + q.val) / 1024 = p.val * 128 + r.val; omega
    · rfl
  have eb : lidx_main_v5 (idx_main_v6 (idx_main_v8 (ix3 p r q))) k = (ix2 k q : S4096x1024.Idx) := by
    funext a; apply Fin.ext
    fin_cases a
    · rfl
    · show ((p.val * 128 + r.val) * 1024 + q.val) % 1024 = q.val; omega
  exact congrArg₂ (· * ·) (congrArg a ea) (congrArg b eb)

end Cert.DwGluRefIdeal.Hand

namespace Cert.DwGluClaims

open Idealize.ShloMosaic Idealize.SL.Sem

theorem frame_k : Cert.quiescent_DwGlu := fun m ρ _ => Cert.DwGlu.Gen.frame m ρ
theorem frame_ki : Cert.quiescent_DwGluIdeal := fun m ρ _ => Cert.DwGluIdeal.Gen.frame m ρ
theorem frame_ri : Cert.quiescent_DwGluRefIdeal := fun m ρ _ =>
  (θ_run Cert.DwGluRefIdeal.defs _ _).mono (fun r h => ⟨fun c => (h c).2, sem_eq_zero_of_no_sems (by decide) r.2⟩)
    (Cert.DwGluRefIdeal.Value.run (F := Ideal) m ρ)

/-- Both end at the product. -/
theorem algebraic : Cert.algebraic_DwGluIdeal_DwGluRefIdeal := by
  intro m ρ m' ρ' _ hagree
  refine ⟨fun c => Cert.DwGluIdeal.Hand.grad _ _, (θ_run Cert.DwGluIdeal.defs _ _).mono (fun _ h c =>
      ⟨(h c).1.trans (Cert.DwGluIdeal.Hand.arr m c), (h c).2⟩) (Cert.DwGluIdeal.Value.run_blocks (F := Ideal) m ρ), ?_⟩
  refine (θ_run Cert.DwGluRefIdeal.defs _ _).mono (fun _ h c =>
      ⟨(h c).1.trans ((Cert.DwGluRefIdeal.Read.val_main_v8_eq _ _).trans ?_), (h c).2⟩)
      (Cert.DwGluRefIdeal.Value.run (F := Ideal) m' ρ')
  rw [(hagree c).1, (hagree c).2]
  exact Cert.DwGluRefIdeal.Hand.ref _ _

end Cert.DwGluClaims

end
-- ==== Proof.DwIn.lean ====
/-
  The gradient of the input projection's weights: the product of the normed input with the six
  pieces of the projection's cotangent, cut by columns into the devices' parts. What the two
  calls that write it share.
-/
module

public import Idealize.ShloMosaic.Lib.Pointwise
public import Idealize.ShloMosaic.Lib.Pipeline.ValueKit

@[expose] public section

set_option maxRecDepth 16384

noncomputable section

namespace Cert.DwIn

open Idealize.ShloMosaic

abbrev Sh : Shape := ⟨2, ![2048, 4096]⟩
abbrev Sd : Shape := ⟨3, ![4, 4096, 1024]⟩
abbrev Sp : Shape := ⟨2, ![4096, 1024]⟩
abbrev Sc : Shape := ⟨2, ![4096, 6144]⟩
abbrev So : Shape := ⟨3, ![8, 2048, 768]⟩

/-- Column `q` of the cotangent, in the piece that holds it: four stacked pieces, the scan's
    input, the gate. -/
def cot (d : Sd.Idx → EReal) (u z : Sp.Idx → EReal) (k : Fin 4096) (q : Nat) : EReal :=
  if h : q < 4096 then d (ix3 ⟨q / 1024, by omega⟩ k ⟨q % 1024, Nat.mod_lt _ (by decide)⟩)
  else if q < 5120 then u (ix2 k ⟨q % 1024, Nat.mod_lt _ (by decide)⟩) else z (ix2 k ⟨q % 1024, Nat.mod_lt _ (by decide)⟩)

theorem cot_stack (d : Sd.Idx → EReal) (u z : Sp.Idx → EReal) (k : Fin 4096) (q : Nat) (j : Fin 4) (l : Fin 1024)
    (hq : q = j * 1024 + l) : cot d u z k q = d (ix3 j k l) := by
  unfold cot
  rw [dif_pos (by omega)]
  have e1 : (⟨q / 1024, by omega⟩ : Fin 4) = j := Fin.ext (by show q / 1024 = j.val; omega)
  have e2 : (⟨q % 1024, Nat.mod_lt _ (by decide)⟩ : Fin 1024) = l := Fin.ext (by show q % 1024 = l.val; omega)
  rw [e1, e2]

theorem cot_input (d : Sd.Idx → EReal) (u z : Sp.Idx → EReal) (k : Fin 4096) (q : Nat) (l : Fin 1024)
    (hq : q = 4096 + l) : cot d u z k q = u (ix2 k l) := by
  unfold cot
  rw [dif_neg (by omega), if_pos (by omega)]
  have e2 : (⟨q % 1024, Nat.mod_lt _ (by decide)⟩ : Fin 1024) = l := Fin.ext (by show q % 1024 = l.val; omega)
  rw [e2]

theorem cot_gate (d : Sd.Idx → EReal) (u z : Sp.Idx → EReal) (k : Fin 4096) (q : Nat) (l : Fin 1024)
    (hq : q = 5120 + l) : cot d u z k q = z (ix2 k l) := by
  unfold cot
  rw [dif_neg (by omega), if_neg (by omega)]
  have e2 : (⟨q % 1024, Nat.mod_lt _ (by decide)⟩ : Fin 1024) = l := Fin.ext (by show q % 1024 = l.val; omega)
  rw [e2]

/-- Row `r`, column `q` of the product. -/
def entry (h : Sh.Idx → EReal) (d : Sd.Idx → EReal) (u z : Sp.Idx → EReal) (r : Fin 2048) (q : Nat) : EReal :=
  ∑ k : Fin 4096, h (ix2 r k) * cot d u z k q

/-- Device `p`'s part of the gradient: columns `p * 768 + q` of the product. -/
def grad (h : Sh.Idx → EReal) (d : Sd.Idx → EReal) (u z : Sp.Idx → EReal) (i : So.Idx) : EReal :=
  entry h d u z (i 1) ((i 0).val * 768 + (i 2).val)

/-- Six pieces of 1024 columns side by side, read at column `n * 1024 + l`. -/
theorem six_apply (f : Fin 6 → Sp.Idx → EReal)
    (h : Shape.Concatenates ((List.ofFn fun n : Fin 6 => (⟨Sp, f n⟩ : (s : Shape) × (s.Idx → EReal))).map (·.1)) Sc 1)
    (k : Fin 4096) (q : Fin 6144) (n : Fin 6) (l : Fin 1024) (hq : q.val = n * 1024 + l) :
    concatenate Sc 1 (List.ofFn fun n : Fin 6 => (⟨Sp, f n⟩ : (s : Shape) × (s.Idx → EReal))) h (ix2 k q) = f n (ix2 k l) := by
  refine concatenate_ofFn_apply (1 : Fin Sc.rank) f h rfl 1024 rfl (ix2 k q) n ?_ (ix2 k l) ?_ ?_
  · show q.val / 1024 = n.val; omega
  · show l.val = q.val % 1024; omega
  · intro b hb
    fin_cases b
    · rfl
    · exact absurd rfl hb

/-- The pieces side by side are the cotangent. -/
theorem six_eq_cot (d : Sd.Idx → EReal) (u z : Sp.Idx → EReal) (f : Fin 6 → Sp.Idx → EReal)
    (hd : ∀ (j : Fin 4) (k : Fin 4096) (l : Fin 1024), f ⟨j, by omega⟩ (ix2 k l) = d (ix3 j k l))
    (hu : ∀ (k : Fin 4096) (l : Fin 1024), f 4 (ix2 k l) = u (ix2 k l))
    (hz : ∀ (k : Fin 4096) (l : Fin 1024), f 5 (ix2 k l) = z (ix2 k l))
    (h : Shape.Concatenates ((List.ofFn fun n : Fin 6 => (⟨Sp, f n⟩ : (s : Shape) × (s.Idx → EReal))).map (·.1)) Sc 1)
    (k : Fin 4096) (q : Fin 6144) :
    concatenate Sc 1 (List.ofFn fun n : Fin 6 => (⟨Sp, f n⟩ : (s : Shape) × (s.Idx → EReal))) h (ix2 k q) = cot d u z k q.val := by
  have hq := q.isLt
  let l : Fin 1024 := ⟨q.val % 1024, Nat.mod_lt _ (by decide)⟩
  have hl : l.val = q.val % 1024 := rfl
  rcases Nat.lt_or_ge q.val 4096 with h1 | h1
  · let j : Fin 4 := ⟨q.val / 1024, by omega⟩
    have hj : j.val = q.val / 1024 := rfl
    rw [six_apply f h k q ⟨j, by omega⟩ l (by show q.val = j.val * 1024 + l.val; omega), hd, cot_stack d u z k q.val j l (by omega)]
  · rcases Nat.lt_or_ge q.val 5120 with h2 | h2
    · rw [six_apply f h k q 4 l (by show q.val = 4 * 1024 + l.val; omega), hu, cot_input d u z k q.val l (by omega)]
    · rw [six_apply f h k q 5 l (by show q.val = 5 * 1024 + l.val; omega), hz, cot_gate d u z k q.val l (by omega)]

end Cert.DwIn

end
-- ==== Proof.DwEarly.lean ====
/-
  The first call of the gradient of the input projection's weights: the parts of six devices,
  whose columns hold nothing of the scan's input. Each grid point writes one tile.
-/
module

public import proofs.«01_k».proof.Defs
public import proofs.«01_k».proof.Proof.DwIn
public import proofs.«01_k».proof.Proof.Gen.DwEarly.Frame
public import proofs.«01_k».proof.Proof.Gen.DwEarlyIdeal.Value
public import proofs.«01_k».proof.Proof.Gen.DwEarlyRefIdeal.Read
public import Idealize.ShloMosaic.Lib.Pointwise
public import Idealize.ShloMosaic.Lib.Pipeline.ValueKit
public import Idealize.ShloMosaic.Lib.Quiescent

@[expose] public section

set_option maxRecDepth 16384

noncomputable section

namespace Cert.DwEarlyIdeal.Hand

open Cert.DwEarlyIdeal Cert.DwEarlyIdeal.Gen Idealize.ShloMosaic Idealize.ShloMosaic.TcCoe
open Idealize.ShloMosaic.Pipeline (Dat)

/-- A tile from a stacked piece. -/
theorem stack_at (x : FVec Ideal S1024x4096 .bf16) (y : FVec Ideal S1x4096x256 .bf16) (u : Fin 1) (r : Fin 1024) (l : Fin 256) :
    k0_pay1 (F := Ideal) x y (ix3 u r l) = ∑ k : Fin 4096, x (ix2 r k) * y (ix3 0 k l) := by
  pointwise [k0_pay1]

/-- A tile from the gate's piece. -/
theorem gate_at (x : FVec Ideal S1024x4096 .bf16) (y : FVec Ideal S4096x256 .bf16) (u : Fin 1) (r : Fin 1024) (l : Fin 256) :
    k0_pay2 (F := Ideal) x y (ix3 u r l) = ∑ k : Fin 4096, x (ix2 r k) * y (ix2 k l) := by
  pointwise [k0_pay2]

theorem out_A (c : Dev nD) (i : grid0.Coords) (a2 : Memref sig .tc .vmem S1024x4096 .bf16) (h2 : a2.IsWhole) (a3 : Memref sig .tc .vmem S1x4096x256 .bf16) (h3 : a3.IsWhole)
    (a4 : Memref sig .tc .vmem S4096x256 .bf16) (h4 : a4.IsWhole) (a5 : Memref sig .tc .vmem S1x1024x256 .bf16) (h5 : a5.IsWhole) (hc0 : cond0_0 i) (hc1 : ¬cond0_1 i)
    (x0 : Vec Ideal S1024x4096 .bf16) (x1 : Vec Ideal S1x4096x256 .bf16) (x2 : Vec Ideal S4096x256 .bf16) :
    out0_A_3 (F := Ideal) c i a2 h2 a3 h3 a4 h4 a5 h5 hc0 hc1 x0 x1 x2 = k0_pay1 (F := Ideal) x0 x1 := by
  unfold out0_A_3
  rw [View.read_writes_eq_canon _ _ _ (cover0_A_3 c i a2 h2 a3 h3 a4 h4 a5 h5 hc0 hc1 x0 x1 x2)]
  unfold kernelRun0_A
  dsimp only
  rw [View.canon_unit_zero (by funext a; fin_cases a <;> rfl)]
  simp only [View.readAt_eq_ld, h2.read_unread, h3.read_unread]
  rw [View.ld_unit_zero (by funext a; fin_cases a <;> rfl), View.ld_unit_zero (by funext a; fin_cases a <;> rfl)]

theorem out_B (c : Dev nD) (i : grid0.Coords) (a2 : Memref sig .tc .vmem S1024x4096 .bf16) (h2 : a2.IsWhole) (a3 : Memref sig .tc .vmem S1x4096x256 .bf16) (h3 : a3.IsWhole)
    (a4 : Memref sig .tc .vmem S4096x256 .bf16) (h4 : a4.IsWhole) (a5 : Memref sig .tc .vmem S1x1024x256 .bf16) (h5 : a5.IsWhole) (hc0 : ¬cond0_0 i) (hc1 : cond0_1 i)
    (x0 : Vec Ideal S1024x4096 .bf16) (x1 : Vec Ideal S1x4096x256 .bf16) (x2 : Vec Ideal S4096x256 .bf16) :
    out0_B_3 (F := Ideal) c i a2 h2 a3 h3 a4 h4 a5 h5 hc0 hc1 x0 x1 x2 = k0_pay2 (F := Ideal) x0 x2 := by
  unfold out0_B_3
  rw [View.read_writes_eq_canon _ _ _ (cover0_B_3 c i a2 h2 a3 h3 a4 h4 a5 h5 hc0 hc1 x0 x1 x2)]
  unfold kernelRun0_B
  dsimp only
  rw [View.canon_unit_zero (by funext a; fin_cases a <;> rfl)]
  simp only [View.readAt_eq_ld, h2.read_unread, h4.read_unread]
  rw [View.ld_unit_zero (by funext a; fin_cases a <;> rfl), View.ld_unit_zero (by funext a; fin_cases a <;> rfl)]

variable (m : (ℓ : Loc nD τ sig) → Buf (Elt Ideal) ℓ)

/-- The block of 256 columns point `t` writes. -/
def blockOf (t : Nat) : Nat := if t % 18 ≤ 14 then t % 18 else t % 18 + 6

theorem idx_facts : ∀ t : Fin grid0.N,
    (win0_0.index t 0 = t.val / 18 ∧ win0_0.index t 1 = 0)
    ∧ (t.val % 18 ≤ 14 → win0_1.index t 0 * 4 + win0_1.index t 2 = blockOf t ∧ win0_1.index t 1 = 0 ∧ win0_1.index t 0 < 4 ∧ win0_1.index t 2 < 4)
    ∧ (¬t.val % 18 ≤ 14 → win0_2.index t 0 = 0 ∧ win0_2.index t 1 + 20 = blockOf t ∧ win0_2.index t 1 < 4)
    ∧ (win0_3.index t 0 * 3 + win0_3.index t 2 = blockOf t ∧ win0_3.index t 1 = t.val / 18 ∧ win0_3.index t 0 < 8 ∧ win0_3.index t 2 < 3) := by
  decide +kernel

theorem blk0 (c : Dev nD) (t : Fin grid0.N) (r : Fin 1024) (k : Fin 4096) :
    iblk m c 0 t (ix2 r k) = m ((c : Thread nD τ).loc main_arg0) (ix2 ⟨t / 18 * 1024 + r, by have := t.isLt; have := N_0; omega⟩ k) := by
  have e := (idx_facts t).1
  show V m c (Pipeline.arrRef spec0 0) ((win0_0.rect t).emb (ix2 r k)) = _
  refine (congrArg (V m c main_arg0) ?_).trans (congrFun (V_main_arg0 m c) _)
  funext a; apply Fin.ext; rw [win0_0.rect_emb_val]
  fin_cases a
  · show win0_0.index t 0 * 1024 + r.val = t.val / 18 * 1024 + r.val; rw [e.1]
  · show win0_0.index t 1 * 4096 + k.val = k.val; rw [e.2]; omega

theorem blk1 (c : Dev nD) (t : Fin grid0.N) (ht : t.val % 18 ≤ 14) (k : Fin 4096) (l : Fin 256) :
    iblk m c 1 t (ix3 0 k l) = m ((c : Thread nD τ).loc main_arg1)
      (ix3 ⟨win0_1.index t 0, ((idx_facts t).2.1 ht).2.2.1⟩ k ⟨win0_1.index t 2 * 256 + l, by have := ((idx_facts t).2.1 ht).2.2.2; omega⟩) := by
  have e := (idx_facts t).2.1 ht
  show V m c (Pipeline.arrRef spec0 1) ((win0_1.rect t).emb (ix3 0 k l)) = _
  refine (congrArg (V m c main_arg1) ?_).trans (congrFun (V_main_arg1 m c) _)
  funext a; apply Fin.ext; rw [win0_1.rect_emb_val]
  fin_cases a
  · show win0_1.index t 0 * 1 + 0 = win0_1.index t 0; omega
  · show win0_1.index t 1 * 4096 + k.val = k.val; rw [e.2.1]; omega
  · rfl

theorem blk2 (c : Dev nD) (t : Fin grid0.N) (ht : ¬t.val % 18 ≤ 14) (k : Fin 4096) (l : Fin 256) :
    iblk m c 2 t (ix2 k l) = m ((c : Thread nD τ).loc main_arg2)
      (ix2 k ⟨win0_2.index t 1 * 256 + l, by have := ((idx_facts t).2.2.1 ht).2.2; omega⟩) := by
  have e := (idx_facts t).2.2.1 ht
  show V m c (Pipeline.arrRef spec0 2) ((win0_2.rect t).emb (ix2 k l)) = _
  refine (congrArg (V m c main_arg2) ?_).trans (congrFun (V_main_arg2 m c) _)
  funext a; apply Fin.ext; rw [win0_2.rect_emb_val]
  fin_cases a
  · show win0_2.index t 0 * 4096 + k.val = k.val; rw [e.1]; omega
  · rfl

/-- The tile point `t` leaves. -/
theorem tile (c : Dev nD) (u : DwIn.Sp.Idx → EReal) (t : Fin cfg0.N) (i : Fin 1) (r : Fin 1024) (l : Fin 256) :
    outsAt0 m c t.val t.isLt (ix3 i r l) = DwIn.entry (m ((c : Thread nD τ).loc main_arg0)) (m ((c : Thread nD τ).loc main_arg1)) u
      (m ((c : Thread nD τ).loc main_arg2)) ⟨t / 18 * 1024 + r, by have : t.val < grid0.N := t.isLt; have := N_0; omega⟩ (blockOf t * 256 + l) := by
  by_cases h0 : t.val % 18 ≤ 14
  · have e := (idx_facts t).2.1 h0
    rw [outsAt0_A m c t h0 (by omega), out_A]
    refine (stack_at _ _ i r l).trans (Finset.sum_congr rfl fun k _ => ?_)
    rw [DwIn.cot_stack _ u _ k _ ⟨win0_1.index t 0, e.2.2.1⟩ ⟨win0_1.index t 2 * 256 + l, by have := e.2.2.2; omega⟩
      (by show blockOf t * 256 + l.val = win0_1.index t 0 * 1024 + (win0_1.index t 2 * 256 + l.val); have := e.1; omega)]
    exact congrArg₂ (· * ·) (blk0 m c t r k) (blk1 m c t h0 k l)
  · have e := (idx_facts t).2.2.1 h0
    rw [outsAt0_B m c t h0 (by omega), out_B]
    refine (gate_at _ _ i r l).trans (Finset.sum_congr rfl fun k _ => ?_)
    rw [DwIn.cot_gate _ u _ k _ ⟨win0_2.index t 1 * 256 + l, by have := e.2.2; omega⟩
      (by show blockOf t * 256 + l.val = 5120 + (win0_2.index t 1 * 256 + l.val); have := e.2.1; omega)]
    exact congrArg₂ (· * ·) (blk0 m c t r k) (blk2 m c t h0 k l)

/-- The parts this call writes hold the gradient. -/
theorem arr (c : Dev nD) (u : DwIn.Sp.Idx → EReal) (i : S8x2048x768.Idx) (hi : (i 0).val < 5 ∨ (i 0).val = 7) :
    (dats m 0 c).arrAt 3 cfg0.N i
      = DwIn.grad (m ((c : Thread nD τ).loc main_arg0)) (m ((c : Thread nD τ).loc main_arg1)) u (m ((c : Thread nD τ).loc main_arg2)) i := by
  refine ((dats m 0 c).arrAt_apply_of_coversWhere 3
      (DwIn.grad (m ((c : Thread nD τ).loc main_arg0)) (m ((c : Thread nD τ).loc main_arg1)) u (m ((c : Thread nD τ).loc main_arg2)))
      (P := fun i : S8x2048x768.Idx => (i 0).val / 1 < 5 ∨ (i 0).val / 1 = 7)
      (fun β => β (0 : Fin 3) < 5 ∨ β (0 : Fin 3) = 7) (by decide +kernel) (fun t hf y => ?_) (fun j => Iff.rfl) i).trans
      (if_pos (by rw [Nat.div_one]; exact hi))
  obtain ⟨e0, e1, e2, e3⟩ := (idx_facts t).2.2.2
  blk_simp
  rw [after0_3]
  have h0 : (y 0).val = 0 := by have : (y 0).val < 1 := (y 0).isLt; omega
  have h1 : (y 1).val < 1024 := (y 1).isLt
  have h2 : (y 2).val < 256 := (y 2).isLt
  have ht : t.val < grid0.N := t.isLt
  have hN : grid0.N = 36 := N_0
  refine ((congrArg _ (eq_ix3 y)).trans (tile m c u t (y 0) (y 1) (y 2))).trans ?_
  have hy : (win0_3.rect t).emb y = (ix3 ⟨win0_3.index t 0, e2⟩ ⟨t / 18 * 1024 + (y 1).val, by omega⟩ ⟨win0_3.index t 2 * 256 + (y 2).val, by omega⟩ : S8x2048x768.Idx) := by
    funext a; apply Fin.ext; rw [win0_3.rect_emb_val]
    fin_cases a
    · show win0_3.index t 0 * 1 + (y 0).val = win0_3.index t 0; omega
    · show win0_3.index t 1 * 1024 + (y 1).val = t.val / 18 * 1024 + (y 1).val; rw [e1]
    · rfl
  refine Eq.trans ?_ (congrArg (DwIn.grad (m ((c : Thread nD τ).loc main_arg0)) (m ((c : Thread nD τ).loc main_arg1)) u (m ((c : Thread nD τ).loc main_arg2))) hy).symm
  refine congrArg (DwIn.entry _ _ _ _ _) ?_
  show blockOf t * 256 + (y 2).val = win0_3.index t 0 * 768 + (win0_3.index t 2 * 256 + (y 2).val)
  omega

end Cert.DwEarlyIdeal.Hand

namespace Cert.DwEarlyRefIdeal.Hand

open Cert.DwEarlyRefIdeal Cert.DwEarlyRefIdeal.Gen Cert.DwEarlyRefIdeal.Read Idealize.ShloMosaic Idealize.ShloMosaic.TcCoe

/-- The derivative of the product in the weights is the same sum. -/
theorem ref (h : FVec Ideal S2048x4096 .bf16) (d : FVec Ideal S4x4096x1024 .bf16) (z : FVec Ideal S4096x1024 .bf16) :
    val_main_v23 (F := Ideal) h d z = Cert.DwIn.grad h d (val_main_v8 (F := Ideal)) z := by
  funext i
  obtain ⟨p, r, q, rfl⟩ : ∃ (p : Fin 8) (r : Fin 2048) (q : Fin 768), i = ix3 p r q :=
    ⟨i 0, i 1, i 2, by funext a; fin_cases a <;> rfl⟩
  rw [val_main_v23_apply, val_main_v22_apply, val_main_v21_apply, Ideal.truncf_def, val_main_v20_apply, val_main_v19_apply]
  unfold Cert.DwIn.grad Cert.DwIn.entry
  refine Finset.sum_congr rfl fun k _ => ?_
  rw [val_main_v10_apply, val_main_v9_apply, Ideal.extf_def, mul_comm]
  have ea : idx_main_v10 (ridx_main_v19 (idx_main_v20 (idx_main_v22 (idx_main_v23 (ix3 p r q)))) k) = (ix2 r k : S2048x4096.Idx) := by
    funext a; apply Fin.ext
    fin_cases a
    · show ((r.val * 8 + p.val) * 768 + q.val) / 6144 = r.val; omega
    · rfl
  have eb : lidx_main_v19 (idx_main_v20 (idx_main_v22 (idx_main_v23 (ix3 p r q)))) k = (ix2 k ⟨p.val * 768 + q.val, by omega⟩ : S4096x6144.Idx) := by
    funext a; apply Fin.ext
    fin_cases a
    · rfl
    · show ((r.val * 8 + p.val) * 768 + q.val) % 6144 = p.val * 768 + q.val; omega
  refine congrArg₂ (· * ·) (congrArg h ea) ((congrArg _ eb).trans ?_)
  unfold val_main_v16
  exact Cert.DwIn.six_eq_cot d (val_main_v8 (F := Ideal)) z
    ![val_main_v11 (F := Ideal) d, val_main_v12 (F := Ideal) d, val_main_v13 (F := Ideal) d, val_main_v14 (F := Ideal) d, val_main_v8 (F := Ideal), val_main_v15 (F := Ideal) z]
    (fun j k l => by fin_cases j <;> pointwise [val_main_v11, val_main_v12, val_main_v13, val_main_v14, val_main_v0, val_main_v1, val_main_v2, val_main_v3, val_main_v4, val_main_v5, val_main_v6, val_main_v7])
    (fun k l => rfl) (fun k l => rfl) _ k ⟨p.val * 768 + q.val, by omega⟩

end Cert.DwEarlyRefIdeal.Hand

namespace Cert.DwEarlyClaims

open Idealize.ShloMosaic Idealize.SL.Sem

theorem frame_k : Cert.quiescent_DwEarly := fun m ρ _ => Cert.DwEarly.Gen.frame m ρ
theorem frame_ki : Cert.quiescent_DwEarlyIdeal := fun m ρ _ => Cert.DwEarlyIdeal.Gen.frame m ρ
theorem frame_ri : Cert.quiescent_DwEarlyRefIdeal := fun m ρ _ =>
  (θ_run Cert.DwEarlyRefIdeal.defs _ _).mono (fun r h => ⟨fun c => (h c).2, sem_eq_zero_of_no_sems (by decide) r.2⟩)
    (Cert.DwEarlyRefIdeal.Value.run (F := Ideal) m ρ)

/-- The mask holds on the parts of the devices this call serves. -/
theorem mask_iff [Cert.On_early_parts.Facts] (a : FVec Ideal Cert.On_early_parts.S2048x4096 .bf16) (b : FVec Ideal Cert.On_early_parts.S4x4096x1024 .bf16)
    (d : FVec Ideal Cert.On_early_parts.S4096x1024 .bf16) (i : Cert.On_early_parts.S8x2048x768.Idx) :
    Cert.On_early_parts.fn (F := Ideal) a b d i = 1#1 ↔ (i 0).val < 5 ∨ (i 0).val = 7 := by
  have key : ∀ r < 8, IntOp.ori (IntOp.cmpi .slt (BitVec.ofNat 32 r) 5#32) (IntOp.cmpi .eq (BitVec.ofNat 32 r) 7#32) = 1#1 ↔ r < 5 ∨ r = 7 := by decide
  exact key _ (i 0).isLt

/-- Both end at the gradient, on those parts. -/
theorem algebraic [Cert.On_early_parts.Facts] : Cert.algebraic_DwEarlyIdeal_DwEarlyRefIdeal_on_early_parts := by
  intro m ρ m' ρ' _ hagree
  refine ⟨fun c => Cert.DwIn.grad _ _ _ _, (θ_run Cert.DwEarlyIdeal.defs _ _).mono (fun _ h c =>
      ⟨fun i hi => (congrFun (h c).1 i).trans (Cert.DwEarlyIdeal.Hand.arr m c (Cert.DwEarlyRefIdeal.Read.val_main_v8 (F := Ideal)) i ((mask_iff _ _ _ i).mp hi)), (h c).2⟩)
      (Cert.DwEarlyIdeal.Value.run_blocks (F := Ideal) m ρ), ?_⟩
  refine (θ_run Cert.DwEarlyRefIdeal.defs _ _).mono (fun _ h c =>
      ⟨fun i _ => congrFun ((h c).1.trans ((Cert.DwEarlyRefIdeal.Read.val_main_v23_eq _ _ _).trans ?_)) i, (h c).2⟩)
      (Cert.DwEarlyRefIdeal.Value.run (F := Ideal) m' ρ')
  rw [(hagree c).1, (hagree c).2.1, (hagree c).2.2]
  exact Cert.DwEarlyRefIdeal.Hand.ref _ _ _

end Cert.DwEarlyClaims

end
-- ==== Proof.DwLate.lean ====
/-
  The second call of the gradient of the input projection's weights: the parts of the two devices
  whose columns hold the scan's input. Each grid point writes one tile.
-/
module

public import proofs.«01_k».proof.Defs
public import proofs.«01_k».proof.Proof.DwIn
public import proofs.«01_k».proof.Proof.Gen.DwLate.Frame
public import proofs.«01_k».proof.Proof.Gen.DwLateIdeal.Value
public import proofs.«01_k».proof.Proof.Gen.DwLateRefIdeal.Read
public import Idealize.ShloMosaic.Lib.Pointwise
public import Idealize.ShloMosaic.Lib.Pipeline.ValueKit
public import Idealize.ShloMosaic.Lib.Quiescent

@[expose] public section

set_option maxRecDepth 16384

noncomputable section

namespace Cert.DwLateIdeal.Hand

open Cert.DwLateIdeal Cert.DwLateIdeal.Gen Idealize.ShloMosaic Idealize.ShloMosaic.TcCoe
open Idealize.ShloMosaic.Pipeline (Dat)

/-- A tile from a stacked piece. -/
theorem stack_at (x : FVec Ideal S1024x4096 .bf16) (y : FVec Ideal S1x4096x256 .bf16) (u : Fin 1) (r : Fin 1024) (l : Fin 256) :
    k0_pay1 (F := Ideal) x y (ix3 u r l) = ∑ k : Fin 4096, x (ix2 r k) * y (ix3 0 k l) := by
  pointwise [k0_pay1]

/-- A tile from the scan's input. -/
theorem input_at (x : FVec Ideal S1024x4096 .bf16) (y : FVec Ideal S4096x256 .bf16) (u : Fin 1) (r : Fin 1024) (l : Fin 256) :
    k0_pay2 (F := Ideal) x y (ix3 u r l) = ∑ k : Fin 4096, x (ix2 r k) * y (ix2 k l) := by
  pointwise [k0_pay2]

/-- A tile from the gate's piece. -/
theorem gate_at (x : FVec Ideal S1024x4096 .bf16) (y : FVec Ideal S4096x256 .bf16) (u : Fin 1) (r : Fin 1024) (l : Fin 256) :
    k0_pay3 (F := Ideal) x y (ix3 u r l) = ∑ k : Fin 4096, x (ix2 r k) * y (ix2 k l) :=
  input_at x y u r l

theorem out_A (c : Dev nD) (i : grid0.Coords) (a2 : Memref sig .tc .vmem S1024x4096 .bf16) (h2 : a2.IsWhole) (a3 : Memref sig .tc .vmem S1x4096x256 .bf16) (h3 : a3.IsWhole)
    (a4 : Memref sig .tc .vmem S4096x256 .bf16) (h4 : a4.IsWhole) (a5 : Memref sig .tc .vmem S4096x256 .bf16) (h5 : a5.IsWhole) (a6 : Memref sig .tc .vmem S1x1024x256 .bf16) (h6 : a6.IsWhole) (hc0 : cond0_0 i) (hc1 : ¬cond0_1 i) (hc2 : ¬cond0_2 i)
    (x0 : Vec Ideal S1024x4096 .bf16) (x1 : Vec Ideal S1x4096x256 .bf16) (x2 x3 : Vec Ideal S4096x256 .bf16) :
    out0_A_4 (F := Ideal) c i a2 h2 a3 h3 a4 h4 a5 h5 a6 h6 hc0 hc1 hc2 x0 x1 x2 x3 = k0_pay1 (F := Ideal) x0 x1 := by
  unfold out0_A_4
  rw [View.read_writes_eq_canon _ _ _ (cover0_A_4 c i a2 h2 a3 h3 a4 h4 a5 h5 a6 h6 hc0 hc1 hc2 x0 x1 x2 x3)]
  unfold kernelRun0_A
  dsimp only
  rw [View.canon_unit_zero (by funext a; fin_cases a <;> rfl)]
  simp only [View.readAt_eq_ld, h2.read_unread, h3.read_unread]
  rw [View.ld_unit_zero (by funext a; fin_cases a <;> rfl), View.ld_unit_zero (by funext a; fin_cases a <;> rfl)]

theorem out_B (c : Dev nD) (i : grid0.Coords) (a2 : Memref sig .tc .vmem S1024x4096 .bf16) (h2 : a2.IsWhole) (a3 : Memref sig .tc .vmem S1x4096x256 .bf16) (h3 : a3.IsWhole)
    (a4 : Memref sig .tc .vmem S4096x256 .bf16) (h4 : a4.IsWhole) (a5 : Memref sig .tc .vmem S4096x256 .bf16) (h5 : a5.IsWhole) (a6 : Memref sig .tc .vmem S1x1024x256 .bf16) (h6 : a6.IsWhole) (hc0 : ¬cond0_0 i) (hc1 : cond0_1 i) (hc2 : ¬cond0_2 i)
    (x0 : Vec Ideal S1024x4096 .bf16) (x1 : Vec Ideal S1x4096x256 .bf16) (x2 x3 : Vec Ideal S4096x256 .bf16) :
    out0_B_4 (F := Ideal) c i a2 h2 a3 h3 a4 h4 a5 h5 a6 h6 hc0 hc1 hc2 x0 x1 x2 x3 = k0_pay2 (F := Ideal) x0 x2 := by
  unfold out0_B_4
  rw [View.read_writes_eq_canon _ _ _ (cover0_B_4 c i a2 h2 a3 h3 a4 h4 a5 h5 a6 h6 hc0 hc1 hc2 x0 x1 x2 x3)]
  unfold kernelRun0_B
  dsimp only
  rw [View.canon_unit_zero (by funext a; fin_cases a <;> rfl)]
  simp only [View.readAt_eq_ld, h2.read_unread, h4.read_unread]
  rw [View.ld_unit_zero (by funext a; fin_cases a <;> rfl), View.ld_unit_zero (by funext a; fin_cases a <;> rfl)]

theorem out_C (c : Dev nD) (i : grid0.Coords) (a2 : Memref sig .tc .vmem S1024x4096 .bf16) (h2 : a2.IsWhole) (a3 : Memref sig .tc .vmem S1x4096x256 .bf16) (h3 : a3.IsWhole)
    (a4 : Memref sig .tc .vmem S4096x256 .bf16) (h4 : a4.IsWhole) (a5 : Memref sig .tc .vmem S4096x256 .bf16) (h5 : a5.IsWhole) (a6 : Memref sig .tc .vmem S1x1024x256 .bf16) (h6 : a6.IsWhole) (hc0 : ¬cond0_0 i) (hc1 : ¬cond0_1 i) (hc2 : cond0_2 i)
    (x0 : Vec Ideal S1024x4096 .bf16) (x1 : Vec Ideal S1x4096x256 .bf16) (x2 x3 : Vec Ideal S4096x256 .bf16) :
    out0_C_4 (F := Ideal) c i a2 h2 a3 h3 a4 h4 a5 h5 a6 h6 hc0 hc1 hc2 x0 x1 x2 x3 = k0_pay3 (F := Ideal) x0 x3 := by
  unfold out0_C_4
  rw [View.read_writes_eq_canon _ _ _ (cover0_C_4 c i a2 h2 a3 h3 a4 h4 a5 h5 a6 h6 hc0 hc1 hc2 x0 x1 x2 x3)]
  unfold kernelRun0_C
  dsimp only
  rw [View.canon_unit_zero (by funext a; fin_cases a <;> rfl)]
  simp only [View.readAt_eq_ld, h2.read_unread, h5.read_unread]
  rw [View.ld_unit_zero (by funext a; fin_cases a <;> rfl), View.ld_unit_zero (by funext a; fin_cases a <;> rfl)]

variable (m : (ℓ : Loc nD τ sig) → Buf (Elt Ideal) ℓ)

theorem idx_facts : ∀ t : Fin grid0.N,
    (win0_0.index t 0 = t.val / 6 ∧ win0_0.index t 1 = 0)
    ∧ (t.val % 6 = 0 → win0_1.index t 0 = 3 ∧ win0_1.index t 1 = 0 ∧ win0_1.index t 2 = 3)
    ∧ ((1 ≤ t.val % 6 ∧ t.val % 6 ≤ 4) → win0_2.index t 0 = 0 ∧ win0_2.index t 1 + 1 = t.val % 6)
    ∧ (t.val % 6 = 5 → win0_3.index t 0 = 0 ∧ win0_3.index t 1 = 0)
    ∧ (win0_4.index t 0 * 3 + win0_4.index t 2 = t.val % 6 + 15 ∧ win0_4.index t 1 = t.val / 6 ∧ win0_4.index t 0 < 8 ∧ win0_4.index t 2 < 3) := by
  decide +kernel

theorem blk0 (c : Dev nD) (t : Fin grid0.N) (r : Fin 1024) (k : Fin 4096) :
    iblk m c 0 t (ix2 r k) = m ((c : Thread nD τ).loc main_arg0) (ix2 ⟨t / 6 * 1024 + r, by have := t.isLt; have := N_0; omega⟩ k) := by
  have e := (idx_facts t).1
  show V m c (Pipeline.arrRef spec0 0) ((win0_0.rect t).emb (ix2 r k)) = _
  refine (congrArg (V m c main_arg0) ?_).trans (congrFun (V_main_arg0 m c) _)
  funext a; apply Fin.ext; rw [win0_0.rect_emb_val]
  fin_cases a
  · show win0_0.index t 0 * 1024 + r.val = t.val / 6 * 1024 + r.val; rw [e.1]
  · show win0_0.index t 1 * 4096 + k.val = k.val; rw [e.2]; omega

theorem blk1 (c : Dev nD) (t : Fin grid0.N) (ht : t.val % 6 = 0) (k : Fin 4096) (l : Fin 256) :
    iblk m c 1 t (ix3 0 k l) = m ((c : Thread nD τ).loc main_arg1) (ix3 3 k ⟨768 + l, by omega⟩) := by
  have e := (idx_facts t).2.1 ht
  show V m c (Pipeline.arrRef spec0 1) ((win0_1.rect t).emb (ix3 0 k l)) = _
  refine (congrArg (V m c main_arg1) ?_).trans (congrFun (V_main_arg1 m c) _)
  funext a; apply Fin.ext; rw [win0_1.rect_emb_val]
  fin_cases a
  · show win0_1.index t 0 * 1 + 0 = 3; omega
  · show win0_1.index t 1 * 4096 + k.val = k.val; rw [e.2.1]; omega
  · show win0_1.index t 2 * 256 + l.val = 768 + l.val; rw [e.2.2]

theorem blk2 (c : Dev nD) (t : Fin grid0.N) (ht : 1 ≤ t.val % 6 ∧ t.val % 6 ≤ 4) (k : Fin 4096) (l : Fin 256) :
    iblk m c 2 t (ix2 k l) = m ((c : Thread nD τ).loc main_arg2) (ix2 k ⟨(t.val % 6 - 1) * 256 + l, by omega⟩) := by
  have e := (idx_facts t).2.2.1 ht
  show V m c (Pipeline.arrRef spec0 2) ((win0_2.rect t).emb (ix2 k l)) = _
  refine (congrArg (V m c main_arg2) ?_).trans (congrFun (V_main_arg2 m c) _)
  funext a; apply Fin.ext; rw [win0_2.rect_emb_val]
  fin_cases a
  · show win0_2.index t 0 * 4096 + k.val = k.val; rw [e.1]; omega
  · show win0_2.index t 1 * 256 + l.val = (t.val % 6 - 1) * 256 + l.val; have := e.2; omega

theorem blk3 (c : Dev nD) (t : Fin grid0.N) (ht : t.val % 6 = 5) (k : Fin 4096) (l : Fin 256) :
    iblk m c 3 t (ix2 k l) = m ((c : Thread nD τ).loc main_arg3) (ix2 k ⟨l, by omega⟩) := by
  have e := (idx_facts t).2.2.2.1 ht
  show V m c (Pipeline.arrRef spec0 3) ((win0_3.rect t).emb (ix2 k l)) = _
  refine (congrArg (V m c main_arg3) ?_).trans (congrFun (V_main_arg3 m c) _)
  funext a; apply Fin.ext; rw [win0_3.rect_emb_val]
  fin_cases a
  · show win0_3.index t 0 * 4096 + k.val = k.val; rw [e.1]; omega
  · show win0_3.index t 1 * 256 + l.val = l.val; rw [e.2]; omega

/-- The tile point `t` leaves. -/
theorem tile (c : Dev nD) (t : Fin cfg0.N) (i : Fin 1) (r : Fin 1024) (l : Fin 256) :
    outsAt0 m c t.val t.isLt (ix3 i r l) = DwIn.entry (m ((c : Thread nD τ).loc main_arg0)) (m ((c : Thread nD τ).loc main_arg1))
      (m ((c : Thread nD τ).loc main_arg2)) (m ((c : Thread nD τ).loc main_arg3))
      ⟨t / 6 * 1024 + r, by have : t.val < grid0.N := t.isLt; have := N_0; omega⟩ ((t % 6 + 15) * 256 + l) := by
  by_cases h0 : t.val % 6 = 0
  · rw [outsAt0_A m c t h0 (by omega) (by omega), out_A]
    refine (stack_at _ _ i r l).trans (Finset.sum_congr rfl fun k _ => ?_)
    rw [DwIn.cot_stack _ _ _ k _ 3 ⟨768 + l, by omega⟩ (by show (t.val % 6 + 15) * 256 + l.val = 3 * 1024 + (768 + l.val); omega)]
    exact congrArg₂ (· * ·) (blk0 m c t r k) (blk1 m c t h0 k l)
  by_cases h1 : t.val % 6 = 5
  · rw [outsAt0_C m c t h0 (by omega) h1, out_C]
    refine (gate_at _ _ i r l).trans (Finset.sum_congr rfl fun k _ => ?_)
    rw [DwIn.cot_gate _ _ _ k _ ⟨l, by omega⟩ (by show (t.val % 6 + 15) * 256 + l.val = 5120 + l.val; omega)]
    exact congrArg₂ (· * ·) (blk0 m c t r k) (blk3 m c t h1 k l)
  · have h2 : 1 ≤ t.val % 6 ∧ t.val % 6 ≤ 4 := by omega
    rw [outsAt0_B m c t h0 h2 h1, out_B]
    refine (input_at _ _ i r l).trans (Finset.sum_congr rfl fun k _ => ?_)
    rw [DwIn.cot_input _ _ _ k _ ⟨(t.val % 6 - 1) * 256 + l, by omega⟩
      (by show (t.val % 6 + 15) * 256 + l.val = 4096 + ((t.val % 6 - 1) * 256 + l.val); omega)]
    exact congrArg₂ (· * ·) (blk0 m c t r k) (blk2 m c t h2 k l)

/-- The parts this call writes hold the gradient. -/
theorem arr (c : Dev nD) (i : S8x2048x768.Idx) (hi : (i 0).val = 5 ∨ (i 0).val = 6) :
    (dats m 0 c).arrAt 4 cfg0.N i
      = DwIn.grad (m ((c : Thread nD τ).loc main_arg0)) (m ((c : Thread nD τ).loc main_arg1)) (m ((c : Thread nD τ).loc main_arg2)) (m ((c : Thread nD τ).loc main_arg3)) i := by
  refine ((dats m 0 c).arrAt_apply_of_coversWhere 4
      (DwIn.grad (m ((c : Thread nD τ).loc main_arg0)) (m ((c : Thread nD τ).loc main_arg1)) (m ((c : Thread nD τ).loc main_arg2)) (m ((c : Thread nD τ).loc main_arg3)))
      (P := fun i : S8x2048x768.Idx => (i 0).val / 1 = 5 ∨ (i 0).val / 1 = 6)
      (fun β => β (0 : Fin 3) = 5 ∨ β (0 : Fin 3) = 6) (by decide +kernel) (fun t hf y => ?_) (fun j => Iff.rfl) i).trans
      (if_pos (by rw [Nat.div_one]; exact hi))
  obtain ⟨e0, e1, e2, e3⟩ := (idx_facts t).2.2.2.2
  blk_simp
  rw [after0_4]
  have h0 : (y 0).val = 0 := by have : (y 0).val < 1 := (y 0).isLt; omega
  have h1 : (y 1).val < 1024 := (y 1).isLt
  have h2 : (y 2).val < 256 := (y 2).isLt
  have ht : t.val < grid0.N := t.isLt
  have hN : grid0.N = 12 := N_0
  refine ((congrArg _ (eq_ix3 y)).trans (tile m c t (y 0) (y 1) (y 2))).trans ?_
  have hy : (win0_4.rect t).emb y = (ix3 ⟨win0_4.index t 0, e2⟩ ⟨t / 6 * 1024 + (y 1).val, by omega⟩ ⟨win0_4.index t 2 * 256 + (y 2).val, by omega⟩ : S8x2048x768.Idx) := by
    funext a; apply Fin.ext; rw [win0_4.rect_emb_val]
    fin_cases a
    · show win0_4.index t 0 * 1 + (y 0).val = win0_4.index t 0; omega
    · show win0_4.index t 1 * 1024 + (y 1).val = t.val / 6 * 1024 + (y 1).val; rw [e1]
    · rfl
  refine Eq.trans ?_ (congrArg (DwIn.grad (m ((c : Thread nD τ).loc main_arg0)) (m ((c : Thread nD τ).loc main_arg1)) (m ((c : Thread nD τ).loc main_arg2)) (m ((c : Thread nD τ).loc main_arg3))) hy).symm
  refine congrArg (DwIn.entry _ _ _ _ _) ?_
  show (t.val % 6 + 15) * 256 + (y 2).val = win0_4.index t 0 * 768 + (win0_4.index t 2 * 256 + (y 2).val)
  omega

end Cert.DwLateIdeal.Hand

namespace Cert.DwLateRefIdeal.Hand

open Cert.DwLateRefIdeal Cert.DwLateRefIdeal.Gen Cert.DwLateRefIdeal.Read Idealize.ShloMosaic Idealize.ShloMosaic.TcCoe

/-- The derivative of the product in the weights is the same sum. -/
theorem ref (h : FVec Ideal S2048x4096 .bf16) (d : FVec Ideal S4x4096x1024 .bf16) (u z : FVec Ideal S4096x1024 .bf16) :
    val_main_v23 (F := Ideal) h d u z = Cert.DwIn.grad h d u z := by
  funext i
  obtain ⟨p, r, q, rfl⟩ : ∃ (p : Fin 8) (r : Fin 2048) (q : Fin 768), i = ix3 p r q :=
    ⟨i 0, i 1, i 2, by funext a; fin_cases a <;> rfl⟩
  rw [val_main_v23_apply, val_main_v22_apply, val_main_v21_apply, Ideal.truncf_def, val_main_v20_apply, val_main_v19_apply]
  unfold Cert.DwIn.grad Cert.DwIn.entry
  refine Finset.sum_congr rfl fun k _ => ?_
  rw [val_main_v9_apply, val_main_v8_apply, Ideal.extf_def, mul_comm]
  have ea : idx_main_v9 (ridx_main_v19 (idx_main_v20 (idx_main_v22 (idx_main_v23 (ix3 p r q)))) k) = (ix2 r k : S2048x4096.Idx) := by
    funext a; apply Fin.ext
    fin_cases a
    · show ((r.val * 8 + p.val) * 768 + q.val) / 6144 = r.val; omega
    · rfl
  have eb : lidx_main_v19 (idx_main_v20 (idx_main_v22 (idx_main_v23 (ix3 p r q)))) k = (ix2 k ⟨p.val * 768 + q.val, by omega⟩ : S4096x6144.Idx) := by
    funext a; apply Fin.ext
    fin_cases a
    · rfl
    · show ((r.val * 8 + p.val) * 768 + q.val) % 6144 = p.val * 768 + q.val; omega
  refine congrArg₂ (· * ·) (congrArg h ea) ((congrArg _ eb).trans ?_)
  unfold val_main_v16
  exact Cert.DwIn.six_eq_cot d u z
    ![val_main_v10 (F := Ideal) d, val_main_v11 (F := Ideal) d, val_main_v12 (F := Ideal) d, val_main_v13 (F := Ideal) d, val_main_v14 (F := Ideal) u, val_main_v15 (F := Ideal) z]
    (fun j k l => by fin_cases j <;> pointwise [val_main_v10, val_main_v11, val_main_v12, val_main_v13, val_main_v0, val_main_v1, val_main_v2, val_main_v3, val_main_v4, val_main_v5, val_main_v6, val_main_v7])
    (fun k l => rfl) (fun k l => rfl) _ k ⟨p.val * 768 + q.val, by omega⟩

end Cert.DwLateRefIdeal.Hand

namespace Cert.DwLateClaims

open Idealize.ShloMosaic Idealize.SL.Sem

theorem frame_k : Cert.quiescent_DwLate := fun m ρ _ => Cert.DwLate.Gen.frame m ρ
theorem frame_ki : Cert.quiescent_DwLateIdeal := fun m ρ _ => Cert.DwLateIdeal.Gen.frame m ρ
theorem frame_ri : Cert.quiescent_DwLateRefIdeal := fun m ρ _ =>
  (θ_run Cert.DwLateRefIdeal.defs _ _).mono (fun r h => ⟨fun c => (h c).2, sem_eq_zero_of_no_sems (by decide) r.2⟩)
    (Cert.DwLateRefIdeal.Value.run (F := Ideal) m ρ)

/-- The mask holds on the parts of the devices this call serves. -/
theorem mask_iff [Cert.On_late_parts.Facts] (a : FVec Ideal Cert.On_late_parts.S2048x4096 .bf16) (b : FVec Ideal Cert.On_late_parts.S4x4096x1024 .bf16)
    (d e : FVec Ideal Cert.On_late_parts.S4096x1024 .bf16) (i : Cert.On_late_parts.S8x2048x768.Idx) :
    Cert.On_late_parts.fn (F := Ideal) a b d e i = 1#1 ↔ (i 0).val = 5 ∨ (i 0).val = 6 := by
  have key : ∀ r < 8, IntOp.ori (IntOp.cmpi .eq (BitVec.ofNat 32 r) 5#32) (IntOp.cmpi .eq (BitVec.ofNat 32 r) 6#32) = 1#1 ↔ r = 5 ∨ r = 6 := by decide
  exact key _ (i 0).isLt

/-- Both end at the gradient, on those parts. -/
theorem algebraic [Cert.On_late_parts.Facts] : Cert.algebraic_DwLateIdeal_DwLateRefIdeal_on_late_parts := by
  intro m ρ m' ρ' _ hagree
  refine ⟨fun c => Cert.DwIn.grad _ _ _ _, (θ_run Cert.DwLateIdeal.defs _ _).mono (fun _ h c =>
      ⟨fun i hi => (congrFun (h c).1 i).trans (Cert.DwLateIdeal.Hand.arr m c i ((mask_iff _ _ _ _ i).mp hi)), (h c).2⟩)
      (Cert.DwLateIdeal.Value.run_blocks (F := Ideal) m ρ), ?_⟩
  refine (θ_run Cert.DwLateRefIdeal.defs _ _).mono (fun _ h c =>
      ⟨fun i _ => congrFun ((h c).1.trans ((Cert.DwLateRefIdeal.Read.val_main_v23_eq _ _ _ _).trans ?_)) i, (h c).2⟩)
      (Cert.DwLateRefIdeal.Value.run (F := Ideal) m' ρ')
  rw [(hagree c).1, (hagree c).2.1, (hagree c).2.2.1, (hagree c).2.2.2]
  exact Cert.DwLateRefIdeal.Hand.ref _ _ _ _

end Cert.DwLateClaims

end
-- ==== Proof.TailFrame.lean ====
/-
  The call of the gates, the output projection, the second norm and the loss: it leaves its
  arguments and its semaphores as they were, and its named constants are the real ones.
-/
module

public import proofs.«01_k».proof.Defs
public import proofs.«01_k».proof.Proof.Gen.Tail.Frame
public import proofs.«01_k».proof.Proof.Gen.TailIdeal.Frame
public import proofs.«01_k».proof.Proof.Gen.TailRefIdeal.Run
public import Idealize.ShloMosaic.Lib.Quiescent

@[expose] public section

noncomputable section

namespace Cert.TailClaims

open Idealize.ShloMosaic Idealize.SL.Sem

theorem frame_k : Cert.quiescent_Tail := fun m ρ _ => Cert.Tail.Gen.frame m ρ
theorem frame_ki : Cert.quiescent_TailIdeal := fun m ρ _ => Cert.TailIdeal.Gen.frame m ρ
theorem frame_ri : Cert.quiescent_TailRefIdeal := fun m ρ _ =>
  (θ_run Cert.TailRefIdeal.defs _ _).mono
    (fun r h => ⟨fun c => (h c).2.2.2.2.2.2.2.2.2.2.2, sem_eq_zero_of_no_sems (by decide) r.2⟩)
    (Cert.TailRefIdeal.Value.run (F := Ideal) m ρ)

theorem preserves : Cert.preserves_Tail_TailIdeal :=
  ⟨IdealRules.named_const.statement Cert.TailIdeal.κ "gelu" .f32 0x3D372713#32 ((8943/200000 : ℝ) : EReal) rfl,
    IdealRules.named_const.statement Cert.TailIdeal.κ "gelu3" .f32 0x3E095D4F#32 ((26829/200000 : ℝ) : EReal) rfl⟩

end Cert.TailClaims

end
-- ==== Proof.TailBlk.lean ====
/-
  The tail's grid point: the blocks it reads, and the kernel's own vector expressions of them.
-/
module

public import proofs.«01_k».proof.Proof.Gen.TailIdeal.Skeleton
public import Idealize.ShloMosaic.Lib.Pipeline.ValueKit

@[expose] public section

set_option maxRecDepth 16384

noncomputable section

namespace Cert.TailIdeal.Hand

open Cert.TailIdeal Cert.TailIdeal.Gen Idealize.ShloMosaic Idealize.ShloMosaic.TcCoe

/-- What one grid point reads: its rows of the residual, the targets, the gate input, the two branch
    outputs, the bias and the scale, and the two weight matrices. -/
structure Blk where
  x0 : Vec Ideal S256x2048 .f32
  x1 : Vec Ideal S8x32x2048 .f32
  x2 : Vec Ideal S256x1024 .bf16
  x3 : Vec Ideal S256x1024 .bf16
  x4 : Vec Ideal S256x1024 .f32
  x5 : Vec Ideal S1x1024 .f32
  x6 : Vec Ideal S1x2048 .f32
  w0 : Vec Ideal S1024x1024 .bf16
  w1 : Vec Ideal S2048x2048 .bf16

namespace Blk

variable (b : Blk)

def yg := k0_pay8 b.x4
def dgelu := k0_pay9 b.x4
def q := k0_pay10 b.x4 b.w0
def sq := k0_pay11 b.q b.x5
def y2 := k0_pay12 b.yg b.q b.x5
def zs := k0_pay13 b.x2
def sz := k0_pay14 b.x2
def silz := k0_pay15 b.x2
def o := k0_pay20 b.yg b.q b.x5 b.x2 b.x3 b.w1
def ms := k0_pay21 b.yg b.q b.x5 b.x2 b.x3 b.w1
def r := k0_pay23 b.ms k0_pay22
def on := k0_pay24 b.o b.ms k0_pay22
def dy := k0_pay27 b.o b.ms k0_pay22 b.x6 b.x0 b.x1
def dO := k0_pay31 b.r b.on b.x6 b.dy
def mixL := k0_pay18 b.x3
def mixR := k0_pay19 b.yg b.q b.x5 b.x2
def mixT : Vec Ideal S2048x256 .bf16 := View.canon [⟨Rect.unit ![1024, 0] ![1024, 256] inb_S2048x256_S1024x256_1024_0, b.mixR⟩, ⟨Rect.unit ![0, 0] ![1024, 256] inb_S2048x256_S1024x256_0_0, b.mixL⟩]
def dyc := k0_pay33 b.r b.on b.x6 b.dy b.w1
def ds := k0_pay35 b.silz b.r b.on b.x6 b.dy b.w1
def dz := k0_pay36 b.y2 b.zs b.sz b.r b.on b.x6 b.dy b.w1
def dq := k0_pay37 b.yg b.sq b.silz b.r b.on b.x6 b.dy b.w1
def dqOut := k0_pay38 b.yg b.sq b.silz b.r b.on b.x6 b.dy b.w1
def dyp := k0_pay3 b.dgelu b.sq b.ds b.dqOut b.w0
def ygT := k0_pay1 b.yg
def loss (acc : Vec Ideal S1x128 .f32) := k0_pay26 b.o b.ms k0_pay22 b.x6 b.x0 b.x1 acc
def dgp (acc : Vec Ideal S1x2048 .f32) := k0_pay30 (k0_pay28 acc) (k0_pay29 b.o b.ms k0_pay22 b.x6 b.x0 b.x1)
def dbg (acc : Vec Ideal S1x1024 .f32) := k0_pay2 b.dq acc

end Blk

end Cert.TailIdeal.Hand

end
-- ==== Proof.TailSpec.lean ====
/-
  The tail of the step, one row at a time: the gated activation and its gate, the mixed branches, the output
  projection, the normalised residual, the loss, and the gradients back through all of them.
-/
module

public import Idealize.ShloMosaic.Lib.Pointwise

@[expose] public section

noncomputable section

namespace Cert.Tail

open Idealize.ShloMosaic

/-- The words of one half, of the activation's slope, of 2048, of the norm's offset, and of 1/2048. -/
abbrev wHalf : EReal := Ideal.ofBits .f32 0x3F000000#32
abbrev wSlope : EReal := Ideal.ofBits .f32 0x3F4C422A#32
abbrev wLen : EReal := Ideal.ofBits .f32 0x45000000#32
abbrev wEps : EReal := Ideal.ofBits .f32 0x358637BD#32
abbrev wInv : EReal := Ideal.ofBits .f32 0x3A000000#32
/-- The activation's cubic coefficient, and three of it. -/
def cGelu : EReal := ((8943 / 200000 : ℝ) : EReal)
def cGelu3 : EReal := ((26829 / 200000 : ℝ) : EReal)

/-- The index of a left and of a right column of the two branches side by side. -/
abbrev lo (k : Fin 1024) : Fin 2048 := ⟨k, by omega⟩
abbrev hi (k : Fin 1024) : Fin 2048 := ⟨1024 + k, by omega⟩

/-- One row's residual, target, gate input, first branch and activation input, with the weights. -/
structure Row where
  x : Fin 2048 → EReal
  t : Fin 2048 → EReal
  z : Fin 1024 → EReal
  yc : Fin 1024 → EReal
  a : Fin 1024 → EReal
  wg : Fin 1024 → Fin 1024 → EReal
  bg : Fin 1024 → EReal
  wo : Fin 2048 → Fin 2048 → EReal
  g : Fin 2048 → EReal

namespace Row

variable (ρ : Row)

def th (j : Fin 1024) : EReal := Ideal.tanh (wSlope * (ρ.a j + cGelu * (ρ.a j * ρ.a j * ρ.a j)))
/-- The activation, and its derivative. -/
def yg (j : Fin 1024) : EReal := ρ.a j * (wHalf * (1 + ρ.th j))
def dgelu (j : Fin 1024) : EReal :=
  wHalf * (1 + ρ.th j) + wHalf * ρ.a j * (1 - ρ.th j * ρ.th j) * (wSlope * (1 + cGelu3 * ρ.a j * ρ.a j))
def q (j : Fin 1024) : EReal := ∑ k : Fin 1024, ρ.yg k * ρ.wg k j
/-- The gate. -/
def sq (j : Fin 1024) : EReal := Ideal.div 1 (1 + Ideal.exp (0 - (ρ.q j + ρ.bg j)))
def y2 (j : Fin 1024) : EReal := ρ.yg j * ρ.sq j
def sz (j : Fin 1024) : EReal := Ideal.div 1 (1 + Ideal.exp (0 - ρ.z j))
def silz (j : Fin 1024) : EReal := ρ.z j * ρ.sz j
def ys (j : Fin 1024) : EReal := ρ.y2 j * ρ.silz j
def o (n : Fin 2048) : EReal := ∑ k : Fin 1024, ρ.yc k * ρ.wo (lo k) n + ∑ k : Fin 1024, ρ.ys k * ρ.wo (hi k) n
def ms : EReal := ∑ n : Fin 2048, ρ.o n * ρ.o n
def r : EReal := Ideal.rsqrt (Ideal.div ρ.ms wLen + wEps)
def on (n : Fin 2048) : EReal := ρ.o n * ρ.r
def err (n : Fin 2048) : EReal := ρ.x n + ρ.on n * ρ.g n - ρ.t n
/-- The row's mean squared error. -/
def loss : EReal := Ideal.div (∑ n : Fin 2048, ρ.err n * ρ.err n) wLen
def dy (n : Fin 2048) : EReal := ρ.err n * wInv
def don (n : Fin 2048) : EReal := ρ.dy n * ρ.g n
def dO (n : Fin 2048) : EReal := ρ.r * (ρ.don n - ρ.on n * Ideal.div (∑ k : Fin 2048, ρ.don k * ρ.on k) wLen)
def dmix (k : Fin 2048) : EReal := ∑ n : Fin 2048, ρ.dO n * ρ.wo k n
def ds (j : Fin 1024) : EReal := ρ.dmix (hi j) * ρ.silz j
def dz (j : Fin 1024) : EReal := ρ.dmix (hi j) * ρ.y2 j * (ρ.sz j * (1 + ρ.z j * (1 - ρ.sz j)))
def dq (j : Fin 1024) : EReal := ρ.ds j * ρ.yg j * (ρ.sq j * (1 - ρ.sq j))
def dyp (j : Fin 1024) : EReal := (ρ.ds j * ρ.sq j + ∑ k : Fin 1024, ρ.dq k * ρ.wg j k) * ρ.dgelu j

/-- The two branches side by side. -/
def mix (k : Fin 2048) : EReal := if h : k.val < 1024 then ρ.yc ⟨k, h⟩ else ρ.ys ⟨k - 1024, by omega⟩

end Row

/-- Row `R` of the argument arrays; the targets hold it as row `R / 8` of chunk `R % 8`. -/
def rowOf (x0 : (⟨2, ![4096, 2048]⟩ : Shape).Idx → EReal) (x1 : (⟨3, ![8, 512, 2048]⟩ : Shape).Idx → EReal)
    (x2 : (⟨2, ![4096, 6144]⟩ : Shape).Idx → EReal) (x3 x4 : (⟨2, ![4096, 1024]⟩ : Shape).Idx → EReal)
    (x5 : (⟨2, ![1024, 1024]⟩ : Shape).Idx → EReal) (x6 : (⟨2, ![1, 1024]⟩ : Shape).Idx → EReal)
    (x7 : (⟨2, ![2048, 2048]⟩ : Shape).Idx → EReal) (x8 : (⟨2, ![1, 2048]⟩ : Shape).Idx → EReal) (R : Fin 4096) : Row where
  x n := x0 (ix2 R n)
  t n := x1 (ix3 ⟨R % 8, by omega⟩ ⟨R / 8, by omega⟩ n)
  z j := x2 (ix2 R ⟨5120 + j, by omega⟩)
  yc j := x3 (ix2 R j)
  a j := x4 (ix2 R j)
  wg k j := x5 (ix2 k j)
  bg j := x6 (ix2 0 j)
  wo k n := x7 (ix2 k n)
  g n := x8 (ix2 0 n)

end Cert.Tail

end
-- ==== Proof.TailPay.lean ====
/-
  The tail's vector expressions read at an index: each is the row's own number.
-/
module

public import proofs.«01_k».proof.Proof.TailBlk
public import proofs.«01_k».proof.Proof.TailSpec

@[expose] public section

set_option maxRecDepth 16384

noncomputable section

namespace Cert.TailIdeal.Hand

open Cert.TailIdeal Cert.TailIdeal.Gen Idealize.ShloMosaic Idealize.ShloMosaic.TcCoe Cert.Tail

namespace Blk

/-- Row `p` of what the point reads. -/
def row (b : Blk) (p : Fin 256) : Row where
  x n := b.x0 (ix2 p n)
  t n := b.x1 (ix3 ⟨p % 8, by omega⟩ ⟨p / 8, by omega⟩ n)
  z j := b.x2 (ix2 p j)
  yc j := b.x3 (ix2 p j)
  a j := b.x4 (ix2 p j)
  wg k j := b.w0 (ix2 k j)
  bg j := b.x5 (ix2 0 j)
  wo k n := b.w1 (ix2 k n)
  g n := b.x6 (ix2 0 n)

variable (b : Blk) (p : Fin 256) (u : Fin 1) (j : Fin 1024) (n : Fin 2048)

theorem named_gelu : Named.named (F := Ideal) κ "gelu" (φ := .f32) 1027024659#32 = cGelu :=
  IdealRules.named_const.ideal_named_scalar _ _ _ _ rfl
theorem named_gelu3 : Named.named (F := Ideal) κ "gelu3" (φ := .f32) 1040801103#32 = cGelu3 :=
  IdealRules.named_const.ideal_named_scalar _ _ _ _ rfl

theorem th_at : k0_pay7 (F := Ideal) b.x4 (ix2 p j) = (b.row p).th j := by
  pointwise [k0_pay7]
  rw [named_gelu]
  rfl

theorem yg_at : b.yg (ix2 p j) = (b.row p).yg j := by
  pointwise [yg, k0_pay8]
  rw [th_at]
  rfl

theorem dgelu_at : b.dgelu (ix2 p j) = (b.row p).dgelu j := by
  pointwise [dgelu, k0_pay9]
  rw [th_at, named_gelu3]
  rfl

theorem q_at : b.q (ix2 p j) = (b.row p).q j := by
  pointwise [q, k0_pay10]
  exact Finset.sum_congr rfl fun k _ => congrArg (· * b.w0 (ix2 k j)) (yg_at b p k)

theorem sq_at : b.sq (ix2 p j) = (b.row p).sq j := by
  pointwise [sq, k0_pay11]
  rw [q_at]
  rfl

theorem y2_at : b.y2 (ix2 p j) = (b.row p).y2 j := by
  pointwise [y2, k0_pay12]
  exact congrArg₂ (· * ·) (yg_at b p j) (sq_at b p j)

theorem sz_at : b.sz (ix2 p j) = (b.row p).sz j := by
  pointwise [sz, k0_pay14, k0_pay13]
  rfl

theorem zs_at : b.zs (ix2 p j) = (b.row p).z j := by
  pointwise [zs, k0_pay13]
  rfl

theorem silz_at : b.silz (ix2 p j) = (b.row p).silz j := by
  pointwise [silz, k0_pay15]
  exact congrArg₂ (· * ·) (zs_at b p j) (sz_at b p j)

theorem ys_at : k0_pay17 b.yg b.q b.x5 b.x2 (ix2 p j) = (b.row p).ys j := by
  pointwise [k0_pay17]
  exact congrArg₂ (· * ·) (y2_at b p j) (silz_at b p j)

theorem yc_at : k0_pay16 (F := Ideal) b.x3 (ix2 p j) = (b.row p).yc j := by
  pointwise [k0_pay16]
  rfl

theorem o_at : b.o (ix2 p n) = (b.row p).o n := by
  pointwise [o, k0_pay20]
  refine congrArg₂ (· + ·) (Finset.sum_congr rfl fun k _ => ?_) (Finset.sum_congr rfl fun k _ => ?_)
  · exact congrArg (· * b.w1 (ix2 (lo k) n)) (yc_at b p k)
  · exact congrArg (· * b.w1 (ix2 (hi k) n)) (ys_at b p k)

theorem ms_at : b.ms (ix2 p u) = (b.row p).ms := by
  pointwise [ms, k0_pay21]
  exact Finset.sum_congr rfl fun k _ => congrArg₂ (· * ·) (o_at b p k) (o_at b p k)

theorem r_at : b.r (ix2 p u) = (b.row p).r := by
  pointwise [r, k0_pay23, k0_pay22]
  rw [ms_at]
  rfl

theorem on_at : b.on (ix2 p n) = (b.row p).on n := by
  pointwise [on, k0_pay24]
  exact congrArg₂ (· * ·) (o_at b p n) (r_at b p 0)

theorem err_at : k0_pay25 b.o b.ms k0_pay22 b.x6 b.x0 b.x1 (ix2 p n) = (b.row p).err n := by
  pointwise [k0_pay25]
  exact congrArg (fun v => b.x0 (ix2 p n) + v * b.x6 (ix2 0 n) - b.x1 (ix3 ⟨p % 8, by omega⟩ ⟨p / 8, by omega⟩ n)) (on_at b p n)

theorem dy_at : b.dy (ix2 p n) = (b.row p).dy n := by
  pointwise [dy, k0_pay27]
  rw [err_at]
  rfl

theorem dO_at : b.dO (ix2 p n) = (b.row p).dO n := by
  pointwise [dO, k0_pay31]
  simp only [r_at, on_at, dy_at]
  rfl

theorem dmix_at : k0_pay32 b.r b.on b.x6 b.dy b.w1 (ix2 p n) = (b.row p).dmix n := by
  pointwise [k0_pay32]
  exact Finset.sum_congr rfl fun k _ => congrArg (· * b.w1 (ix2 n k)) (dO_at b p k)

theorem dyc_at : b.dyc (ix2 p j) = (b.row p).dmix (lo j) := by
  pointwise [dyc, k0_pay33]
  exact dmix_at b p (lo j)

theorem dright_at : k0_pay34 b.r b.on b.x6 b.dy b.w1 (ix2 p j) = (b.row p).dmix (hi j) := by
  pointwise [k0_pay34]
  exact dmix_at b p (hi j)

theorem ds_at : b.ds (ix2 p j) = (b.row p).ds j := by
  pointwise [ds, k0_pay35]
  rw [dright_at, silz_at]
  rfl

theorem dz_at : b.dz (ix2 p j) = (b.row p).dz j := by
  pointwise [dz, k0_pay36]
  rw [dright_at, y2_at, sz_at, zs_at]
  rfl

theorem dq_at : b.dq (ix2 p j) = (b.row p).dq j := by
  pointwise [dq, k0_pay37]
  rw [show k0_pay35 b.silz b.r b.on b.x6 b.dy b.w1 (ix2 p j) = _ from ds_at b p j, yg_at, sq_at]
  rfl

theorem dqOut_at : b.dqOut (ix2 p j) = (b.row p).dq j := by
  pointwise [dqOut, k0_pay38]
  exact dq_at b p j

theorem dyp_at : b.dyp (ix2 p j) = (b.row p).dyp j := by
  pointwise [dyp, k0_pay3]
  simp only [ds_at, sq_at, dgelu_at, dqOut_at]
  rfl

theorem ygT_at : b.ygT (ix2 j p) = (b.row p).yg j := by
  pointwise [ygT, k0_pay1]
  exact yg_at b p j

theorem mixL_at : b.mixL (ix2 j p) = (b.row p).yc j := by
  pointwise [mixL, k0_pay18]
  exact yc_at b p j

theorem mixR_at : b.mixR (ix2 j p) = (b.row p).ys j := by
  pointwise [mixR, k0_pay19]
  exact ys_at b p j

theorem loss_at (acc : Vec Ideal S1x128 .f32) (l : Fin 128) :
    b.loss acc (ix2 u l) = acc (ix2 u l) + wHalf * ∑ p : Fin 256, (b.row p).loss := by
  pointwise [loss, k0_pay26]
  simp only [err_at]
  rfl

theorem dgp_at (acc : Vec Ideal S1x2048 .f32) :
    b.dgp acc (ix2 u n) = acc (ix2 u n) + ∑ p : Fin 256, (b.row p).dy n * (b.row p).on n := by
  pointwise [dgp, k0_pay30, k0_pay29, k0_pay28]
  refine congrArg _ (Finset.sum_congr rfl fun k _ => ?_)
  exact congrArg₂ (· * ·) (dy_at b k n) (on_at b k n)

theorem dbg_at (acc : Vec Ideal S1x1024 .f32) :
    b.dbg acc (ix2 u j) = acc (ix2 u j) + ∑ p : Fin 256, (b.row p).dq j := by
  pointwise [dbg, k0_pay2]
  simp only [dq_at]

end Blk

end Cert.TailIdeal.Hand

end
-- ==== Proof.TailCase.lean ====
/-
  What one grid point of the tail leaves in each of its blocks: the kernel's vector expressions of the blocks it
  reads and of the two weight matrices it holds on chip.
-/
module

public import proofs.«01_k».proof.Proof.Gen.TailIdeal.Frame
public import proofs.«01_k».proof.Proof.TailBlk
public import Idealize.ShloMosaic.Lib.Pipeline.ValueKit
public import Idealize.ShloMosaic.Lib.Pipeline.ReadBack

@[expose] public section

set_option maxRecDepth 16384

noncomputable section

namespace Cert.TailIdeal.Hand

open Cert.TailIdeal Cert.TailIdeal.Gen Idealize.ShloMosaic Idealize.ShloMosaic.TcCoe
open Idealize.ShloMosaic.Pipeline (Dat)

/-- A load of the whole buffer after a transfer filled it reads what the transfer brought. -/
theorem readCov_whole {Val : EltTy → Type} [∀ e, Nonempty (Val e)] {sig : RefSig} {κ : Kind} {sp : Space} {S : Shape} {e : EltTy}
    (v : View sig κ sp S e) {off : Fin S.rank → Nat} (inb : ∀ a, off a + S.size a ≤ S.size a) (w : S.Idx → Val e)
    (h : ∀ a, off a = 0) :
    v.readCov [(⟨Rect.whole S, w⟩ : View.Piece Val S e)] (Rect.unit off (no_index S.size) inb).toLoadRect = w :=
  View.readCov_cons_unit_lit' v (off := fun _ => 0) (fun a => by simp) inb w [] (fun _ => rfl) h

variable (m : (ℓ : Loc nD τ sig) → Buf (Elt Ideal) ℓ)

/-- What point `t` reads. -/
def blk (c : Dev nD) (t : Fin cfg0.N) : Blk :=
  ⟨iblk m c 0 t, iblk m c 1 t, iblk m c 2 t, iblk m c 3 t, iblk m c 4 t, iblk m c 5 t, iblk m c 6 t,
    V m c main_arg5, V m c main_arg7⟩

/-- A buffer a transfer filled holds what the transfer brought. -/
theorem canon_whole {Val : EltTy → Type} [∀ e, Nonempty (Val e)] {S : Shape} {e : EltTy} (w : S.Idx → Val e) :
    View.canon [(⟨Rect.whole S, w⟩ : View.Piece Val S e)] = w :=
  View.canon_cons_unit_lit' (off := fun _ => 0) (fun a => by simp) w [] (fun _ => rfl)

/-- The on-chip copies hold the two weight matrices at every point. -/
theorem held (c : Dev nD) : ∀ (n : ℕ) (h : n < cfg0.N),
    (outsAt0 m c n h).2.2.2.2.2.2.2.2.2.2.2.1 = V m c main_arg5 ∧ (outsAt0 m c n h).2.2.2.2.2.2.2.2.2.2.2.2 = V m c main_arg7
  | 0, h => by
    rw [outsAt0_A m c ⟨0, h⟩ rfl]
    constructor
    · frame_out
      exact canon_whole _
    · frame_out
      exact canon_whole _
  | n + 1, h => by
    by_cases h0 : (⟨n + 1, h⟩ : Fin cfg0.N).val % 16 = 0
    · rw [outsAt0_A m c ⟨n + 1, h⟩ h0]
      constructor
      · frame_out
        exact canon_whole _
      · frame_out
        exact canon_whole _
    · rw [outsAt0_B m c ⟨n + 1, h⟩ h0]
      exact held c n (Nat.lt_of_succ_lt h)

set_option maxHeartbeats 4000000 in
/-- What a first point leaves. -/
theorem out_first (c : Dev nD) (t : Fin cfg0.N) (h : t.val % 16 = 0) :
    (outsAt0 m c t.val t.isLt).1 = (blk m c t).dy
    ∧ (outsAt0 m c t.val t.isLt).2.1 = (blk m c t).dO
    ∧ (outsAt0 m c t.val t.isLt).2.2.1 = (blk m c t).mixT
    ∧ (outsAt0 m c t.val t.isLt).2.2.2.1 = (blk m c t).dyc
    ∧ (outsAt0 m c t.val t.isLt).2.2.2.2.1 = (blk m c t).dyp
    ∧ (outsAt0 m c t.val t.isLt).2.2.2.2.2.1 = (blk m c t).dz
    ∧ (outsAt0 m c t.val t.isLt).2.2.2.2.2.2.1 = (blk m c t).ygT
    ∧ (outsAt0 m c t.val t.isLt).2.2.2.2.2.2.2.1 = (blk m c t).dqOut
    ∧ (outsAt0 m c t.val t.isLt).2.2.2.2.2.2.2.2.1 = (blk m c t).loss (k0_pay4 (F := Ideal))
    ∧ (outsAt0 m c t.val t.isLt).2.2.2.2.2.2.2.2.2.1 = (blk m c t).dgp (k0_pay5 (F := Ideal))
    ∧ (outsAt0 m c t.val t.isLt).2.2.2.2.2.2.2.2.2.2.1 = (blk m c t).dbg (k0_pay6 (F := Ideal)) := by
  rw [outsAt0_A m c t h]
  refine ⟨?_, ?_, ?_, ?_, ?_, ?_, ?_, ?_, ?_, ?_, ?_⟩ <;> (frame_out [readCov_whole]; rfl)

set_option maxHeartbeats 4000000 in
/-- What a later point leaves, over what the one before left in the accumulators. -/
theorem out_later (c : Dev nD) (t : Fin cfg0.N) (h : ¬t.val % 16 = 0) (ht : t.val - 1 < cfg0.N) :
    (outsAt0 m c t.val t.isLt).1 = (blk m c t).dy
    ∧ (outsAt0 m c t.val t.isLt).2.1 = (blk m c t).dO
    ∧ (outsAt0 m c t.val t.isLt).2.2.1 = (blk m c t).mixT
    ∧ (outsAt0 m c t.val t.isLt).2.2.2.1 = (blk m c t).dyc
    ∧ (outsAt0 m c t.val t.isLt).2.2.2.2.1 = (blk m c t).dyp
    ∧ (outsAt0 m c t.val t.isLt).2.2.2.2.2.1 = (blk m c t).dz
    ∧ (outsAt0 m c t.val t.isLt).2.2.2.2.2.2.1 = (blk m c t).ygT
    ∧ (outsAt0 m c t.val t.isLt).2.2.2.2.2.2.2.1 = (blk m c t).dqOut
    ∧ (outsAt0 m c t.val t.isLt).2.2.2.2.2.2.2.2.1 = (blk m c t).loss (outsAt0 m c (t.val - 1) ht).2.2.2.2.2.2.2.2.1
    ∧ (outsAt0 m c t.val t.isLt).2.2.2.2.2.2.2.2.2.1 = (blk m c t).dgp (outsAt0 m c (t.val - 1) ht).2.2.2.2.2.2.2.2.2.1
    ∧ (outsAt0 m c t.val t.isLt).2.2.2.2.2.2.2.2.2.2.1 = (blk m c t).dbg (outsAt0 m c (t.val - 1) ht).2.2.2.2.2.2.2.2.2.2.1 := by
  rw [outsAt0_B m c t h, (held m c (t.val - 1) ht).1, (held m c (t.val - 1) ht).2]
  generalize outsAt0 m c (t.val - 1) _ = P
  refine ⟨?_, ?_, ?_, ?_, ?_, ?_, ?_, ?_, ?_, ?_, ?_⟩ <;> (frame_out; (try simp only [read_unread_whole]); rfl)

end Cert.TailIdeal.Hand
end
-- ==== Proof.TailFin.lean ====
/-
  The tail's row over real arguments: every number it computes is a real, and the forms the gradient's own
  rules give are the kernel's.
-/
module

public import proofs.«01_k».proof.Proof.TailSpec
public import proofs.«01_k».proof.Proof.Finite
public import proofs.«01_k».proof.Proof.ConvFin

@[expose] public section

noncomputable section

namespace Cert.Tail

open Idealize.ShloMosaic Cert.Conv

theorem half_eq : wHalf = ((1 / 2 : ℝ) : EReal) := by
  simp [Ideal.ofBits, Ideal.ieee, -EReal.coe_mul]; norm_num
theorem len_eq : wLen = ((2048 : ℝ) : EReal) := by
  simp [Ideal.ofBits, Ideal.ieee, -EReal.coe_mul]; norm_num
theorem inv_eq : wInv = ((1 / 2048 : ℝ) : EReal) := by
  simp [Ideal.ofBits, Ideal.ieee, -EReal.coe_mul]; norm_num
theorem slope_fn : Fn wSlope := by
  refine ⟨13386282 / 16777216, ?_⟩
  simp [Ideal.ofBits, Ideal.ieee, -EReal.coe_mul]; norm_num
theorem eps_pos : ∃ e : ℝ, 0 < e ∧ wEps = (e : EReal) := by
  refine ⟨8796093 / 8796093022208, by norm_num, ?_⟩
  simp [Ideal.ofBits, Ideal.ieee, -EReal.coe_mul]; norm_num
theorem two_eq : Ideal.ofBits .f32 0x40000000#32 = ((2 : ℝ) : EReal) := by
  simp [Ideal.ofBits, Ideal.ieee, -EReal.coe_mul]; norm_num
theorem nhalf_eq : Ideal.ofBits .f32 0xBF000000#32 = ((-1 / 2 : ℝ) : EReal) := by
  simp [Ideal.ofBits, Ideal.ieee, -EReal.coe_mul]; norm_num
theorem num_eq : Ideal.ofBits .f32 0x472EAB00#32 = ((44715 : ℝ) : EReal) := by
  simp [Ideal.ofBits, Ideal.ieee, -EReal.coe_mul]; norm_num
theorem den_eq : Ideal.ofBits .f32 0x49742400#32 = ((1000000 : ℝ) : EReal) := by
  simp [Ideal.ofBits, Ideal.ieee, -EReal.coe_mul]; norm_num

/-- A sum of reals is their real sum. -/
theorem coe_sum {ι : Type} (s : Finset ι) (f : ι → ℝ) : ∑ i ∈ s, (f i : EReal) = ((∑ i ∈ s, f i : ℝ) : EReal) := by
  classical
  induction s using Finset.induction_on with
  | empty => simp
  | insert i s hi ih => rw [Finset.sum_insert hi, Finset.sum_insert hi, ih, EReal.coe_add]

theorem fn_tanh {x : EReal} : Fn x → Fn (Ideal.tanh x) := by rintro ⟨a, rfl⟩; exact ⟨_, Ideal.tanh_coe _⟩

namespace Row

/-- The output product over the branches side by side, as the two products. -/
theorem sum_mix (ρ : Row) (n : Fin 2048) : ∑ k : Fin 2048, ρ.mix k * ρ.wo k n = ρ.o n := by
  refine (Fin.sum_univ_add (a := 1024) (b := 1024) fun k : Fin 2048 => ρ.mix k * ρ.wo k n).trans ?_
  refine congrArg₂ (· + ·) (Finset.sum_congr rfl fun k _ => ?_) (Finset.sum_congr rfl fun k _ => ?_)
  · exact congrArg (· * ρ.wo (lo k) n) (dif_pos k.isLt)
  · refine congrArg (· * ρ.wo (hi k) n) ((dif_neg (show ¬(1024 + k.val < 1024) by omega)).trans (congrArg ρ.ys ?_))
    exact Fin.ext (show 1024 + k.val - 1024 = k.val by omega)

/-- Every number of the row and of the weights is a real. -/
structure Reals (ρ : Row) : Prop where
  x : ∀ n, Fn (ρ.x n)
  t : ∀ n, Fn (ρ.t n)
  z : ∀ j, Fn (ρ.z j)
  yc : ∀ j, Fn (ρ.yc j)
  a : ∀ j, Fn (ρ.a j)
  wg : ∀ k j, Fn (ρ.wg k j)
  bg : ∀ j, Fn (ρ.bg j)
  wo : ∀ k n, Fn (ρ.wo k n)
  g : ∀ n, Fn (ρ.g n)

namespace Reals

variable {ρ : Row} (h : Reals ρ) (j : Fin 1024) (n : Fin 2048)

include h

theorem th : Fn (ρ.th j) :=
  fn_tanh (slope_fn.mul ((h.a j).add ((Fn.coe _).mul (((h.a j).mul (h.a j)).mul (h.a j)))))
theorem yg : Fn (ρ.yg j) := (h.a j).mul ((half_eq ▸ Fn.coe _).mul (Fn.one.add (h.th j)))
theorem q : Fn (ρ.q j) := Fn.sum _ fun k => (h.yg k).mul (h.wg k j)
theorem sq : Fn (ρ.sq j) := fn_sigmoid ((h.q j).add (h.bg j))
theorem y2 : Fn (ρ.y2 j) := (h.yg j).mul (h.sq j)
theorem sz : Fn (ρ.sz j) := fn_sigmoid (h.z j)
theorem silz : Fn (ρ.silz j) := (h.z j).mul (h.sz j)
theorem ys : Fn (ρ.ys j) := (h.y2 j).mul (h.silz j)
theorem o : Fn (ρ.o n) :=
  (Fn.sum _ fun k => (h.yc k).mul (h.wo (lo k) n)).add (Fn.sum _ fun k => (h.ys k).mul (h.wo (hi k) n))

/-- The mean square with its offset is a positive real, and the norm's factor is one over its root. -/
theorem norm : ∃ v : ℝ, 0 < v ∧ Ideal.div ρ.ms wLen + wEps = (v : EReal) ∧ ρ.r = (((Real.sqrt v)⁻¹ : ℝ) : EReal) := by
  choose o ho using h.o
  obtain ⟨e, he, he'⟩ := eps_pos
  have hm : ρ.ms = ((∑ n : Fin 2048, o n * o n : ℝ) : EReal) := by
    unfold Row.ms
    rw [← coe_sum]
    exact Finset.sum_congr rfl fun n _ => by rw [ho, EReal.coe_mul]
  have h0 : 0 ≤ ∑ n : Fin 2048, o n * o n := Finset.sum_nonneg fun n _ => mul_self_nonneg _
  have hv : 0 < (∑ n : Fin 2048, o n * o n) * (1 / 2048) + e := by positivity
  have hx : Ideal.div ρ.ms wLen + wEps = (((∑ n : Fin 2048, o n * o n) * (1 / 2048) + e : ℝ) : EReal) := by
    rw [hm, len_eq, he', Ideal.div_coe (by norm_num), ← EReal.coe_mul, ← EReal.coe_add]
  refine ⟨_, hv, hx, ?_⟩
  unfold Row.r
  rw [hx, Ideal.rsqrt_coe, if_neg (not_lt.mpr hv.le), if_neg hv.ne']

theorem r : Fn ρ.r := by obtain ⟨v, -, -, hr⟩ := h.norm; exact ⟨_, hr⟩
theorem on : Fn (ρ.on n) := (h.o n).mul h.r
theorem err : Fn (ρ.err n) := ((h.x n).add ((h.on n).mul (h.g n))).sub (h.t n)
theorem dy : Fn (ρ.dy n) := (h.err n).mul (inv_eq ▸ Fn.coe _)
theorem don : Fn (ρ.don n) := (h.dy n).mul (h.g n)
theorem mean : Fn (Ideal.div (∑ k : Fin 2048, ρ.don k * ρ.on k) wLen) := by
  rw [len_eq, Ideal.div_coe (by norm_num)]
  exact (Fn.sum _ fun k => (h.don k).mul (h.on k)).mul (Fn.coe _)
theorem dO : Fn (ρ.dO n) := h.r.mul ((h.don n).sub ((h.on n).mul h.mean))
theorem dmix : Fn (ρ.dmix n) := Fn.sum _ fun k => (h.dO k).mul (h.wo n k)
theorem ds : Fn (ρ.ds j) := (h.dmix (hi j)).mul (h.silz j)
theorem dq : Fn (ρ.dq j) := ((h.ds j).mul (h.yg j)).mul ((h.sq j).mul (Fn.one.sub (h.sq j)))

/-- The cubic term with its coefficient as a quotient. -/
theorem cube : Ideal.div (ρ.a j * ρ.a j * ρ.a j * Ideal.ofBits .f32 0x472EAB00#32) (Ideal.ofBits .f32 0x49742400#32)
    = cGelu * (ρ.a j * ρ.a j * ρ.a j) := by
  obtain ⟨a, ha⟩ := h.a j
  rw [ha, num_eq, den_eq, Ideal.div_coe (by norm_num), cGelu]
  norm_cast
  ring

/-- The error's gradient through the two halves and the mean. -/
theorem dy_ref : Ideal.div wHalf wLen * (Ideal.ofBits .f32 0x40000000#32 * ρ.err n) = ρ.dy n := by
  unfold Row.dy
  obtain ⟨e, he⟩ := h.err n
  rw [he, half_eq, len_eq, two_eq, inv_eq, Ideal.div_coe (by norm_num)]
  norm_cast
  ring

/-- The norm's gradient: its own term, and the two halves of the mean square's. -/
theorem dO_ref :
    ρ.don n * ρ.r
        + ρ.o n * Ideal.div ((∑ k : Fin 2048, ρ.o k * ρ.don k)
            * (Ideal.ofBits .f32 0xBF000000#32 * Ideal.div ρ.r (Ideal.div ρ.ms wLen + wEps))) wLen
        + Ideal.div ((∑ k : Fin 2048, ρ.o k * ρ.don k)
            * (Ideal.ofBits .f32 0xBF000000#32 * Ideal.div ρ.r (Ideal.div ρ.ms wLen + wEps))) wLen * ρ.o n
      = ρ.dO n := by
  obtain ⟨v, hv, hm, hr⟩ := h.norm
  choose o ho using h.o
  choose d hd using h.don
  have hs := Real.mul_self_sqrt hv.le
  have hs0 : Real.sqrt v ≠ 0 := (Real.sqrt_pos.mpr hv).ne'
  unfold Row.dO Row.on
  rw [hm, Ideal.div_coe hv.ne']
  simp only [ho, hd, hr, nhalf_eq, len_eq]
  simp only [← EReal.coe_mul, coe_sum, Ideal.div_coe (show (2048 : ℝ) ≠ 0 by norm_num), ← EReal.coe_add, ← EReal.coe_sub]
  congr 1
  generalize Real.sqrt v = s at hs hs0 ⊢
  subst hs
  have e : ∑ k : Fin 2048, d k * (o k * s⁻¹) = (∑ k : Fin 2048, o k * d k) * s⁻¹ := by
    rw [Finset.sum_mul]; exact Finset.sum_congr rfl fun k _ => by ring
  rw [e]
  field_simp
  ring

/-- The gradient through the gate input's activation. -/
theorem dz_ref :
    (ρ.y2 j * ρ.dmix (hi j)) * ρ.sz j + ρ.z j * (ρ.y2 j * ρ.dmix (hi j)) * (ρ.sz j * (1 - ρ.sz j)) = ρ.dz j := by
  unfold Row.dz
  obtain ⟨y, hy⟩ := h.y2 j
  obtain ⟨d, hd⟩ := h.dmix (hi j)
  obtain ⟨s, hs⟩ := h.sz j
  obtain ⟨z, hz⟩ := h.z j
  rw [hy, hd, hs, hz]
  norm_cast
  ring

/-- What reaches the activation. -/
def _root_.Cert.Tail.Row.dyg (ρ : Row) (j : Fin 1024) : EReal := ρ.ds j * ρ.sq j + ∑ k : Fin 1024, ρ.dq k * ρ.wg j k

theorem dyg : Fn (ρ.dyg j) := ((h.ds j).mul (h.sq j)).add (Fn.sum _ fun k => (h.dq k).mul (h.wg j k))

/-- The activation's gradient, gathered from the cube and the two factors. -/
theorem dyp_ref (P R : EReal)
    (hP : P = wSlope * (wHalf * ρ.a j * ρ.dyg j * ((1 + ρ.th j) * (1 - ρ.th j))))
    (hR : R = Ideal.div P (Ideal.ofBits .f32 0x49742400#32) * Ideal.ofBits .f32 0x472EAB00#32) :
    P + ρ.a j * ρ.a j * R + ρ.a j * (R * ρ.a j) + R * ρ.a j * ρ.a j + wHalf * (ρ.dyg j * (1 + ρ.th j)) = ρ.dyp j := by
  subst hR hP
  show _ = ρ.dyg j * ρ.dgelu j
  unfold Row.dgelu cGelu3
  obtain ⟨a, ha⟩ := h.a j
  obtain ⟨t, ht⟩ := h.th j
  obtain ⟨d, hd⟩ := h.dyg j
  obtain ⟨s, hs⟩ := slope_fn
  rw [ha, ht, hd, hs, half_eq, num_eq, den_eq, Ideal.div_coe (by norm_num)]
  norm_cast
  ring

end Reals

end Row

end Cert.Tail

end
-- ==== Proof.TailArr.lean ====
/-
  The result arrays of the tail, index by index, as functions of the argument arrays: point `t` works on rows
  `256 t` to `256 t + 255`, and the three sums over the rows grow from point to point.
-/
module

public import proofs.«01_k».proof.Proof.TailPay
public import proofs.«01_k».proof.Proof.TailCase
public import proofs.«01_k».proof.Proof.TailFin

@[expose] public section

set_option maxRecDepth 16384

noncomputable section

namespace Cert.TailIdeal.Hand

open Cert.TailIdeal Cert.TailIdeal.Gen Idealize.ShloMosaic Idealize.ShloMosaic.TcCoe Cert.Tail
open Idealize.ShloMosaic.Pipeline (Dat)

variable (m : (ℓ : Loc nD τ sig) → Buf (Elt Ideal) ℓ)

/-- The blocks of point `t`: a row of blocks, a column of blocks, or the whole array. -/
theorem idx_in : ∀ t : Fin grid0.N,
    (win0_0.index t 0 = t.val ∧ win0_0.index t 1 = 0)
    ∧ (win0_1.index t 0 = 0 ∧ win0_1.index t 1 = t.val ∧ win0_1.index t 2 = 0)
    ∧ (win0_2.index t 0 = t.val ∧ win0_2.index t 1 = 5)
    ∧ (win0_3.index t 0 = t.val ∧ win0_3.index t 1 = 0) ∧ (win0_4.index t 0 = t.val ∧ win0_4.index t 1 = 0)
    ∧ (win0_5.index t 0 = 0 ∧ win0_5.index t 1 = 0) ∧ (win0_6.index t 0 = 0 ∧ win0_6.index t 1 = 0) := by
  decide +kernel

theorem idx_out : ∀ t : Fin grid0.N,
    (win0_7.index t 0 = t.val ∧ win0_7.index t 1 = 0) ∧ (win0_8.index t 0 = t.val ∧ win0_8.index t 1 = 0)
    ∧ (win0_9.index t 0 = 0 ∧ win0_9.index t 1 = t.val) ∧ (win0_10.index t 0 = t.val ∧ win0_10.index t 1 = 0)
    ∧ (win0_11.index t 0 = t.val ∧ win0_11.index t 1 = 0) ∧ (win0_12.index t 0 = t.val ∧ win0_12.index t 1 = 0)
    ∧ (win0_13.index t 0 = 0 ∧ win0_13.index t 1 = t.val) ∧ (win0_14.index t 0 = t.val ∧ win0_14.index t 1 = 0) := by
  decide +kernel

/-- The row of the arrays that row `p` of point `t` is. -/
def at_ (t : Fin cfg0.N) (p : Fin 256) : Fin 4096 := ⟨t * 256 + p, by have : t.val < grid0.N := t.isLt; have := N_0; omega⟩

/-- Row `R` of the arrays as the launch finds them. -/
def rw_ (c : Dev nD) (R : Fin 4096) : Row :=
  rowOf (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7)) (m ((c : Thread nD τ).loc main_arg8)) R

theorem blk0 (c : Dev nD) (t : Fin cfg0.N) (p : Fin 256) (n : Fin 2048) :
    iblk m c 0 t (ix2 p n) = m ((c : Thread nD τ).loc main_arg0) (ix2 (at_ t p) n) := by
  have e := (idx_in t).1
  show V m c (Pipeline.arrRef spec0 0) ((win0_0.rect t).emb (ix2 p n)) = _
  refine (congrArg (V m c main_arg0) ?_).trans (congrFun (V_main_arg0 m c) _)
  funext a; apply Fin.ext; rw [win0_0.rect_emb_val]
  fin_cases a
  · show win0_0.index t 0 * 256 + p.val = t.val * 256 + p.val; rw [e.1]
  · show win0_0.index t 1 * 2048 + n.val = n.val; rw [e.2]; omega

theorem blk1 (c : Dev nD) (t : Fin cfg0.N) (u : Fin 8) (s : Fin 32) (n : Fin 2048) :
    iblk m c 1 t (ix3 u s n) = m ((c : Thread nD τ).loc main_arg1)
      (ix3 u ⟨t * 32 + s, by have : t.val < grid0.N := t.isLt; have := N_0; omega⟩ n) := by
  have e := (idx_in t).2.1
  show V m c (Pipeline.arrRef spec0 1) ((win0_1.rect t).emb (ix3 u s n)) = _
  refine (congrArg (V m c main_arg1) ?_).trans (congrFun (V_main_arg1 m c) _)
  funext a; apply Fin.ext; rw [win0_1.rect_emb_val]
  fin_cases a
  · show win0_1.index t 0 * 8 + u.val = u.val; rw [e.1]; omega
  · show win0_1.index t 1 * 32 + s.val = t.val * 32 + s.val; rw [e.2.1]
  · show win0_1.index t 2 * 2048 + n.val = n.val; rw [e.2.2]; omega

theorem blk2 (c : Dev nD) (t : Fin cfg0.N) (p : Fin 256) (j : Fin 1024) :
    iblk m c 2 t (ix2 p j) = m ((c : Thread nD τ).loc main_arg2) (ix2 (at_ t p) ⟨5120 + j, by omega⟩) := by
  have e := (idx_in t).2.2.1
  show V m c (Pipeline.arrRef spec0 2) ((win0_2.rect t).emb (ix2 p j)) = _
  refine (congrArg (V m c main_arg2) ?_).trans (congrFun (V_main_arg2 m c) _)
  funext a; apply Fin.ext; rw [win0_2.rect_emb_val]
  fin_cases a
  · show win0_2.index t 0 * 256 + p.val = t.val * 256 + p.val; rw [e.1]
  · show win0_2.index t 1 * 1024 + j.val = 5120 + j.val; rw [e.2]

theorem blk3 (c : Dev nD) (t : Fin cfg0.N) (p : Fin 256) (j : Fin 1024) :
    iblk m c 3 t (ix2 p j) = m ((c : Thread nD τ).loc main_arg3) (ix2 (at_ t p) j) := by
  have e := (idx_in t).2.2.2.1
  show V m c (Pipeline.arrRef spec0 3) ((win0_3.rect t).emb (ix2 p j)) = _
  refine (congrArg (V m c main_arg3) ?_).trans (congrFun (V_main_arg3 m c) _)
  funext a; apply Fin.ext; rw [win0_3.rect_emb_val]
  fin_cases a
  · show win0_3.index t 0 * 256 + p.val = t.val * 256 + p.val; rw [e.1]
  · show win0_3.index t 1 * 1024 + j.val = j.val; rw [e.2]; omega

theorem blk4 (c : Dev nD) (t : Fin cfg0.N) (p : Fin 256) (j : Fin 1024) :
    iblk m c 4 t (ix2 p j) = m ((c : Thread nD τ).loc main_arg4) (ix2 (at_ t p) j) := by
  have e := (idx_in t).2.2.2.2.1
  show V m c (Pipeline.arrRef spec0 4) ((win0_4.rect t).emb (ix2 p j)) = _
  refine (congrArg (V m c main_arg4) ?_).trans (congrFun (V_main_arg4 m c) _)
  funext a; apply Fin.ext; rw [win0_4.rect_emb_val]
  fin_cases a
  · show win0_4.index t 0 * 256 + p.val = t.val * 256 + p.val; rw [e.1]
  · show win0_4.index t 1 * 1024 + j.val = j.val; rw [e.2]; omega

theorem blk5 (c : Dev nD) (t : Fin cfg0.N) (j : Fin 1024) :
    iblk m c 5 t (ix2 0 j) = m ((c : Thread nD τ).loc main_arg6) (ix2 0 j) := by
  have e := (idx_in t).2.2.2.2.2.1
  show V m c (Pipeline.arrRef spec0 5) ((win0_5.rect t).emb (ix2 0 j)) = _
  refine (congrArg (V m c main_arg6) ?_).trans (congrFun (V_main_arg6 m c) _)
  funext a; apply Fin.ext; rw [win0_5.rect_emb_val]
  fin_cases a
  · show win0_5.index t 0 * 1 + 0 = 0; rw [e.1]
  · show win0_5.index t 1 * 1024 + j.val = j.val; rw [e.2]; omega

theorem blk6 (c : Dev nD) (t : Fin cfg0.N) (n : Fin 2048) :
    iblk m c 6 t (ix2 0 n) = m ((c : Thread nD τ).loc main_arg8) (ix2 0 n) := by
  have e := (idx_in t).2.2.2.2.2.2
  show V m c (Pipeline.arrRef spec0 6) ((win0_6.rect t).emb (ix2 0 n)) = _
  refine (congrArg (V m c main_arg8) ?_).trans (congrFun (V_main_arg8 m c) _)
  funext a; apply Fin.ext; rw [win0_6.rect_emb_val]
  fin_cases a
  · show win0_6.index t 0 * 1 + 0 = 0; rw [e.1]
  · show win0_6.index t 1 * 2048 + n.val = n.val; rw [e.2]; omega

/-- Row `p` of what point `t` reads is row `256 t + p` of the arrays. -/
theorem row_eq (c : Dev nD) (t : Fin cfg0.N) (p : Fin 256) : (blk m c t).row p = rw_ m c (at_ t p) := by
  unfold Blk.row rw_ rowOf blk
  congr 1
  · funext n; exact blk0 m c t p n
  · funext n
    refine (blk1 m c t _ _ n).trans (congrArg (m ((c : Thread nD τ).loc main_arg1)) ?_)
    funext a; apply Fin.ext
    fin_cases a
    · show p.val % 8 = (t.val * 256 + p.val) % 8; omega
    · show t.val * 32 + p.val / 8 = (t.val * 256 + p.val) / 8; omega
    · rfl
  · funext j; exact blk2 m c t p j
  · funext j; exact blk3 m c t p j
  · funext j; exact blk4 m c t p j
  · funext j; exact blk5 m c t j
  · funext n; exact blk6 m c t n

/-- What every point leaves in its eight tiles. -/
theorem tiles (c : Dev nD) (t : Fin cfg0.N) :
    (outsAt0 m c t.val t.isLt).1 = (blk m c t).dy
    ∧ (outsAt0 m c t.val t.isLt).2.1 = (blk m c t).dO
    ∧ (outsAt0 m c t.val t.isLt).2.2.1 = (blk m c t).mixT
    ∧ (outsAt0 m c t.val t.isLt).2.2.2.1 = (blk m c t).dyc
    ∧ (outsAt0 m c t.val t.isLt).2.2.2.2.1 = (blk m c t).dyp
    ∧ (outsAt0 m c t.val t.isLt).2.2.2.2.2.1 = (blk m c t).dz
    ∧ (outsAt0 m c t.val t.isLt).2.2.2.2.2.2.1 = (blk m c t).ygT
    ∧ (outsAt0 m c t.val t.isLt).2.2.2.2.2.2.2.1 = (blk m c t).dqOut := by
  by_cases h : t.val % 16 = 0
  · obtain ⟨h0, h1, h2, h3, h4, h5, h6, h7, -⟩ := out_first m c t h
    exact ⟨h0, h1, h2, h3, h4, h5, h6, h7⟩
  · obtain ⟨h0, h1, h2, h3, h4, h5, h6, h7, -⟩ := out_later m c t h (Nat.lt_of_le_of_lt (Nat.sub_le _ _) t.isLt)
    exact ⟨h0, h1, h2, h3, h4, h5, h6, h7⟩

/-- A tile of rows, and one of columns, read at an array's index. -/
theorem of_rows (c : Dev nD) (t : Fin cfg0.N) {N : ℕ} (F : Row → Fin N → EReal) (v : (⟨2, ![256, N]⟩ : Shape).Idx → EReal)
    (hv : ∀ p j, v (ix2 p j) = F ((blk m c t).row p) j) (y : (⟨2, ![256, N]⟩ : Shape).Idx)
    (i : (⟨2, ![4096, N]⟩ : Shape).Idx) (h0 : (i 0).val = t.val * 256 + (y 0).val) (h1 : (i 1).val = (y 1).val) :
    v y = F (rw_ m c (i 0)) (i 1) := by
  refine (congrArg v (eq_ix2 y)).trans ((hv (y 0) (y 1)).trans ?_)
  exact congrArg₂ F ((row_eq m c t (y 0)).trans (congrArg (rw_ m c) (Fin.ext h0.symm))) (Fin.ext h1.symm)

theorem of_cols (c : Dev nD) (t : Fin cfg0.N) {N : ℕ} (F : Row → Fin N → EReal) (v : (⟨2, ![N, 256]⟩ : Shape).Idx → EReal)
    (hv : ∀ p j, v (ix2 j p) = F ((blk m c t).row p) j) (y : (⟨2, ![N, 256]⟩ : Shape).Idx)
    (i : (⟨2, ![N, 4096]⟩ : Shape).Idx) (h0 : (i 0).val = (y 0).val) (h1 : (i 1).val = t.val * 256 + (y 1).val) :
    v y = F (rw_ m c (i 1)) (i 0) := by
  refine (congrArg v (eq_ix2 y)).trans ((hv (y 1) (y 0)).trans ?_)
  exact congrArg₂ F ((row_eq m c t (y 1)).trans (congrArg (rw_ m c) (Fin.ext h1.symm))) (Fin.ext h0.symm)

/-- The two branches' stores make the two branches side by side. -/
theorem mixT_at (b : Blk) (p : Fin 256) (k : Fin 2048) : b.mixT (ix2 k p) = (b.row p).mix k := by
  unfold Blk.mixT
  canon_tiles x h
  · refine (congrArg b.mixR (eq_ix2 x)).trans ((Blk.mixR_at b (x 1) (x 0)).trans ?_)
    have e0 : k.val = 1024 + (x 0).val := h0
    have e1 : p = x 1 := Fin.ext h1
    subst e1
    unfold Row.mix
    rw [dif_neg (by omega)]
    exact congrArg (b.row (x 1)).ys (Fin.ext (show (x 0).val = k.val - 1024 by omega))
  · refine (congrArg b.mixL (eq_ix2 x)).trans ((Blk.mixL_at b (x 1) (x 0)).trans ?_)
    have e0 : k.val = (x 0).val := h0
    have e1 : p = x 1 := Fin.ext h1
    have : (x 0).val < 1024 := (x 0).isLt
    subst e1
    unfold Row.mix
    rw [dif_pos (by omega)]
    exact congrArg (b.row (x 1)).yc (Fin.ext (show (x 0).val = k.val by omega))

theorem arr7 (c : Dev nD) : (dats m 0 c).arrAt 7 cfg0.N = (fun i => (rw_ m c (i 0)).dy (i 1) : S4096x2048.Idx → EReal) := by
  refine (dats m 0 c).arrAt_eq_of_covers 7 _ (by decide +kernel) fun t hf y => ?_
  have e := (idx_out t).1
  blk_simp
  rw [after0_7, (tiles m c t).1]
  refine of_rows m c t (fun ρ j => ρ.dy j) _ (Blk.dy_at _) y ((win0_7.rect t).emb y) ?_ ?_
  · rw [win0_7.rect_emb_val]; show win0_7.index t 0 * 256 + (y 0).val = _; rw [e.1]
  · rw [win0_7.rect_emb_val]; show win0_7.index t 1 * 2048 + (y 1).val = _; rw [e.2]; omega

theorem arr8 (c : Dev nD) : (dats m 0 c).arrAt 8 cfg0.N = (fun i => (rw_ m c (i 0)).dO (i 1) : S4096x2048.Idx → EReal) := by
  refine (dats m 0 c).arrAt_eq_of_covers 8 _ (by decide +kernel) fun t hf y => ?_
  have e := (idx_out t).2.1
  blk_simp
  rw [after0_8, (tiles m c t).2.1]
  refine of_rows m c t (fun ρ j => ρ.dO j) _ (Blk.dO_at _) y ((win0_8.rect t).emb y) ?_ ?_
  · rw [win0_8.rect_emb_val]; show win0_8.index t 0 * 256 + (y 0).val = _; rw [e.1]
  · rw [win0_8.rect_emb_val]; show win0_8.index t 1 * 2048 + (y 1).val = _; rw [e.2]; omega

theorem arr9 (c : Dev nD) : (dats m 0 c).arrAt 9 cfg0.N = (fun i => (rw_ m c (i 1)).mix (i 0) : S2048x4096.Idx → EReal) := by
  refine (dats m 0 c).arrAt_eq_of_covers 9 _ (by decide +kernel) fun t hf y => ?_
  have e := (idx_out t).2.2.1
  blk_simp
  rw [after0_9, (tiles m c t).2.2.1]
  refine of_cols m c t (fun ρ j => ρ.mix j) _ (mixT_at _) y ((win0_9.rect t).emb y) ?_ ?_
  · rw [win0_9.rect_emb_val]; show win0_9.index t 0 * 2048 + (y 0).val = _; rw [e.1]; omega
  · rw [win0_9.rect_emb_val]; show win0_9.index t 1 * 256 + (y 1).val = _; rw [e.2]

theorem arr10 (c : Dev nD) : (dats m 0 c).arrAt 10 cfg0.N = (fun i => (rw_ m c (i 0)).dmix (lo (i 1)) : S4096x1024.Idx → EReal) := by
  refine (dats m 0 c).arrAt_eq_of_covers 10 _ (by decide +kernel) fun t hf y => ?_
  have e := (idx_out t).2.2.2.1
  blk_simp
  rw [after0_10, (tiles m c t).2.2.2.1]
  refine of_rows m c t (fun ρ j => ρ.dmix (lo j)) _ (Blk.dyc_at _) y ((win0_10.rect t).emb y) ?_ ?_
  · rw [win0_10.rect_emb_val]; show win0_10.index t 0 * 256 + (y 0).val = _; rw [e.1]
  · rw [win0_10.rect_emb_val]; show win0_10.index t 1 * 1024 + (y 1).val = _; rw [e.2]; omega

theorem arr11 (c : Dev nD) : (dats m 0 c).arrAt 11 cfg0.N = (fun i => (rw_ m c (i 0)).dyp (i 1) : S4096x1024.Idx → EReal) := by
  refine (dats m 0 c).arrAt_eq_of_covers 11 _ (by decide +kernel) fun t hf y => ?_
  have e := (idx_out t).2.2.2.2.1
  blk_simp
  rw [after0_11, (tiles m c t).2.2.2.2.1]
  refine of_rows m c t (fun ρ j => ρ.dyp j) _ (Blk.dyp_at _) y ((win0_11.rect t).emb y) ?_ ?_
  · rw [win0_11.rect_emb_val]; show win0_11.index t 0 * 256 + (y 0).val = _; rw [e.1]
  · rw [win0_11.rect_emb_val]; show win0_11.index t 1 * 1024 + (y 1).val = _; rw [e.2]; omega

theorem arr12 (c : Dev nD) : (dats m 0 c).arrAt 12 cfg0.N = (fun i => (rw_ m c (i 0)).dz (i 1) : S4096x1024.Idx → EReal) := by
  refine (dats m 0 c).arrAt_eq_of_covers 12 _ (by decide +kernel) fun t hf y => ?_
  have e := (idx_out t).2.2.2.2.2.1
  blk_simp
  rw [after0_12, (tiles m c t).2.2.2.2.2.1]
  refine of_rows m c t (fun ρ j => ρ.dz j) _ (Blk.dz_at _) y ((win0_12.rect t).emb y) ?_ ?_
  · rw [win0_12.rect_emb_val]; show win0_12.index t 0 * 256 + (y 0).val = _; rw [e.1]
  · rw [win0_12.rect_emb_val]; show win0_12.index t 1 * 1024 + (y 1).val = _; rw [e.2]; omega

theorem arr13 (c : Dev nD) : (dats m 0 c).arrAt 13 cfg0.N = (fun i => (rw_ m c (i 1)).yg (i 0) : S1024x4096.Idx → EReal) := by
  refine (dats m 0 c).arrAt_eq_of_covers 13 _ (by decide +kernel) fun t hf y => ?_
  have e := (idx_out t).2.2.2.2.2.2.1
  blk_simp
  rw [after0_13, (tiles m c t).2.2.2.2.2.2.1]
  refine of_cols m c t (fun ρ j => ρ.yg j) _ (Blk.ygT_at _) y ((win0_13.rect t).emb y) ?_ ?_
  · rw [win0_13.rect_emb_val]; show win0_13.index t 0 * 1024 + (y 0).val = _; rw [e.1]; omega
  · rw [win0_13.rect_emb_val]; show win0_13.index t 1 * 256 + (y 1).val = _; rw [e.2]

theorem arr14 (c : Dev nD) : (dats m 0 c).arrAt 14 cfg0.N = (fun i => (rw_ m c (i 0)).dq (i 1) : S4096x1024.Idx → EReal) := by
  refine (dats m 0 c).arrAt_eq_of_covers 14 _ (by decide +kernel) fun t hf y => ?_
  have e := (idx_out t).2.2.2.2.2.2.2
  blk_simp
  rw [after0_14, (tiles m c t).2.2.2.2.2.2.2]
  refine of_rows m c t (fun ρ j => ρ.dq j) _ (Blk.dqOut_at _) y ((win0_14.rect t).emb y) ?_ ?_
  · rw [win0_14.rect_emb_val]; show win0_14.index t 0 * 256 + (y 0).val = _; rw [e.1]
  · rw [win0_14.rect_emb_val]; show win0_14.index t 1 * 1024 + (y 1).val = _; rw [e.2]; omega

/-- One half of a sum is the sum of the halves. -/
theorem half_sum {ι : Type} (s : Finset ι) (f : ι → EReal) : ∑ i ∈ s, wHalf * f i = wHalf * ∑ i ∈ s, f i := by
  classical
  have h0 : (0 : EReal) ≤ ((1 / 2 : ℝ) : EReal) := by exact_mod_cast (by norm_num : (0 : ℝ) ≤ 1 / 2)
  rw [half_eq]
  induction s using Finset.induction_on with
  | empty => simp
  | insert i s hi ih =>
    rw [Finset.sum_insert hi, Finset.sum_insert hi, ih, EReal.left_distrib_of_nonneg_of_ne_top h0 (EReal.coe_ne_top _)]

theorem zero4 (i : S1x128.Idx) : k0_pay4 (F := Ideal) i = 0 := by unfold k0_pay4; exact Ideal.ofBits_zero_f32
theorem zero5 (i : S1x2048.Idx) : k0_pay5 (F := Ideal) i = 0 := by unfold k0_pay5; exact Ideal.ofBits_zero_f32
theorem zero6 (i : S1x1024.Idx) : k0_pay6 (F := Ideal) i = 0 := by unfold k0_pay6; exact Ideal.ofBits_zero_f32

/-- What a point adds, over all points: the sum over the rows. -/
theorem over_rows (c : Dev nD) (F : Row → EReal) :
    ∑ t : Fin cfg0.N, ∑ p : Fin 256, F ((blk m c t).row p) = ∑ R : Fin 4096, F (rw_ m c R) :=
  Fin.sum_mul_add_congr (S := cfg0.N) (fun t p _ => congrArg F (row_eq m c t p)) (by rw [show cfg0.N = 16 from N_0])

theorem arr15 (c : Dev nD) :
    (dats m 0 c).arrAt 15 cfg0.N = (fun _ => wHalf * ∑ R : Fin 4096, (rw_ m c R).loss : S1x128.Idx → EReal) := by
  refine (dats m 0 c).arrAt_eq_of_after_last 15 t0_15 (by decide +kernel) _ fun j => ?_
  blk_simp
  rw [after0_15, Pipeline.eq_sum_fin_of_reset_step_apply_last (fun n h => (outsAt0 m c n h).2.2.2.2.2.2.2.2.1) 16 (fun _ => 0)
    (fun t _ => wHalf * ∑ p : Fin 256, ((blk m c t).row p).loss)
    (fun t h j => by
      rw [(out_first m c t h).2.2.2.2.2.2.2.2.1]
      exact (congrArg _ (eq_ix2 j)).trans ((Blk.loss_at _ _ _ _).trans (congrArg (· + _) (zero4 _))))
    (fun t h j => by
      rw [(out_later m c t h (Nat.lt_of_le_of_lt (Nat.sub_le _ _) t.isLt)).2.2.2.2.2.2.2.2.1]
      exact (congrArg _ (eq_ix2 j)).trans ((Blk.loss_at _ _ _ _).trans (congrArg (· + _) (congrArg _ (eq_ix2 j).symm))))
    (le_of_eq N_0) t0_15 rfl j, zero_add, half_sum]
  exact congrArg (wHalf * ·) (over_rows m c Row.loss)

theorem arr16 (c : Dev nD) :
    (dats m 0 c).arrAt 16 cfg0.N = (fun i => ∑ R : Fin 4096, (rw_ m c R).dy (i 1) * (rw_ m c R).on (i 1) : S1x2048.Idx → EReal) := by
  refine (dats m 0 c).arrAt_eq_of_after_last 16 t0_15 (by decide +kernel) _ fun j => ?_
  blk_simp
  rw [after0_16, Pipeline.eq_sum_fin_of_reset_step_apply_last (fun n h => (outsAt0 m c n h).2.2.2.2.2.2.2.2.2.1) 16 (fun _ => 0)
    (fun t j => ∑ p : Fin 256, ((blk m c t).row p).dy (j 1) * ((blk m c t).row p).on (j 1))
    (fun t h j => by
      rw [(out_first m c t h).2.2.2.2.2.2.2.2.2.1]
      exact (congrArg _ (eq_ix2 j)).trans ((Blk.dgp_at _ _ _ _).trans (congrArg (· + _) (zero5 _))))
    (fun t h j => by
      rw [(out_later m c t h (Nat.lt_of_le_of_lt (Nat.sub_le _ _) t.isLt)).2.2.2.2.2.2.2.2.2.1]
      exact (congrArg _ (eq_ix2 j)).trans ((Blk.dgp_at _ _ _ _).trans (congrArg (· + _) (congrArg _ (eq_ix2 j).symm))))
    (le_of_eq N_0) t0_15 rfl j, zero_add]
  exact over_rows m c fun ρ => ρ.dy (j 1) * ρ.on (j 1)

theorem arr17 (c : Dev nD) :
    (dats m 0 c).arrAt 17 cfg0.N = (fun i => ∑ R : Fin 4096, (rw_ m c R).dq (i 1) : S1x1024.Idx → EReal) := by
  refine (dats m 0 c).arrAt_eq_of_after_last 17 t0_15 (by decide +kernel) _ fun j => ?_
  blk_simp
  rw [after0_17, Pipeline.eq_sum_fin_of_reset_step_apply_last (fun n h => (outsAt0 m c n h).2.2.2.2.2.2.2.2.2.2.1) 16 (fun _ => 0)
    (fun t j => ∑ p : Fin 256, ((blk m c t).row p).dq (j 1))
    (fun t h j => by
      rw [(out_first m c t h).2.2.2.2.2.2.2.2.2.2]
      exact (congrArg _ (eq_ix2 j)).trans ((Blk.dbg_at _ _ _ _).trans (congrArg (· + _) (zero6 _))))
    (fun t h j => by
      rw [(out_later m c t h (Nat.lt_of_le_of_lt (Nat.sub_le _ _) t.isLt)).2.2.2.2.2.2.2.2.2.2]
      exact (congrArg _ (eq_ix2 j)).trans ((Blk.dbg_at _ _ _ _).trans (congrArg (· + _) (congrArg _ (eq_ix2 j).symm))))
    (le_of_eq N_0) t0_15 rfl j, zero_add]
  exact over_rows m c fun ρ => ρ.dq (j 1)

end Cert.TailIdeal.Hand

end
-- ==== Proof.TailRef.lean ====
/-
  The reference's tail and its gradients, read at an index: over real arguments each value is the row's number.
-/
module

public import proofs.«01_k».proof.Proof.Gen.TailRefIdeal.Read
public import proofs.«01_k».proof.Proof.TailFin

@[expose] public section

set_option maxRecDepth 16384

noncomputable section

namespace Cert.TailRefIdeal.Hand

open Cert.TailRefIdeal Cert.TailRefIdeal.Read Idealize.ShloMosaic Cert.Tail

/-- The nine arguments. -/
structure Args where
  x0 : (⟨S4096x2048, .f32⟩ : BufTy).Contents (Elt Ideal)
  x1 : (⟨S8x512x2048, .f32⟩ : BufTy).Contents (Elt Ideal)
  x2 : (⟨S4096x6144, .bf16⟩ : BufTy).Contents (Elt Ideal)
  x3 : (⟨S4096x1024, .bf16⟩ : BufTy).Contents (Elt Ideal)
  x4 : (⟨S4096x1024, .f32⟩ : BufTy).Contents (Elt Ideal)
  x5 : (⟨S1024x1024, .bf16⟩ : BufTy).Contents (Elt Ideal)
  x6 : (⟨S1x1024, .f32⟩ : BufTy).Contents (Elt Ideal)
  x7 : (⟨S2048x2048, .bf16⟩ : BufTy).Contents (Elt Ideal)
  x8 : (⟨S1x2048, .f32⟩ : BufTy).Contents (Elt Ideal)

namespace Args

variable (A : Args)

def row (R : Fin 4096) : Row := rowOf A.x0 A.x1 A.x2 A.x3 A.x4 A.x5 A.x6 A.x7 A.x8 R

variable (R : Fin 4096) (j : Fin 1024) (n : Fin 2048) (u : Fin 1)

theorem t_at : val_main_v1 A.x1 (ix2 R n) = (A.row R).t n := by
  pointwise [val_main_v1, val_main_v0]
  rfl

theorem ha_at : val_main_v5 A.x4 (ix2 R j) = wHalf * (A.row R).a j := by
  pointwise [val_main_v5, val_main_v4, val_main_cst]
  rfl

theorem aa_at : val_main_v6 A.x4 (ix2 R j) = (A.row R).a j * (A.row R).a j := by
  pointwise [val_main_v6]
  rfl

theorem z_at : val_main_v28 A.x2 (ix2 R j) = (A.row R).z j := by
  pointwise [val_main_v28, val_main_v27]
  rfl

theorem sz_at : val_main_v39_2 A.x2 (ix2 R j) = (A.row R).sz j := by
  pointwise [val_main_v39_2, val_main_call0_v4, val_main_call0_v3, val_main_call0_v2, val_main_call0_v1, val_main_call0_v0,
    val_main_call0_cst, val_main_call0_cst_0]
  rw [z_at]
  unfold Row.sz
  rw [zero_sub]

theorem dsz_at : val_main_v39_1 A.x2 (ix2 R j) = (A.row R).sz j * (1 - (A.row R).sz j) := by
  pointwise [val_main_v39_1, val_main_call0_v7, val_main_call0_v6, val_main_call0_cst_1]
  rw [sz_at]

theorem silz_at : val_main_v39_0 A.x2 (ix2 R j) = (A.row R).silz j := by
  pointwise [val_main_v39_0]
  rw [z_at, sz_at]
  rfl

variable {A} (H : ∀ R, (A.row R).Reals)

include H

theorem th_at : val_main_v15 A.x4 (ix2 R j) = (A.row R).th j := by
  pointwise [val_main_v15, val_main_v14, val_main_v13, val_main_v12, val_main_v11, val_main_v10, val_main_v9, val_main_v8,
    val_main_v7, val_main_cst_0, val_main_cst_1, val_main_cst_2]
  rw [aa_at]
  exact congrArg (fun v => Ideal.tanh (wSlope * ((A.row R).a j + v))) ((H R).cube j)

theorem th1_at : val_main_v22 A.x4 (ix2 R j) = 1 + (A.row R).th j := by
  pointwise [val_main_v22, val_main_v21, val_main_cst_5]
  rw [th_at R j H]

theorem dth_at : val_main_v20 A.x4 (ix2 R j) = (1 + (A.row R).th j) * (1 - (A.row R).th j) := by
  pointwise [val_main_v20, val_main_v19, val_main_v18, val_main_v17, val_main_v16, val_main_cst_3, val_main_cst_4]
  rw [th_at R j H]

theorem yg_at : val_main_v23 A.x4 (ix2 R j) = (A.row R).yg j := by
  pointwise [val_main_v23]
  rw [ha_at, th1_at R j H]
  unfold Row.yg
  rw [mul_comm wHalf, mul_assoc]

theorem q_at : val_main_v24 A.x4 A.x5 (ix2 R j) = (A.row R).q j := by
  rw [val_main_v24_apply]
  refine Finset.sum_congr rfl fun k _ => congrArg₂ (· * ·) ((congrArg _ ?_).trans (yg_at R k H)) ?_
  · funext a; fin_cases a <;> rfl
  · refine congrArg A.x5 (?_ : _ = ix2 k j)
    funext a; fin_cases a <;> rfl

theorem sq_at : val_main_v34 A.x4 A.x5 A.x6 (ix2 R j) = (A.row R).sq j := by
  pointwise [val_main_v34, val_main_v33, val_main_v32, val_main_v31, val_main_v30, val_main_v29, val_main_v26, val_main_v25,
    val_main_cst_6, val_main_cst_7]
  rw [q_at R j H]
  unfold Row.sq
  rw [zero_sub]
  rfl

theorem dsq_at : val_main_v37 A.x4 A.x5 A.x6 (ix2 R j) = (A.row R).sq j * (1 - (A.row R).sq j) := by
  pointwise [val_main_v37, val_main_v36, val_main_v35, val_main_cst_8]
  rw [sq_at R j H]

theorem y2_at : val_main_v38 A.x4 A.x5 A.x6 (ix2 R j) = (A.row R).y2 j := by
  pointwise [val_main_v38]
  rw [yg_at R j H, sq_at R j H]
  rfl

theorem ys_at : val_main_v40 A.x2 A.x4 A.x5 A.x6 (ix2 R j) = (A.row R).ys j := by
  pointwise [val_main_v40]
  rw [y2_at R j H, silz_at]
  rfl

theorem mix_at : val_main_v42 A.x2 A.x3 A.x4 A.x5 A.x6 (ix2 R n) = (A.row R).mix n := by
  pointwise [val_main_v42, val_main_v41]
  exact dite_congr rfl (fun _ => rfl) fun _ => ys_at R _ H

theorem o_at : val_main_v43 A.x2 A.x3 A.x4 A.x5 A.x6 A.x7 (ix2 R n) = (A.row R).o n := by
  rw [val_main_v43_apply]
  refine (Finset.sum_congr rfl fun k _ => congrArg₂ (· * ·) ((congrArg _ ?_).trans (mix_at R k H)) (?_ : _ = (A.row R).wo k n)).trans ?_
  · funext a; fin_cases a <;> rfl
  · refine congrArg A.x7 (?_ : _ = ix2 k n)
    funext a; fin_cases a <;> rfl
  · exact (A.row R).sum_mix n

theorem var_at : val_main_v50 A.x2 A.x3 A.x4 A.x5 A.x6 A.x7 (ix2 R u) = Ideal.div (A.row R).ms wLen + wEps := by
  pointwise [val_main_v50, val_main_v49, val_main_v48, val_main_v47, val_main_v46, val_main_v45, val_main_v44, val_main_cst_9,
    val_main_cst_10, val_main_cst_11]
  simp only [o_at R _ H]
  rfl

theorem r_at : val_main_v51 A.x2 A.x3 A.x4 A.x5 A.x6 A.x7 (ix2 R u) = (A.row R).r := by
  pointwise [val_main_v51]
  rw [var_at R u H]
  rfl

theorem on_at : val_main_v56 A.x2 A.x3 A.x4 A.x5 A.x6 A.x7 (ix2 R n) = (A.row R).on n := by
  pointwise [val_main_v56, val_main_v55]
  rw [o_at R n H, r_at R _ H]
  rfl

theorem err_at : val_main_v60 A.x0 A.x1 A.x2 A.x3 A.x4 A.x5 A.x6 A.x7 A.x8 (ix2 R n) = (A.row R).err n := by
  pointwise [val_main_v60, val_main_v59, val_main_v58, val_main_v57]
  rw [on_at R n H, t_at]
  rfl

theorem dy_at : val_main_v74 A.x0 A.x1 A.x2 A.x3 A.x4 A.x5 A.x6 A.x7 A.x8 (ix2 R n) = (A.row R).dy n := by
  pointwise [val_main_v74, val_main_v73, val_main_v72, val_main_v71, val_main_v70, val_main_v69, val_main_v63, val_main_v62,
    val_main_cst_13, val_main_cst_18, val_main_cst_19, val_main_cst_20]
  rw [err_at R n H]
  exact (H R).dy_ref n

theorem don_at : val_main_v79 A.x0 A.x1 A.x2 A.x3 A.x4 A.x5 A.x6 A.x7 A.x8 (ix2 R n) = (A.row R).don n := by
  pointwise [val_main_v79, val_main_v78]
  rw [dy_at R n H]
  rfl

theorem c_at (i : (⟨1, ![4096]⟩ : Shape).Idx) (hi : i = ix1 R) : val_main_v88 A.x0 A.x1 A.x2 A.x3 A.x4 A.x5 A.x6 A.x7 A.x8 i =
    Ideal.div ((∑ k : Fin 2048, (A.row R).o k * (A.row R).don k)
      * (Ideal.ofBits .f32 0xBF000000#32 * Ideal.div (A.row R).r (Ideal.div (A.row R).ms wLen + wEps))) wLen := by
  subst hi
  pointwise [val_main_v88, val_main_v87, val_main_v86, val_main_v85, val_main_v82, val_main_v81, val_main_v80, val_main_v54,
    val_main_v53, val_main_v52, val_main_cst_12, val_main_cst_22, val_main_cst_23, val_main_cst_24]
  simp only [o_at R _ H, don_at R _ H, r_at R _ H, var_at R _ H]
  exact Fin.sum_univ_one _

theorem dO_at : val_main_v93 A.x0 A.x1 A.x2 A.x3 A.x4 A.x5 A.x6 A.x7 A.x8 (ix2 R n) = (A.row R).dO n := by
  pointwise [val_main_v93, val_main_v92, val_main_v91, val_main_v90, val_main_v89, val_main_v84, val_main_v83]
  rw [o_at R n H, don_at R n H, r_at R _ H, c_at R H _ rfl]
  exact (H R).dO_ref n

theorem dmix_at : val_main_v94 A.x0 A.x1 A.x2 A.x3 A.x4 A.x5 A.x6 A.x7 A.x8 (ix2 R n) = (A.row R).dmix n := by
  rw [val_main_v94_apply]
  refine Finset.sum_congr rfl fun k _ => congrArg₂ (· * ·) ((congrArg _ ?_).trans (dO_at R k H)) ?_
  · funext a; fin_cases a <;> rfl
  · refine congrArg A.x7 (?_ : _ = ix2 n k)
    funext a; fin_cases a <;> rfl

theorem dright_at : val_main_v95 A.x0 A.x1 A.x2 A.x3 A.x4 A.x5 A.x6 A.x7 A.x8 (ix2 R j) = (A.row R).dmix (hi j) := by
  pointwise [val_main_v95]
  exact dmix_at R (hi j) H

theorem ds_at : val_main_v97 A.x0 A.x1 A.x2 A.x3 A.x4 A.x5 A.x6 A.x7 A.x8 (ix2 R j) = (A.row R).ds j := by
  pointwise [val_main_v97]
  rw [dright_at R j H, silz_at]
  rfl

theorem dz_at : val_main_v98 A.x0 A.x1 A.x2 A.x3 A.x4 A.x5 A.x6 A.x7 A.x8 (ix2 R j) = (A.row R).dz j := by
  pointwise [val_main_v98, val_main_call1_v2, val_main_call1_v1, val_main_call1_v0, val_main_v96]
  rw [dright_at R j H, y2_at R j H, dsz_at, sz_at, z_at]
  exact (H R).dz_ref j

theorem dq_at : val_main_v101 A.x0 A.x1 A.x2 A.x3 A.x4 A.x5 A.x6 A.x7 A.x8 (ix2 R j) = (A.row R).dq j := by
  pointwise [val_main_v101, val_main_v99]
  rw [yg_at R j H, ds_at R j H, dsq_at R j H, mul_comm ((A.row R).yg j)]
  rfl

theorem dyg_at : val_main_v105 A.x0 A.x1 A.x2 A.x3 A.x4 A.x5 A.x6 A.x7 A.x8 (ix2 R j) = (A.row R).dyg j := by
  pointwise [val_main_v105, val_main_v100]
  rw [ds_at R j H, sq_at R j H, val_main_v104_apply]
  refine congrArg _ (Finset.sum_congr rfl fun k _ => congrArg₂ (· * ·) ((congrArg _ ?_).trans (dq_at R k H)) ?_)
  · funext a; fin_cases a <;> rfl
  · refine congrArg A.x5 (?_ : _ = ix2 j k)
    funext a; fin_cases a <;> rfl

theorem dyp_at : val_main_v124 A.x0 A.x1 A.x2 A.x3 A.x4 A.x5 A.x6 A.x7 A.x8 (ix2 R j) = (A.row R).dyp j := by
  pointwise [val_main_v124, val_main_v123, val_main_v122, val_main_v121, val_main_v120, val_main_v119, val_main_v118,
    val_main_v117, val_main_v116, val_main_v115, val_main_v114, val_main_v113, val_main_v112, val_main_v111, val_main_v110,
    val_main_v109, val_main_v108, val_main_v107, val_main_v106, val_main_cst_26, val_main_cst_27, val_main_cst_28, val_main_cst_29]
  rw [dyg_at R j H, dth_at R j H, th1_at R j H, ha_at, aa_at]
  exact (H R).dyp_ref j _ _ rfl rfl

/-- The half of the rows' mean squared errors. -/
theorem loss_at (l : Fin 128) : val_main_v135 A.x0 A.x1 A.x2 A.x3 A.x4 A.x5 A.x6 A.x7 A.x8 (ix2 u l) =
    wHalf * ∑ R : Fin 4096, (A.row R).loss := by
  pointwise [val_main_v135, val_main_v68, val_main_v67, val_main_v66, val_main_v65, val_main_v64, val_main_v61,
    val_main_cst_14, val_main_cst_15, val_main_cst_16, val_main_cst_17]
  simp only [err_at _ _ H]
  rfl

theorem dg_at : val_main_v77 A.x0 A.x1 A.x2 A.x3 A.x4 A.x5 A.x6 A.x7 A.x8 (ix2 u n) =
    ∑ R : Fin 4096, (A.row R).dy n * (A.row R).on n := by
  pointwise [val_main_v77, val_main_v76, val_main_v75, val_main_cst_21]
  simp only [on_at _ _ H, dy_at _ _ H]
  exact Finset.sum_congr rfl fun R _ => mul_comm _ _

theorem db_at : val_main_v103 A.x0 A.x1 A.x2 A.x3 A.x4 A.x5 A.x6 A.x7 A.x8 (ix2 u j) = ∑ R : Fin 4096, (A.row R).dq j := by
  pointwise [val_main_v103, val_main_v102, val_main_cst_25]
  simp only [dq_at _ _ H]

/-! The eleven results, as functions of the index. -/

theorem res0 : val_main_v74 A.x0 A.x1 A.x2 A.x3 A.x4 A.x5 A.x6 A.x7 A.x8 = (fun i => (A.row (i 0)).dy (i 1) : S4096x2048.Idx → EReal) := by
  funext i
  obtain ⟨R, j, rfl⟩ : ∃ (R : Fin 4096) (j : Fin 2048), i = ix2 R j := ⟨i 0, i 1, by funext a; fin_cases a <;> rfl⟩
  exact dy_at R j H

theorem res1 : val_main_v125 A.x0 A.x1 A.x2 A.x3 A.x4 A.x5 A.x6 A.x7 A.x8 = (fun i => (A.row (i 0)).dO (i 1) : S4096x2048.Idx → EReal) := by
  funext i
  obtain ⟨R, j, rfl⟩ : ∃ (R : Fin 4096) (j : Fin 2048), i = ix2 R j := ⟨i 0, i 1, by funext a; fin_cases a <;> rfl⟩
  pointwise [val_main_v125]
  exact dO_at R j H

theorem res2 : val_main_v127 A.x2 A.x3 A.x4 A.x5 A.x6 = (fun i => (A.row (i 1)).mix (i 0) : S2048x4096.Idx → EReal) := by
  funext i
  obtain ⟨R, j, rfl⟩ : ∃ (R : Fin 4096) (j : Fin 2048), i = ix2 j R := ⟨i 1, i 0, by funext a; fin_cases a <;> rfl⟩
  pointwise [val_main_v127, val_main_v126]
  exact mix_at R j H

theorem res3 : val_main_v129 A.x0 A.x1 A.x2 A.x3 A.x4 A.x5 A.x6 A.x7 A.x8 = (fun i => (A.row (i 0)).dmix (lo (i 1)) : S4096x1024.Idx → EReal) := by
  funext i
  obtain ⟨R, j, rfl⟩ : ∃ (R : Fin 4096) (j : Fin 1024), i = ix2 R j := ⟨i 0, i 1, by funext a; fin_cases a <;> rfl⟩
  pointwise [val_main_v129, val_main_v128]
  exact dmix_at R (lo j) H

theorem res4 : val_main_v130 A.x0 A.x1 A.x2 A.x3 A.x4 A.x5 A.x6 A.x7 A.x8 = (fun i => (A.row (i 0)).dyp (i 1) : S4096x1024.Idx → EReal) := by
  funext i
  obtain ⟨R, j, rfl⟩ : ∃ (R : Fin 4096) (j : Fin 1024), i = ix2 R j := ⟨i 0, i 1, by funext a; fin_cases a <;> rfl⟩
  pointwise [val_main_v130]
  exact dyp_at R j H

theorem res5 : val_main_v131 A.x0 A.x1 A.x2 A.x3 A.x4 A.x5 A.x6 A.x7 A.x8 = (fun i => (A.row (i 0)).dz (i 1) : S4096x1024.Idx → EReal) := by
  funext i
  obtain ⟨R, j, rfl⟩ : ∃ (R : Fin 4096) (j : Fin 1024), i = ix2 R j := ⟨i 0, i 1, by funext a; fin_cases a <;> rfl⟩
  pointwise [val_main_v131]
  exact dz_at R j H

theorem res6 : val_main_v133 A.x4 = (fun i => (A.row (i 1)).yg (i 0) : S1024x4096.Idx → EReal) := by
  funext i
  obtain ⟨R, j, rfl⟩ : ∃ (R : Fin 4096) (j : Fin 1024), i = ix2 j R := ⟨i 1, i 0, by funext a; fin_cases a <;> rfl⟩
  pointwise [val_main_v133, val_main_v132]
  exact yg_at R j H

theorem res7 : val_main_v134 A.x0 A.x1 A.x2 A.x3 A.x4 A.x5 A.x6 A.x7 A.x8 = (fun i => (A.row (i 0)).dq (i 1) : S4096x1024.Idx → EReal) := by
  funext i
  obtain ⟨R, j, rfl⟩ : ∃ (R : Fin 4096) (j : Fin 1024), i = ix2 R j := ⟨i 0, i 1, by funext a; fin_cases a <;> rfl⟩
  pointwise [val_main_v134]
  exact dq_at R j H

theorem res8 : val_main_v135 A.x0 A.x1 A.x2 A.x3 A.x4 A.x5 A.x6 A.x7 A.x8 = (fun i => wHalf * ∑ R : Fin 4096, (A.row R).loss : S1x128.Idx → EReal) := by
  funext i
  obtain ⟨R, j, rfl⟩ : ∃ (R : Fin 1) (j : Fin 128), i = ix2 R j := ⟨i 0, i 1, by funext a; fin_cases a <;> rfl⟩
  exact loss_at R H j

theorem res9 : val_main_v77 A.x0 A.x1 A.x2 A.x3 A.x4 A.x5 A.x6 A.x7 A.x8 = (fun i => ∑ R : Fin 4096, (A.row R).dy (i 1) * (A.row R).on (i 1) : S1x2048.Idx → EReal) := by
  funext i
  obtain ⟨R, j, rfl⟩ : ∃ (R : Fin 1) (j : Fin 2048), i = ix2 R j := ⟨i 0, i 1, by funext a; fin_cases a <;> rfl⟩
  exact dg_at j R H

theorem res10 : val_main_v103 A.x0 A.x1 A.x2 A.x3 A.x4 A.x5 A.x6 A.x7 A.x8 = (fun i => ∑ R : Fin 4096, (A.row R).dq (i 1) : S1x1024.Idx → EReal) := by
  funext i
  obtain ⟨R, j, rfl⟩ : ∃ (R : Fin 1) (j : Fin 1024), i = ix2 R j := ⟨i 0, i 1, by funext a; fin_cases a <;> rfl⟩
  exact db_at j R H

end Args

end Cert.TailRefIdeal.Hand

end
-- ==== Proof.TailClaims.lean ====
/-
  The tail's value: over real arguments, kernel and reference end at the rows' own numbers.
-/
module

public import proofs.«01_k».proof.Proof.TailFrame
public import proofs.«01_k».proof.Proof.TailArr
public import proofs.«01_k».proof.Proof.TailRef

@[expose] public section

noncomputable section

namespace Cert

open Idealize.ShloMosaic Idealize.SL.Sem Cert.Tail

/-- Under the precondition every element of the nine arguments is a real, so every row is. -/
theorem Pre_finite_tail.reals [Pre_finite_tail.Facts] (A : TailRefIdeal.Hand.Args)
    (e : Pre_finite_tail.fn (F := Ideal) A.x0 A.x1 A.x2 A.x3 A.x4 A.x5 A.x6 A.x7 A.x8 = fun _ => 1#1) (R : Fin 4096) :
    (A.row R).Reals := by
  have e0 := congrFun e (Shape.Idx.first Pre_finite_tail.Facts.h_S_)
  unfold Pre_finite_tail.fn Pre_finite_tail.fn_part1 Pre_finite_tail.fn_part2 at e0
  simp only [andi] at e0
  obtain ⟨e1, h8⟩ := IntOp.andi_eq_one.mp e0
  obtain ⟨e2, h7⟩ := IntOp.andi_eq_one.mp e1
  obtain ⟨e3, h6⟩ := IntOp.andi_eq_one.mp e2
  obtain ⟨e4, h5⟩ := IntOp.andi_eq_one.mp e3
  obtain ⟨e5, h4⟩ := IntOp.andi_eq_one.mp e4
  obtain ⟨e6, h3⟩ := IntOp.andi_eq_one.mp e5
  obtain ⟨e7, h2⟩ := IntOp.andi_eq_one.mp e6
  obtain ⟨h0, h1⟩ := IntOp.andi_eq_one.mp e7
  exact ⟨fun _ => fn_of_all _ _ _ _ _ _ h0 _, fun _ => fn_of_all _ _ _ _ _ _ h1 _, fun _ => fn_of_all _ _ _ _ _ _ h2 _,
    fun _ => fn_of_all _ _ _ _ _ _ h3 _, fun _ => fn_of_all _ _ _ _ _ _ h4 _, fun _ _ => fn_of_all _ _ _ _ _ _ h5 _,
    fun _ => fn_of_all _ _ _ _ _ _ h6 _, fun _ _ => fn_of_all _ _ _ _ _ _ h7 _, fun _ => fn_of_all _ _ _ _ _ _ h8 _⟩

namespace TailClaims

variable [Pre_finite_tail.Facts]

theorem frame_kip : quiescent_TailIdeal_pre_finite_tail := fun m ρ _ => frame_ki m ρ trivial
theorem frame_rip : quiescent_TailRefIdeal_pre_finite_tail := fun m ρ _ => frame_ri m ρ trivial

/-- Device `c`'s arguments, the kernel's and the reference's. -/
def args (m : (ℓ : Loc TailIdeal.nD TailIdeal.τ TailIdeal.sig) → Buf (Elt Ideal) ℓ) (c : Dev TailIdeal.nD) : TailRefIdeal.Hand.Args where
  x0 := m ((c.tc : Thread TailIdeal.nD TailIdeal.τ).loc TailIdeal.main_arg0)
  x1 := m ((c.tc : Thread TailIdeal.nD TailIdeal.τ).loc TailIdeal.main_arg1)
  x2 := m ((c.tc : Thread TailIdeal.nD TailIdeal.τ).loc TailIdeal.main_arg2)
  x3 := m ((c.tc : Thread TailIdeal.nD TailIdeal.τ).loc TailIdeal.main_arg3)
  x4 := m ((c.tc : Thread TailIdeal.nD TailIdeal.τ).loc TailIdeal.main_arg4)
  x5 := m ((c.tc : Thread TailIdeal.nD TailIdeal.τ).loc TailIdeal.main_arg5)
  x6 := m ((c.tc : Thread TailIdeal.nD TailIdeal.τ).loc TailIdeal.main_arg6)
  x7 := m ((c.tc : Thread TailIdeal.nD TailIdeal.τ).loc TailIdeal.main_arg7)
  x8 := m ((c.tc : Thread TailIdeal.nD TailIdeal.τ).loc TailIdeal.main_arg8)
def refArgs (m : (ℓ : Loc TailRefIdeal.nD TailRefIdeal.τ TailRefIdeal.sig) → Buf (Elt Ideal) ℓ) (c : Dev TailRefIdeal.nD) :
    TailRefIdeal.Hand.Args where
  x0 := m ((c.tc : Thread TailRefIdeal.nD TailRefIdeal.τ).loc TailRefIdeal.main_arg0)
  x1 := m ((c.tc : Thread TailRefIdeal.nD TailRefIdeal.τ).loc TailRefIdeal.main_arg1)
  x2 := m ((c.tc : Thread TailRefIdeal.nD TailRefIdeal.τ).loc TailRefIdeal.main_arg2)
  x3 := m ((c.tc : Thread TailRefIdeal.nD TailRefIdeal.τ).loc TailRefIdeal.main_arg3)
  x4 := m ((c.tc : Thread TailRefIdeal.nD TailRefIdeal.τ).loc TailRefIdeal.main_arg4)
  x5 := m ((c.tc : Thread TailRefIdeal.nD TailRefIdeal.τ).loc TailRefIdeal.main_arg5)
  x6 := m ((c.tc : Thread TailRefIdeal.nD TailRefIdeal.τ).loc TailRefIdeal.main_arg6)
  x7 := m ((c.tc : Thread TailRefIdeal.nD TailRefIdeal.τ).loc TailRefIdeal.main_arg7)
  x8 := m ((c.tc : Thread TailRefIdeal.nD TailRefIdeal.τ).loc TailRefIdeal.main_arg8)

set_option maxHeartbeats 2000000 in
open TailIdeal.Hand TailRefIdeal.Hand.Args TailRefIdeal.Read in
/-- Kernel and reference end at the rows' numbers. -/
theorem algebraic : algebraic_TailIdeal_TailRefIdeal_pre_finite_tail := by
  intro m ρ m' ρ' hpre hagree
  have H : ∀ c R, ((args m c).row R).Reals := fun c => Pre_finite_tail.reals (args m c) (hpre c)
  refine ⟨fun c => (TailIdeal.Gen.dats m 0 c).arrAt 7 TailIdeal.cfg0.N, fun c => (TailIdeal.Gen.dats m 0 c).arrAt 8 TailIdeal.cfg0.N,
    fun c => (TailIdeal.Gen.dats m 0 c).arrAt 9 TailIdeal.cfg0.N, fun c => (TailIdeal.Gen.dats m 0 c).arrAt 10 TailIdeal.cfg0.N,
    fun c => (TailIdeal.Gen.dats m 0 c).arrAt 11 TailIdeal.cfg0.N, fun c => (TailIdeal.Gen.dats m 0 c).arrAt 12 TailIdeal.cfg0.N,
    fun c => (TailIdeal.Gen.dats m 0 c).arrAt 13 TailIdeal.cfg0.N, fun c => (TailIdeal.Gen.dats m 0 c).arrAt 14 TailIdeal.cfg0.N,
    fun c => (TailIdeal.Gen.dats m 0 c).arrAt 15 TailIdeal.cfg0.N, fun c => (TailIdeal.Gen.dats m 0 c).arrAt 16 TailIdeal.cfg0.N,
    fun c => (TailIdeal.Gen.dats m 0 c).arrAt 17 TailIdeal.cfg0.N, ?_, ?_⟩
  · exact (θ_run TailIdeal.defs _ _).mono (fun _ h c =>
      ⟨(h.2 c).1 7, (h.2 c).1 8, (h.2 c).1 9, (h.2 c).1 10, (h.2 c).1 11, (h.2 c).1 12, (h.2 c).1 13, (h.2 c).1 14,
        (h.2 c).1 15, (h.2 c).1 16, (h.2 c).1 17, h.1 c⟩)
      (θ_run_and (TailIdeal.Gen.unchanged m ρ) (TailIdeal.Gen.run_main m ρ))
  · refine (θ_run TailRefIdeal.defs _ _).mono (fun _ h c => ?_) (TailRefIdeal.Value.run (F := Ideal) m' ρ')
    obtain ⟨r0, r1, r2, r3, r4, r5, r6, r7, r8, r9, r10, hr⟩ := h c
    obtain ⟨a0, a1, a2, a3, a4, a5, a6, a7, a8⟩ := hagree c
    have eA : refArgs m' c = args m c := by
      unfold refArgs args
      rw [a0, a1, a2, a3, a4, a5, a6, a7, a8]
    have H' : ∀ R, ((refArgs m' c).row R).Reals := by rw [eA]; exact H c
    refine ⟨r0.trans ((val_main_v74_eq _).trans ?_), r1.trans ((val_main_v125_eq _).trans ?_),
      r2.trans ((val_main_v127_eq _).trans ?_), r3.trans ((val_main_v129_eq _).trans ?_),
      r4.trans ((val_main_v130_eq _).trans ?_), r5.trans ((val_main_v131_eq _).trans ?_),
      r6.trans ((val_main_v133_eq _).trans ?_), r7.trans ((val_main_v134_eq _).trans ?_),
      r8.trans ((val_main_v135_eq _).trans ?_), r9.trans ((val_main_v77_eq _).trans ?_),
      r10.trans ((val_main_v103_eq _).trans ?_), hr⟩
    · exact (res0 H').trans (by rw [eA]; exact (arr7 m c).symm)
    · exact (res1 H').trans (by rw [eA]; exact (arr8 m c).symm)
    · exact (res2 H').trans (by rw [eA]; exact (arr9 m c).symm)
    · exact (res3 H').trans (by rw [eA]; exact (arr10 m c).symm)
    · exact (res4 H').trans (by rw [eA]; exact (arr11 m c).symm)
    · exact (res5 H').trans (by rw [eA]; exact (arr12 m c).symm)
    · exact (res6 H').trans (by rw [eA]; exact (arr13 m c).symm)
    · exact (res7 H').trans (by rw [eA]; exact (arr14 m c).symm)
    · exact (res8 H').trans (by rw [eA]; exact (arr15 m c).symm)
    · exact (res9 H').trans (by rw [eA]; exact (arr16 m c).symm)
    · exact (res10 H').trans (by rw [eA]; exact (arr17 m c).symm)

end TailClaims

end Cert

end
-- ==== Proof.BwdSetup.lean ====
/- What the runs of the input projection's backward kernel share: the arrays as launched, the windows' blocks, the
   staging and scratch buffers and the cells of its own copies. -/
module

public import proofs.«01_k».proof.Proof.Gen.BwdInIdeal.Launch
public import proofs.«01_k».proof.Proof.Gen.BwdInIdeal.Skeleton
public import proofs.«01_k».proof.Proof.Gen.BwdInIdeal.Points
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.BwdInIdeal.Bwd

open Cert.BwdInIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)
/-! ## What the pipeline finds -/

/-- The buffers the pipeline finds: as launched. -/
abbrev V (c : Dev nD) (b : Ref sig .tc) : Buf (Elt F) ((c : Thread nD τ).loc b) := m ((c : Thread nD τ).loc b)

set_option maxHeartbeats 800000 in
/-- The program is the pipeline alone. -/
theorem hmain (𝒱₀ : Variants) : Pipeline.HMain (Ix := Unit) (Name := ℕ) (U := Pipeline.UD sig nD τ) (Lvl := ℕ) cfgs 0 defs₀ 𝒱₀ m (main (F := F)) (V m) :=
  Pipeline.hmain_region cfgs 0 defs₀ 𝒱₀ m main fun c => (main_chain c).trans rfl

theorem V_main_arg0 (c : Dev nD) : V m c main_arg0 = m ((c : Thread nD τ).loc main_arg0) := rfl
theorem V_main_arg1 (c : Dev nD) : V m c main_arg1 = m ((c : Thread nD τ).loc main_arg1) := rfl
theorem V_main_arg2 (c : Dev nD) : V m c main_arg2 = m ((c : Thread nD τ).loc main_arg2) := rfl
theorem V_main_arg3 (c : Dev nD) : V m c main_arg3 = m ((c : Thread nD τ).loc main_arg3) := rfl
theorem V_main_arg4 (c : Dev nD) : V m c main_arg4 = m ((c : Thread nD τ).loc main_arg4) := rfl
theorem V_main_arg5 (c : Dev nD) : V m c main_arg5 = m ((c : Thread nD τ).loc main_arg5) := rfl
theorem V_main_arg6 (c : Dev nD) : V m c main_arg6 = m ((c : Thread nD τ).loc main_arg6) := rfl

/-! ## The windows' blocks -/

/-- Window `w`'s block at point `t`, read off its array as the pipeline finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's staging buffer holds its block at every point, when the body leaves it in place. -/
theorem before0_0_of {c : Dev nD} (dat : Dat τ (Elt F) Unit ℕ (Pipeline.UD sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's staging buffer holds its block at every point, when the body leaves it in place. -/
theorem before0_1_of {c : Dev nD} (dat : Dat τ (Elt F) Unit ℕ (Pipeline.UD sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's staging buffer holds its block at every point, when the body leaves it in place. -/
theorem before0_2_of {c : Dev nD} (dat : Dat τ (Elt F) Unit ℕ (Pipeline.UD sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's staging buffer holds its block at every point, when the body leaves it in place. -/
theorem before0_3_of {c : Dev nD} (dat : Dat τ (Elt F) Unit ℕ (Pipeline.UD sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's staging buffer holds its block at every point, when the body leaves it in place. -/
theorem before0_4_of {c : Dev nD} (dat : Dat τ (Elt F) Unit ℕ (Pipeline.UD sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's staging buffer holds its block at every point, when the body leaves it in place. -/
theorem before0_5_of {c : Dev nD} (dat : Dat τ (Elt F) Unit ℕ (Pipeline.UD sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-! ## The arguments at the end -/

/-- The argument arrays end unchanged, once the run leaves every array where the pipeline says. -/
theorem frame_of (dats : (p : Fin 1) → (c : Dev nD) → Dat τ (Elt F) Unit ℕ (Pipeline.UD sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => ⟨((h c).1 0).trans (((dats 0 c).arrAt_in 0 rfl _).trans ((hA c 0).trans (V_main_arg0 m c))),
      ((h c).1 1).trans (((dats 0 c).arrAt_in 1 rfl _).trans ((hA c 1).trans (V_main_arg1 m c))),
      ((h c).1 2).trans (((dats 0 c).arrAt_in 2 rfl _).trans ((hA c 2).trans (V_main_arg2 m c))),
      ((h c).2 main_arg3 (Pipeline.mem_restRefs_of main_arg3 (by decide) (by decide))).trans (V_main_arg3 m c),
      ((h c).1 3).trans (((dats 0 c).arrAt_in 3 rfl _).trans ((hA c 3).trans (V_main_arg4 m c))),
      ((h c).1 4).trans (((dats 0 c).arrAt_in 4 rfl _).trans ((hA c 4).trans (V_main_arg5 m c))),
      ((h c).1 5).trans (((dats 0 c).arrAt_in 5 rfl _).trans ((hA c 5).trans (V_main_arg6 m c)))⟩) h

/-! ## The body's branch conditions -/

/-- The condition of the body's branch: this is the first point. -/
abbrev cond0_0 (i : grid0.Coords) : Prop := (Scalar.cmpi .ne (Scalar.extui (Scalar.cmpi .eq (BitVec.ofNat 32 (i 0).val) 0#32)) 0#32) = 1#1
/-- It holds at the first point only. -/
theorem hcond0_0 : ∀ t : Fin cfg0.N, cond0_0 (grid0.coords t) ↔ t.val % 16 = 0 :=
  (fun t => by
    have ht : t.val < 16 := Nat.lt_of_lt_of_eq t.isLt N_0
    have e0 : (grid0.coords t 0).val = t.val / 1 % 16 := Pipeline.Grid.coords_val t 0 (by decide) rfl
    simp only [cond0_0, e0]
    word_cmp
   : ∀ t : Fin grid0.N, cond0_0 (grid0.coords t) ↔ t.val % 16 = 0)

/-! ## The buffers of a point -/

/-- A staging buffer of output window 6, through which its contents are stated. -/
abbrev VO0_6 : View sig .tc .vmem S256x2048 .f32 := (Memref.whole cc0_stg6_0 : Memref sig .tc .vmem S256x2048 .f32).view
/-- A staging buffer of output window 7, through which its contents are stated. -/
abbrev VO0_7 : View sig .tc .vmem S1x2048 .f32 := (Memref.whole cc0_stg7_0 : Memref sig .tc .vmem S1x2048 .f32).view
/-- Each window's staging buffer at point `t`, whole. -/
abbrev ms0_0 (t : Fin cfg0.N) : Memref sig .tc .vmem S4x256x1024 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S256x1024 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S256x1024 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S256x2048 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S256x2048 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x2048 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S256x2048 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x2048 .f32 := win0_7.stage (cfg0.slots t 7)
abbrev hs0_7 (t : Fin cfg0.N) : (ms0_7 t).IsWhole := hstage0_7 ((cfg0.slots t 7).cast nbuf0_7)
/-- The scratch operands: whole buffers of the kernel's own. -/
abbrev scM0_0 : Memref sig .tc .vmem S8x2048x768 .bf16 := Memref.whole cc0_scratch0
/-- The scratch the kernel carries between points. -/
abbrev VS0_0 : View sig .tc .vmem S8x2048x768 .bf16 := scM0_0.view
/-- The operands left in HBM that the body copies into scratch itself, whole. -/
abbrev hbM0_0 : Memref sig .tc .hbm S8x3x2048x256 .bf16 := Memref.whole main_arg3
/-- The buffer of `M` on core `c`, and it held whole at `f`. -/
abbrev HbBuf0 (c : Dev nD) {sp : Space} {S : Shape} {e : EltTy} (M : Memref sig .tc sp S e) : Type := Buf (Elt F) (M.view.loc (c : Thread nD τ))
abbrev hbPt0 (c : Dev nD) {sp : Space} {S : Shape} {e : EltTy} (M : Memref sig .tc sp S e) (f : HbBuf0 (F := F) c M) : sProp 𝕄 :=
  M.view.loc (c : Thread nD τ) ↦{fullShare} f

/-- The counters of the body's own copies. -/
abbrev osem0 : Fin 24 → SemLoc sig := fun j =>
  (![SemLoc.dma 14, SemLoc.dma 15, SemLoc.dma 16, SemLoc.dma 17, SemLoc.dma 18, SemLoc.dma 19, SemLoc.dma 20, SemLoc.dma 21, SemLoc.dma 22, SemLoc.dma 23, SemLoc.dma 24, SemLoc.dma 25, SemLoc.dma 26, SemLoc.dma 27, SemLoc.dma 28, SemLoc.dma 29, SemLoc.dma 30, SemLoc.dma 31, SemLoc.dma 32, SemLoc.dma 33, SemLoc.dma 34, SemLoc.dma 35, SemLoc.dma 36, SemLoc.dma 37] : Fin 24 → SemLoc sig) j
theorem ownSemFacts0 : Pipeline.OwnSemFacts spec0 osem0 := by decide
/-- The cells at zero, listed. -/
theorem ownSems00_eq (c : Dev nD) :
    (Pipeline.ownSems0 (Ix := Unit) (Name := ℕ) (U := Pipeline.UD sig nD τ) (Lvl := ℕ) (Val := Elt F) (τ := τ) osem0 c : sProp 𝕄)
      = iprop(semVal ((c : Thread nD τ), SemLoc.dma 14) 0 ∗ semVal ((c : Thread nD τ), SemLoc.dma 15) 0 ∗ semVal ((c : Thread nD τ), SemLoc.dma 16) 0 ∗ semVal ((c : Thread nD τ), SemLoc.dma 17) 0 ∗ semVal ((c : Thread nD τ), SemLoc.dma 18) 0 ∗ semVal ((c : Thread nD τ), SemLoc.dma 19) 0 ∗ semVal ((c : Thread nD τ), SemLoc.dma 20) 0 ∗ semVal ((c : Thread nD τ), SemLoc.dma 21) 0 ∗ semVal ((c : Thread nD τ), SemLoc.dma 22) 0 ∗ semVal ((c : Thread nD τ), SemLoc.dma 23) 0 ∗ semVal ((c : Thread nD τ), SemLoc.dma 24) 0 ∗ semVal ((c : Thread nD τ), SemLoc.dma 25) 0 ∗ semVal ((c : Thread nD τ), SemLoc.dma 26) 0 ∗ semVal ((c : Thread nD τ), SemLoc.dma 27) 0 ∗ semVal ((c : Thread nD τ), SemLoc.dma 28) 0 ∗ semVal ((c : Thread nD τ), SemLoc.dma 29) 0 ∗ semVal ((c : Thread nD τ), SemLoc.dma 30) 0 ∗ semVal ((c : Thread nD τ), SemLoc.dma 31) 0 ∗ semVal ((c : Thread nD τ), SemLoc.dma 32) 0 ∗ semVal ((c : Thread nD τ), SemLoc.dma 33) 0 ∗ semVal ((c : Thread nD τ), SemLoc.dma 34) 0 ∗ semVal ((c : Thread nD τ), SemLoc.dma 35) 0 ∗ semVal ((c : Thread nD τ), SemLoc.dma 36) 0 ∗ semVal ((c : Thread nD τ), SemLoc.dma 37) 0) := by
  rw [Pipeline.ownSems0_eq_of_list c osem0 [0, 1, 2, 3, 4, 5, 6, 7, 8, 9, 10, 11, 12, 13, 14, 15, 16, 17, 18, 19, 20, 21, 22, 23] (by decide) (by decide)]; rfl
/-- The array the body itself copies from. -/
def H0 : Finset (Ref sig .tc) := {main_arg3}
theorem H0_sub : H0 ⊆ Pipeline.restRefs sig spec0 := by decide
/-- It is held at its launch contents. -/
theorem hbmPts0_eq (c : Dev nD) :
    (bigSep H0 (fun b => ((c : Thread nD τ).loc b) ↦{fullShare} V m c b) : sProp 𝕄) = iprop(hbPt0 c hbM0_0 (V m c main_arg3)) := by
  rw [BI.bigSep_eq_bigSepL_of_eq [main_arg3] (by decide) (by decide)]; rfl

/-- What the body is handed and gives back: the scratch at some contents, the generator register, its counters at zero and the
    gathered weights as launched. -/
theorem PhiD0_eq (c : Dev nD) :
    (Pipeline.ΦD osem0 spec0 H0 (V m) c : sProp 𝕄)
      = iprop(iprop((∃ d, owns (c : Thread nD τ) scM0_0 fullShare d)) ∗ (∃ r, prngReg c r) ∗ iprop(semVal ((c : Thread nD τ), SemLoc.dma 14) 0 ∗ semVal ((c : Thread nD τ), SemLoc.dma 15) 0 ∗ semVal ((c : Thread nD τ), SemLoc.dma 16) 0 ∗ semVal ((c : Thread nD τ), SemLoc.dma 17) 0 ∗ semVal ((c : Thread nD τ), SemLoc.dma 18) 0 ∗ semVal ((c : Thread nD τ), SemLoc.dma 19) 0 ∗ semVal ((c : Thread nD τ), SemLoc.dma 20) 0 ∗ semVal ((c : Thread nD τ), SemLoc.dma 21) 0 ∗ semVal ((c : Thread nD τ), SemLoc.dma 22) 0 ∗ semVal ((c : Thread nD τ), SemLoc.dma 23) 0 ∗ semVal ((c : Thread nD τ), SemLoc.dma 24) 0 ∗ semVal ((c : Thread nD τ), SemLoc.dma 25) 0 ∗ semVal ((c : Thread nD τ), SemLoc.dma 26) 0 ∗ semVal ((c : Thread nD τ), SemLoc.dma 27) 0 ∗ semVal ((c : Thread nD τ), SemLoc.dma 28) 0 ∗ semVal ((c : Thread nD τ), SemLoc.dma 29) 0 ∗ semVal ((c : Thread nD τ), SemLoc.dma 30) 0 ∗ semVal ((c : Thread nD τ), SemLoc.dma 31) 0 ∗ semVal ((c : Thread nD τ), SemLoc.dma 32) 0 ∗ semVal ((c : Thread nD τ), SemLoc.dma 33) 0 ∗ semVal ((c : Thread nD τ), SemLoc.dma 34) 0 ∗ semVal ((c : Thread nD τ), SemLoc.dma 35) 0 ∗ semVal ((c : Thread nD τ), SemLoc.dma 36) 0 ∗ semVal ((c : Thread nD τ), SemLoc.dma 37) 0) ∗ iprop(hbPt0 c hbM0_0 (V m c main_arg3))) := by
  rw [Pipeline.ΦD_eq, scopedRest0_eq, ownSems00_eq, hbmPts0_eq]; simp only [scM0_0, owns_whole]; try rfl

end Cert.BwdInIdeal.Bwd

end
-- ==== Proof.BwdSlabs.lean ====
/- The scratch of gathered weights held as its eight slabs, one for each device's columns. -/
module

public import proofs.«01_k».proof.Proof.BwdSetup

@[expose] public section

set_option maxRecDepth 16384

noncomputable section

namespace Cert.BwdInIdeal.Bwd

open Cert.BwdInIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-- Slab `k` of the gathered weights: the columns of device `k`. -/
abbrev slabR (k : Fin 8) : Rect S8x2048x768 :=
  Rect.unit ![k.val, 0, 0] S1x2048x768.size (fun a => match a with
    | ⟨0, _⟩ => k.isLt
    | ⟨1, _⟩ => Nat.le_refl _
    | ⟨2, _⟩ => Nat.le_refl _)

/-- Two slabs share no element. -/
theorem slab_disjoint (k l : Fin 8) (h : k ≠ l) : Disjoint (slabR k).set (slabR l).set :=
  Rect.disjoint_of_separated _ _ 0 (by
    have := Fin.val_ne_of_ne h
    show (1 = 0 ∨ k.val + 1 * (1 - 1) < l.val) ∨ (1 = 0 ∨ l.val + 1 * (1 - 1) < k.val)
    omega)

/-- Every element lies in the slab of its device. -/
theorem slab_cover (y : S8x2048x768.Idx) : y ∈ (slabR (y 0)).set :=
  (slabR (y 0)).mem_set.mpr fun a => match a with
    | ⟨0, _⟩ => ⟨0, Nat.zero_lt_one, rfl⟩
    | ⟨1, _⟩ => ⟨(y 1).val, (y 1).isLt, by show (y 1).val = 0 + 1 * (y 1).val; omega⟩
    | ⟨2, _⟩ => ⟨(y 2).val, (y 2).isLt, by show (y 2).val = 0 + 1 * (y 2).val; omega⟩

/-- The scratch held slab by slab, at one contents. -/
def slabsAt (c : Dev nD) (arg10 : Memref sig .tc .vmem S8x2048x768 .bf16) (f : Buf (Elt F) (arg10.view.loc (c : Thread nD τ))) : sProp 𝕄 :=
  iprop((arg10.view.loc (c : Thread nD τ) ↦[arg10.view.setOn (Rect.unit (s := S8x2048x768) ![0, 0, 0] S1x2048x768.size inb_S8x2048x768_S1x2048x768_0_0_0).set]{fullShare} f) ∗ (arg10.view.loc (c : Thread nD τ) ↦[arg10.view.setOn (Rect.unit (s := S8x2048x768) ![1, 0, 0] S1x2048x768.size inb_S8x2048x768_S1x2048x768_1_0_0).set]{fullShare} f) ∗ (arg10.view.loc (c : Thread nD τ) ↦[arg10.view.setOn (Rect.unit (s := S8x2048x768) ![2, 0, 0] S1x2048x768.size inb_S8x2048x768_S1x2048x768_2_0_0).set]{fullShare} f) ∗ (arg10.view.loc (c : Thread nD τ) ↦[arg10.view.setOn (Rect.unit (s := S8x2048x768) ![3, 0, 0] S1x2048x768.size inb_S8x2048x768_S1x2048x768_3_0_0).set]{fullShare} f) ∗ (arg10.view.loc (c : Thread nD τ) ↦[arg10.view.setOn (Rect.unit (s := S8x2048x768) ![4, 0, 0] S1x2048x768.size inb_S8x2048x768_S1x2048x768_4_0_0).set]{fullShare} f) ∗ (arg10.view.loc (c : Thread nD τ) ↦[arg10.view.setOn (Rect.unit (s := S8x2048x768) ![5, 0, 0] S1x2048x768.size inb_S8x2048x768_S1x2048x768_5_0_0).set]{fullShare} f) ∗ (arg10.view.loc (c : Thread nD τ) ↦[arg10.view.setOn (Rect.unit (s := S8x2048x768) ![6, 0, 0] S1x2048x768.size inb_S8x2048x768_S1x2048x768_6_0_0).set]{fullShare} f) ∗ (arg10.view.loc (c : Thread nD τ) ↦[arg10.view.setOn (Rect.unit (s := S8x2048x768) ![7, 0, 0] S1x2048x768.size inb_S8x2048x768_S1x2048x768_7_0_0).set]{fullShare} f))

/-- Holding the scratch is holding its slabs. -/
theorem slabs_eq (c : Dev nD) (arg10 : Memref sig .tc .vmem S8x2048x768 .bf16) (f : Buf (Elt F) (arg10.view.loc (c : Thread nD τ))) :
    (arg10.view.loc (c : Thread nD τ) ↦[arg10.view.set]{fullShare} f : sProp 𝕄) = slabsAt c arg10 f := by
  rw [Ring.pointsTo_sub_blocks (fun k : Fin 8 => arg10.view.setOn (slabR k).set)
    (fun k l h => View.disjoint_setOn _ (slab_disjoint k l h)) arg10.view.set ?_ f]
  · rw [BI.bigSep_eq_bigSepL_of_eq [0, 1, 2, 3, 4, 5, 6, 7] (by decide) (by decide)]; rfl
  · ext x
    simp only [Finset.mem_biUnion, Finset.mem_univ, _root_.true_and]
    constructor
    · rintro ⟨k, hx⟩; exact View.setOn_subset_set _ _ hx
    · intro hx
      obtain ⟨y, -, rfl⟩ := Finset.mem_map.mp hx
      exact ⟨y 0, View.mem_setOn _ |>.mpr (slab_cover y)⟩

end Cert.BwdInIdeal.Bwd

end
-- ==== Proof.BwdPay.lean ====
/- The values of the input projection's backward kernel: what a point stores, and the scratch after the copies. -/
module

public import proofs.«01_k».proof.Proof.BwdSlabs
public import Idealize.ShloMosaic.Lib.ValueLayout
public import Idealize.ShloMosaic.Lib.VecWindow
public import Idealize.ShloMosaic.Lib.WholeRead

@[expose] public section

set_option maxRecDepth 16384

noncomputable section

namespace Cert.BwdInIdeal.Bwd

open Cert.BwdInIdeal.Gen
open Idealize.ShloMosaic.ValueIdx
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-- The gathered weights as the scratch holds them: slab `k`, row `j`, and the column's group and place in it. -/
def wts (c : Dev nD) (fh0 : HbBuf0 (F := F) c hbM0_0) : Vec F S8x2048x768 .bf16 := fun y =>
  hbM0_0.view.read (Elt F) fh0 (ix4 (n0 := 8) (n1 := 3) (n2 := 2048) (n3 := 256) ⟨(y 0).val, (y 0).isLt⟩
    ⟨(y 2).val / 256, by have : (y 2).val < 768 := (y 2).isLt; omega⟩ ⟨(y 1).val, (y 1).isLt⟩
    ⟨(y 2).val % 256, Nat.mod_lt _ (by omega)⟩)

/-- The product of one block of rows' cotangents with the weights, device by device. -/
def dhv (x0 : Vec F S4x256x1024 .bf16) (x1 x2 : Vec F S256x1024 .bf16) (w : Vec F S8x2048x768 .bf16) : FVec F S256x2048 .f32 :=
  k0_pay12
    (k0_pay11
      (k0_pay10
        (k0_pay8
          (k0_pay7
            (k0_pay6 (fun y => x0 ((Rect.unit (s := S4x256x1024) ![0, 0, 0] S1x256x256.size inb_S4x256x1024_S1x256x256_0_0_0).toLoadRect.idx y))
              (fun y => x0 ((Rect.unit (s := S4x256x1024) ![0, 0, 256] S1x256x256.size inb_S4x256x1024_S1x256x256_0_0_256).toLoadRect.idx y))
              (fun y => x0 ((Rect.unit (s := S4x256x1024) ![0, 0, 512] S1x256x256.size inb_S4x256x1024_S1x256x256_0_0_512).toLoadRect.idx y))
              (fun y => w ((Rect.unit (s := S8x2048x768) ![0, 0, 0] S1x2048x768.size inb_S8x2048x768_S1x2048x768_0_0_0).toLoadRect.idx y)))
            (fun y => x0 ((Rect.unit (s := S4x256x1024) ![0, 0, 768] S1x256x256.size inb_S4x256x1024_S1x256x256_0_0_768).toLoadRect.idx y))
            (fun y => x0 ((Rect.unit (s := S4x256x1024) ![1, 0, 0] S1x256x256.size inb_S4x256x1024_S1x256x256_1_0_0).toLoadRect.idx y))
            (fun y => x0 ((Rect.unit (s := S4x256x1024) ![1, 0, 256] S1x256x256.size inb_S4x256x1024_S1x256x256_1_0_256).toLoadRect.idx y))
            (fun y => w ((Rect.unit (s := S8x2048x768) ![1, 0, 0] S1x2048x768.size inb_S8x2048x768_S1x2048x768_1_0_0).toLoadRect.idx y)))
          (fun y => x0 ((Rect.unit (s := S4x256x1024) ![1, 0, 512] S1x256x256.size inb_S4x256x1024_S1x256x256_1_0_512).toLoadRect.idx y))
          (fun y => x0 ((Rect.unit (s := S4x256x1024) ![1, 0, 768] S1x256x256.size inb_S4x256x1024_S1x256x256_1_0_768).toLoadRect.idx y))
          (fun y => x0 ((Rect.unit (s := S4x256x1024) ![2, 0, 0] S1x256x256.size inb_S4x256x1024_S1x256x256_2_0_0).toLoadRect.idx y))
          (fun y => w ((Rect.unit (s := S8x2048x768) ![2, 0, 0] S1x2048x768.size inb_S8x2048x768_S1x2048x768_2_0_0).toLoadRect.idx y)))
        (k0_pay9 (fun y => x0 ((Rect.unit (s := S4x256x1024) ![2, 0, 256] S1x256x256.size inb_S4x256x1024_S1x256x256_2_0_256).toLoadRect.idx y))
          (fun y => x0 ((Rect.unit (s := S4x256x1024) ![2, 0, 512] S1x256x256.size inb_S4x256x1024_S1x256x256_2_0_512).toLoadRect.idx y))
          (fun y => x0 ((Rect.unit (s := S4x256x1024) ![2, 0, 768] S1x256x256.size inb_S4x256x1024_S1x256x256_2_0_768).toLoadRect.idx y)))
        (fun y => w ((Rect.unit (s := S8x2048x768) ![3, 0, 0] S1x2048x768.size inb_S8x2048x768_S1x2048x768_3_0_0).toLoadRect.idx y))
        (fun y => x0 ((Rect.unit (s := S4x256x1024) ![3, 0, 0] S1x256x256.size inb_S4x256x1024_S1x256x256_3_0_0).toLoadRect.idx y))
        (fun y => x0 ((Rect.unit (s := S4x256x1024) ![3, 0, 256] S1x256x256.size inb_S4x256x1024_S1x256x256_3_0_256).toLoadRect.idx y))
        (fun y => x0 ((Rect.unit (s := S4x256x1024) ![3, 0, 512] S1x256x256.size inb_S4x256x1024_S1x256x256_3_0_512).toLoadRect.idx y))
        (fun y => w ((Rect.unit (s := S8x2048x768) ![4, 0, 0] S1x2048x768.size inb_S8x2048x768_S1x2048x768_4_0_0).toLoadRect.idx y)))
      (fun y => x0 ((Rect.unit (s := S4x256x1024) ![3, 0, 768] S1x256x256.size inb_S4x256x1024_S1x256x256_3_0_768).toLoadRect.idx y))
      (fun y => x1 ((Rect.unit (s := S256x1024) ![0, 0] S256x256.size inb_S256x1024_S256x256_0_0).toLoadRect.idx y))
      (fun y => x1 ((Rect.unit (s := S256x1024) ![0, 256] S256x256.size inb_S256x1024_S256x256_0_256).toLoadRect.idx y))
      (fun y => w ((Rect.unit (s := S8x2048x768) ![5, 0, 0] S1x2048x768.size inb_S8x2048x768_S1x2048x768_5_0_0).toLoadRect.idx y)))
    (fun y => x1 ((Rect.unit (s := S256x1024) ![0, 512] S256x256.size inb_S256x1024_S256x256_0_512).toLoadRect.idx y))
    (fun y => x1 ((Rect.unit (s := S256x1024) ![0, 768] S256x256.size inb_S256x1024_S256x256_0_768).toLoadRect.idx y))
    (fun y => x2 ((Rect.unit (s := S256x1024) ![0, 0] S256x256.size inb_S256x1024_S256x256_0_0).toLoadRect.idx y))
    (fun y => w ((Rect.unit (s := S8x2048x768) ![6, 0, 0] S1x2048x768.size inb_S8x2048x768_S1x2048x768_6_0_0).toLoadRect.idx y))
    (fun y => x2 ((Rect.unit (s := S256x1024) ![0, 256] S256x256.size inb_S256x1024_S256x256_0_256).toLoadRect.idx y))
    (fun y => x2 ((Rect.unit (s := S256x1024) ![0, 512] S256x256.size inb_S256x1024_S256x256_0_512).toLoadRect.idx y))
    (fun y => x2 ((Rect.unit (s := S256x1024) ![0, 768] S256x256.size inb_S256x1024_S256x256_0_768).toLoadRect.idx y))
    (fun y => w ((Rect.unit (s := S8x2048x768) ![7, 0, 0] S1x2048x768.size inb_S8x2048x768_S1x2048x768_7_0_0).toLoadRect.idx y))

/-- What a point stores as its block of the input's gradient. -/
def stepGx (x0 : Vec F S4x256x1024 .bf16) (x1 x2 : Vec F S256x1024 .bf16) (x3 x4 : Vec F S256x2048 .f32) (x5 : Vec F S1x2048 .f32)
    (w : Vec F S8x2048x768 .bf16) : Vec F S256x2048 .f32 :=
  k0_pay4 (dhv x0 x1 x2 w) x3 (k0_pay13 x3) x5 x4

/-- What a point stores as the scale's gradient, over what stood there. -/
def stepDg (x0 : Vec F S4x256x1024 .bf16) (x1 x2 : Vec F S256x1024 .bf16) (x3 : Vec F S256x2048 .f32)
    (w : Vec F S8x2048x768 .bf16) (acc : Vec F S1x2048 .f32) : Vec F S1x2048 .f32 :=
  k0_pay3 (dhv x0 x1 x2 w) x3 (k0_pay13 x3) acc

/-- A load off a memref held at the contents that read `X` is `X` at the load's places. -/
theorem readAt_unread_fun {sp : Space} {s : Shape} {e : EltTy} {M : Memref sig .tc sp s e} (h : M.IsWhole) (X : s.Idx → Elt F e) (B : LoadRect s) :
    View.readAt (Elt F) M.view B (h.unread X) = fun y => X (B.idx y) :=
  funext fun y => h.readAt_unread X B y

/-- The rectangle of one copy into slab `k`: the columns of group `q`. -/
abbrev pieceR (k q : ℕ) (h : ∀ a, (![k, 0, q] : Fin 3 → ℕ) a + S1x2048x256.size a ≤ S8x2048x768.size a) : Rect S8x2048x768 :=
  Rect.unit ![k, 0, q] S1x2048x256.size h

/-- The scratch through one copy's rectangle. -/
abbrev pieceV (v : View sig .tc .vmem S8x2048x768 .bf16) (k q : ℕ) (h : ∀ a, (![k, 0, q] : Fin 3 → ℕ) a + S1x2048x256.size a ≤ S8x2048x768.size a) : View sig .tc .vmem S2048x256 .bf16 :=
  (v.slice (pieceR k q h)).reshape S2048x256 squeezes_S1x2048x256_S2048x256.numel_eq

/-- Where a copy's rectangle places its element. -/
theorem pieceV_emb (v : View sig .tc .vmem S8x2048x768 .bf16) (k : Fin 8) (q : ℕ) (h) (j : Fin 2048) (l : Fin 256) (hq : q + l.val < 768) :
    (pieceV v k.val q h).emb (ix2 j l) = v.emb (ix3 k j (⟨q + l.val, hq⟩ : Fin 768)) := by
  show v.emb ((pieceR k.val q h).emb (Shape.reshapeEquiv _ (ix2 j l))) = _
  rw [reshapeEquiv_ix2_1ab]
  congr 1
  funext a
  match a with
  | ⟨0, _⟩ => exact Fin.ext (by show k.val + 1 * 0 = k.val; omega)
  | ⟨1, _⟩ => exact Fin.ext (by show 0 + 1 * j.val = j.val; omega)
  | ⟨2, _⟩ => exact Fin.ext (by show q + 1 * l.val = q + l.val; omega)

/-- An element outside a copy's columns is none of the copy's. -/
theorem pieceV_notMem (v : View sig .tc .vmem S8x2048x768 .bf16) (k : Fin 8) (q : ℕ) (h) (j : Fin 2048) (l : Fin 768)
    (hl : l.val < q ∨ q + 256 ≤ l.val) (hq : q + 256 ≤ 768) : v.emb (ix3 k j l) ∉ (pieceV v k.val q h).setOn Finset.univ := by
  intro hm
  obtain ⟨y, -, hy⟩ := Finset.mem_map.mp hm
  obtain ⟨a, b, rfl⟩ : ∃ (a : Fin 2048) (b : Fin 256), y = ix2 a b := ⟨y 0, y 1, eq_ix2 y⟩
  have hb : q + b.val < 768 := by have := b.isLt; omega
  rw [pieceV_emb v k q h a b hb] at hy
  have := congrArg Fin.val (congrFun (v.emb.injective hy) 2)
  have h2 : q + b.val = l.val := this
  have := b.isLt
  omega

/-- Three copies side by side fill a slab: each element reads the copy its column lies in. -/
theorem read_three (v : View sig .tc .vmem S8x2048x768 .bf16) (k : Fin 8) (h0 h1 h2) (f : v.ty.Contents (Elt F))
    (w : Fin 3 → Vec F S2048x256 .bf16) (j : Fin 2048) (q : Fin 3) (l : Fin 256) (hq : 256 * q.val + l.val < 768) :
    v.read (Elt F) (View.write (Elt F) (pieceV v k.val 512 h2) (View.write (Elt F) (pieceV v k.val 256 h1)
      (View.write (Elt F) (pieceV v k.val 0 h0) f (w 0) Finset.univ) (w 1) Finset.univ) (w 2) Finset.univ)
      (ix3 k j (⟨256 * q.val + l.val, hq⟩ : Fin 768)) = w q (ix2 j l) := by
  have hl := l.isLt
  rw [View.read_apply]
  match q with
  | ⟨0, _⟩ =>
    rw [View.write_of_not_mem _ _ _ (pieceV_notMem v k 512 h2 j ⟨256 * 0 + l.val, hq⟩ (Or.inl (by show 256 * 0 + l.val < 512; omega)) (by omega)),
      View.write_of_not_mem _ _ _ (pieceV_notMem v k 256 h1 j ⟨256 * 0 + l.val, hq⟩ (Or.inl (by show 256 * 0 + l.val < 256; omega)) (by omega))]
    have e : v.emb (ix3 k j (⟨256 * 0 + l.val, hq⟩ : Fin 768)) = (pieceV v k.val 0 h0).emb (ix2 j l) := by
      rw [pieceV_emb v k 0 h0 j l (by omega)]
    rw [e]
    exact View.read_write_of_mem (v := pieceV v k.val 0 h0) _ _ (Finset.mem_univ _)
  | ⟨1, _⟩ =>
    rw [View.write_of_not_mem _ _ _ (pieceV_notMem v k 512 h2 j ⟨256 * 1 + l.val, hq⟩ (Or.inl (by show 256 * 1 + l.val < 512; omega)) (by omega))]
    have e : v.emb (ix3 k j (⟨256 * 1 + l.val, hq⟩ : Fin 768)) = (pieceV v k.val 256 h1).emb (ix2 j l) := by
      rw [pieceV_emb v k 256 h1 j l (by omega)]
    rw [e]
    exact View.read_write_of_mem (v := pieceV v k.val 256 h1) _ _ (Finset.mem_univ _)
  | ⟨2, _⟩ =>
    have e : v.emb (ix3 k j (⟨256 * 2 + l.val, hq⟩ : Fin 768)) = (pieceV v k.val 512 h2).emb (ix2 j l) := by
      rw [pieceV_emb v k 512 h2 j l (by omega)]
    rw [e]
    exact View.read_write_of_mem (v := pieceV v k.val 512 h2) _ _ (Finset.mem_univ _)

/-- What one copy moves: rows and columns of the gathered weights of device `k`, group `q`. -/
abbrev srcV (k q : ℕ) (h : ∀ a, (![k, q, 0, 0] : Fin 4 → ℕ) a + S1x1x2048x256.size a ≤ S8x3x2048x256.size a) : View sig .tc .hbm S2048x256 .bf16 :=
  (hbM0_0.view.slice (Rect.unit ![k, q, 0, 0] S1x1x2048x256.size h)).reshape S2048x256 squeezes_S1x1x2048x256_S2048x256.numel_eq

/-- A copy's element, off the gathered weights. -/
theorem srcV_read (c : Dev nD) (fh0 : HbBuf0 (F := F) c hbM0_0) (k : Fin 8) (q : Fin 3) (h) (j : Fin 2048) (l : Fin 256) :
    (srcV k.val q.val h).read (Elt F) fh0 (ix2 j l) = hbM0_0.view.read (Elt F) fh0 (ix4 k q j l) := by
  show hbM0_0.view.read (Elt F) fh0 ((Rect.unit (s := S8x3x2048x256) ![k.val, q.val, 0, 0] S1x1x2048x256.size h).emb (Shape.reshapeEquiv _ (ix2 j l))) = _
  rw [reshapeEquiv_ix2_11ab]
  congr 1
  funext a
  match a with
  | ⟨0, _⟩ => exact Fin.ext (by show k.val + 1 * 0 = k.val; omega)
  | ⟨1, _⟩ => exact Fin.ext (by show q.val + 1 * 0 = q.val; omega)
  | ⟨2, _⟩ => exact Fin.ext (by show 0 + 1 * j.val = j.val; omega)
  | ⟨3, _⟩ => exact Fin.ext (by show 0 + 1 * l.val = l.val; omega)

/-- The three copies of slab `k`, whatever stood there before, read the gathered weights. -/
theorem read_slab (c : Dev nD) (v : View sig .tc .vmem S8x2048x768 .bf16) (fh0 : HbBuf0 (F := F) c hbM0_0) (k : Fin 8) (h0 h1 h2 g0 g1 g2)
    (f : v.ty.Contents (Elt F)) (y : S8x2048x768.Idx) (hy : (y 0).val = k.val) :
    v.read (Elt F) (View.write (Elt F) (pieceV v k.val 512 h2) (View.write (Elt F) (pieceV v k.val 256 h1)
      (View.write (Elt F) (pieceV v k.val 0 h0) f ((srcV k.val 0 g0).read (Elt F) fh0) Finset.univ)
        ((srcV k.val 1 g1).read (Elt F) fh0) Finset.univ) ((srcV k.val 2 g2).read (Elt F) fh0) Finset.univ) y = wts c fh0 y := by
  have hc : (y 2).val < 768 := (y 2).isLt
  have ey : y = ix3 k (⟨(y 1).val, (y 1).isLt⟩ : Fin 2048) (⟨256 * ((y 2).val / 256) + (y 2).val % 256, by omega⟩ : Fin 768) := by
    funext a
    match a with
    | ⟨0, _⟩ => exact Fin.ext hy
    | ⟨1, _⟩ => rfl
    | ⟨2, _⟩ => exact Fin.ext (by show (y 2).val = 256 * ((y 2).val / 256) + (y 2).val % 256; omega)
  conv_lhs => rw [ey]
  have hk : (⟨(y 0).val, (y 0).isLt⟩ : Fin 8) = k := Fin.ext hy
  have hq : (y 2).val / 256 < 3 := by omega
  refine (read_three v k h0 h1 h2 f (fun q : Fin 3 => match q with
      | ⟨0, _⟩ => (srcV k.val 0 g0).read (Elt F) fh0
      | ⟨1, _⟩ => (srcV k.val 1 g1).read (Elt F) fh0
      | ⟨2, _⟩ => (srcV k.val 2 g2).read (Elt F) fh0) (⟨(y 1).val, (y 1).isLt⟩ : Fin 2048) ⟨(y 2).val / 256, hq⟩
      ⟨(y 2).val % 256, Nat.mod_lt _ (by omega)⟩ (by show 256 * ((y 2).val / 256) + (y 2).val % 256 < 768; omega)).trans ?_
  unfold wts
  rw [hk]
  generalize (⟨(y 2).val / 256, _⟩ : Fin 3) = q
  match q with
  | ⟨0, _⟩ => exact srcV_read c fh0 k 0 g0 _ _
  | ⟨1, _⟩ => exact srcV_read c fh0 k 1 g1 _ _
  | ⟨2, _⟩ => exact srcV_read c fh0 k 2 g2 _ _

/-- A slab's elements have its device's first coordinate. -/
theorem slab_idx (k : ℕ) (h) (x : S1x2048x768.Idx) :
    ((Rect.unit (s := S8x2048x768) ![k, 0, 0] S1x2048x768.size h).toLoadRect.idx x 0).val = k := by
  have : (x 0).val < 1 := (x 0).isLt
  show k + 1 * (x 0).val = k
  omega

/-- Loading slab `k` after its three copies reads the slab of the gathered weights. -/
theorem readAt_slab (c : Dev nD) (v : View sig .tc .vmem S8x2048x768 .bf16) (fh0 : HbBuf0 (F := F) c hbM0_0) (k : Fin 8) (h h0 h1 h2 g0 g1 g2)
    (f : v.ty.Contents (Elt F)) :
    v.readAt (Elt F) (Rect.unit (s := S8x2048x768) ![k.val, 0, 0] S1x2048x768.size h).toLoadRect
      (View.write (Elt F) (pieceV v k.val 512 h2) (View.write (Elt F) (pieceV v k.val 256 h1)
      (View.write (Elt F) (pieceV v k.val 0 h0) f ((srcV k.val 0 g0).read (Elt F) fh0) Finset.univ)
        ((srcV k.val 1 g1).read (Elt F) fh0) Finset.univ) ((srcV k.val 2 g2).read (Elt F) fh0) Finset.univ)
      = fun y => wts c fh0 ((Rect.unit (s := S8x2048x768) ![k.val, 0, 0] S1x2048x768.size h).toLoadRect.idx y) :=
  funext fun x => read_slab c v fh0 k h0 h1 h2 g0 g1 g2 f _ (slab_idx k.val h x)

/-- Slab `k` after its three copies holds what the whole scratch holds when it reads the gathered weights. -/
theorem slab_agree (c : Dev nD) {M : Memref sig .tc .vmem S8x2048x768 .bf16} (hM : M.IsWhole) (fh0 : HbBuf0 (F := F) c hbM0_0) (k : Fin 8)
    (h h0 h1 h2 g0 g1 g2) (f : M.view.ty.Contents (Elt F)) :
    ∀ i ∈ M.view.setOn (Rect.unit (s := S8x2048x768) ![k.val, 0, 0] S1x2048x768.size h).set,
      View.write (Elt F) (pieceV M.view k.val 512 h2) (View.write (Elt F) (pieceV M.view k.val 256 h1)
      (View.write (Elt F) (pieceV M.view k.val 0 h0) f ((srcV k.val 0 g0).read (Elt F) fh0) Finset.univ)
        ((srcV k.val 1 g1).read (Elt F) fh0) Finset.univ) ((srcV k.val 2 g2).read (Elt F) fh0) Finset.univ i
      = hM.unread (Val := Elt F) (wts c fh0) i := by
  intro i hi
  obtain ⟨y, hy, rfl⟩ := Finset.mem_map.mp hi
  have hk : (y 0).val = k.val := by
    obtain ⟨x, hx, e⟩ := (Rect.unit (s := S8x2048x768) ![k.val, 0, 0] S1x2048x768.size h).mem_set.mp hy 0
    have hx : x < 1 := hx
    have e : (y 0).val = k.val + 1 * x := e
    omega
  have e := (read_slab c M.view fh0 k h0 h1 h2 g0 g1 g2 f y hk).trans (congrFun (hM.read_unread (Val := Elt F) (wts c fh0)) y).symm
  rw [View.read_apply, View.read_apply] at e
  exact (Equiv.cast (congrArg (Elt F) M.view.elt_eq)).injective e

/-- The product of a block of rows with the weights, off the loads it is made from. -/
theorem dhv_eq {x0 : Vec F S4x256x1024 .bf16} {x1 x2 : Vec F S256x1024 .bf16} {w : Vec F S8x2048x768 .bf16}
    {a0 a1 a2 a3 a4 a5 a6 a7 a8 a9 a10 a11 a12 a13 a14 a15 : Vec F S1x256x256 .bf16} {u0 u1 u2 u3 z0 z1 z2 z3 : Vec F S256x256 .bf16} {w0 w1 w2 w3 w4 w5 w6 w7 : Vec F S1x2048x768 .bf16}
    (ha0 : a0 = fun y => x0 ((Rect.unit (s := S4x256x1024) ![0, 0, 0] S1x256x256.size inb_S4x256x1024_S1x256x256_0_0_0).toLoadRect.idx y))
    (ha1 : a1 = fun y => x0 ((Rect.unit (s := S4x256x1024) ![0, 0, 256] S1x256x256.size inb_S4x256x1024_S1x256x256_0_0_256).toLoadRect.idx y))
    (ha2 : a2 = fun y => x0 ((Rect.unit (s := S4x256x1024) ![0, 0, 512] S1x256x256.size inb_S4x256x1024_S1x256x256_0_0_512).toLoadRect.idx y))
    (ha3 : a3 = fun y => x0 ((Rect.unit (s := S4x256x1024) ![0, 0, 768] S1x256x256.size inb_S4x256x1024_S1x256x256_0_0_768).toLoadRect.idx y))
    (ha4 : a4 = fun y => x0 ((Rect.unit (s := S4x256x1024) ![1, 0, 0] S1x256x256.size inb_S4x256x1024_S1x256x256_1_0_0).toLoadRect.idx y))
    (ha5 : a5 = fun y => x0 ((Rect.unit (s := S4x256x1024) ![1, 0, 256] S1x256x256.size inb_S4x256x1024_S1x256x256_1_0_256).toLoadRect.idx y))
    (ha6 : a6 = fun y => x0 ((Rect.unit (s := S4x256x1024) ![1, 0, 512] S1x256x256.size inb_S4x256x1024_S1x256x256_1_0_512).toLoadRect.idx y))
    (ha7 : a7 = fun y => x0 ((Rect.unit (s := S4x256x1024) ![1, 0, 768] S1x256x256.size inb_S4x256x1024_S1x256x256_1_0_768).toLoadRect.idx y))
    (ha8 : a8 = fun y => x0 ((Rect.unit (s := S4x256x1024) ![2, 0, 0] S1x256x256.size inb_S4x256x1024_S1x256x256_2_0_0).toLoadRect.idx y))
    (ha9 : a9 = fun y => x0 ((Rect.unit (s := S4x256x1024) ![2, 0, 256] S1x256x256.size inb_S4x256x1024_S1x256x256_2_0_256).toLoadRect.idx y))
    (ha10 : a10 = fun y => x0 ((Rect.unit (s := S4x256x1024) ![2, 0, 512] S1x256x256.size inb_S4x256x1024_S1x256x256_2_0_512).toLoadRect.idx y))
    (ha11 : a11 = fun y => x0 ((Rect.unit (s := S4x256x1024) ![2, 0, 768] S1x256x256.size inb_S4x256x1024_S1x256x256_2_0_768).toLoadRect.idx y))
    (ha12 : a12 = fun y => x0 ((Rect.unit (s := S4x256x1024) ![3, 0, 0] S1x256x256.size inb_S4x256x1024_S1x256x256_3_0_0).toLoadRect.idx y))
    (ha13 : a13 = fun y => x0 ((Rect.unit (s := S4x256x1024) ![3, 0, 256] S1x256x256.size inb_S4x256x1024_S1x256x256_3_0_256).toLoadRect.idx y))
    (ha14 : a14 = fun y => x0 ((Rect.unit (s := S4x256x1024) ![3, 0, 512] S1x256x256.size inb_S4x256x1024_S1x256x256_3_0_512).toLoadRect.idx y))
    (ha15 : a15 = fun y => x0 ((Rect.unit (s := S4x256x1024) ![3, 0, 768] S1x256x256.size inb_S4x256x1024_S1x256x256_3_0_768).toLoadRect.idx y))
    (hu0 : u0 = fun y => x1 ((Rect.unit (s := S256x1024) ![0, 0] S256x256.size inb_S256x1024_S256x256_0_0).toLoadRect.idx y))
    (hu1 : u1 = fun y => x1 ((Rect.unit (s := S256x1024) ![0, 256] S256x256.size inb_S256x1024_S256x256_0_256).toLoadRect.idx y))
    (hu2 : u2 = fun y => x1 ((Rect.unit (s := S256x1024) ![0, 512] S256x256.size inb_S256x1024_S256x256_0_512).toLoadRect.idx y))
    (hu3 : u3 = fun y => x1 ((Rect.unit (s := S256x1024) ![0, 768] S256x256.size inb_S256x1024_S256x256_0_768).toLoadRect.idx y))
    (hz0 : z0 = fun y => x2 ((Rect.unit (s := S256x1024) ![0, 0] S256x256.size inb_S256x1024_S256x256_0_0).toLoadRect.idx y))
    (hz1 : z1 = fun y => x2 ((Rect.unit (s := S256x1024) ![0, 256] S256x256.size inb_S256x1024_S256x256_0_256).toLoadRect.idx y))
    (hz2 : z2 = fun y => x2 ((Rect.unit (s := S256x1024) ![0, 512] S256x256.size inb_S256x1024_S256x256_0_512).toLoadRect.idx y))
    (hz3 : z3 = fun y => x2 ((Rect.unit (s := S256x1024) ![0, 768] S256x256.size inb_S256x1024_S256x256_0_768).toLoadRect.idx y))
    (hw0 : w0 = fun y => w ((Rect.unit (s := S8x2048x768) ![0, 0, 0] S1x2048x768.size inb_S8x2048x768_S1x2048x768_0_0_0).toLoadRect.idx y))
    (hw1 : w1 = fun y => w ((Rect.unit (s := S8x2048x768) ![1, 0, 0] S1x2048x768.size inb_S8x2048x768_S1x2048x768_1_0_0).toLoadRect.idx y))
    (hw2 : w2 = fun y => w ((Rect.unit (s := S8x2048x768) ![2, 0, 0] S1x2048x768.size inb_S8x2048x768_S1x2048x768_2_0_0).toLoadRect.idx y))
    (hw3 : w3 = fun y => w ((Rect.unit (s := S8x2048x768) ![3, 0, 0] S1x2048x768.size inb_S8x2048x768_S1x2048x768_3_0_0).toLoadRect.idx y))
    (hw4 : w4 = fun y => w ((Rect.unit (s := S8x2048x768) ![4, 0, 0] S1x2048x768.size inb_S8x2048x768_S1x2048x768_4_0_0).toLoadRect.idx y))
    (hw5 : w5 = fun y => w ((Rect.unit (s := S8x2048x768) ![5, 0, 0] S1x2048x768.size inb_S8x2048x768_S1x2048x768_5_0_0).toLoadRect.idx y))
    (hw6 : w6 = fun y => w ((Rect.unit (s := S8x2048x768) ![6, 0, 0] S1x2048x768.size inb_S8x2048x768_S1x2048x768_6_0_0).toLoadRect.idx y))
    (hw7 : w7 = fun y => w ((Rect.unit (s := S8x2048x768) ![7, 0, 0] S1x2048x768.size inb_S8x2048x768_S1x2048x768_7_0_0).toLoadRect.idx y)) :
    k0_pay12 (k0_pay11 (k0_pay10 (k0_pay8 (k0_pay7 (k0_pay6 a0 a1 a2 w0) a3 a4 a5 w1) a6 a7 a8 w2) (k0_pay9 a9 a10 a11) w3 a12 a13 a14 w4)
      a15 u0 u1 w5) u2 u3 z0 w6 z1 z2 z3 w7 = dhv x0 x1 x2 w := by
  subst ha0 ha1 ha2 ha3 ha4 ha5 ha6 ha7 ha8 ha9 ha10 ha11 ha12 ha13 ha14 ha15 hu0 hu1 hu2 hu3 hz0 hz1 hz2 hz3 hw0 hw1 hw2 hw3 hw4 hw5 hw6 hw7
  rfl

/-- A load of the whole of a memref held at the contents that read `X` is `X`. -/
theorem readAt_full_unread {sp : Space} {s : Shape} {e : EltTy} {M : Memref sig .tc sp s e} (h : M.IsWhole) (X : s.Idx → Elt F e)
    {off : Fin s.rank → ℕ} (inb : ∀ a, off a + s.size a ≤ s.size a) :
    View.readAt (Elt F) M.view (Rect.unit off s.size inb).toLoadRect (h.unread X) = X := by
  rw [View.readAt_full, h.read_unread]

/-- The stored block of the input's gradient, off its parts. -/
theorem stepGx_eq {x0 : Vec F S4x256x1024 .bf16} {x1 x2 : Vec F S256x1024 .bf16} {x3 x4 : Vec F S256x2048 .f32} {x5 : Vec F S1x2048 .f32}
    {w : Vec F S8x2048x768 .bf16} {d : FVec F S256x2048 .f32} {v3 v4 : Vec F S256x2048 .f32} {v5 : Vec F S1x2048 .f32}
    (hd : d = dhv x0 x1 x2 w) (h3 : v3 = x3) (h5 : v5 = x5) (h4 : v4 = x4) : k0_pay4 d v3 (k0_pay13 v3) v5 v4 = stepGx x0 x1 x2 x3 x4 x5 w := by
  subst hd h3 h4 h5; rfl

/-- The stored scale's gradient, off its parts. -/
theorem stepDg_eq {x0 : Vec F S4x256x1024 .bf16} {x1 x2 : Vec F S256x1024 .bf16} {x3 : Vec F S256x2048 .f32}
    {w : Vec F S8x2048x768 .bf16} {d : FVec F S256x2048 .f32} {v3 : Vec F S256x2048 .f32} {v acc : Vec F S1x2048 .f32}
    (hd : d = dhv x0 x1 x2 w) (h3 : v3 = x3) (ha : v = acc) : k0_pay3 d v3 (k0_pay13 v3) v = stepDg x0 x1 x2 x3 w acc := by
  subst hd h3 ha; rfl

end Cert.BwdInIdeal.Bwd

end
-- ==== Proof.BwdRunA.lean ====
/- The input projection's backward kernel at the first grid point. -/
module

public import proofs.«01_k».proof.Proof.BwdPay

@[expose] public section

set_option maxRecDepth 16384

noncomputable section

namespace Cert.BwdInIdeal.Bwd

open Cert.BwdInIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

set_option maxHeartbeats 1000000 in
/-- The first point: on staging memrefs holding their blocks, the scratch slab by slab at anything, the gathered weights in HBM and the cells
    at zero, the body runs, leaves its inputs as they were, the two outputs at `stepGx` and `stepDg` over zeros, and the scratch at the gathered weights. -/
theorem runA (c : Dev nD) (i : grid0.Coords) (arg1 : Memref sig .tc .vmem S4x256x1024 .bf16) (harg1 : arg1.IsWhole) (arg2 : Memref sig .tc .vmem S256x1024 .bf16) (harg2 : arg2.IsWhole) (arg3 : Memref sig .tc .vmem S256x1024 .bf16) (harg3 : arg3.IsWhole) (arg5 : Memref sig .tc .vmem S256x2048 .f32) (harg5 : arg5.IsWhole) (arg6 : Memref sig .tc .vmem S256x2048 .f32) (harg6 : arg6.IsWhole) (arg7 : Memref sig .tc .vmem S1x2048 .f32) (harg7 : arg7.IsWhole) (arg8 : Memref sig .tc .vmem S256x2048 .f32) (harg8 : arg8.IsWhole) (arg9 : Memref sig .tc .vmem S1x2048 .f32) (harg9 : arg9.IsWhole) (arg10 : Memref sig .tc .vmem S8x2048x768 .bf16) (harg10 : arg10.IsWhole) (hc0 : cond0_0 i)
    (x0 : Vec F S4x256x1024 .bf16) (x1 : Vec F S256x1024 .bf16) (x2 : Vec F S256x1024 .bf16) (x3 : Vec F S256x2048 .f32) (x4 : Vec F S256x2048 .f32) (x5 : Vec F S1x2048 .f32) (fh0 : HbBuf0 (F := F) c hbM0_0) :
    ∀ (W : Waits sig Unit) (K : PUnit → sProp 𝕄),
        iprop(owns (c : Thread nD τ) arg1 fullShare x0 ∗ owns (c : Thread nD τ) arg2 fullShare x1 ∗ owns (c : Thread nD τ) arg3 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ (∃ d, owns (c : Thread nD τ) arg9 fullShare d) ∗ (∃ f, slabsAt c arg10 f) ∗ semVal ((c : Thread nD τ), SemLoc.dma 14) 0 ∗ semVal ((c : Thread nD τ), SemLoc.dma 15) 0 ∗ semVal ((c : Thread nD τ), SemLoc.dma 16) 0 ∗ semVal ((c : Thread nD τ), SemLoc.dma 17) 0 ∗ semVal ((c : Thread nD τ), SemLoc.dma 18) 0 ∗ semVal ((c : Thread nD τ), SemLoc.dma 19) 0 ∗ semVal ((c : Thread nD τ), SemLoc.dma 20) 0 ∗ semVal ((c : Thread nD τ), SemLoc.dma 21) 0 ∗ semVal ((c : Thread nD τ), SemLoc.dma 22) 0 ∗ semVal ((c : Thread nD τ), SemLoc.dma 23) 0 ∗ semVal ((c : Thread nD τ), SemLoc.dma 24) 0 ∗ semVal ((c : Thread nD τ), SemLoc.dma 25) 0 ∗ semVal ((c : Thread nD τ), SemLoc.dma 26) 0 ∗ semVal ((c : Thread nD τ), SemLoc.dma 27) 0 ∗ semVal ((c : Thread nD τ), SemLoc.dma 28) 0 ∗ semVal ((c : Thread nD τ), SemLoc.dma 29) 0 ∗ semVal ((c : Thread nD τ), SemLoc.dma 30) 0 ∗ semVal ((c : Thread nD τ), SemLoc.dma 31) 0 ∗ semVal ((c : Thread nD τ), SemLoc.dma 32) 0 ∗ semVal ((c : Thread nD τ), SemLoc.dma 33) 0 ∗ semVal ((c : Thread nD τ), SemLoc.dma 34) 0 ∗ semVal ((c : Thread nD τ), SemLoc.dma 35) 0 ∗ semVal ((c : Thread nD τ), SemLoc.dma 36) 0 ∗ semVal ((c : Thread nD τ), SemLoc.dma 37) 0 ∗ hbPt0 c hbM0_0 fh0 ∗ owes (c : Thread nD τ) 0 W
            ∗ (iprop(owns (c : Thread nD τ) arg1 fullShare x0 ∗ owns (c : Thread nD τ) arg2 fullShare x1 ∗ owns (c : Thread nD τ) arg3 fullShare x2 ∗ owns (c : Thread nD τ) arg5 fullShare x3 ∗ owns (c : Thread nD τ) arg6 fullShare x4 ∗ owns (c : Thread nD τ) arg7 fullShare x5 ∗ owns (c : Thread nD τ) arg8 fullShare (stepGx x0 x1 x2 x3 x4 x5 (wts c fh0)) ∗ owns (c : Thread nD τ) arg9 fullShare (stepDg x0 x1 x2 x3 (wts c fh0) k0_pay5) ∗ slabsAt c arg10 (harg10.unread (wts c fh0)) ∗ semVal ((c : Thread nD τ), SemLoc.dma 14) 0 ∗ semVal ((c : Thread nD τ), SemLoc.dma 15) 0 ∗ semVal ((c : Thread nD τ), SemLoc.dma 16) 0 ∗ semVal ((c : Thread nD τ), SemLoc.dma 17) 0 ∗ semVal ((c : Thread nD τ), SemLoc.dma 18) 0 ∗ semVal ((c : Thread nD τ), SemLoc.dma 19) 0 ∗ semVal ((c : Thread nD τ), SemLoc.dma 20) 0 ∗ semVal ((c : Thread nD τ), SemLoc.dma 21) 0 ∗ semVal ((c : Thread nD τ), SemLoc.dma 22) 0 ∗ semVal ((c : Thread nD τ), SemLoc.dma 23) 0 ∗ semVal ((c : Thread nD τ), SemLoc.dma 24) 0 ∗ semVal ((c : Thread nD τ), SemLoc.dma 25) 0 ∗ semVal ((c : Thread nD τ), SemLoc.dma 26) 0 ∗ semVal ((c : Thread nD τ), SemLoc.dma 27) 0 ∗ semVal ((c : Thread nD τ), SemLoc.dma 28) 0 ∗ semVal ((c : Thread nD τ), SemLoc.dma 29) 0 ∗ semVal ((c : Thread nD τ), SemLoc.dma 30) 0 ∗ semVal ((c : Thread nD τ), SemLoc.dma 31) 0 ∗ semVal ((c : Thread nD τ), SemLoc.dma 32) 0 ∗ semVal ((c : Thread nD τ), SemLoc.dma 33) 0 ∗ semVal ((c : Thread nD τ), SemLoc.dma 34) 0 ∗ semVal ((c : Thread nD τ), SemLoc.dma 35) 0 ∗ semVal ((c : Thread nD τ), SemLoc.dma 36) 0 ∗ semVal ((c : Thread nD τ), SemLoc.dma 37) 0 ∗ hbPt0 c hbM0_0 fh0 ∗ (∃ W', owes (c : Thread nD τ) 0 W')) -∗ K ⟨⟩))
          ⊢ wp frame (wpE (defs₀ (F := F)) Variants.none c none) Set.univ (cc0_bwd_in i arg1 harg1 arg2 harg2 arg3 harg3 (Memref.whole main_arg3) (Memref.isWhole_whole _) arg5 harg5 arg6 harg6 arg7 harg7 arg8 harg8 arg9 harg9 arg10 harg10 cc0_scratch1) K := by
  intro W K
  simp only [cc0_bwd_in_eq_skeleton]; unfold cc0_bwd_in_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton]
  unfold owns slabsAt
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%fs0, HS0, HS1, HS2, HS3, HS4, HS5, HS6, HS7⟩, Hq0, Hq1, Hq2, Hq3, Hq4, Hq5, Hq6, Hq7, Hq8, Hq9, Hq10, Hq11, Hq12, Hq13, Hq14, Hq15, Hq16, Hq17, Hq18, Hq19, Hq20, Hq21, Hq22, Hq23, Hh0, HW, Hk⟩
  obtain rfl := harg1.eq_unread hf0; obtain rfl := harg2.eq_unread hf1; obtain rfl := harg3.eq_unread hf2; obtain rfl := harg5.eq_unread hf3; obtain rfl := harg6.eq_unread hf4; obtain rfl := harg7.eq_unread hf5
  set_option sl_exec.dmaWindow true in set_option sl_exec.dmaWindowSet true in
  sl_exec (disch := first | sl_exact hc0)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; swap
    · iexact H6
    · ipureintro
      exact (View.read_writes_full _ _ _ _ _).trans (stepGx_eq (dhv_eq (readAt_unread_fun (F := F) harg1 x0 (Rect.unit (s := S4x256x1024) ![0, 0, 0] S1x256x256.size inb_S4x256x1024_S1x256x256_0_0_0).toLoadRect) (readAt_unread_fun (F := F) harg1 x0 (Rect.unit (s := S4x256x1024) ![0, 0, 256] S1x256x256.size inb_S4x256x1024_S1x256x256_0_0_256).toLoadRect) (readAt_unread_fun (F := F) harg1 x0 (Rect.unit (s := S4x256x1024) ![0, 0, 512] S1x256x256.size inb_S4x256x1024_S1x256x256_0_0_512).toLoadRect) (readAt_unread_fun (F := F) harg1 x0 (Rect.unit (s := S4x256x1024) ![0, 0, 768] S1x256x256.size inb_S4x256x1024_S1x256x256_0_0_768).toLoadRect) (readAt_unread_fun (F := F) harg1 x0 (Rect.unit (s := S4x256x1024) ![1, 0, 0] S1x256x256.size inb_S4x256x1024_S1x256x256_1_0_0).toLoadRect) (readAt_unread_fun (F := F) harg1 x0 (Rect.unit (s := S4x256x1024) ![1, 0, 256] S1x256x256.size inb_S4x256x1024_S1x256x256_1_0_256).toLoadRect) (readAt_unread_fun (F := F) harg1 x0 (Rect.unit (s := S4x256x1024) ![1, 0, 512] S1x256x256.size inb_S4x256x1024_S1x256x256_1_0_512).toLoadRect) (readAt_unread_fun (F := F) harg1 x0 (Rect.unit (s := S4x256x1024) ![1, 0, 768] S1x256x256.size inb_S4x256x1024_S1x256x256_1_0_768).toLoadRect) (readAt_unread_fun (F := F) harg1 x0 (Rect.unit (s := S4x256x1024) ![2, 0, 0] S1x256x256.size inb_S4x256x1024_S1x256x256_2_0_0).toLoadRect) (readAt_unread_fun (F := F) harg1 x0 (Rect.unit (s := S4x256x1024) ![2, 0, 256] S1x256x256.size inb_S4x256x1024_S1x256x256_2_0_256).toLoadRect) (readAt_unread_fun (F := F) harg1 x0 (Rect.unit (s := S4x256x1024) ![2, 0, 512] S1x256x256.size inb_S4x256x1024_S1x256x256_2_0_512).toLoadRect) (readAt_unread_fun (F := F) harg1 x0 (Rect.unit (s := S4x256x1024) ![2, 0, 768] S1x256x256.size inb_S4x256x1024_S1x256x256_2_0_768).toLoadRect) (readAt_unread_fun (F := F) harg1 x0 (Rect.unit (s := S4x256x1024) ![3, 0, 0] S1x256x256.size inb_S4x256x1024_S1x256x256_3_0_0).toLoadRect) (readAt_unread_fun (F := F) harg1 x0 (Rect.unit (s := S4x256x1024) ![3, 0, 256] S1x256x256.size inb_S4x256x1024_S1x256x256_3_0_256).toLoadRect) (readAt_unread_fun (F := F) harg1 x0 (Rect.unit (s := S4x256x1024) ![3, 0, 512] S1x256x256.size inb_S4x256x1024_S1x256x256_3_0_512).toLoadRect) (readAt_unread_fun (F := F) harg1 x0 (Rect.unit (s := S4x256x1024) ![3, 0, 768] S1x256x256.size inb_S4x256x1024_S1x256x256_3_0_768).toLoadRect) (readAt_unread_fun (F := F) harg2 x1 (Rect.unit (s := S256x1024) ![0, 0] S256x256.size inb_S256x1024_S256x256_0_0).toLoadRect) (readAt_unread_fun (F := F) harg2 x1 (Rect.unit (s := S256x1024) ![0, 256] S256x256.size inb_S256x1024_S256x256_0_256).toLoadRect) (readAt_unread_fun (F := F) harg2 x1 (Rect.unit (s := S256x1024) ![0, 512] S256x256.size inb_S256x1024_S256x256_0_512).toLoadRect) (readAt_unread_fun (F := F) harg2 x1 (Rect.unit (s := S256x1024) ![0, 768] S256x256.size inb_S256x1024_S256x256_0_768).toLoadRect) (readAt_unread_fun (F := F) harg3 x2 (Rect.unit (s := S256x1024) ![0, 0] S256x256.size inb_S256x1024_S256x256_0_0).toLoadRect) (readAt_unread_fun (F := F) harg3 x2 (Rect.unit (s := S256x1024) ![0, 256] S256x256.size inb_S256x1024_S256x256_0_256).toLoadRect) (readAt_unread_fun (F := F) harg3 x2 (Rect.unit (s := S256x1024) ![0, 512] S256x256.size inb_S256x1024_S256x256_0_512).toLoadRect) (readAt_unread_fun (F := F) harg3 x2 (Rect.unit (s := S256x1024) ![0, 768] S256x256.size inb_S256x1024_S256x256_0_768).toLoadRect) (readAt_slab c arg10.view fh0 ⟨0, by decide⟩ _ _ _ _ _ _ _ fs0) (readAt_slab c arg10.view fh0 ⟨1, by decide⟩ _ _ _ _ _ _ _ fs0) (readAt_slab c arg10.view fh0 ⟨2, by decide⟩ _ _ _ _ _ _ _ fs0) (readAt_slab c arg10.view fh0 ⟨3, by decide⟩ _ _ _ _ _ _ _ fs0) (readAt_slab c arg10.view fh0 ⟨4, by decide⟩ _ _ _ _ _ _ _ fs0) (readAt_slab c arg10.view fh0 ⟨5, by decide⟩ _ _ _ _ _ _ _ fs0) (readAt_slab c arg10.view fh0 ⟨6, by decide⟩ _ _ _ _ _ _ _ fs0) (readAt_slab c arg10.view fh0 ⟨7, by decide⟩ _ _ _ _ _ _ _ fs0)) (readAt_full_unread (F := F) harg5 x3 _) (readAt_full_unread (F := F) harg7 x5 _) (readAt_full_unread (F := F) harg6 x4 _))
  isplitl [H7]
  · iexists _; isplitr; swap
    · iexact H7
    · ipureintro
      exact (View.read_writes_full _ _ _ _ _).trans (stepDg_eq (dhv_eq (readAt_unread_fun (F := F) harg1 x0 (Rect.unit (s := S4x256x1024) ![0, 0, 0] S1x256x256.size inb_S4x256x1024_S1x256x256_0_0_0).toLoadRect) (readAt_unread_fun (F := F) harg1 x0 (Rect.unit (s := S4x256x1024) ![0, 0, 256] S1x256x256.size inb_S4x256x1024_S1x256x256_0_0_256).toLoadRect) (readAt_unread_fun (F := F) harg1 x0 (Rect.unit (s := S4x256x1024) ![0, 0, 512] S1x256x256.size inb_S4x256x1024_S1x256x256_0_0_512).toLoadRect) (readAt_unread_fun (F := F) harg1 x0 (Rect.unit (s := S4x256x1024) ![0, 0, 768] S1x256x256.size inb_S4x256x1024_S1x256x256_0_0_768).toLoadRect) (readAt_unread_fun (F := F) harg1 x0 (Rect.unit (s := S4x256x1024) ![1, 0, 0] S1x256x256.size inb_S4x256x1024_S1x256x256_1_0_0).toLoadRect) (readAt_unread_fun (F := F) harg1 x0 (Rect.unit (s := S4x256x1024) ![1, 0, 256] S1x256x256.size inb_S4x256x1024_S1x256x256_1_0_256).toLoadRect) (readAt_unread_fun (F := F) harg1 x0 (Rect.unit (s := S4x256x1024) ![1, 0, 512] S1x256x256.size inb_S4x256x1024_S1x256x256_1_0_512).toLoadRect) (readAt_unread_fun (F := F) harg1 x0 (Rect.unit (s := S4x256x1024) ![1, 0, 768] S1x256x256.size inb_S4x256x1024_S1x256x256_1_0_768).toLoadRect) (readAt_unread_fun (F := F) harg1 x0 (Rect.unit (s := S4x256x1024) ![2, 0, 0] S1x256x256.size inb_S4x256x1024_S1x256x256_2_0_0).toLoadRect) (readAt_unread_fun (F := F) harg1 x0 (Rect.unit (s := S4x256x1024) ![2, 0, 256] S1x256x256.size inb_S4x256x1024_S1x256x256_2_0_256).toLoadRect) (readAt_unread_fun (F := F) harg1 x0 (Rect.unit (s := S4x256x1024) ![2, 0, 512] S1x256x256.size inb_S4x256x1024_S1x256x256_2_0_512).toLoadRect) (readAt_unread_fun (F := F) harg1 x0 (Rect.unit (s := S4x256x1024) ![2, 0, 768] S1x256x256.size inb_S4x256x1024_S1x256x256_2_0_768).toLoadRect) (readAt_unread_fun (F := F) harg1 x0 (Rect.unit (s := S4x256x1024) ![3, 0, 0] S1x256x256.size inb_S4x256x1024_S1x256x256_3_0_0).toLoadRect) (readAt_unread_fun (F := F) harg1 x0 (Rect.unit (s := S4x256x1024) ![3, 0, 256] S1x256x256.size inb_S4x256x1024_S1x256x256_3_0_256).toLoadRect) (readAt_unread_fun (F := F) harg1 x0 (Rect.unit (s := S4x256x1024) ![3, 0, 512] S1x256x256.size inb_S4x256x1024_S1x256x256_3_0_512).toLoadRect) (readAt_unread_fun (F := F) harg1 x0 (Rect.unit (s := S4x256x1024) ![3, 0, 768] S1x256x256.size inb_S4x256x1024_S1x256x256_3_0_768).toLoadRect) (readAt_unread_fun (F := F) harg2 x1 (Rect.unit (s := S256x1024) ![0, 0] S256x256.size inb_S256x1024_S256x256_0_0).toLoadRect) (readAt_unread_fun (F := F) harg2 x1 (Rect.unit (s := S256x1024) ![0, 256] S256x256.size inb_S256x1024_S256x256_0_256).toLoadRect) (readAt_unread_fun (F := F) harg2 x1 (Rect.unit (s := S256x1024) ![0, 512] S256x256.size inb_S256x1024_S256x256_0_512).toLoadRect) (readAt_unread_fun (F := F) harg2 x1 (Rect.unit (s := S256x1024) ![0, 768] S256x256.size inb_S256x1024_S256x256_0_768).toLoadRect) (readAt_unread_fun (F := F) harg3 x2 (Rect.unit (s := S256x1024) ![0, 0] S256x256.size inb_S256x1024_S256x256_0_0).toLoadRect) (readAt_unread_fun (F := F) harg3 x2 (Rect.unit (s := S256x1024) ![0, 256] S256x256.size inb_S256x1024_S256x256_0_256).toLoadRect) (readAt_unread_fun (F := F) harg3 x2 (Rect.unit (s := S256x1024) ![0, 512] S256x256.size inb_S256x1024_S256x256_0_512).toLoadRect) (readAt_unread_fun (F := F) harg3 x2 (Rect.unit (s := S256x1024) ![0, 768] S256x256.size inb_S256x1024_S256x256_0_768).toLoadRect) (readAt_slab c arg10.view fh0 ⟨0, by decide⟩ _ _ _ _ _ _ _ fs0) (readAt_slab c arg10.view fh0 ⟨1, by decide⟩ _ _ _ _ _ _ _ fs0) (readAt_slab c arg10.view fh0 ⟨2, by decide⟩ _ _ _ _ _ _ _ fs0) (readAt_slab c arg10.view fh0 ⟨3, by decide⟩ _ _ _ _ _ _ _ fs0) (readAt_slab c arg10.view fh0 ⟨4, by decide⟩ _ _ _ _ _ _ _ fs0) (readAt_slab c arg10.view fh0 ⟨5, by decide⟩ _ _ _ _ _ _ _ fs0) (readAt_slab c arg10.view fh0 ⟨6, by decide⟩ _ _ _ _ _ _ _ fs0) (readAt_slab c arg10.view fh0 ⟨7, by decide⟩ _ _ _ _ _ _ _ fs0)) (readAt_full_unread (F := F) harg5 x3 _) (View.readCov_full (Val := Elt F) (s := S1x2048) (e := .f32) arg9.view (off := ![0, 0]) (off' := ![0, 0]) inb_S1x2048_S1x2048_0_0 inb_S1x2048_S1x2048_0_0 k0_pay5 []))
  isplitl [HS0 HS1 HS2 HS3 HS4 HS5 HS6 HS7]
  · isplitl [HS0]
    · iapply (Entails.of_eq (pointsTo_congr (slab_agree c harg10 fh0 ⟨0, by decide⟩ inb_S8x2048x768_S1x2048x768_0_0_0 inb_S8x2048x768_S1x2048x256_0_0_0 inb_S8x2048x768_S1x2048x256_0_0_256 inb_S8x2048x768_S1x2048x256_0_0_512 inb_S8x3x2048x256_S1x1x2048x256_0_0_0_0 inb_S8x3x2048x256_S1x1x2048x256_0_1_0_0 inb_S8x3x2048x256_S1x1x2048x256_0_2_0_0 fs0))); iexact HS0
    isplitl [HS1]
    · iapply (Entails.of_eq (pointsTo_congr (slab_agree c harg10 fh0 ⟨1, by decide⟩ inb_S8x2048x768_S1x2048x768_1_0_0 inb_S8x2048x768_S1x2048x256_1_0_0 inb_S8x2048x768_S1x2048x256_1_0_256 inb_S8x2048x768_S1x2048x256_1_0_512 inb_S8x3x2048x256_S1x1x2048x256_1_0_0_0 inb_S8x3x2048x256_S1x1x2048x256_1_1_0_0 inb_S8x3x2048x256_S1x1x2048x256_1_2_0_0 fs0))); iexact HS1
    isplitl [HS2]
    · iapply (Entails.of_eq (pointsTo_congr (slab_agree c harg10 fh0 ⟨2, by decide⟩ inb_S8x2048x768_S1x2048x768_2_0_0 inb_S8x2048x768_S1x2048x256_2_0_0 inb_S8x2048x768_S1x2048x256_2_0_256 inb_S8x2048x768_S1x2048x256_2_0_512 inb_S8x3x2048x256_S1x1x2048x256_2_0_0_0 inb_S8x3x2048x256_S1x1x2048x256_2_1_0_0 inb_S8x3x2048x256_S1x1x2048x256_2_2_0_0 fs0))); iexact HS2
    isplitl [HS3]
    · iapply (Entails.of_eq (pointsTo_congr (slab_agree c harg10 fh0 ⟨3, by decide⟩ inb_S8x2048x768_S1x2048x768_3_0_0 inb_S8x2048x768_S1x2048x256_3_0_0 inb_S8x2048x768_S1x2048x256_3_0_256 inb_S8x2048x768_S1x2048x256_3_0_512 inb_S8x3x2048x256_S1x1x2048x256_3_0_0_0 inb_S8x3x2048x256_S1x1x2048x256_3_1_0_0 inb_S8x3x2048x256_S1x1x2048x256_3_2_0_0 fs0))); iexact HS3
    isplitl [HS4]
    · iapply (Entails.of_eq (pointsTo_congr (slab_agree c harg10 fh0 ⟨4, by decide⟩ inb_S8x2048x768_S1x2048x768_4_0_0 inb_S8x2048x768_S1x2048x256_4_0_0 inb_S8x2048x768_S1x2048x256_4_0_256 inb_S8x2048x768_S1x2048x256_4_0_512 inb_S8x3x2048x256_S1x1x2048x256_4_0_0_0 inb_S8x3x2048x256_S1x1x2048x256_4_1_0_0 inb_S8x3x2048x256_S1x1x2048x256_4_2_0_0 fs0))); iexact HS4
    isplitl [HS5]
    · iapply (Entails.of_eq (pointsTo_congr (slab_agree c harg10 fh0 ⟨5, by decide⟩ inb_S8x2048x768_S1x2048x768_5_0_0 inb_S8x2048x768_S1x2048x256_5_0_0 inb_S8x2048x768_S1x2048x256_5_0_256 inb_S8x2048x768_S1x2048x256_5_0_512 inb_S8x3x2048x256_S1x1x2048x256_5_0_0_0 inb_S8x3x2048x256_S1x1x2048x256_5_1_0_0 inb_S8x3x2048x256_S1x1x2048x256_5_2_0_0 fs0))); iexact HS5
    isplitl [HS6]
    · iapply (Entails.of_eq (pointsTo_congr (slab_agree c harg10 fh0 ⟨6, by decide⟩ inb_S8x2048x768_S1x2048x768_6_0_0 inb_S8x2048x768_S1x2048x256_6_0_0 inb_S8x2048x768_S1x2048x256_6_0_256 inb_S8x2048x768_S1x2048x256_6_0_512 inb_S8x3x2048x256_S1x1x2048x256_6_0_0_0 inb_S8x3x2048x256_S1x1x2048x256_6_1_0_0 inb_S8x3x2048x256_S1x1x2048x256_6_2_0_0 fs0))); iexact HS6
    iapply (Entails.of_eq (pointsTo_congr (slab_agree c harg10 fh0 ⟨7, by decide⟩ inb_S8x2048x768_S1x2048x768_7_0_0 inb_S8x2048x768_S1x2048x256_7_0_0 inb_S8x2048x768_S1x2048x256_7_0_256 inb_S8x2048x768_S1x2048x256_7_0_512 inb_S8x3x2048x256_S1x1x2048x256_7_0_0_0 inb_S8x3x2048x256_S1x1x2048x256_7_1_0_0 inb_S8x3x2048x256_S1x1x2048x256_7_2_0_0 fs0))); iexact HS7
  isplitl [Hq0]; · iexact Hq0
  isplitl [Hq1]; · iexact Hq1
  isplitl [Hq2]; · iexact Hq2
  isplitl [Hq3]; · iexact Hq3
  isplitl [Hq4]; · iexact Hq4
  isplitl [Hq5]; · iexact Hq5
  isplitl [Hq6]; · iexact Hq6
  isplitl [Hq7]; · iexact Hq7
  isplitl [Hq8]; · iexact Hq8
  isplitl [Hq9]; · iexact Hq9
  isplitl [Hq10]; · iexact Hq10
  isplitl [Hq11]; · iexact Hq11
  isplitl [Hq12]; · iexact Hq12
  isplitl [Hq13]; · iexact Hq13
  isplitl [Hq14]; · iexact Hq14
  isplitl [Hq15]; · iexact Hq15
  isplitl [Hq16]; · iexact Hq16
  isplitl [Hq17]; · iexact Hq17
  isplitl [Hq18]; · iexact Hq18
  isplitl [Hq19]; · iexact Hq19
  isplitl [Hq20]; · iexact Hq20
  isplitl [Hq21]; · iexact Hq21
  isplitl [Hq22]; · iexact Hq22
  isplitl [Hq23]; · iexact Hq23
  isplitl [Hh0]; · iexact Hh0
  iexists _; iexact HW

end Cert.BwdInIdeal.Bwd

end
-- ==== Proof.BwdRunB.lean ====
/- The input projection's backward kernel at a later grid point. -/
module

public import proofs.«01_k».proof.Proof.BwdPay

@[expose] public section

set_option maxRecDepth 16384

noncomputable section

namespace Cert.BwdInIdeal.Bwd

open Cert.BwdInIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

set_option maxHeartbeats 1000000 in
/-- A later point: with the scratch at `xs0` and the scale's gradient at `xo7`, the body runs and leaves its inputs and the scratch as they were, the
    two outputs at `stepGx` and `stepDg` over `xo7`. -/
theorem runB (c : Dev nD) (i : grid0.Coords) (arg1 : Memref sig .tc .vmem S4x256x1024 .bf16) (harg1 : arg1.IsWhole) (arg2 : Memref sig .tc .vmem S256x1024 .bf16) (harg2 : arg2.IsWhole) (arg3 : Memref sig .tc .vmem S256x1024 .bf16) (harg3 : arg3.IsWhole) (arg5 : Memref sig .tc .vmem S256x2048 .f32) (harg5 : arg5.IsWhole) (arg6 : Memref sig .tc .vmem S256x2048 .f32) (harg6 : arg6.IsWhole) (arg7 : Memref sig .tc .vmem S1x2048 .f32) (harg7 : arg7.IsWhole) (arg8 : Memref sig .tc .vmem S256x2048 .f32) (harg8 : arg8.IsWhole) (arg9 : Memref sig .tc .vmem S1x2048 .f32) (harg9 : arg9.IsWhole) (arg10 : Memref sig .tc .vmem S8x2048x768 .bf16) (harg10 : arg10.IsWhole) (hc0 : ¬cond0_0 i)
    (x0 : Vec F S4x256x1024 .bf16) (x1 : Vec F S256x1024 .bf16) (x2 : Vec F S256x1024 .bf16) (x3 : Vec F S256x2048 .f32) (x4 : Vec F S256x2048 .f32) (x5 : Vec F S1x2048 .f32) (xo7 : Vec F S1x2048 .f32) (xs0 : Vec F S8x2048x768 .bf16) (fh0 : HbBuf0 (F := F) c hbM0_0) :
    ∀ (W : Waits sig Unit) (K : PUnit → sProp 𝕄),
        iprop(owns (c : Thread nD τ) arg1 fullShare x0 ∗ owns (c : Thread nD τ) arg2 fullShare x1 ∗ owns (c : Thread nD τ) arg3 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ owns (c : Thread nD τ) arg9 fullShare xo7 ∗ owns (c : Thread nD τ) arg10 fullShare xs0 ∗ semVal ((c : Thread nD τ), SemLoc.dma 14) 0 ∗ semVal ((c : Thread nD τ), SemLoc.dma 15) 0 ∗ semVal ((c : Thread nD τ), SemLoc.dma 16) 0 ∗ semVal ((c : Thread nD τ), SemLoc.dma 17) 0 ∗ semVal ((c : Thread nD τ), SemLoc.dma 18) 0 ∗ semVal ((c : Thread nD τ), SemLoc.dma 19) 0 ∗ semVal ((c : Thread nD τ), SemLoc.dma 20) 0 ∗ semVal ((c : Thread nD τ), SemLoc.dma 21) 0 ∗ semVal ((c : Thread nD τ), SemLoc.dma 22) 0 ∗ semVal ((c : Thread nD τ), SemLoc.dma 23) 0 ∗ semVal ((c : Thread nD τ), SemLoc.dma 24) 0 ∗ semVal ((c : Thread nD τ), SemLoc.dma 25) 0 ∗ semVal ((c : Thread nD τ), SemLoc.dma 26) 0 ∗ semVal ((c : Thread nD τ), SemLoc.dma 27) 0 ∗ semVal ((c : Thread nD τ), SemLoc.dma 28) 0 ∗ semVal ((c : Thread nD τ), SemLoc.dma 29) 0 ∗ semVal ((c : Thread nD τ), SemLoc.dma 30) 0 ∗ semVal ((c : Thread nD τ), SemLoc.dma 31) 0 ∗ semVal ((c : Thread nD τ), SemLoc.dma 32) 0 ∗ semVal ((c : Thread nD τ), SemLoc.dma 33) 0 ∗ semVal ((c : Thread nD τ), SemLoc.dma 34) 0 ∗ semVal ((c : Thread nD τ), SemLoc.dma 35) 0 ∗ semVal ((c : Thread nD τ), SemLoc.dma 36) 0 ∗ semVal ((c : Thread nD τ), SemLoc.dma 37) 0 ∗ hbPt0 c hbM0_0 fh0 ∗ owes (c : Thread nD τ) 0 W
            ∗ (iprop(owns (c : Thread nD τ) arg1 fullShare x0 ∗ owns (c : Thread nD τ) arg2 fullShare x1 ∗ owns (c : Thread nD τ) arg3 fullShare x2 ∗ owns (c : Thread nD τ) arg5 fullShare x3 ∗ owns (c : Thread nD τ) arg6 fullShare x4 ∗ owns (c : Thread nD τ) arg7 fullShare x5 ∗ owns (c : Thread nD τ) arg8 fullShare (stepGx x0 x1 x2 x3 x4 x5 xs0) ∗ owns (c : Thread nD τ) arg9 fullShare (stepDg x0 x1 x2 x3 xs0 xo7) ∗ owns (c : Thread nD τ) arg10 fullShare xs0 ∗ semVal ((c : Thread nD τ), SemLoc.dma 14) 0 ∗ semVal ((c : Thread nD τ), SemLoc.dma 15) 0 ∗ semVal ((c : Thread nD τ), SemLoc.dma 16) 0 ∗ semVal ((c : Thread nD τ), SemLoc.dma 17) 0 ∗ semVal ((c : Thread nD τ), SemLoc.dma 18) 0 ∗ semVal ((c : Thread nD τ), SemLoc.dma 19) 0 ∗ semVal ((c : Thread nD τ), SemLoc.dma 20) 0 ∗ semVal ((c : Thread nD τ), SemLoc.dma 21) 0 ∗ semVal ((c : Thread nD τ), SemLoc.dma 22) 0 ∗ semVal ((c : Thread nD τ), SemLoc.dma 23) 0 ∗ semVal ((c : Thread nD τ), SemLoc.dma 24) 0 ∗ semVal ((c : Thread nD τ), SemLoc.dma 25) 0 ∗ semVal ((c : Thread nD τ), SemLoc.dma 26) 0 ∗ semVal ((c : Thread nD τ), SemLoc.dma 27) 0 ∗ semVal ((c : Thread nD τ), SemLoc.dma 28) 0 ∗ semVal ((c : Thread nD τ), SemLoc.dma 29) 0 ∗ semVal ((c : Thread nD τ), SemLoc.dma 30) 0 ∗ semVal ((c : Thread nD τ), SemLoc.dma 31) 0 ∗ semVal ((c : Thread nD τ), SemLoc.dma 32) 0 ∗ semVal ((c : Thread nD τ), SemLoc.dma 33) 0 ∗ semVal ((c : Thread nD τ), SemLoc.dma 34) 0 ∗ semVal ((c : Thread nD τ), SemLoc.dma 35) 0 ∗ semVal ((c : Thread nD τ), SemLoc.dma 36) 0 ∗ semVal ((c : Thread nD τ), SemLoc.dma 37) 0 ∗ hbPt0 c hbM0_0 fh0 ∗ (∃ W', owes (c : Thread nD τ) 0 W')) -∗ K ⟨⟩))
          ⊢ wp frame (wpE (defs₀ (F := F)) Variants.none c none) Set.univ (cc0_bwd_in i arg1 harg1 arg2 harg2 arg3 harg3 (Memref.whole main_arg3) (Memref.isWhole_whole _) arg5 harg5 arg6 harg6 arg7 harg7 arg8 harg8 arg9 harg9 arg10 harg10 cc0_scratch1) K := by
  intro W K
  simp only [cc0_bwd_in_eq_skeleton]; unfold cc0_bwd_in_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%f7, %hf7, H7⟩, ⟨%fs0, %hfs0, HS0⟩, Hq0, Hq1, Hq2, Hq3, Hq4, Hq5, Hq6, Hq7, Hq8, Hq9, Hq10, Hq11, Hq12, Hq13, Hq14, Hq15, Hq16, Hq17, Hq18, Hq19, Hq20, Hq21, Hq22, Hq23, Hh0, HW, Hk⟩
  obtain rfl := harg1.eq_unread hf0; obtain rfl := harg2.eq_unread hf1; obtain rfl := harg3.eq_unread hf2; obtain rfl := harg5.eq_unread hf3; obtain rfl := harg6.eq_unread hf4; obtain rfl := harg7.eq_unread hf5; obtain rfl := harg9.eq_unread hf7; obtain rfl := harg10.eq_unread hfs0
  sl_exec (disch := first | sl_exact hc0)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; swap
    · iexact H6
    · ipureintro
      exact (View.read_writes_full _ _ _ _ _).trans (stepGx_eq (dhv_eq (readAt_unread_fun (F := F) harg1 x0 (Rect.unit (s := S4x256x1024) ![0, 0, 0] S1x256x256.size inb_S4x256x1024_S1x256x256_0_0_0).toLoadRect) (readAt_unread_fun (F := F) harg1 x0 (Rect.unit (s := S4x256x1024) ![0, 0, 256] S1x256x256.size inb_S4x256x1024_S1x256x256_0_0_256).toLoadRect) (readAt_unread_fun (F := F) harg1 x0 (Rect.unit (s := S4x256x1024) ![0, 0, 512] S1x256x256.size inb_S4x256x1024_S1x256x256_0_0_512).toLoadRect) (readAt_unread_fun (F := F) harg1 x0 (Rect.unit (s := S4x256x1024) ![0, 0, 768] S1x256x256.size inb_S4x256x1024_S1x256x256_0_0_768).toLoadRect) (readAt_unread_fun (F := F) harg1 x0 (Rect.unit (s := S4x256x1024) ![1, 0, 0] S1x256x256.size inb_S4x256x1024_S1x256x256_1_0_0).toLoadRect) (readAt_unread_fun (F := F) harg1 x0 (Rect.unit (s := S4x256x1024) ![1, 0, 256] S1x256x256.size inb_S4x256x1024_S1x256x256_1_0_256).toLoadRect) (readAt_unread_fun (F := F) harg1 x0 (Rect.unit (s := S4x256x1024) ![1, 0, 512] S1x256x256.size inb_S4x256x1024_S1x256x256_1_0_512).toLoadRect) (readAt_unread_fun (F := F) harg1 x0 (Rect.unit (s := S4x256x1024) ![1, 0, 768] S1x256x256.size inb_S4x256x1024_S1x256x256_1_0_768).toLoadRect) (readAt_unread_fun (F := F) harg1 x0 (Rect.unit (s := S4x256x1024) ![2, 0, 0] S1x256x256.size inb_S4x256x1024_S1x256x256_2_0_0).toLoadRect) (readAt_unread_fun (F := F) harg1 x0 (Rect.unit (s := S4x256x1024) ![2, 0, 256] S1x256x256.size inb_S4x256x1024_S1x256x256_2_0_256).toLoadRect) (readAt_unread_fun (F := F) harg1 x0 (Rect.unit (s := S4x256x1024) ![2, 0, 512] S1x256x256.size inb_S4x256x1024_S1x256x256_2_0_512).toLoadRect) (readAt_unread_fun (F := F) harg1 x0 (Rect.unit (s := S4x256x1024) ![2, 0, 768] S1x256x256.size inb_S4x256x1024_S1x256x256_2_0_768).toLoadRect) (readAt_unread_fun (F := F) harg1 x0 (Rect.unit (s := S4x256x1024) ![3, 0, 0] S1x256x256.size inb_S4x256x1024_S1x256x256_3_0_0).toLoadRect) (readAt_unread_fun (F := F) harg1 x0 (Rect.unit (s := S4x256x1024) ![3, 0, 256] S1x256x256.size inb_S4x256x1024_S1x256x256_3_0_256).toLoadRect) (readAt_unread_fun (F := F) harg1 x0 (Rect.unit (s := S4x256x1024) ![3, 0, 512] S1x256x256.size inb_S4x256x1024_S1x256x256_3_0_512).toLoadRect) (readAt_unread_fun (F := F) harg1 x0 (Rect.unit (s := S4x256x1024) ![3, 0, 768] S1x256x256.size inb_S4x256x1024_S1x256x256_3_0_768).toLoadRect) (readAt_unread_fun (F := F) harg2 x1 (Rect.unit (s := S256x1024) ![0, 0] S256x256.size inb_S256x1024_S256x256_0_0).toLoadRect) (readAt_unread_fun (F := F) harg2 x1 (Rect.unit (s := S256x1024) ![0, 256] S256x256.size inb_S256x1024_S256x256_0_256).toLoadRect) (readAt_unread_fun (F := F) harg2 x1 (Rect.unit (s := S256x1024) ![0, 512] S256x256.size inb_S256x1024_S256x256_0_512).toLoadRect) (readAt_unread_fun (F := F) harg2 x1 (Rect.unit (s := S256x1024) ![0, 768] S256x256.size inb_S256x1024_S256x256_0_768).toLoadRect) (readAt_unread_fun (F := F) harg3 x2 (Rect.unit (s := S256x1024) ![0, 0] S256x256.size inb_S256x1024_S256x256_0_0).toLoadRect) (readAt_unread_fun (F := F) harg3 x2 (Rect.unit (s := S256x1024) ![0, 256] S256x256.size inb_S256x1024_S256x256_0_256).toLoadRect) (readAt_unread_fun (F := F) harg3 x2 (Rect.unit (s := S256x1024) ![0, 512] S256x256.size inb_S256x1024_S256x256_0_512).toLoadRect) (readAt_unread_fun (F := F) harg3 x2 (Rect.unit (s := S256x1024) ![0, 768] S256x256.size inb_S256x1024_S256x256_0_768).toLoadRect) (readAt_unread_fun (F := F) harg10 xs0 (Rect.unit (s := S8x2048x768) ![0, 0, 0] S1x2048x768.size inb_S8x2048x768_S1x2048x768_0_0_0).toLoadRect) (readAt_unread_fun (F := F) harg10 xs0 (Rect.unit (s := S8x2048x768) ![1, 0, 0] S1x2048x768.size inb_S8x2048x768_S1x2048x768_1_0_0).toLoadRect) (readAt_unread_fun (F := F) harg10 xs0 (Rect.unit (s := S8x2048x768) ![2, 0, 0] S1x2048x768.size inb_S8x2048x768_S1x2048x768_2_0_0).toLoadRect) (readAt_unread_fun (F := F) harg10 xs0 (Rect.unit (s := S8x2048x768) ![3, 0, 0] S1x2048x768.size inb_S8x2048x768_S1x2048x768_3_0_0).toLoadRect) (readAt_unread_fun (F := F) harg10 xs0 (Rect.unit (s := S8x2048x768) ![4, 0, 0] S1x2048x768.size inb_S8x2048x768_S1x2048x768_4_0_0).toLoadRect) (readAt_unread_fun (F := F) harg10 xs0 (Rect.unit (s := S8x2048x768) ![5, 0, 0] S1x2048x768.size inb_S8x2048x768_S1x2048x768_5_0_0).toLoadRect) (readAt_unread_fun (F := F) harg10 xs0 (Rect.unit (s := S8x2048x768) ![6, 0, 0] S1x2048x768.size inb_S8x2048x768_S1x2048x768_6_0_0).toLoadRect) (readAt_unread_fun (F := F) harg10 xs0 (Rect.unit (s := S8x2048x768) ![7, 0, 0] S1x2048x768.size inb_S8x2048x768_S1x2048x768_7_0_0).toLoadRect)) (readAt_full_unread (F := F) harg5 x3 _) (readAt_full_unread (F := F) harg7 x5 _) (readAt_full_unread (F := F) harg6 x4 _))
  isplitl [H7]
  · iexists _; isplitr; swap
    · iexact H7
    · ipureintro
      exact (View.read_writes_full _ _ _ _ _).trans (stepDg_eq (dhv_eq (readAt_unread_fun (F := F) harg1 x0 (Rect.unit (s := S4x256x1024) ![0, 0, 0] S1x256x256.size inb_S4x256x1024_S1x256x256_0_0_0).toLoadRect) (readAt_unread_fun (F := F) harg1 x0 (Rect.unit (s := S4x256x1024) ![0, 0, 256] S1x256x256.size inb_S4x256x1024_S1x256x256_0_0_256).toLoadRect) (readAt_unread_fun (F := F) harg1 x0 (Rect.unit (s := S4x256x1024) ![0, 0, 512] S1x256x256.size inb_S4x256x1024_S1x256x256_0_0_512).toLoadRect) (readAt_unread_fun (F := F) harg1 x0 (Rect.unit (s := S4x256x1024) ![0, 0, 768] S1x256x256.size inb_S4x256x1024_S1x256x256_0_0_768).toLoadRect) (readAt_unread_fun (F := F) harg1 x0 (Rect.unit (s := S4x256x1024) ![1, 0, 0] S1x256x256.size inb_S4x256x1024_S1x256x256_1_0_0).toLoadRect) (readAt_unread_fun (F := F) harg1 x0 (Rect.unit (s := S4x256x1024) ![1, 0, 256] S1x256x256.size inb_S4x256x1024_S1x256x256_1_0_256).toLoadRect) (readAt_unread_fun (F := F) harg1 x0 (Rect.unit (s := S4x256x1024) ![1, 0, 512] S1x256x256.size inb_S4x256x1024_S1x256x256_1_0_512).toLoadRect) (readAt_unread_fun (F := F) harg1 x0 (Rect.unit (s := S4x256x1024) ![1, 0, 768] S1x256x256.size inb_S4x256x1024_S1x256x256_1_0_768).toLoadRect) (readAt_unread_fun (F := F) harg1 x0 (Rect.unit (s := S4x256x1024) ![2, 0, 0] S1x256x256.size inb_S4x256x1024_S1x256x256_2_0_0).toLoadRect) (readAt_unread_fun (F := F) harg1 x0 (Rect.unit (s := S4x256x1024) ![2, 0, 256] S1x256x256.size inb_S4x256x1024_S1x256x256_2_0_256).toLoadRect) (readAt_unread_fun (F := F) harg1 x0 (Rect.unit (s := S4x256x1024) ![2, 0, 512] S1x256x256.size inb_S4x256x1024_S1x256x256_2_0_512).toLoadRect) (readAt_unread_fun (F := F) harg1 x0 (Rect.unit (s := S4x256x1024) ![2, 0, 768] S1x256x256.size inb_S4x256x1024_S1x256x256_2_0_768).toLoadRect) (readAt_unread_fun (F := F) harg1 x0 (Rect.unit (s := S4x256x1024) ![3, 0, 0] S1x256x256.size inb_S4x256x1024_S1x256x256_3_0_0).toLoadRect) (readAt_unread_fun (F := F) harg1 x0 (Rect.unit (s := S4x256x1024) ![3, 0, 256] S1x256x256.size inb_S4x256x1024_S1x256x256_3_0_256).toLoadRect) (readAt_unread_fun (F := F) harg1 x0 (Rect.unit (s := S4x256x1024) ![3, 0, 512] S1x256x256.size inb_S4x256x1024_S1x256x256_3_0_512).toLoadRect) (readAt_unread_fun (F := F) harg1 x0 (Rect.unit (s := S4x256x1024) ![3, 0, 768] S1x256x256.size inb_S4x256x1024_S1x256x256_3_0_768).toLoadRect) (readAt_unread_fun (F := F) harg2 x1 (Rect.unit (s := S256x1024) ![0, 0] S256x256.size inb_S256x1024_S256x256_0_0).toLoadRect) (readAt_unread_fun (F := F) harg2 x1 (Rect.unit (s := S256x1024) ![0, 256] S256x256.size inb_S256x1024_S256x256_0_256).toLoadRect) (readAt_unread_fun (F := F) harg2 x1 (Rect.unit (s := S256x1024) ![0, 512] S256x256.size inb_S256x1024_S256x256_0_512).toLoadRect) (readAt_unread_fun (F := F) harg2 x1 (Rect.unit (s := S256x1024) ![0, 768] S256x256.size inb_S256x1024_S256x256_0_768).toLoadRect) (readAt_unread_fun (F := F) harg3 x2 (Rect.unit (s := S256x1024) ![0, 0] S256x256.size inb_S256x1024_S256x256_0_0).toLoadRect) (readAt_unread_fun (F := F) harg3 x2 (Rect.unit (s := S256x1024) ![0, 256] S256x256.size inb_S256x1024_S256x256_0_256).toLoadRect) (readAt_unread_fun (F := F) harg3 x2 (Rect.unit (s := S256x1024) ![0, 512] S256x256.size inb_S256x1024_S256x256_0_512).toLoadRect) (readAt_unread_fun (F := F) harg3 x2 (Rect.unit (s := S256x1024) ![0, 768] S256x256.size inb_S256x1024_S256x256_0_768).toLoadRect) (readAt_unread_fun (F := F) harg10 xs0 (Rect.unit (s := S8x2048x768) ![0, 0, 0] S1x2048x768.size inb_S8x2048x768_S1x2048x768_0_0_0).toLoadRect) (readAt_unread_fun (F := F) harg10 xs0 (Rect.unit (s := S8x2048x768) ![1, 0, 0] S1x2048x768.size inb_S8x2048x768_S1x2048x768_1_0_0).toLoadRect) (readAt_unread_fun (F := F) harg10 xs0 (Rect.unit (s := S8x2048x768) ![2, 0, 0] S1x2048x768.size inb_S8x2048x768_S1x2048x768_2_0_0).toLoadRect) (readAt_unread_fun (F := F) harg10 xs0 (Rect.unit (s := S8x2048x768) ![3, 0, 0] S1x2048x768.size inb_S8x2048x768_S1x2048x768_3_0_0).toLoadRect) (readAt_unread_fun (F := F) harg10 xs0 (Rect.unit (s := S8x2048x768) ![4, 0, 0] S1x2048x768.size inb_S8x2048x768_S1x2048x768_4_0_0).toLoadRect) (readAt_unread_fun (F := F) harg10 xs0 (Rect.unit (s := S8x2048x768) ![5, 0, 0] S1x2048x768.size inb_S8x2048x768_S1x2048x768_5_0_0).toLoadRect) (readAt_unread_fun (F := F) harg10 xs0 (Rect.unit (s := S8x2048x768) ![6, 0, 0] S1x2048x768.size inb_S8x2048x768_S1x2048x768_6_0_0).toLoadRect) (readAt_unread_fun (F := F) harg10 xs0 (Rect.unit (s := S8x2048x768) ![7, 0, 0] S1x2048x768.size inb_S8x2048x768_S1x2048x768_7_0_0).toLoadRect)) (readAt_full_unread (F := F) harg5 x3 _) (readAt_full_unread (F := F) harg9 xo7 _))
  isplitl [HS0]
  · iexists _; isplitr; · ipureintro; exact harg10.read_unread _
    iexact HS0
  isplitl [Hq0]; · iexact Hq0
  isplitl [Hq1]; · iexact Hq1
  isplitl [Hq2]; · iexact Hq2
  isplitl [Hq3]; · iexact Hq3
  isplitl [Hq4]; · iexact Hq4
  isplitl [Hq5]; · iexact Hq5
  isplitl [Hq6]; · iexact Hq6
  isplitl [Hq7]; · iexact Hq7
  isplitl [Hq8]; · iexact Hq8
  isplitl [Hq9]; · iexact Hq9
  isplitl [Hq10]; · iexact Hq10
  isplitl [Hq11]; · iexact Hq11
  isplitl [Hq12]; · iexact Hq12
  isplitl [Hq13]; · iexact Hq13
  isplitl [Hq14]; · iexact Hq14
  isplitl [Hq15]; · iexact Hq15
  isplitl [Hq16]; · iexact Hq16
  isplitl [Hq17]; · iexact Hq17
  isplitl [Hq18]; · iexact Hq18
  isplitl [Hq19]; · iexact Hq19
  isplitl [Hq20]; · iexact Hq20
  isplitl [Hq21]; · iexact Hq21
  isplitl [Hq22]; · iexact Hq22
  isplitl [Hq23]; · iexact Hq23
  isplitl [Hh0]; · iexact Hh0
  iexists _; iexact HW

end Cert.BwdInIdeal.Bwd

end
-- ==== Proof.BwdFrame.lean ====
/- The input projection's backward kernel over its grid: what stands between points, the run, and the frame. -/
module

public import proofs.«01_k».proof.Proof.BwdRunA
public import proofs.«01_k».proof.Proof.BwdRunB
public import Idealize.ShloMosaic.Lib.Claim

@[expose] public section

set_option maxRecDepth 16384

noncomputable section

namespace Cert.BwdInIdeal.Bwd

open Cert.BwdInIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-- The scratch held whole at anything is its slabs held at one contents. -/
theorem slabs_of_owns (c : Dev nD) (M : Memref sig .tc .vmem S8x2048x768 .bf16) (d : Vec F S8x2048x768 .bf16) :
    (owns (c : Thread nD τ) M fullShare d : sProp 𝕄) ⊢ iprop(∃ f, slabsAt c M f) := by
  unfold owns
  iintro ⟨%f, -, H⟩
  iexists f
  iapply (Entails.of_eq (slabs_eq c M f))
  iexact H

/-- The slabs held at the contents that read `X` are the scratch held at `X`. -/
theorem owns_of_slabs (c : Dev nD) {M : Memref sig .tc .vmem S8x2048x768 .bf16} (hM : M.IsWhole) (X : Vec F S8x2048x768 .bf16) :
    (slabsAt c M (hM.unread X) : sProp 𝕄) ⊢ owns (c : Thread nD τ) M fullShare X := by
  unfold owns
  iintro H
  iexists _; isplitr; swap
  · iapply (Entails.of_eq (slabs_eq c M (hM.unread X)).symm); iexact H
  · ipureintro; exact hM.read_unread X

/-! ## What the outputs hold after each point -/

/-- The gathered weights, as the scratch holds them. -/
def wAt (c : Dev nD) : Vec F S8x2048x768 .bf16 := wts c (V m c main_arg3)

/-- The block of the input's gradient point `t` leaves. -/
def gxAt (c : Dev nD) (t : Fin cfg0.N) : Vec F S256x2048 .f32 :=
  stepGx (iblk m c 0 t) (iblk m c 1 t) (iblk m c 2 t) (iblk m c 3 t) (iblk m c 4 t) (iblk m c 5 t) (wAt m c)

/-- The scale's gradient point `n` leaves, over what the point before left; over zeros at the first. -/
def dgAt (c : Dev nD) : (n : ℕ) → n < cfg0.N → Vec F S1x2048 .f32
  | 0, hn => stepDg (iblk m c 0 ⟨0, hn⟩) (iblk m c 1 ⟨0, hn⟩) (iblk m c 2 ⟨0, hn⟩) (iblk m c 3 ⟨0, hn⟩) (wAt m c) k0_pay5
  | n + 1, hn => stepDg (iblk m c 0 ⟨n + 1, hn⟩) (iblk m c 1 ⟨n + 1, hn⟩) (iblk m c 2 ⟨n + 1, hn⟩) (iblk m c 3 ⟨n + 1, hn⟩) (wAt m c)
      (dgAt c n (Nat.lt_of_succ_lt hn))

/-- The scale's gradient at the first point. -/
theorem dgAt_A (c : Dev nD) (t : Fin cfg0.N) (h0 : t.val = 0) :
    dgAt m c t.val t.isLt = stepDg (iblk m c 0 t) (iblk m c 1 t) (iblk m c 2 t) (iblk m c 3 t) (wAt m c) k0_pay5 := by
  obtain ⟨n, hn⟩ := t
  cases n with
  | zero => rfl
  | succ n => exact absurd h0 (Nat.succ_ne_zero n)

/-- The scale's gradient at a later point. -/
theorem dgAt_B (c : Dev nD) (t : Fin cfg0.N) (h0 : t.val ≠ 0) :
    dgAt m c t.val t.isLt = stepDg (iblk m c 0 t) (iblk m c 1 t) (iblk m c 2 t) (iblk m c 3 t) (wAt m c)
      (dgAt m c (t.val - 1) (Nat.lt_of_le_of_lt (Nat.sub_le _ _) t.isLt)) := by
  obtain ⟨n, hn⟩ := t
  cases n with
  | zero => exact absurd rfl h0
  | succ n => rfl

/-- What stands between points: before the first what the launch hands over, afterwards the scratch at the gathered weights, the
    generator register, the copies' cells at zero and the gathered weights in HBM. -/
def PhiS (c : Dev nD) : (n : ℕ) → n ≤ cfg0.N → sProp 𝕄
  | 0, _ => Pipeline.ΦD osem0 spec0 H0 (V m) c
  | n + 1, hn => iprop(iprop(owns (c : Thread nD τ) scM0_0 fullShare (wAt m c)) ∗ (∃ r, prngReg c r) ∗ iprop(semVal ((c : Thread nD τ), SemLoc.dma 14) 0 ∗ semVal ((c : Thread nD τ), SemLoc.dma 15) 0 ∗ semVal ((c : Thread nD τ), SemLoc.dma 16) 0 ∗ semVal ((c : Thread nD τ), SemLoc.dma 17) 0 ∗ semVal ((c : Thread nD τ), SemLoc.dma 18) 0 ∗ semVal ((c : Thread nD τ), SemLoc.dma 19) 0 ∗ semVal ((c : Thread nD τ), SemLoc.dma 20) 0 ∗ semVal ((c : Thread nD τ), SemLoc.dma 21) 0 ∗ semVal ((c : Thread nD τ), SemLoc.dma 22) 0 ∗ semVal ((c : Thread nD τ), SemLoc.dma 23) 0 ∗ semVal ((c : Thread nD τ), SemLoc.dma 24) 0 ∗ semVal ((c : Thread nD τ), SemLoc.dma 25) 0 ∗ semVal ((c : Thread nD τ), SemLoc.dma 26) 0 ∗ semVal ((c : Thread nD τ), SemLoc.dma 27) 0 ∗ semVal ((c : Thread nD τ), SemLoc.dma 28) 0 ∗ semVal ((c : Thread nD τ), SemLoc.dma 29) 0 ∗ semVal ((c : Thread nD τ), SemLoc.dma 30) 0 ∗ semVal ((c : Thread nD τ), SemLoc.dma 31) 0 ∗ semVal ((c : Thread nD τ), SemLoc.dma 32) 0 ∗ semVal ((c : Thread nD τ), SemLoc.dma 33) 0 ∗ semVal ((c : Thread nD τ), SemLoc.dma 34) 0 ∗ semVal ((c : Thread nD τ), SemLoc.dma 35) 0 ∗ semVal ((c : Thread nD τ), SemLoc.dma 36) 0 ∗ semVal ((c : Thread nD τ), SemLoc.dma 37) 0) ∗ iprop(hbPt0 c hbM0_0 (V m c main_arg3)))

theorem PhiS_zero (c : Dev nD) (n : ℕ) (h : n ≤ cfg0.N) (hz : n = 0) : PhiS m c n h = Pipeline.ΦD osem0 spec0 H0 (V m) c := by
  subst hz; rfl

/-- After point `n`. -/
theorem PhiS_succ (c : Dev nD) (n : ℕ) (hn : n < cfg0.N) :
    PhiS m c (n + 1) hn = iprop(iprop(owns (c : Thread nD τ) scM0_0 fullShare (wAt m c)) ∗ (∃ r, prngReg c r) ∗ iprop(semVal ((c : Thread nD τ), SemLoc.dma 14) 0 ∗ semVal ((c : Thread nD τ), SemLoc.dma 15) 0 ∗ semVal ((c : Thread nD τ), SemLoc.dma 16) 0 ∗ semVal ((c : Thread nD τ), SemLoc.dma 17) 0 ∗ semVal ((c : Thread nD τ), SemLoc.dma 18) 0 ∗ semVal ((c : Thread nD τ), SemLoc.dma 19) 0 ∗ semVal ((c : Thread nD τ), SemLoc.dma 20) 0 ∗ semVal ((c : Thread nD τ), SemLoc.dma 21) 0 ∗ semVal ((c : Thread nD τ), SemLoc.dma 22) 0 ∗ semVal ((c : Thread nD τ), SemLoc.dma 23) 0 ∗ semVal ((c : Thread nD τ), SemLoc.dma 24) 0 ∗ semVal ((c : Thread nD τ), SemLoc.dma 25) 0 ∗ semVal ((c : Thread nD τ), SemLoc.dma 26) 0 ∗ semVal ((c : Thread nD τ), SemLoc.dma 27) 0 ∗ semVal ((c : Thread nD τ), SemLoc.dma 28) 0 ∗ semVal ((c : Thread nD τ), SemLoc.dma 29) 0 ∗ semVal ((c : Thread nD τ), SemLoc.dma 30) 0 ∗ semVal ((c : Thread nD τ), SemLoc.dma 31) 0 ∗ semVal ((c : Thread nD τ), SemLoc.dma 32) 0 ∗ semVal ((c : Thread nD τ), SemLoc.dma 33) 0 ∗ semVal ((c : Thread nD τ), SemLoc.dma 34) 0 ∗ semVal ((c : Thread nD τ), SemLoc.dma 35) 0 ∗ semVal ((c : Thread nD τ), SemLoc.dma 36) 0 ∗ semVal ((c : Thread nD τ), SemLoc.dma 37) 0) ∗ iprop(hbPt0 c hbM0_0 (V m c main_arg3))) := rfl

/-- Before a point that is not the first. -/
theorem PhiS_pos (c : Dev nD) (n : ℕ) (h : n ≤ cfg0.N) (hz : n ≠ 0) :
    PhiS m c n h = iprop(iprop(owns (c : Thread nD τ) scM0_0 fullShare (wAt m c)) ∗ (∃ r, prngReg c r) ∗ iprop(semVal ((c : Thread nD τ), SemLoc.dma 14) 0 ∗ semVal ((c : Thread nD τ), SemLoc.dma 15) 0 ∗ semVal ((c : Thread nD τ), SemLoc.dma 16) 0 ∗ semVal ((c : Thread nD τ), SemLoc.dma 17) 0 ∗ semVal ((c : Thread nD τ), SemLoc.dma 18) 0 ∗ semVal ((c : Thread nD τ), SemLoc.dma 19) 0 ∗ semVal ((c : Thread nD τ), SemLoc.dma 20) 0 ∗ semVal ((c : Thread nD τ), SemLoc.dma 21) 0 ∗ semVal ((c : Thread nD τ), SemLoc.dma 22) 0 ∗ semVal ((c : Thread nD τ), SemLoc.dma 23) 0 ∗ semVal ((c : Thread nD τ), SemLoc.dma 24) 0 ∗ semVal ((c : Thread nD τ), SemLoc.dma 25) 0 ∗ semVal ((c : Thread nD τ), SemLoc.dma 26) 0 ∗ semVal ((c : Thread nD τ), SemLoc.dma 27) 0 ∗ semVal ((c : Thread nD τ), SemLoc.dma 28) 0 ∗ semVal ((c : Thread nD τ), SemLoc.dma 29) 0 ∗ semVal ((c : Thread nD τ), SemLoc.dma 30) 0 ∗ semVal ((c : Thread nD τ), SemLoc.dma 31) 0 ∗ semVal ((c : Thread nD τ), SemLoc.dma 32) 0 ∗ semVal ((c : Thread nD τ), SemLoc.dma 33) 0 ∗ semVal ((c : Thread nD τ), SemLoc.dma 34) 0 ∗ semVal ((c : Thread nD τ), SemLoc.dma 35) 0 ∗ semVal ((c : Thread nD τ), SemLoc.dma 36) 0 ∗ semVal ((c : Thread nD τ), SemLoc.dma 37) 0) ∗ iprop(hbPt0 c hbM0_0 (V m c main_arg3))) := by
  cases n with
  | zero => exact absurd rfl hz
  | succ n => rfl

/-! ## The pipeline's proof data -/

/-- The proof data of the pipeline: the arrays as launched; after point `t` each input's buffer at its block and the outputs at
    `gxAt` and `dgAt`. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => gxAt m c t
    | ⟨7, _⟩ => dgAt m c t.val t.isLt
  Φ t := PhiS m c t.val (Nat.le_of_lt_succ t.isLt)
  q _ := fullShare
  owed _ := 0

/-- The proof data's arrays are the launched ones. -/
theorem A_eq (c : Dev nD) (w : Fin cfg0.W) : (dats m 0 c).A w = V m c (Pipeline.arrRef spec0 w) := by
  dsimp only [dats]

/-- The invariant at a point's start. -/
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

/-- What the body leaves, window by window. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = gxAt m c t := by dsimp only [dats]
theorem after0_7 (c : Dev nD) (t : Fin cfg0.N) : (dats m 0 c).after 7 t = dgAt m c t.val t.isLt := by dsimp only [dats]

/-- Each input's staging buffer holds its block at every point. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
/-- After the first point the scale's gradient's buffer holds what the point before left. -/
theorem before0_7_B (c : Dev nD) (t : Fin cfg0.N) (h0 : t.val ≠ 0) (d) :
    (dats m 0 c).before 7 t d = dgAt m c (t.val - 1) (Nat.lt_of_le_of_lt (Nat.sub_le _ _) t.isLt) := by
  have hN : t.val < 16 := lt_of_lt_of_eq t.isLt (show cfg0.N = 16 from N_0)
  rw [Dat.before_out_kept _ 7 rfl t (by omega) (Bool.eq_false_iff.mpr fun h => by have := (flush0_7 _).mp h; dsimp only at this; omega)
    (fun _ => rfl) (fun _ _ => rfl)]
  dsimp only [dats]

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t))

set_option maxHeartbeats 6400000 in
/-- The body at any point: the first point's run from the scratch at anything, a later point's from the scratch at the gathered
    weights and the scale's gradient at what the point before left. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).Φ t.succ = PhiS m c (t.val + 1) t.isLt from rfl, PhiS_succ,
    after0_0, after0_1, after0_2, after0_3, after0_4, after0_5, after0_6, after0_7]
  unfold Dat.owesAt Pipeline.owesWithin
  rw [show (dats m 0 c).owed t.castSucc = 0 from rfl, show (dats m 0 c).owed t.succ = 0 from rfl]
  have hN : t.val < 16 := lt_of_lt_of_eq t.isLt (show cfg0.N = 16 from N_0)
  by_cases hz : t.val = 0
  · rw [PhiS_castSucc m c t, PhiS_zero m c _ _ hz, PhiD0_eq, dgAt_A m c t hz]
    iintro ⟨⟨HS0, Hg, ⟨Hq0, Hq1, Hq2, Hq3, Hq4, Hq5, Hq6, Hq7, Hq8, Hq9, Hq10, Hq11, Hq12, Hq13, Hq14, Hq15, Hq16, Hq17, Hq18, Hq19, Hq20, Hq21, Hq22, Hq23⟩, Hh0⟩, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩⟩
    icases HS0 with ⟨%ds, HS0⟩
    ihave HS0 := (slabs_of_owns c scM0_0 ds) $$ HS0
    iapply (runA c (grid0.coords t) _ _ _ _ _ _ _ _ _ _ _ _ _ _ _ _ _ (Memref.isWhole_whole cc0_scratch0) ((hcond0_0 t).mpr (by omega)) (iblk m c 0 t) (iblk m c 1 t) (iblk m c 2 t) (iblk m c 3 t) (iblk m c 4 t) (iblk m c 5 t) (V m c main_arg3) W _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexists _; iexact H7
    isplitl [HS0]; · iexact HS0
    isplitl [Hq0]; · iexact Hq0
    isplitl [Hq1]; · iexact Hq1
    isplitl [Hq2]; · iexact Hq2
    isplitl [Hq3]; · iexact Hq3
    isplitl [Hq4]; · iexact Hq4
    isplitl [Hq5]; · iexact Hq5
    isplitl [Hq6]; · iexact Hq6
    isplitl [Hq7]; · iexact Hq7
    isplitl [Hq8]; · iexact Hq8
    isplitl [Hq9]; · iexact Hq9
    isplitl [Hq10]; · iexact Hq10
    isplitl [Hq11]; · iexact Hq11
    isplitl [Hq12]; · iexact Hq12
    isplitl [Hq13]; · iexact Hq13
    isplitl [Hq14]; · iexact Hq14
    isplitl [Hq15]; · iexact Hq15
    isplitl [Hq16]; · iexact Hq16
    isplitl [Hq17]; · iexact Hq17
    isplitl [Hq18]; · iexact Hq18
    isplitl [Hq19]; · iexact Hq19
    isplitl [Hq20]; · iexact Hq20
    isplitl [Hq21]; · iexact Hq21
    isplitl [Hq22]; · iexact Hq22
    isplitl [Hq23]; · iexact Hq23
    isplitl [Hh0]; · iexact Hh0
    isplitl [HW]; · iexact HW
    iintro ⟨H0, H1, H2, H3, H4, H5, H6, H7, HS0, Hq0, Hq1, Hq2, Hq3, Hq4, Hq5, Hq6, Hq7, Hq8, Hq9, Hq10, Hq11, Hq12, Hq13, Hq14, Hq15, Hq16, Hq17, Hq18, Hq19, Hq20, Hq21, Hq22, Hq23, Hh0, ⟨%W', HW'⟩⟩
    isplitl [HS0 Hg Hq0 Hq1 Hq2 Hq3 Hq4 Hq5 Hq6 Hq7 Hq8 Hq9 Hq10 Hq11 Hq12 Hq13 Hq14 Hq15 Hq16 Hq17 Hq18 Hq19 Hq20 Hq21 Hq22 Hq23 Hh0]
    · isplitl [HS0]
      · iapply (owns_of_slabs c (Memref.isWhole_whole cc0_scratch0) (wAt m c)); iexact HS0
      isplitl [Hg]
      · iexact Hg
      isplitl [Hq0 Hq1 Hq2 Hq3 Hq4 Hq5 Hq6 Hq7 Hq8 Hq9 Hq10 Hq11 Hq12 Hq13 Hq14 Hq15 Hq16 Hq17 Hq18 Hq19 Hq20 Hq21 Hq22 Hq23]
      · isplitl [Hq0]; · iexact Hq0
        isplitl [Hq1]; · iexact Hq1
        isplitl [Hq2]; · iexact Hq2
        isplitl [Hq3]; · iexact Hq3
        isplitl [Hq4]; · iexact Hq4
        isplitl [Hq5]; · iexact Hq5
        isplitl [Hq6]; · iexact Hq6
        isplitl [Hq7]; · iexact Hq7
        isplitl [Hq8]; · iexact Hq8
        isplitl [Hq9]; · iexact Hq9
        isplitl [Hq10]; · iexact Hq10
        isplitl [Hq11]; · iexact Hq11
        isplitl [Hq12]; · iexact Hq12
        isplitl [Hq13]; · iexact Hq13
        isplitl [Hq14]; · iexact Hq14
        isplitl [Hq15]; · iexact Hq15
        isplitl [Hq16]; · iexact Hq16
        isplitl [Hq17]; · iexact Hq17
        isplitl [Hq18]; · iexact Hq18
        isplitl [Hq19]; · iexact Hq19
        isplitl [Hq20]; · iexact Hq20
        isplitl [Hq21]; · iexact Hq21
        isplitl [Hq22]; · iexact Hq22
        iexact Hq23
      iexact Hh0
    isplitl [HW']
    · iexists W'; isplitr; · ipureintro; exact fun _ _ => Or.inl trivial
      iexact HW'
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7
  · rw [PhiS_castSucc m c t, PhiS_pos m c _ _ hz, dgAt_B m c t hz]
    simp only [before0_7_B m c t hz]
    iintro ⟨⟨HS0, Hg, ⟨Hq0, Hq1, Hq2, Hq3, Hq4, Hq5, Hq6, Hq7, Hq8, Hq9, Hq10, Hq11, Hq12, Hq13, Hq14, Hq15, Hq16, Hq17, Hq18, Hq19, Hq20, Hq21, Hq22, Hq23⟩, Hh0⟩, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩⟩
    iapply (runB c (grid0.coords t) _ _ _ _ _ _ _ _ _ _ _ _ _ _ _ _ _ (Memref.isWhole_whole cc0_scratch0) (fun h => hz (by have := (hcond0_0 t).mp h; omega)) (iblk m c 0 t) (iblk m c 1 t) (iblk m c 2 t) (iblk m c 3 t) (iblk m c 4 t) (iblk m c 5 t) _ (wAt m c) (V m c main_arg3) W _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexact H7
    isplitl [HS0]; · iexact HS0
    isplitl [Hq0]; · iexact Hq0
    isplitl [Hq1]; · iexact Hq1
    isplitl [Hq2]; · iexact Hq2
    isplitl [Hq3]; · iexact Hq3
    isplitl [Hq4]; · iexact Hq4
    isplitl [Hq5]; · iexact Hq5
    isplitl [Hq6]; · iexact Hq6
    isplitl [Hq7]; · iexact Hq7
    isplitl [Hq8]; · iexact Hq8
    isplitl [Hq9]; · iexact Hq9
    isplitl [Hq10]; · iexact Hq10
    isplitl [Hq11]; · iexact Hq11
    isplitl [Hq12]; · iexact Hq12
    isplitl [Hq13]; · iexact Hq13
    isplitl [Hq14]; · iexact Hq14
    isplitl [Hq15]; · iexact Hq15
    isplitl [Hq16]; · iexact Hq16
    isplitl [Hq17]; · iexact Hq17
    isplitl [Hq18]; · iexact Hq18
    isplitl [Hq19]; · iexact Hq19
    isplitl [Hq20]; · iexact Hq20
    isplitl [Hq21]; · iexact Hq21
    isplitl [Hq22]; · iexact Hq22
    isplitl [Hq23]; · iexact Hq23
    isplitl [Hh0]; · iexact Hh0
    isplitl [HW]; · iexact HW
    iintro ⟨H0, H1, H2, H3, H4, H5, H6, H7, HS0, Hq0, Hq1, Hq2, Hq3, Hq4, Hq5, Hq6, Hq7, Hq8, Hq9, Hq10, Hq11, Hq12, Hq13, Hq14, Hq15, Hq16, Hq17, Hq18, Hq19, Hq20, Hq21, Hq22, Hq23, Hh0, ⟨%W', HW'⟩⟩
    isplitl [HS0 Hg Hq0 Hq1 Hq2 Hq3 Hq4 Hq5 Hq6 Hq7 Hq8 Hq9 Hq10 Hq11 Hq12 Hq13 Hq14 Hq15 Hq16 Hq17 Hq18 Hq19 Hq20 Hq21 Hq22 Hq23 Hh0]
    · isplitl [HS0]
      · iexact HS0
      isplitl [Hg]
      · iexact Hg
      isplitl [Hq0 Hq1 Hq2 Hq3 Hq4 Hq5 Hq6 Hq7 Hq8 Hq9 Hq10 Hq11 Hq12 Hq13 Hq14 Hq15 Hq16 Hq17 Hq18 Hq19 Hq20 Hq21 Hq22 Hq23]
      · isplitl [Hq0]; · iexact Hq0
        isplitl [Hq1]; · iexact Hq1
        isplitl [Hq2]; · iexact Hq2
        isplitl [Hq3]; · iexact Hq3
        isplitl [Hq4]; · iexact Hq4
        isplitl [Hq5]; · iexact Hq5
        isplitl [Hq6]; · iexact Hq6
        isplitl [Hq7]; · iexact Hq7
        isplitl [Hq8]; · iexact Hq8
        isplitl [Hq9]; · iexact Hq9
        isplitl [Hq10]; · iexact Hq10
        isplitl [Hq11]; · iexact Hq11
        isplitl [Hq12]; · iexact Hq12
        isplitl [Hq13]; · iexact Hq13
        isplitl [Hq14]; · iexact Hq14
        isplitl [Hq15]; · iexact Hq15
        isplitl [Hq16]; · iexact Hq16
        isplitl [Hq17]; · iexact Hq17
        isplitl [Hq18]; · iexact Hq18
        isplitl [Hq19]; · iexact Hq19
        isplitl [Hq20]; · iexact Hq20
        isplitl [Hq21]; · iexact Hq21
        isplitl [Hq22]; · iexact Hq22
        iexact Hq23
      iexact Hh0
    isplitl [HW']
    · iexists W'; isplitr; · ipureintro; exact fun _ _ => Or.inl trivial
      iexact HW'
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7

/-- The body table's row at a point is the body there. -/
theorem defs₀_row (t : Fin cfg0.N) :
    defs₀ (F := F) .tc cfg0.body (cfg0.bodyArgs t (cfg0.slots t)) = bodyAt0 t := by
  unfold defs₀; rw [Defs.onTc_tc]

/-- The body's obligation, at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch hands over is the invariant before the first point. -/
theorem hin (c : Dev nD) : Pipeline.ΦD osem0 spec0 H0 (V m) c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives back what the launch handed over. -/
theorem Phi_out (c : Dev nD) (t : Fin (cfg0.N + 1)) (ht : t.val ≠ 0) : (dats m 0 c).Φ t ⊢ Pipeline.ΦD osem0 spec0 H0 (V m) c := by
  rw [show (dats m 0 c).Φ t = PhiS m c t.val (Nat.le_of_lt_succ t.isLt) from rfl, PhiS_pos m c _ _ ht, PhiD0_eq]
  iintro ⟨HS0, Hg, Hq, Hh0⟩
  isplitl [HS0]
  · iexists _; iexact HS0
  isplitl [Hg]; · iexact Hg
  isplitl [Hq]
  · iexact Hq
  iexact Hh0

/-- The same after the last point. -/
theorem hout (c : Dev nD) : (dats m 0 c).Φ (Fin.last cfg0.N) ⊢ Pipeline.ΦD osem0 spec0 H0 (V m) c :=
  Phi_out m c _ (by rw [Fin.val_last]; have : cfg0.N = 16 := N_0; omega)

/-! ## The run and the frame -/

set_option backward.isDefEq.respectTransparency.types false in
/-- The run, and every semaphore counter at zero at its end. -/
theorem run_main_quiescent : θ_run defs (onTc (τ := τ) (main (F := F))) (s₀ m ρ) (fun r => (Pipeline.FramePost cfgs (dats m) 0 (V m)) r ∧ r.2.sem = fun _ => 0) :=
  Pipeline.θ_run_frame_dma (Q' := _) cfgs (dats m) (0 : Fin 1) launch0 osem0 defs₀ Variants.none ownSemFacts0 H0 H0_sub m ρ main
    (hbody := fun c => (body_obligation m c).loose) (hshare := fun c => (dats m 0 c).share_full fun _ => rfl)
    (howed := fun _ _ => rfl) (V := V m) (hmain := hmain m Variants.none) (hA := A_eq m)
    (hin := hin m) (hout := hout m)

/-- Every fair execution ends, with every array of the pipeline at what the proof data says and every other buffer unchanged. -/
theorem run_main : θ_run defs (onTc (τ := τ) (main (F := F))) (s₀ m ρ) (Pipeline.FramePost cfgs (dats m) 0 (V m)) :=
  (θ_run defs _ _).mono (fun _ h => h.1) (run_main_quiescent m ρ)

/-- The argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  frame_of m ρ (dats m) (A_eq m) (run_main m ρ)

/-- The frame: the argument arrays end unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  θ_run_and (unchanged m ρ) ((θ_run defs _ _).mono (fun _ h => h.2) (run_main_quiescent m ρ))

end Cert.BwdInIdeal.Bwd

end
-- ==== Proof.BwdSpec.lean ====
/-
  The backward pass of the input projection and of the first norm, one row at a time: the product of the row's
  cotangent with the weights, the gradient through the norm, the residual's gradient on top. The identity between the
  two forms of the norm's gradient holds at every extended real, so no assumption on the arguments is needed.
-/
module

public import proofs.«01_k».proof.Proof.DwIn
public import proofs.«01_k».proof.Proof.TailFin

@[expose] public section

noncomputable section

namespace Cert.Bwd

open Idealize.ShloMosaic
open Cert.Tail (wLen wEps len_eq eps_pos nhalf_eq coe_sum)

/-- One row: its cotangent, the input, the gradient that goes around the norm; the weights and the norm's scale. -/
structure Row where
  d : Fin 6144 → EReal
  w : Fin 2048 → Fin 6144 → EReal
  x : Fin 2048 → EReal
  y : Fin 2048 → EReal
  g : Fin 2048 → EReal

namespace Row

variable (ρ : Row) (n : Fin 2048)

/-- The gradient at the norm's output. -/
def dh : EReal := ∑ q : Fin 6144, ρ.d q * ρ.w n q
/-- The mean square with its offset, and the inverse of its root. -/
def v : EReal := Ideal.div (∑ k : Fin 2048, ρ.x k * ρ.x k) wLen + wEps
def r : EReal := Ideal.rsqrt ρ.v
/-- The normed input, and its gradient. -/
def xn : EReal := ρ.x n * ρ.r
def dxn : EReal := ρ.dh n * ρ.g n
/-- The input's gradient. -/
def gx : EReal := ρ.r * (ρ.dxn n - ρ.xn n * Ideal.div (∑ k : Fin 2048, ρ.dxn k * ρ.xn k) wLen) + ρ.y n

/-- A square is no less than zero. -/
theorem sq_nonneg (a : EReal) : 0 ≤ a * a := by
  induction a using EReal.rec with
  | bot => simp
  | coe a => exact_mod_cast mul_self_nonneg a
  | top => simp

/-- The offset mean square is a positive real, with every element of the row a real, or it is infinite. -/
theorem v_cases : (ρ.v = ⊤) ∨ ((∃ v : ℝ, 0 < v ∧ ρ.v = (v : EReal)) ∧ ∀ k, ∃ a : ℝ, ρ.x k = (a : EReal)) := by
  obtain ⟨e, he, he'⟩ := eps_pos
  have inv : (0 : ℝ) < 1 / 2048 := by norm_num
  by_cases hx : ∀ k, ∃ a : ℝ, ρ.x k = (a : EReal)
  · refine Or.inr ⟨?_, hx⟩
    choose a ha using hx
    refine ⟨(∑ k, a k * a k) * (1 / 2048) + e, ?_, ?_⟩
    · have : 0 ≤ ∑ k, a k * a k := Finset.sum_nonneg fun k _ => mul_self_nonneg _
      positivity
    · unfold v
      simp only [ha, ← EReal.coe_mul, coe_sum]
      rw [len_eq, he', Ideal.div_coe (by norm_num), ← EReal.coe_mul, ← EReal.coe_add]
  · refine Or.inl ?_
    obtain ⟨k, hk⟩ := not_forall.mp hx
    have hk' : ρ.x k * ρ.x k = ⊤ := by
      rcases h : ρ.x k with _ | _ | a
      · exact EReal.bot_mul_bot
      · exact EReal.top_mul_top
      · exact absurd ⟨a, h⟩ hk
    have hs : ∑ k : Fin 2048, ρ.x k * ρ.x k = ⊤ :=
      top_le_iff.mp (hk' ▸ Finset.single_le_sum (f := fun k => ρ.x k * ρ.x k) (fun i _ => sq_nonneg _) (Finset.mem_univ k))
    unfold v
    rw [hs, len_eq, he', Ideal.div_coe (by norm_num), EReal.top_mul_coe_of_pos inv, EReal.top_add_coe]

/-- A sum times a real that is not negative. -/
theorem sum_mul_coe {ι : Type} (s : Finset ι) (f : ι → EReal) (a : ℝ) (ha : 0 ≤ a) :
    ∑ i ∈ s, f i * (a : EReal) = (∑ i ∈ s, f i) * (a : EReal) := by
  classical
  induction s using Finset.induction_on with
  | empty => simp
  | insert i s hi ih =>
    rw [Finset.sum_insert hi, Finset.sum_insert hi, ih,
      EReal.right_distrib_of_nonneg_of_ne_top (by exact_mod_cast ha) (EReal.coe_ne_top _)]

/-- Two equal real multiples of a number are its doubled multiple. -/
theorem mul_coe_add_self (S : EReal) (b : ℝ) : S * (b : EReal) + S * (b : EReal) = S * ((b + b : ℝ) : EReal) := by
  induction S using EReal.rec with
  | coe s => norm_cast; ring
  | bot =>
    rcases lt_trichotomy b 0 with h | h | h
    · rw [EReal.bot_mul_coe_of_neg h, EReal.bot_mul_coe_of_neg (by linarith)]; rfl
    · subst h; simp
    · rw [EReal.bot_mul_coe_of_pos h, EReal.bot_mul_coe_of_pos (by linarith)]; rfl
  | top =>
    rcases lt_trichotomy b 0 with h | h | h
    · rw [EReal.top_mul_coe_of_neg h, EReal.top_mul_coe_of_neg (by linarith)]; rfl
    · subst h; simp
    · rw [EReal.top_mul_coe_of_pos h, EReal.top_mul_coe_of_pos (by linarith)]; rfl

/-- The product of the input with its gradient, along the row. -/
def xd : EReal := ∑ k : Fin 2048, ρ.x k * ρ.dxn k
/-- What reaches every element of the row through the mean square, halved. -/
def via : EReal := Ideal.div (ρ.xd * (Ideal.ofBits .f32 0xBF000000#32 * Ideal.div ρ.r ρ.v)) wLen

/-- The norm's gradient as its own rules give it: its direct term, and twice the half through the mean square. -/
theorem gx_ref : ρ.dxn n * ρ.r + ρ.x n * ρ.via + ρ.via * ρ.x n + ρ.y n = ρ.gx n := by
  unfold gx
  refine congrArg (· + ρ.y n) ?_
  have l0 : (2048 : ℝ) ≠ 0 := by norm_num
  rcases ρ.v_cases with hv | ⟨⟨v, hv, hm⟩, hx⟩
  · have hr : ρ.r = 0 := by unfold r; rw [hv]; rfl
    have hq : Ideal.div ρ.r ρ.v = 0 := by rw [hr, hv, Ideal.div, if_neg (by simp), zero_mul]
    have hvia : ρ.via = 0 := by unfold via; rw [hq, mul_zero, mul_zero, len_eq, Ideal.div_coe l0, zero_mul]
    rw [hvia, hr]; simp
  · obtain ⟨a, ha⟩ := hx n
    have hr : ρ.r = (((Real.sqrt v)⁻¹ : ℝ) : EReal) := by
      unfold r
      rw [hm, Ideal.rsqrt_coe, if_neg (not_lt.mpr hv.le), if_neg hv.ne']
    have hs := Real.mul_self_sqrt hv.le
    have hs0 : 0 < Real.sqrt v := Real.sqrt_pos.mpr hv
    have hvia : ρ.via = ρ.xd * (((-1 / 2) * ((Real.sqrt v)⁻¹ * (1 / v)) * (1 / 2048) : ℝ) : EReal) := by
      unfold via
      rw [hm, hr, Ideal.div_coe hv.ne', nhalf_eq, len_eq, Ideal.div_coe l0, ← EReal.coe_mul, ← EReal.coe_mul, mul_assoc,
        ← EReal.coe_mul]
    have hmean : Ideal.div (∑ k : Fin 2048, ρ.dxn k * ρ.xn k) wLen = ρ.xd * (((Real.sqrt v)⁻¹ * (1 / 2048) : ℝ) : EReal) := by
      have e : ∑ k : Fin 2048, ρ.dxn k * ρ.xn k = ρ.xd * (((Real.sqrt v)⁻¹ : ℝ) : EReal) := by
        unfold xd
        rw [← sum_mul_coe _ _ _ (inv_nonneg.mpr hs0.le)]
        refine Finset.sum_congr rfl fun k _ => ?_
        unfold xn
        rw [hr, ← mul_assoc, mul_comm (ρ.dxn k)]
      rw [e, len_eq, Ideal.div_coe l0, mul_assoc, ← EReal.coe_mul]
    rw [hvia, hmean]
    unfold xn
    rw [ha, hr]
    generalize ρ.xd = S
    generalize ρ.dxn n = D
    generalize Real.sqrt v = s at hs hs0
    subst hs
    have e1 : ∀ b : ℝ, (a : EReal) * (S * (b : EReal)) = S * ((a * b : ℝ) : EReal) := fun b => by
      rw [mul_left_comm, ← EReal.coe_mul]
    have e2 : ∀ b : ℝ, S * (b : EReal) * (a : EReal) = S * ((a * b : ℝ) : EReal) := fun b => by rw [mul_comm, e1]
    rw [e1, e2, add_assoc, mul_coe_add_self, mul_comm _ (D - _), sub_eq_add_neg,
      EReal.right_distrib_of_nonneg_of_ne_top (by exact_mod_cast inv_nonneg.mpr hs0.le) (EReal.coe_ne_top _)]
    refine congrArg (D * _ + ·) ?_
    rw [← EReal.coe_mul, mul_left_comm _ S, ← EReal.coe_mul, ← mul_neg S, ← EReal.coe_neg, mul_assoc S, ← EReal.coe_mul]
    refine congrArg (fun t : ℝ => S * (t : EReal)) ?_
    field_simp
    ring

end Row

/-- Row `R` of the seven arguments: the stacked cotangents, the two further ones, the weights in their parts, the input,
    the gradient around the norm, the scale. -/
def rowOf (a0 : DwIn.Sd.Idx → EReal) (a1 a2 : DwIn.Sp.Idx → EReal) (a3 : (⟨4, ![8, 3, 2048, 256]⟩ : Shape).Idx → EReal)
    (a4 a5 : (⟨2, ![4096, 2048]⟩ : Shape).Idx → EReal) (a6 : (⟨2, ![1, 2048]⟩ : Shape).Idx → EReal) (R : Fin 4096) : Row where
  d q := DwIn.cot a0 a1 a2 R q.val
  w n q := a3 (ix4 ⟨q.val / 768, by omega⟩ ⟨q.val / 256 % 3, Nat.mod_lt _ (by decide)⟩ n ⟨q.val % 256, Nat.mod_lt _ (by decide)⟩)
  x n := a4 (ix2 R n)
  y n := a5 (ix2 R n)
  g n := a6 (ix2 0 n)

end Cert.Bwd

end
-- ==== Proof.BwdVal.lean ====
/-
  The backward kernel's vector expressions read at an index: each is the row's own number.
-/
module

public import proofs.«01_k».proof.Proof.BwdPay
public import proofs.«01_k».proof.Proof.BwdSpec
public import Idealize.ShloMosaic.Lib.Pointwise

@[expose] public section

set_option maxRecDepth 16384

noncomputable section

namespace Cert.BwdInIdeal.Bwd

open Cert.BwdInIdeal.Gen Idealize.ShloMosaic Cert.Bwd

/-- One device's product: three groups of columns side by side, against the device's part of the weights. -/
def slab (a b c : FVec Ideal S256x256 .bf16) (w : Vec Ideal S1x2048x768 .bf16) : FVec Ideal S256x2048 .f32 :=
  matmul dot_S256x768_S2048x768_S256x2048_1_1_0_0_n_n none
    (concatenate S256x768 1 [⟨S256x256, a⟩, ⟨S256x256, b⟩, ⟨S256x256, c⟩] concatenates_S256x256_S256x256_S256x256_S256x768_d1)
    (shapeCast S2048x768 w shapeCasts_S1x2048x768_S2048x768 : FVec Ideal S2048x768 .bf16) (constant S256x2048 .f32 0x00000000#32)

/-- A slice of one stacked cotangent as a matrix. -/
abbrev flat (v : Vec Ideal S1x256x256 .bf16) : FVec Ideal S256x256 .bf16 := shapeCast S256x256 v shapeCasts_S1x256x256_S256x256

theorem pay6_eq (a b c w) (i : S256x2048.Idx) : k0_pay6 (F := Ideal) a b c w i = slab (flat a) (flat b) (flat c) w i := rfl
theorem pay7_eq (v a b c w) (i : S256x2048.Idx) : k0_pay7 (F := Ideal) v a b c w i = v i + slab (flat a) (flat b) (flat c) w i := rfl
theorem pay8_eq (v a b c w) (i : S256x2048.Idx) : k0_pay8 (F := Ideal) v a b c w i = v i + slab (flat a) (flat b) (flat c) w i := rfl
theorem pay10_eq (v a b c w a' b' c' w') (i : S256x2048.Idx) :
    k0_pay10 (F := Ideal) v (k0_pay9 a b c) w a' b' c' w' i
      = v i + slab (flat a) (flat b) (flat c) w i + slab (flat a') (flat b') (flat c') w' i := rfl
theorem pay11_eq (v a b c w) (i : S256x2048.Idx) : k0_pay11 (F := Ideal) v a b c w i = v i + slab (flat a) b c w i := rfl
theorem pay12_eq (v a b c w a' b' c' w') (i : S256x2048.Idx) :
    k0_pay12 (F := Ideal) v a b c w a' b' c' w' i = v i + slab a b c w i + slab a' b' c' w' i := rfl

/-- A product against one part of the weights is the sum over the part's columns. -/
theorem dot_at (v : FVec Ideal S256x768 .bf16) (w : Vec Ideal S1x2048x768 .bf16) (p : Fin 256) (n : Fin 2048) :
    matmul (F := Ideal) dot_S256x768_S2048x768_S256x2048_1_1_0_0_n_n none v (shapeCast S2048x768 w shapeCasts_S1x2048x768_S2048x768 : FVec Ideal S2048x768 .bf16)
      (constant S256x2048 .f32 0x00000000#32) (ix2 p n) = ∑ q : Fin 768, v (ix2 p q) * w (ix3 0 n q) := by
  pointwise []

/-- Three groups of columns side by side, read at column `256 i + l`. -/
theorem three_at (f : Fin 3 → FVec Ideal S256x256 .bf16) (p : Fin 256) (q : Fin 768) (i : Fin 3) (l : Fin 256) (hq : q.val = i.val * 256 + l.val) :
    concatenate S256x768 1 [⟨S256x256, f 0⟩, ⟨S256x256, f 1⟩, ⟨S256x256, f 2⟩] concatenates_S256x256_S256x256_S256x256_S256x768_d1 (ix2 p q)
      = f i (ix2 p l) := by
  refine concatenate_ofFn_apply (1 : Fin S256x768.rank) f concatenates_S256x256_S256x256_S256x256_S256x768_d1 rfl 256 rfl (ix2 p q) i ?_ (ix2 p l) ?_ ?_
  · show q.val / 256 = i.val; omega
  · show l.val = q.val % 256; omega
  · intro b hb
    fin_cases b
    · rfl
    · exact absurd rfl hb

section Row

variable (D : Fin 6144 → EReal) (W : Fin 2048 → Fin 6144 → EReal) (p : Fin 256) (n : Fin 2048)

/-- Column `l` of device `k`'s part among all columns. -/
abbrev col (k : Fin 8) (l : ℕ) (h : l < 768) : Fin 6144 := ⟨k.val * 768 + l, by omega⟩

/-- The product with device `k`'s part, over the columns of the whole. -/
theorem slab_at (k : Fin 8) (a b c : FVec Ideal S256x256 .bf16) (w : Vec Ideal S1x2048x768 .bf16)
    (ha : ∀ l : Fin 256, a (ix2 p l) = D (col k l.val (by omega)))
    (hb : ∀ l : Fin 256, b (ix2 p l) = D (col k (256 + l.val) (by omega)))
    (hc : ∀ l : Fin 256, c (ix2 p l) = D (col k (512 + l.val) (by omega)))
    (hw : ∀ q : Fin 768, w (ix3 0 n q) = W n (col k q.val q.isLt)) :
    slab a b c w (ix2 p n) = ∑ q : Fin 768, D (col k q.val q.isLt) * W n (col k q.val q.isLt) := by
  refine (dot_at _ w p n).trans (Finset.sum_congr rfl fun q _ => congrArg₂ (· * ·) ?_ (hw q))
  have hq := q.isLt
  let l : Fin 256 := ⟨q.val % 256, Nat.mod_lt _ (by decide)⟩
  have hl : l.val = q.val % 256 := rfl
  rcases Nat.lt_or_ge q.val 256 with h1 | h1
  · refine (three_at ![a, b, c] p q 0 l (by show q.val = 0 * 256 + l.val; omega)).trans ((ha l).trans (congrArg D (Fin.ext ?_)))
    show k.val * 768 + l.val = k.val * 768 + q.val; omega
  · rcases Nat.lt_or_ge q.val 512 with h2 | h2
    · refine (three_at ![a, b, c] p q 1 l (by show q.val = 1 * 256 + l.val; omega)).trans ((hb l).trans (congrArg D (Fin.ext ?_)))
      show k.val * 768 + (256 + l.val) = k.val * 768 + q.val; omega
    · refine (three_at ![a, b, c] p q 2 l (by show q.val = 2 * 256 + l.val; omega)).trans ((hc l).trans (congrArg D (Fin.ext ?_)))
      show k.val * 768 + (512 + l.val) = k.val * 768 + q.val; omega

/-- A load of one stacked cotangent's columns. -/
theorem ld0 (x0 : Vec Ideal S4x256x1024 .bf16) (a : Fin 4) (c : ℕ)
    (h : ∀ b, (![a.val, 0, c] : Fin 3 → ℕ) b + S1x256x256.size b ≤ S4x256x1024.size b)
    (h0 : ∀ (a : Fin 4) (l : Fin 1024), x0 (ix3 a p l) = D ⟨a.val * 1024 + l.val, by omega⟩) (l : Fin 256) (q : Fin 6144)
    (hc : c + 256 ≤ 1024) (hq : q.val = a.val * 1024 + (c + l.val)) :
    flat (fun y => x0 ((Rect.unit (s := S4x256x1024) ![a.val, 0, c] S1x256x256.size h).toLoadRect.idx y)) (ix2 p l) = D q := by
  have e : ((Rect.unit (s := S4x256x1024) ![a.val, 0, c] S1x256x256.size h).toLoadRect.idx (ix3 0 p l))
      = ix3 a p (⟨c + l.val, by omega⟩ : Fin 1024) := by
    funext b; apply Fin.ext
    match b with
    | ⟨0, _⟩ => show a.val + 1 * 0 = a.val; omega
    | ⟨1, _⟩ => show 0 + 1 * p.val = p.val; omega
    | ⟨2, _⟩ => show c + 1 * l.val = c + l.val; omega
  have e2 : flat (fun y => x0 ((Rect.unit (s := S4x256x1024) ![a.val, 0, c] S1x256x256.size h).toLoadRect.idx y)) (ix2 p l)
      = x0 ((Rect.unit (s := S4x256x1024) ![a.val, 0, c] S1x256x256.size h).toLoadRect.idx (ix3 0 p l)) := by
    pointwise [flat]
  rw [e2, e, h0]
  exact congrArg D (Fin.ext hq.symm)

/-- A load of a further cotangent's columns. -/
theorem ld1 (x : Vec Ideal S256x1024 .bf16) (c o : ℕ) (h : ∀ b, (![0, c] : Fin 2 → ℕ) b + S256x256.size b ≤ S256x1024.size b)
    (ho : o + 1024 ≤ 6144) (h1 : ∀ l : Fin 1024, x (ix2 p l) = D ⟨o + l.val, by omega⟩) (l : Fin 256) (q : Fin 6144)
    (hc : c + 256 ≤ 1024) (hq : q.val = o + (c + l.val)) :
    (fun y => x ((Rect.unit (s := S256x1024) ![0, c] S256x256.size h).toLoadRect.idx y)) (ix2 p l) = D q := by
  have e : ((Rect.unit (s := S256x1024) ![0, c] S256x256.size h).toLoadRect.idx (ix2 p l)) = ix2 p (⟨c + l.val, by omega⟩ : Fin 1024) := by
    funext b; apply Fin.ext
    match b with
    | ⟨0, _⟩ => show 0 + 1 * p.val = p.val; omega
    | ⟨1, _⟩ => show c + 1 * l.val = c + l.val; omega
  show x _ = _
  rw [e, h1]
  exact congrArg D (Fin.ext hq.symm)

/-- A load of one device's part of the weights. -/
theorem ldw (w : Vec Ideal S8x2048x768 .bf16) (k : Fin 8)
    (h : ∀ b, (![k.val, 0, 0] : Fin 3 → ℕ) b + S1x2048x768.size b ≤ S8x2048x768.size b)
    (hw : ∀ (k : Fin 8) (q : Fin 768), w (ix3 k n q) = W n (col k q.val q.isLt)) (q : Fin 768) :
    (fun y => w ((Rect.unit (s := S8x2048x768) ![k.val, 0, 0] S1x2048x768.size h).toLoadRect.idx y)) (ix3 0 n q) = W n (col k q.val q.isLt) := by
  have e : ((Rect.unit (s := S8x2048x768) ![k.val, 0, 0] S1x2048x768.size h).toLoadRect.idx (ix3 0 n q)) = ix3 k n q := by
    funext b; apply Fin.ext
    match b with
    | ⟨0, _⟩ => show k.val + 1 * 0 = k.val; omega
    | ⟨1, _⟩ => show 0 + 1 * n.val = n.val; omega
    | ⟨2, _⟩ => show 0 + 1 * q.val = q.val; omega
  show w _ = _
  rw [e, hw]

/-- The eight products, added in turn, are the product over all columns. -/
theorem dh_at (x0 : Vec Ideal S4x256x1024 .bf16) (x1 x2 : Vec Ideal S256x1024 .bf16) (w : Vec Ideal S8x2048x768 .bf16)
    (h0 : ∀ (a : Fin 4) (l : Fin 1024), x0 (ix3 a p l) = D ⟨a.val * 1024 + l.val, by omega⟩)
    (h1 : ∀ l : Fin 1024, x1 (ix2 p l) = D ⟨4096 + l.val, by omega⟩)
    (h2 : ∀ l : Fin 1024, x2 (ix2 p l) = D ⟨5120 + l.val, by omega⟩)
    (hw : ∀ (k : Fin 8) (q : Fin 768), w (ix3 k n q) = W n (col k q.val q.isLt)) :
    dhv x0 x1 x2 w (ix2 p n) = ∑ q : Fin 6144, D q * W n q := by
  have A : ∀ (a : Fin 4) (c : ℕ) (h) (l : Fin 256) (q : Fin 6144), c + 256 ≤ 1024 → q.val = a.val * 1024 + (c + l.val) →
      flat (fun y => x0 ((Rect.unit (s := S4x256x1024) ![a.val, 0, c] S1x256x256.size h).toLoadRect.idx y)) (ix2 p l) = D q :=
    fun a c h l q hc hq => ld0 D p x0 a c h h0 l q hc hq
  have B : ∀ (c : ℕ) (h) (l : Fin 256) (q : Fin 6144), c + 256 ≤ 1024 → q.val = 4096 + (c + l.val) →
      (fun y => x1 ((Rect.unit (s := S256x1024) ![0, c] S256x256.size h).toLoadRect.idx y)) (ix2 p l) = D q :=
    fun c h l q hc hq => ld1 D p x1 c 4096 h (by omega) h1 l q hc hq
  have C : ∀ (c : ℕ) (h) (l : Fin 256) (q : Fin 6144), c + 256 ≤ 1024 → q.val = 5120 + (c + l.val) →
      (fun y => x2 ((Rect.unit (s := S256x1024) ![0, c] S256x256.size h).toLoadRect.idx y)) (ix2 p l) = D q :=
    fun c h l q hc hq => ld1 D p x2 c 5120 h (by omega) h2 l q hc hq
  have E : ∀ (k : Fin 8) (h) (q : Fin 768), (fun y => w ((Rect.unit (s := S8x2048x768) ![k.val, 0, 0] S1x2048x768.size h).toLoadRect.idx y)) (ix3 0 n q)
      = W n (col k q.val q.isLt) := fun k h q => ldw W n w k h hw q
  unfold dhv
  rw [pay12_eq, pay11_eq, pay10_eq, pay8_eq, pay7_eq, pay6_eq]
  refine Eq.trans (congrArg₂ (· + ·)
    (congrArg₂ (· + ·)
    (congrArg₂ (· + ·)
    (congrArg₂ (· + ·)
    (congrArg₂ (· + ·)
    (congrArg₂ (· + ·)
    (congrArg₂ (· + ·)
    (slab_at D W p n 0 _ _ _ _ (fun l => A 0 0 _ l _ (by omega) (by simp)) (fun l => A 0 256 _ l _ (by omega) (by simp))
      (fun l => A 0 512 _ l _ (by omega) (by simp)) (E 0 _))
    (slab_at D W p n 1 _ _ _ _ (fun l => A 0 768 _ l _ (by omega) (by simp)) (fun l => A 1 0 _ l _ (by omega) (by simp <;> omega))
      (fun l => A 1 256 _ l _ (by omega) (by simp <;> omega)) (E 1 _)))
    (slab_at D W p n 2 _ _ _ _ (fun l => A 1 512 _ l _ (by omega) (by simp <;> omega)) (fun l => A 1 768 _ l _ (by omega) (by simp <;> omega))
      (fun l => A 2 0 _ l _ (by omega) (by simp <;> omega)) (E 2 _)))
    (slab_at D W p n 3 _ _ _ _ (fun l => A 2 256 _ l _ (by omega) (by simp <;> omega)) (fun l => A 2 512 _ l _ (by omega) (by simp <;> omega))
      (fun l => A 2 768 _ l _ (by omega) (by simp <;> omega)) (E 3 _)))
    (slab_at D W p n 4 _ _ _ _ (fun l => A 3 0 _ l _ (by omega) (by simp <;> omega)) (fun l => A 3 256 _ l _ (by omega) (by simp <;> omega))
      (fun l => A 3 512 _ l _ (by omega) (by simp <;> omega)) (E 4 _)))
    (slab_at D W p n 5 _ _ _ _ (fun l => A 3 768 _ l _ (by omega) (by simp <;> omega)) (fun l => B 0 _ l _ (by omega) (by simp <;> omega))
      (fun l => B 256 _ l _ (by omega) (by simp <;> omega)) (E 5 _)))
    (slab_at D W p n 6 _ _ _ _ (fun l => B 512 _ l _ (by omega) (by simp <;> omega)) (fun l => B 768 _ l _ (by omega) (by simp <;> omega))
      (fun l => C 0 _ l _ (by omega) (by simp <;> omega)) (E 6 _)))
    (slab_at D W p n 7 _ _ _ _ (fun l => C 256 _ l _ (by omega) (by simp <;> omega)) (fun l => C 512 _ l _ (by omega) (by simp <;> omega))
      (fun l => C 768 _ l _ (by omega) (by simp <;> omega)) (E 7 _))) ?_
  refine Eq.trans ?_ (Fin.sum_mul_add_congr (S := 8) (n := 768) (F := fun (k : Fin 8) (q : Fin 768) => D (col k q.val q.isLt) * W n (col k q.val q.isLt))
    (fun k q _ => rfl) rfl)
  rw [Fin.sum_univ_eight]

end Row

/-- What a point's row is, of the blocks it reads: as `dh_at` has it, with the norm's arguments. -/
structure Reads (ρ : Row) (p : Fin 256) (x0 : Vec Ideal S4x256x1024 .bf16) (x1 x2 : Vec Ideal S256x1024 .bf16)
    (x3 : Vec Ideal S256x2048 .f32) (w : Vec Ideal S8x2048x768 .bf16) : Prop where
  h0 : ∀ (a : Fin 4) (l : Fin 1024), x0 (ix3 a p l) = ρ.d ⟨a.val * 1024 + l.val, by omega⟩
  h1 : ∀ l : Fin 1024, x1 (ix2 p l) = ρ.d ⟨4096 + l.val, by omega⟩
  h2 : ∀ l : Fin 1024, x2 (ix2 p l) = ρ.d ⟨5120 + l.val, by omega⟩
  h3 : ∀ n, x3 (ix2 p n) = ρ.x n
  hw : ∀ n (k : Fin 8) (q : Fin 768), w (ix3 k n q) = ρ.w n (col k q.val q.isLt)

section At

variable {ρ : Row} {p : Fin 256} {x0 : Vec Ideal S4x256x1024 .bf16} {x1 x2 : Vec Ideal S256x1024 .bf16}
  {x3 : Vec Ideal S256x2048 .f32} {w : Vec Ideal S8x2048x768 .bf16} (H : Reads ρ p x0 x1 x2 x3 w) (n : Fin 2048) (u : Fin 1)

include H

theorem dhv_at : dhv x0 x1 x2 w (ix2 p n) = ρ.dh n := dh_at ρ.d ρ.w p n x0 x1 x2 w H.h0 H.h1 H.h2 (H.hw n)

theorem r_at : k0_pay1 (F := Ideal) (k0_pay13 x3) (ix2 p u) = ρ.r := by
  pointwise [k0_pay1, k0_pay13]
  simp only [H.h3]
  rfl

theorem xn_at : k0_pay2 (F := Ideal) x3 (k0_pay13 x3) (ix2 p n) = ρ.xn n := by
  pointwise [k0_pay2]
  rw [r_at H, H.h3]
  rfl

theorem gx_at (x4 : Vec Ideal S256x2048 .f32) (x5 : Vec Ideal S1x2048 .f32) (h4 : ∀ n, x4 (ix2 p n) = ρ.y n)
    (h5 : ∀ n, x5 (ix2 0 n) = ρ.g n) : stepGx x0 x1 x2 x3 x4 x5 w (ix2 p n) = ρ.gx n := by
  pointwise [stepGx, k0_pay4]
  simp only [r_at H, xn_at H, dhv_at H, h4, h5]
  rfl

end At

/-- What a point adds to the scale's gradient: the sum over its rows. -/
theorem dg_at {ρ : Fin 256 → Row} {x0 : Vec Ideal S4x256x1024 .bf16} {x1 x2 : Vec Ideal S256x1024 .bf16}
    {x3 : Vec Ideal S256x2048 .f32} {w : Vec Ideal S8x2048x768 .bf16} (H : ∀ p, Reads (ρ p) p x0 x1 x2 x3 w)
    (acc : Vec Ideal S1x2048 .f32) (n : Fin 2048) (u : Fin 1) :
    stepDg x0 x1 x2 x3 w acc (ix2 u n) = acc (ix2 u n) + ∑ p : Fin 256, (ρ p).dh n * (ρ p).xn n := by
  pointwise [stepDg, k0_pay3]
  exact congrArg (acc (ix2 u n) + ·) (Finset.sum_congr rfl fun p _ => congrArg₂ (· * ·) (dhv_at (H p) n) (xn_at (H p) n))

end Cert.BwdInIdeal.Bwd

end
-- ==== Proof.BwdArr.lean ====
/-
  The backward kernel's two result arrays, index by index, as functions of the argument arrays: point `t` works on rows
  `256 t` to `256 t + 255`, and the scale's gradient grows from point to point.
-/
module

public import proofs.«01_k».proof.Proof.BwdFrame
public import proofs.«01_k».proof.Proof.BwdVal
public import Idealize.ShloMosaic.Lib.Pipeline.ValueKit

@[expose] public section

set_option maxRecDepth 16384

noncomputable section

namespace Cert.BwdInIdeal.Bwd

open Cert.BwdInIdeal.Gen Idealize.ShloMosaic Idealize.ShloMosaic.TcCoe Cert.Bwd
open Idealize.ShloMosaic.Pipeline (Dat)

variable (m : (ℓ : Loc nD τ sig) → Buf (Elt Ideal) ℓ)

/-- The blocks of point `t`: a row of blocks, or the whole array. -/
theorem idx_all : ∀ t : Fin grid0.N,
    (win0_0.index t 0 = 0 ∧ win0_0.index t 1 = t.val ∧ win0_0.index t 2 = 0)
    ∧ (win0_1.index t 0 = t.val ∧ win0_1.index t 1 = 0) ∧ (win0_2.index t 0 = t.val ∧ win0_2.index t 1 = 0)
    ∧ (win0_3.index t 0 = t.val ∧ win0_3.index t 1 = 0) ∧ (win0_4.index t 0 = t.val ∧ win0_4.index t 1 = 0)
    ∧ (win0_5.index t 0 = 0 ∧ win0_5.index t 1 = 0) ∧ (win0_6.index t 0 = t.val ∧ win0_6.index t 1 = 0) := by
  decide +kernel

/-- The row of the arrays that row `p` of point `t` is. -/
def at_ (t : Fin cfg0.N) (p : Fin 256) : Fin 4096 := ⟨t * 256 + p, by have : t.val < grid0.N := t.isLt; have := N_0; omega⟩

/-- Row `R` of the arrays as the launch finds them. -/
def rw_ (c : Dev nD) (R : Fin 4096) : Row :=
  rowOf (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) R

theorem blk0 (c : Dev nD) (t : Fin cfg0.N) (a : Fin 4) (p : Fin 256) (l : Fin 1024) :
    iblk m c 0 t (ix3 a p l) = m ((c : Thread nD τ).loc main_arg0) (ix3 a (at_ t p) l) := by
  have e := (idx_all t).1
  show V m c (Pipeline.arrRef spec0 0) ((win0_0.rect t).emb (ix3 a p l)) = _
  refine (congrArg (V m c main_arg0) ?_).trans (congrFun (V_main_arg0 m c) _)
  funext b; apply Fin.ext; rw [win0_0.rect_emb_val]
  fin_cases b
  · show win0_0.index t 0 * 4 + a.val = a.val; rw [e.1]; omega
  · show win0_0.index t 1 * 256 + p.val = t.val * 256 + p.val; rw [e.2.1]
  · show win0_0.index t 2 * 1024 + l.val = l.val; rw [e.2.2]; omega

theorem blk1 (c : Dev nD) (t : Fin cfg0.N) (p : Fin 256) (l : Fin 1024) :
    iblk m c 1 t (ix2 p l) = m ((c : Thread nD τ).loc main_arg1) (ix2 (at_ t p) l) := by
  have e := (idx_all t).2.1
  show V m c (Pipeline.arrRef spec0 1) ((win0_1.rect t).emb (ix2 p l)) = _
  refine (congrArg (V m c main_arg1) ?_).trans (congrFun (V_main_arg1 m c) _)
  funext b; apply Fin.ext; rw [win0_1.rect_emb_val]
  fin_cases b
  · show win0_1.index t 0 * 256 + p.val = t.val * 256 + p.val; rw [e.1]
  · show win0_1.index t 1 * 1024 + l.val = l.val; rw [e.2]; omega

theorem blk2 (c : Dev nD) (t : Fin cfg0.N) (p : Fin 256) (l : Fin 1024) :
    iblk m c 2 t (ix2 p l) = m ((c : Thread nD τ).loc main_arg2) (ix2 (at_ t p) l) := by
  have e := (idx_all t).2.2.1
  show V m c (Pipeline.arrRef spec0 2) ((win0_2.rect t).emb (ix2 p l)) = _
  refine (congrArg (V m c main_arg2) ?_).trans (congrFun (V_main_arg2 m c) _)
  funext b; apply Fin.ext; rw [win0_2.rect_emb_val]
  fin_cases b
  · show win0_2.index t 0 * 256 + p.val = t.val * 256 + p.val; rw [e.1]
  · show win0_2.index t 1 * 1024 + l.val = l.val; rw [e.2]; omega

theorem blk3 (c : Dev nD) (t : Fin cfg0.N) (p : Fin 256) (n : Fin 2048) :
    iblk m c 3 t (ix2 p n) = m ((c : Thread nD τ).loc main_arg4) (ix2 (at_ t p) n) := by
  have e := (idx_all t).2.2.2.1
  show V m c (Pipeline.arrRef spec0 3) ((win0_3.rect t).emb (ix2 p n)) = _
  refine (congrArg (V m c main_arg4) ?_).trans (congrFun (V_main_arg4 m c) _)
  funext b; apply Fin.ext; rw [win0_3.rect_emb_val]
  fin_cases b
  · show win0_3.index t 0 * 256 + p.val = t.val * 256 + p.val; rw [e.1]
  · show win0_3.index t 1 * 2048 + n.val = n.val; rw [e.2]; omega

theorem blk4 (c : Dev nD) (t : Fin cfg0.N) (p : Fin 256) (n : Fin 2048) :
    iblk m c 4 t (ix2 p n) = m ((c : Thread nD τ).loc main_arg5) (ix2 (at_ t p) n) := by
  have e := (idx_all t).2.2.2.2.1
  show V m c (Pipeline.arrRef spec0 4) ((win0_4.rect t).emb (ix2 p n)) = _
  refine (congrArg (V m c main_arg5) ?_).trans (congrFun (V_main_arg5 m c) _)
  funext b; apply Fin.ext; rw [win0_4.rect_emb_val]
  fin_cases b
  · show win0_4.index t 0 * 256 + p.val = t.val * 256 + p.val; rw [e.1]
  · show win0_4.index t 1 * 2048 + n.val = n.val; rw [e.2]; omega

theorem blk5 (c : Dev nD) (t : Fin cfg0.N) (n : Fin 2048) :
    iblk m c 5 t (ix2 0 n) = m ((c : Thread nD τ).loc main_arg6) (ix2 0 n) := by
  have e := (idx_all t).2.2.2.2.2.1
  show V m c (Pipeline.arrRef spec0 5) ((win0_5.rect t).emb (ix2 0 n)) = _
  refine (congrArg (V m c main_arg6) ?_).trans (congrFun (V_main_arg6 m c) _)
  funext b; apply Fin.ext; rw [win0_5.rect_emb_val]
  fin_cases b
  · show win0_5.index t 0 * 1 + 0 = 0; rw [e.1]
  · show win0_5.index t 1 * 2048 + n.val = n.val; rw [e.2]; omega

/-- The gathered weights at a device, a row and a column of the device's part. -/
theorem wAt_at (c : Dev nD) (R : Fin 4096) (n : Fin 2048) (k : Fin 8) (q : Fin 768) :
    wAt m c (ix3 k n q) = (rw_ m c R).w n (col k q.val q.isLt) := by
  have hq := q.isLt
  unfold wAt wts rw_ rowOf
  refine (congrArg (m ((c : Thread nD τ).loc main_arg3)) ?_)
  funext b; apply Fin.ext
  fin_cases b
  · show k.val = (k.val * 768 + q.val) / 768; omega
  · show q.val / 256 = (k.val * 768 + q.val) / 256 % 3; omega
  · rfl
  · show q.val % 256 = (k.val * 768 + q.val) % 256; omega

/-- Row `p` of what point `t` reads is row `256 t + p` of the arrays. -/
theorem reads (c : Dev nD) (t : Fin cfg0.N) (p : Fin 256) :
    Reads (rw_ m c (at_ t p)) p (iblk m c 0 t) (iblk m c 1 t) (iblk m c 2 t) (iblk m c 3 t) (wAt m c) where
  h0 a l := (blk0 m c t a p l).trans (DwIn.cot_stack _ _ _ _ _ a l rfl).symm
  h1 l := (blk1 m c t p l).trans (DwIn.cot_input _ _ _ _ _ l rfl).symm
  h2 l := (blk2 m c t p l).trans (DwIn.cot_gate _ _ _ _ _ l rfl).symm
  h3 n := blk3 m c t p n
  hw n k q := wAt_at m c _ n k q

theorem arr6 (c : Dev nD) : (dats m 0 c).arrAt 6 cfg0.N = (fun i => (rw_ m c (i 0)).gx (i 1) : S4096x2048.Idx → EReal) := by
  refine (dats m 0 c).arrAt_eq_of_covers 6 _ (by decide +kernel) fun t hf y => ?_
  have e := (idx_all t).2.2.2.2.2.2
  blk_simp
  rw [after0_6]
  have h0 : (((win0_6.rect t).emb y) 0).val = t.val * 256 + (y 0).val := by
    rw [win0_6.rect_emb_val]; show win0_6.index t 0 * 256 + (y 0).val = _; rw [e.1]
  have h1 : (((win0_6.rect t).emb y) 1).val = (y 1).val := by
    rw [win0_6.rect_emb_val]; show win0_6.index t 1 * 2048 + (y 1).val = _; rw [e.2]; omega
  refine (congrArg (gxAt m c t) (eq_ix2 y)).trans ((gx_at (reads m c t (y 0)) (y 1) _ _ (blk4 m c t (y 0)) (blk5 m c t)).trans ?_)
  exact congrArg₂ (fun R n => (rw_ m c R).gx n) (Fin.ext h0.symm) (Fin.ext h1.symm)

theorem zero5 (i : S1x2048.Idx) : k0_pay5 (F := Ideal) i = 0 := by unfold k0_pay5; exact Ideal.ofBits_zero_f32

theorem arr7 (c : Dev nD) :
    (dats m 0 c).arrAt 7 cfg0.N
      = (fun i => ∑ R : Fin 4096, (rw_ m c R).dh (i 1) * (rw_ m c R).xn (i 1) : S1x2048.Idx → EReal) := by
  refine (dats m 0 c).arrAt_eq_of_after_last 7 t0_15 (by decide +kernel) _ fun j => ?_
  blk_simp
  rw [after0_7, Pipeline.eq_sum_fin_of_reset_step_apply_last (fun n h => dgAt m c n h) 16 (fun _ => 0)
    (fun t j => ∑ p : Fin 256, (rw_ m c (at_ t p)).dh (j 1) * (rw_ m c (at_ t p)).xn (j 1))
    (fun t h j => by
      rw [dgAt_A m c t (by have : t.val < grid0.N := t.isLt; have := N_0; omega)]
      exact (congrArg _ (eq_ix2 j)).trans ((dg_at (reads m c t) _ _ _).trans (congrArg (· + _) (zero5 _))))
    (fun t h j => by
      rw [dgAt_B m c t (by intro h0; exact h (by rw [h0]))]
      exact (congrArg _ (eq_ix2 j)).trans ((dg_at (reads m c t) _ _ _).trans (congrArg (· + _) (congrArg _ (eq_ix2 j).symm))))
    (le_of_eq N_0) t0_15 rfl j, zero_add]
  exact Fin.sum_mul_add_congr (S := cfg0.N) (f := fun R => (rw_ m c R).dh (j 1) * (rw_ m c R).xn (j 1)) (fun t p _ => rfl)
    (by rw [show cfg0.N = 16 from N_0])

end Cert.BwdInIdeal.Bwd

end
-- ==== Proof.BwdRef.lean ====
/-
  The reference's gradient of the input projection and of the first norm, read at an index: each value is the row's
  number.
-/
module

public import proofs.«01_k».proof.Proof.Gen.BwdInRefIdeal.Read
public import proofs.«01_k».proof.Proof.BwdSpec

@[expose] public section

set_option maxRecDepth 16384

noncomputable section

namespace Cert.BwdInRefIdeal.Hand

open Cert.BwdInRefIdeal Cert.BwdInRefIdeal.Read Idealize.ShloMosaic Cert.Bwd

/-- The seven arguments. -/
structure Args where
  x0 : (⟨S4x4096x1024, .bf16⟩ : BufTy).Contents (Elt Ideal)
  x1 : (⟨S4096x1024, .bf16⟩ : BufTy).Contents (Elt Ideal)
  x2 : (⟨S4096x1024, .bf16⟩ : BufTy).Contents (Elt Ideal)
  x3 : (⟨S8x3x2048x256, .bf16⟩ : BufTy).Contents (Elt Ideal)
  x4 : (⟨S4096x2048, .f32⟩ : BufTy).Contents (Elt Ideal)
  x5 : (⟨S4096x2048, .f32⟩ : BufTy).Contents (Elt Ideal)
  x6 : (⟨S1x2048, .f32⟩ : BufTy).Contents (Elt Ideal)

namespace Args

variable (A : Args)

def row (R : Fin 4096) : Row := rowOf A.x0 A.x1 A.x2 A.x3 A.x4 A.x5 A.x6 R

variable (R : Fin 4096) (n : Fin 2048) (u : Fin 1)

theorem d_at (q : Fin 6144) : val_main_v17 (F := Ideal) A.x0 A.x1 A.x2 (ix2 R q) = (A.row R).d q := by
  unfold val_main_v17
  exact Cert.DwIn.six_eq_cot A.x0 A.x1 A.x2
    ![val_main_v11 (F := Ideal) A.x0, val_main_v12 (F := Ideal) A.x0, val_main_v13 (F := Ideal) A.x0, val_main_v14 (F := Ideal) A.x0,
      val_main_v15 (F := Ideal) A.x1, val_main_v16 (F := Ideal) A.x2]
    (fun j k l => by fin_cases j <;> pointwise [val_main_v11, val_main_v12, val_main_v13, val_main_v14, val_main_v3, val_main_v4,
      val_main_v5, val_main_v6, val_main_v7, val_main_v8, val_main_v9, val_main_v10])
    (fun k l => rfl) (fun k l => rfl) _ R q

theorem w_at (q : Fin 6144) : val_main_v2 (F := Ideal) A.x3 (ix2 n q) = (A.row R).w n q := by
  rw [val_main_v2_apply, val_main_v1_apply, val_main_v0_apply, Ideal.extf_def]
  refine congrArg A.x3 ?_
  have := q.isLt
  have := n.isLt
  funext a; apply Fin.ext
  fin_cases a
  · show (n.val * 6144 + q.val) / 768 % 8 = q.val / 768; omega
  · show (n.val * 6144 + q.val) / 256 % 3 = q.val / 256 % 3; omega
  · show (n.val * 6144 + q.val) / 6144 = n.val; omega
  · show (n.val * 6144 + q.val) % 256 = q.val % 256; omega

theorem dh_at : val_main_v34 (F := Ideal) A.x0 A.x1 A.x2 A.x3 (ix2 R n) = (A.row R).dh n := by
  rw [val_main_v34_apply]
  refine Finset.sum_congr rfl fun q _ => congrArg₂ (· * ·) ((congrArg _ ?_).trans (A.d_at R q)) ((congrArg _ ?_).trans (A.w_at R n q))
  · funext a; fin_cases a <;> rfl
  · funext a; fin_cases a <;> rfl

theorem v_at : val_main_v24 (F := Ideal) A.x4 (ix2 R u) = (A.row R).v := by
  pointwise [val_main_v24, val_main_v23, val_main_v22, val_main_v21, val_main_v20, val_main_v19, val_main_v18, val_main_cst,
    val_main_cst_0, val_main_cst_1]
  rfl

theorem r_at : val_main_v25 (F := Ideal) A.x4 (ix2 R u) = (A.row R).r := by
  pointwise [val_main_v25]
  rw [v_at]
  rfl

theorem half_at : val_main_v28 (F := Ideal) A.x4 (ix2 R u)
    = Ideal.ofBits .f32 0xBF000000#32 * Ideal.div (A.row R).r (A.row R).v := by
  pointwise [val_main_v28, val_main_v27, val_main_v26, val_main_cst_2]
  rw [r_at, v_at]

theorem xn_at : val_main_v30 (F := Ideal) A.x4 (ix2 R n) = (A.row R).xn n := by
  pointwise [val_main_v30, val_main_v29]
  rw [r_at]
  rfl

theorem dxn_at : val_main_v39 (F := Ideal) A.x0 A.x1 A.x2 A.x3 A.x6 (ix2 R n) = (A.row R).dxn n := by
  pointwise [val_main_v39, val_main_v38]
  rw [dh_at]
  rfl

theorem xd_at : val_main_v42 (F := Ideal) A.x0 A.x1 A.x2 A.x3 A.x4 A.x6 (ix2 R u) = (A.row R).xd := by
  pointwise [val_main_v42, val_main_v41, val_main_v40, val_main_cst_4]
  simp only [dxn_at]
  rfl

theorem via_at : val_main_v49 (F := Ideal) A.x0 A.x1 A.x2 A.x3 A.x4 A.x6 (ix2 R n) = (A.row R).via := by
  pointwise [val_main_v49, val_main_v48, val_main_v47, val_main_v46, val_main_v45, val_main_cst_5, val_main_cst_6]
  simp only [xd_at, half_at]
  exact Fin.sum_univ_one _

theorem gx_at : val_main_v54 (F := Ideal) A.x0 A.x1 A.x2 A.x3 A.x4 A.x5 A.x6 (ix2 R n) = (A.row R).gx n := by
  pointwise [val_main_v54, val_main_v53, val_main_v52, val_main_v51, val_main_v50, val_main_v44, val_main_v43]
  rw [dxn_at, r_at, via_at]
  exact (A.row R).gx_ref n

theorem dg_at : val_main_v37 (F := Ideal) A.x0 A.x1 A.x2 A.x3 A.x4 (ix2 u n) = ∑ R : Fin 4096, (A.row R).dh n * (A.row R).xn n := by
  pointwise [val_main_v37, val_main_v36, val_main_v35, val_main_cst_3]
  refine Finset.sum_congr rfl fun R _ => ?_
  rw [dh_at, xn_at, mul_comm]

theorem res0 : val_main_v54 (F := Ideal) A.x0 A.x1 A.x2 A.x3 A.x4 A.x5 A.x6 = (fun i => (A.row (i 0)).gx (i 1) : S4096x2048.Idx → EReal) := by
  funext i
  obtain ⟨R, n, rfl⟩ : ∃ (R : Fin 4096) (n : Fin 2048), i = ix2 R n := ⟨i 0, i 1, by funext a; fin_cases a <;> rfl⟩
  exact A.gx_at R n

theorem res1 : val_main_v37 (F := Ideal) A.x0 A.x1 A.x2 A.x3 A.x4
    = (fun i => ∑ R : Fin 4096, (A.row R).dh (i 1) * (A.row R).xn (i 1) : S1x2048.Idx → EReal) := by
  funext i
  obtain ⟨u, n, rfl⟩ : ∃ (u : Fin 1) (n : Fin 2048), i = ix2 u n := ⟨i 0, i 1, by funext a; fin_cases a <;> rfl⟩
  exact A.dg_at n u

end Args

end Cert.BwdInRefIdeal.Hand

end
-- ==== Proof.BwdClaims.lean ====
/-
  The claims about the backward of the input projection and the first norm: one run serves the kernel and its ideal
  form, whose texts are the same; the values agree at every argument.
-/
module

public import proofs.«01_k».proof.Defs
public import proofs.«01_k».proof.Proof.Gen.BwdIn
public import proofs.«01_k».proof.Proof.Gen.BwdInRefIdeal.Run
public import proofs.«01_k».proof.Proof.BwdArr
public import proofs.«01_k».proof.Proof.BwdRef
public import Idealize.ShloMosaic.Lib.Quiescent

@[expose] public section

set_option maxRecDepth 16384

noncomputable section

namespace Cert.BwdInClaims

open Idealize.ShloMosaic Idealize.SL.Sem Cert.Bwd

/-- The two programs run the same body. -/
theorem bodies : Cert.BwdIn.defs₀ (F := Bits) = Cert.BwdInIdeal.defs₀ (F := Bits) := by
  unfold Cert.BwdIn.defs₀ Cert.BwdInIdeal.defs₀
  refine congrArg Defs.onTc ?_
  funext l a
  match l, a with
  | 0, (t, s) => rfl

theorem tables : Cert.BwdIn.defs (F := Bits) = Cert.BwdInIdeal.defs (F := Bits) :=
  congrArg (Pipeline.defs Cert.BwdInIdeal.pcfgs) bodies

theorem frame_k : Cert.quiescent_BwdIn := fun m ρ _ => by
  rw [tables]
  exact Cert.BwdInIdeal.Bwd.frame (F := Bits) m ρ

theorem frame_ki : Cert.quiescent_BwdInIdeal := fun m ρ _ => Cert.BwdInIdeal.Bwd.frame (F := Ideal) m ρ

/-- The reference declares no semaphore; its run leaves the arguments. -/
theorem frame_ri : Cert.quiescent_BwdInRefIdeal := fun m ρ _ =>
  (θ_run Cert.BwdInRefIdeal.defs _ _).mono (fun r h => ⟨fun c => (h c).2.2, sem_eq_zero_of_no_sems (by decide) r.2⟩)
    (Cert.BwdInRefIdeal.Value.run (F := Ideal) m ρ)

/-- Device `c`'s arguments, the kernel's and the reference's. -/
def args (m : (ℓ : Loc BwdInIdeal.nD BwdInIdeal.τ BwdInIdeal.sig) → Buf (Elt Ideal) ℓ) (c : Dev BwdInIdeal.nD) :
    BwdInRefIdeal.Hand.Args where
  x0 := m ((c.tc : Thread BwdInIdeal.nD BwdInIdeal.τ).loc BwdInIdeal.main_arg0)
  x1 := m ((c.tc : Thread BwdInIdeal.nD BwdInIdeal.τ).loc BwdInIdeal.main_arg1)
  x2 := m ((c.tc : Thread BwdInIdeal.nD BwdInIdeal.τ).loc BwdInIdeal.main_arg2)
  x3 := m ((c.tc : Thread BwdInIdeal.nD BwdInIdeal.τ).loc BwdInIdeal.main_arg3)
  x4 := m ((c.tc : Thread BwdInIdeal.nD BwdInIdeal.τ).loc BwdInIdeal.main_arg4)
  x5 := m ((c.tc : Thread BwdInIdeal.nD BwdInIdeal.τ).loc BwdInIdeal.main_arg5)
  x6 := m ((c.tc : Thread BwdInIdeal.nD BwdInIdeal.τ).loc BwdInIdeal.main_arg6)
def refArgs (m : (ℓ : Loc BwdInRefIdeal.nD BwdInRefIdeal.τ BwdInRefIdeal.sig) → Buf (Elt Ideal) ℓ) (c : Dev BwdInRefIdeal.nD) :
    BwdInRefIdeal.Hand.Args where
  x0 := m ((c.tc : Thread BwdInRefIdeal.nD BwdInRefIdeal.τ).loc BwdInRefIdeal.main_arg0)
  x1 := m ((c.tc : Thread BwdInRefIdeal.nD BwdInRefIdeal.τ).loc BwdInRefIdeal.main_arg1)
  x2 := m ((c.tc : Thread BwdInRefIdeal.nD BwdInRefIdeal.τ).loc BwdInRefIdeal.main_arg2)
  x3 := m ((c.tc : Thread BwdInRefIdeal.nD BwdInRefIdeal.τ).loc BwdInRefIdeal.main_arg3)
  x4 := m ((c.tc : Thread BwdInRefIdeal.nD BwdInRefIdeal.τ).loc BwdInRefIdeal.main_arg4)
  x5 := m ((c.tc : Thread BwdInRefIdeal.nD BwdInRefIdeal.τ).loc BwdInRefIdeal.main_arg5)
  x6 := m ((c.tc : Thread BwdInRefIdeal.nD BwdInRefIdeal.τ).loc BwdInRefIdeal.main_arg6)

set_option maxHeartbeats 1000000 in
open BwdInIdeal.Bwd BwdInRefIdeal.Hand.Args BwdInRefIdeal.Read in
/-- Kernel and reference end at the rows' numbers. -/
theorem algebraic : Cert.algebraic_BwdInIdeal_BwdInRefIdeal := by
  intro m ρ m' ρ' _ hagree
  refine ⟨fun c => (dats m 0 c).arrAt 6 BwdInIdeal.cfg0.N, fun c => (dats m 0 c).arrAt 7 BwdInIdeal.cfg0.N, ?_, ?_⟩
  · exact (θ_run BwdInIdeal.defs _ _).mono (fun _ h c => ⟨(h.2 c).1 6, (h.2 c).1 7, h.1 c⟩)
      (θ_run_and (unchanged m ρ) (run_main m ρ))
  · refine (θ_run BwdInRefIdeal.defs _ _).mono (fun _ h c => ?_) (BwdInRefIdeal.Value.run (F := Ideal) m' ρ')
    obtain ⟨r0, r1, hr⟩ := h c
    obtain ⟨a0, a1, a2, a3, a4, a5, a6⟩ := hagree c
    have eA : refArgs m' c = args m c := by
      unfold refArgs args
      rw [a0, a1, a2, a3, a4, a5, a6]
    refine ⟨r0.trans ((val_main_v54_eq _ _).trans ?_), r1.trans ((val_main_v37_eq _ _ _ _ _).trans ?_), hr⟩
    · exact (refArgs m' c).res0.trans (by rw [eA]; exact (arr6 m c).symm)
    · exact (refArgs m' c).res1.trans (by rw [eA]; exact (arr7 m c).symm)

end Cert.BwdInClaims

end
-- ==== Proof.FwdConv.lean ====
/-
  The gated convolution of the forward pass: what the kernel's body computes from its blocks, and the result array as a
  function of the argument arrays, channel by channel.
-/
module

public import proofs.«01_k».proof.Proof.Gen.ConvFwdIdeal.Value
public import proofs.«01_k».proof.Proof.ConvArr

@[expose] public section

set_option maxRecDepth 16384

noncomputable section

namespace Cert.Conv

open Idealize.ShloMosaic

/-- The gated result of a channel: the first gate times the convolution, times the activated output gate. -/
def Chan.out (x : Chan) (r : Fin 4096) : EReal := x.B r * x.conv r * (x.Z r * x.sg r)

/-- Channel `q` of the forward arguments; the forward pass has no incoming gradient. -/
def fchan (a0 : (⟨2, ![4096, 6144]⟩ : Shape).Idx → EReal) (a1 : (⟨2, ![8, 1024]⟩ : Shape).Idx → EReal)
    (a2 : (⟨2, ![1, 1024]⟩ : Shape).Idx → EReal) (q : Fin 1024) : Chan := chan a0 (fun _ => 0) a1 a2 q

end Cert.Conv

namespace Cert.ConvFwdIdeal.Hand

open Cert.ConvFwdIdeal Cert.ConvFwdIdeal.Gen Idealize.ShloMosaic Idealize.ShloMosaic.TcCoe Cert.Conv
open Cert.KernelIdeal.Hand (sel_eq)
open Idealize.ShloMosaic.Pipeline (Dat)

section Body

variable (x0 x1 x2 x3 : Vec Ideal S4096x128 .bf16) (x4 : Vec Ideal S8x128 .f32) (x5 : Vec Ideal S1x128 .f32)

/-- The channel in lane `l` of the blocks. -/
def lane (l : Fin 128) : Chan :=
  ⟨fun r => x0 (ix2 r l), fun r => x1 (ix2 r l), fun r => x2 (ix2 r l), fun r => x3 (ix2 r l), fun _ => 0,
    x4 (ix2 0 l), x4 (ix2 1 l), x4 (ix2 2 l), x5 (ix2 0 l)⟩

/-- The last eight rows, moved down by one row, with a zero in the first. -/
def top (a : Vec Ideal S4096x128 .f32) : Vec Ideal S8x128 .f32 :=
  select (cmpi .eq (iota .tc S8x128 32 [0] iota_S8x128_d0_w32) (broadcast S8x128 0#32))
    (broadcast S8x128 (Scalar.ofBits (F := Ideal) .f32 0x00000000#32))
    (dynamicRotate 0 1#32 none (extractStridedSlice S8x128 ![4088, 0] a slices_S4096x128_o4088_0_S8x128) rotates_S8x128_d0)

/-- The rows one time step earlier. -/
def earlier (a : Vec Ideal S4096x128 .f32) : Vec Ideal S4096x128 .f32 :=
  concatenate S4096x128 0 [⟨S8x128, top a⟩, ⟨S4088x128, extractStridedSlice S4088x128 ![0, 0] a slices_S4096x128_o0_0_S4088x128⟩]
    concatenates_S8x128_S4088x128_S4096x128_d0

theorem top_at (a : Vec Ideal S4096x128 .f32) (k : Fin 8) (l : Fin 128) :
    top a (ix2 k l) = if (k : ℕ) = 0 then 0 else a (ix2 ⟨4088 + (k + 7) % 8, by omega⟩ l) := by
  have hk : (k : ℕ) < 8 := k.isLt
  pointwise [top]
  rw [sel_eq _ hk 0 (by decide)]
  refine if_congr Iff.rfl rfl (congrArg (fun i => a (ix2 i l)) (Fin.ext ?_))
  show 4088 + ((k : ℕ) + 8 - 1) % 8 = 4088 + (k + 7) % 8
  omega

theorem earlier_at (a : Vec Ideal S4096x128 .f32) (f : Fin 4096 → EReal) (l : Fin 128)
    (h : ∀ r, a (ix2 r l) = f r) (r : Fin 4096) : earlier a (ix2 r l) = prv f r := by
  have hr : (r : ℕ) < 4096 := r.isLt
  pointwise [earlier]
  unfold prv
  split
  · rename_i h8
    rw [top_at]
    by_cases h0 : (r : ℕ) = 0
    · rw [if_pos h0, if_pos h0]
    · rw [if_neg h0, if_neg h0, h]
      refine congrArg f (Fin.ext ?_)
      show 4088 + ((r : ℕ) + 7) % 8 = 4087 + r
      omega
  · exact h _

theorem ld0 (x : Vec Ideal S4096x128 .bf16) : View.ld x r0_0 = x :=
  View.ld_unit_zero (by funext a; fin_cases a <;> rfl) ..
theorem ldb : View.ld x5 r0_1 = x5 :=
  View.ld_unit_zero (by funext a; fin_cases a <;> rfl) ..

/-- What is convolved. -/
def prod : FVec Ideal S4096x128 .f32 := mulf (extf .f32 x1 bitsLt_bf16_f32) (extf .f32 x2 bitsLt_bf16_f32)

theorem prod_at (r : Fin 4096) (l : Fin 128) : prod x1 x2 (ix2 r l) = (lane x0 x1 x2 x3 x4 x5 l).cv r := by
  pointwise [prod]
  rfl

theorem conv_at (r : Fin 4096) (l : Fin 128) :
    k0_pay2 x1 x2 x5 (View.ld x4 r0_2) (View.ld x4 r0_3) (View.ld x4 r0_4) (ix2 r l)
      = (lane x0 x1 x2 x3 x4 x5 l).conv r := by
  have e : k0_pay2 x1 x2 x5 (View.ld x4 r0_2) (View.ld x4 r0_3) (View.ld x4 r0_4)
      = addf (addf (addf (broadcastTo S4096x128 x5 broadcasts_S1x128_S4096x128)
          (mulf (broadcastTo S4096x128 (View.ld x4 r0_2) broadcasts_S1x128_S4096x128) (earlier (earlier (prod x1 x2)))))
          (mulf (broadcastTo S4096x128 (View.ld x4 r0_3) broadcasts_S1x128_S4096x128) (earlier (prod x1 x2))))
          (mulf (broadcastTo S4096x128 (View.ld x4 r0_4) broadcasts_S1x128_S4096x128) (prod x1 x2)) := rfl
  have h1 : ∀ r, earlier (prod x1 x2) (ix2 r l) = prv (lane x0 x1 x2 x3 x4 x5 l).cv r := fun r =>
    earlier_at _ _ l (fun r => prod_at x0 x1 x2 x3 x4 x5 r l) r
  rw [e]
  pointwise
  rw [earlier_at _ _ l h1, h1, prod_at x0 x1 x2 x3 x4 x5]
  rfl

theorem out_at (r : Fin 4096) (l : Fin 128) :
    out0_6 x0 x1 x2 x3 x4 x5 (ix2 r l) = (lane x0 x1 x2 x3 x4 x5 l).out r := by
  unfold out0_6
  rw [View.canon_unit_zero (by funext a; fin_cases a <;> rfl), ld0, ld0, ld0, ld0, ldb]
  pointwise [k0_pay1, k0_pay3]
  rw [conv_at x0 x1 x2 x3 x4 x5]
  rfl

end Body

variable (m : (ℓ : Loc nD τ sig) → Buf (Elt Ideal) ℓ)

theorem idx_facts : ∀ t : Fin grid0.N,
    (win0_0.index t 0 = 0 ∧ win0_0.index t 1 = t.val) ∧ (win0_1.index t 0 = 0 ∧ win0_1.index t 1 = 8 + t.val)
    ∧ (win0_2.index t 0 = 0 ∧ win0_2.index t 1 = 16 + t.val) ∧ (win0_3.index t 0 = 0 ∧ win0_3.index t 1 = 24 + t.val)
    ∧ (win0_4.index t 0 = 0 ∧ win0_4.index t 1 = t.val) ∧ (win0_5.index t 0 = 0 ∧ win0_5.index t 1 = t.val)
    ∧ (win0_6.index t 0 = 0 ∧ win0_6.index t 1 = t.val) := by
  decide +kernel

/-- The column lane `l` of point `t`'s blocks stands at. -/
def col (t : Fin grid0.N) (l : Fin 128) : Fin 1024 := ⟨t * 128 + l, by have := t.isLt; have := N_0; omega⟩

theorem blk0 (c : Dev nD) (t : Fin grid0.N) (r : Fin 4096) (l : Fin 128) :
    iblk m c 0 t (ix2 r l) = m ((c : Thread nD τ).loc main_arg0) (ix2 r ⟨col t l, by omega⟩) := by
  have e := (idx_facts t).1
  show V m c (Pipeline.arrRef spec0 0) ((win0_0.rect t).emb (ix2 r l)) = _
  refine (congrArg (V m c main_arg0) ?_).trans (congrFun (V_main_arg0 m c) _)
  funext a; apply Fin.ext; rw [win0_0.rect_emb_val]
  fin_cases a
  · show win0_0.index t 0 * 4096 + r.val = r.val; rw [e.1]; omega
  · show win0_0.index t 1 * 128 + l.val = t.val * 128 + l.val; rw [e.2]

theorem blk1 (c : Dev nD) (t : Fin grid0.N) (r : Fin 4096) (l : Fin 128) :
    iblk m c 1 t (ix2 r l) = m ((c : Thread nD τ).loc main_arg0) (ix2 r ⟨1024 + col t l, by omega⟩) := by
  have e := (idx_facts t).2.1
  show V m c (Pipeline.arrRef spec0 1) ((win0_1.rect t).emb (ix2 r l)) = _
  refine (congrArg (V m c main_arg0) ?_).trans (congrFun (V_main_arg0 m c) _)
  funext a; apply Fin.ext; rw [win0_1.rect_emb_val]
  fin_cases a
  · show win0_1.index t 0 * 4096 + r.val = r.val; rw [e.1]; omega
  · show win0_1.index t 1 * 128 + l.val = 1024 + (t.val * 128 + l.val); rw [e.2]; omega

theorem blk2 (c : Dev nD) (t : Fin grid0.N) (r : Fin 4096) (l : Fin 128) :
    iblk m c 2 t (ix2 r l) = m ((c : Thread nD τ).loc main_arg0) (ix2 r ⟨2048 + col t l, by omega⟩) := by
  have e := (idx_facts t).2.2.1
  show V m c (Pipeline.arrRef spec0 2) ((win0_2.rect t).emb (ix2 r l)) = _
  refine (congrArg (V m c main_arg0) ?_).trans (congrFun (V_main_arg0 m c) _)
  funext a; apply Fin.ext; rw [win0_2.rect_emb_val]
  fin_cases a
  · show win0_2.index t 0 * 4096 + r.val = r.val; rw [e.1]; omega
  · show win0_2.index t 1 * 128 + l.val = 2048 + (t.val * 128 + l.val); rw [e.2]; omega

theorem blk3 (c : Dev nD) (t : Fin grid0.N) (r : Fin 4096) (l : Fin 128) :
    iblk m c 3 t (ix2 r l) = m ((c : Thread nD τ).loc main_arg0) (ix2 r ⟨3072 + col t l, by omega⟩) := by
  have e := (idx_facts t).2.2.2.1
  show V m c (Pipeline.arrRef spec0 3) ((win0_3.rect t).emb (ix2 r l)) = _
  refine (congrArg (V m c main_arg0) ?_).trans (congrFun (V_main_arg0 m c) _)
  funext a; apply Fin.ext; rw [win0_3.rect_emb_val]
  fin_cases a
  · show win0_3.index t 0 * 4096 + r.val = r.val; rw [e.1]; omega
  · show win0_3.index t 1 * 128 + l.val = 3072 + (t.val * 128 + l.val); rw [e.2]; omega

theorem blk4 (c : Dev nD) (t : Fin grid0.N) (r : Fin 8) (l : Fin 128) :
    iblk m c 4 t (ix2 r l) = m ((c : Thread nD τ).loc main_arg1) (ix2 r (col t l)) := by
  have e := (idx_facts t).2.2.2.2.1
  show V m c (Pipeline.arrRef spec0 4) ((win0_4.rect t).emb (ix2 r l)) = _
  refine (congrArg (V m c main_arg1) ?_).trans (congrFun (V_main_arg1 m c) _)
  funext a; apply Fin.ext; rw [win0_4.rect_emb_val]
  fin_cases a
  · show win0_4.index t 0 * 8 + r.val = r.val; rw [e.1]; omega
  · show win0_4.index t 1 * 128 + l.val = t.val * 128 + l.val; rw [e.2]

theorem blk5 (c : Dev nD) (t : Fin grid0.N) (r : Fin 1) (l : Fin 128) :
    iblk m c 5 t (ix2 r l) = m ((c : Thread nD τ).loc main_arg2) (ix2 r (col t l)) := by
  have e := (idx_facts t).2.2.2.2.2.1
  show V m c (Pipeline.arrRef spec0 5) ((win0_5.rect t).emb (ix2 r l)) = _
  refine (congrArg (V m c main_arg2) ?_).trans (congrFun (V_main_arg2 m c) _)
  funext a; apply Fin.ext; rw [win0_5.rect_emb_val]
  fin_cases a
  · show win0_5.index t 0 * 1 + r.val = r.val; rw [e.1]; omega
  · show win0_5.index t 1 * 128 + l.val = t.val * 128 + l.val; rw [e.2]

/-- Channel `q` of device `c`'s argument arrays. -/
def ch (c : Dev nD) (q : Fin 1024) : Chan :=
  fchan (m ((c : Thread nD τ).loc main_arg0)) (m ((c : Thread nD τ).loc main_arg1)) (m ((c : Thread nD τ).loc main_arg2)) q

theorem lane_blk (c : Dev nD) (t : Fin grid0.N) (l : Fin 128) :
    lane (iblk m c 0 t) (iblk m c 1 t) (iblk m c 2 t) (iblk m c 3 t) (iblk m c 4 t) (iblk m c 5 t) l = ch m c (col t l) := by
  unfold lane ch fchan chan
  congr 1
  · funext r; exact blk0 m c t r l
  · funext r; exact blk1 m c t r l
  · funext r; exact blk2 m c t r l
  · funext r; exact blk3 m c t r l
  · exact blk4 m c t 0 l
  · exact blk4 m c t 1 l
  · exact blk4 m c t 2 l
  · exact blk5 m c t 0 l

theorem out_blk (c : Dev nD) (t : Fin grid0.N) (y : S4096x128.Idx) :
    out0_6 (iblk m c 0 t) (iblk m c 1 t) (iblk m c 2 t) (iblk m c 3 t) (iblk m c 4 t) (iblk m c 5 t) y
      = (fun i => (ch m c (i 1)).out (i 0) : S4096x1024.Idx → EReal) (ix2 (y 0) (col t (y 1))) := by
  refine (congrArg _ (eq_ix2 y)).trans ?_
  exact (out_at ..).trans (congrArg (fun x : Chan => x.out (y 0)) (lane_blk m c t (y 1)))

theorem arr6 (c : Dev nD) :
    (dats m 0 c).arrAt 6 cfg0.N = (fun i => (ch m c (i 1)).out (i 0) : S4096x1024.Idx → EReal) := by
  refine (dats m 0 c).arrAt_eq_of_covers 6 _ (by decide +kernel) fun t hf y => ?_
  obtain ⟨e0, e1⟩ := (idx_facts t).2.2.2.2.2.2
  blk_simp
  rw [after0_6]
  refine (out_blk m c t y).trans (congrArg (fun i => (ch m c (i 1)).out (i 0) : S4096x1024.Idx → EReal) ?_)
  show _ = (win0_6.rect t).emb y
  funext a; apply Fin.ext; rw [win0_6.rect_emb_val]
  fin_cases a
  · show (y 0).val = win0_6.index t 0 * 4096 + (y 0).val; rw [e0]; omega
  · show t.val * 128 + (y 1).val = win0_6.index t 1 * 128 + (y 1).val; rw [e1]

end Cert.ConvFwdIdeal.Hand
-- ==== Proof.FwdConvClaims.lean ====
/-
  The reference's gated convolution, read at an index in time order, and the claims about that call.
-/
module

public import proofs.«01_k».proof.Defs
public import proofs.«01_k».proof.Proof.Gen.ConvFwd.Frame
public import proofs.«01_k».proof.Proof.Gen.ConvFwdIdeal.Frame
public import proofs.«01_k».proof.Proof.Gen.ConvFwdRefIdeal.Run
public import proofs.«01_k».proof.Proof.Gen.ConvFwdRefIdeal.Read
public import proofs.«01_k».proof.Proof.ConvRef
public import proofs.«01_k».proof.Proof.FwdConv
public import Idealize.ShloMosaic.Lib.Quiescent

@[expose] public section

set_option maxRecDepth 16384

noncomputable section

namespace Cert.ConvFwdRefIdeal.Hand

open Cert.ConvFwdRefIdeal Cert.ConvFwdRefIdeal.Read Idealize.ShloMosaic Cert.Conv

variable (x0 : (⟨S4096x6144, .bf16⟩ : BufTy).Contents (Elt Ideal)) (x1 : (⟨S8x1024, .f32⟩ : BufTy).Contents (Elt Ideal))
  (x2 : (⟨S1x1024, .f32⟩ : BufTy).Contents (Elt Ideal))

theorem proj_at (u : Fin 1) (t : Fin 4096) (q : Fin 6144) : val_main_v3 x0 (ix3 u t q) = x0 (ix2 (row t) q) := by
  pointwise [val_main_v3, val_main_v2, val_main_v1, val_main_v0]
  rfl

theorem b_at (u : Fin 1) (t : Fin 4096) (q : Fin 1024) : val_main_v5 x0 (ix3 u t q) = (fchan x0 x1 x2 q).B (row t) := by
  pointwise [val_main_v5, val_main_v4]
  exact proj_at ..
theorem c_at (u : Fin 1) (t : Fin 4096) (q : Fin 1024) : val_main_v6 x0 (ix3 u t q) = (fchan x0 x1 x2 q).C (row t) := by
  pointwise [val_main_v6, val_main_v4]
  exact proj_at ..
theorem v_at (u : Fin 1) (t : Fin 4096) (q : Fin 1024) : val_main_v7 x0 (ix3 u t q) = (fchan x0 x1 x2 q).V (row t) := by
  pointwise [val_main_v7, val_main_v4]
  exact proj_at ..
theorem z_at (u : Fin 1) (t : Fin 4096) (q : Fin 1024) : val_main_v8 x0 (ix3 u t q) = (fchan x0 x1 x2 q).Z (row t) := by
  pointwise [val_main_v8, val_main_v4]
  exact proj_at ..

theorem cv_at (u : Fin 1) (t : Fin 4096) (q : Fin 1024) : val_main_v11 x0 (ix3 u t q) = (fchan x0 x1 x2 q).cv (row t) := by
  pointwise [val_main_v11]
  rw [c_at x0 x1 x2, v_at x0 x1 x2]
  rfl

theorem s2_at (u : Fin 1) (t : Fin 4096) (q : Fin 1024) :
    val_main_v18 x0 (ix3 u t q) = prv (prv (fchan x0 x1 x2 q).cv) (row t) := by
  pointwise [val_main_v18, val_main_v13, val_main_v12, val_main_cst]
  rw [prv_prv_row]
  refine dite_congr rfl (fun _ => rfl) fun _ => cv_at x0 x1 x2 ..

theorem s1_at (u : Fin 1) (t : Fin 4096) (q : Fin 1024) :
    val_main_v26 x0 (ix3 u t q) = prv (fchan x0 x1 x2 q).cv (row t) := by
  pointwise [val_main_v26, val_main_v13, val_main_v12, val_main_cst]
  rw [prv_row]
  by_cases h : (t : ℕ) < 1
  · rw [dif_pos h, dif_pos (by omega)]
  · rw [dif_neg h, dif_neg (by omega), cv_at x0 x1 x2]
    congr 2; apply Fin.ext; show 1 + (t : ℕ) - 2 = t - 1; omega

theorem s0_at (u : Fin 1) (t : Fin 4096) (q : Fin 1024) :
    val_main_v33 x0 (ix3 u t q) = (fchan x0 x1 x2 q).cv (row t) := by
  pointwise [val_main_v33, val_main_v13]
  exact cv_at x0 x1 x2 ..

theorem conv_at (u : Fin 1) (t : Fin 4096) (q : Fin 1024) :
    val_main_v36 x0 x1 x2 (ix3 u t q) = (fchan x0 x1 x2 q).conv (row t) := by
  pointwise [val_main_v36, val_main_v29, val_main_v22, val_main_v35, val_main_v28, val_main_v20, val_main_v21, val_main_v19,
    val_main_v27, val_main_v34, val_main_v14, val_main_v17, val_main_v25, val_main_v32, val_main_v16, val_main_v24,
    val_main_v31, val_main_v15, val_main_v23, val_main_v30, val_main_v10, val_main_v9]
  rw [s2_at x0 x1 x2, s1_at x0 x1 x2, s0_at x0 x1 x2]
  rfl

theorem sg_at (u : Fin 1) (t : Fin 4096) (q : Fin 1024) :
    val_main_call0_v5 x0 (ix3 u t q) = (fchan x0 x1 x2 q).sg (row t) := by
  pointwise [val_main_call0_v5, val_main_call0_v4, val_main_call0_v3, val_main_call0_v2, val_main_call0_v1,
    val_main_call0_v0, val_main_call0_cst_0, val_main_call0_cst]
  rw [z_at x0 x1 x2, ← zero_sub]
  rfl

theorem res_at (r : Fin 4096) (q : Fin 1024) : val_main_v43 x0 x1 x2 (ix2 r q) = (fchan x0 x1 x2 q).out r := by
  pointwise [val_main_v43, val_main_v42, val_main_v41, val_main_v40, val_main_v39, val_main_v38, val_main_v37]
  have e : (⟨(r : ℕ) % 8 * 512 + r / 8, by omega⟩ : Fin 4096) = tim r := rfl
  simp only [e, conv_at x0 x1 x2, sg_at x0 x1 x2, b_at x0 x1 x2, z_at x0 x1 x2, row_tim]
  rfl

end Cert.ConvFwdRefIdeal.Hand

namespace Cert.FwdConvClaims

open Idealize.ShloMosaic Idealize.SL.Sem Cert.Conv

theorem frame_k : Cert.quiescent_ConvFwd := fun m ρ _ => Cert.ConvFwd.Gen.frame m ρ
theorem frame_ki : Cert.quiescent_ConvFwdIdeal := fun m ρ _ => Cert.ConvFwdIdeal.Gen.frame m ρ

/-- The reference declares no semaphore; its run leaves the arguments. -/
theorem frame_ri : Cert.quiescent_ConvFwdRefIdeal := fun m ρ _ =>
  (θ_run Cert.ConvFwdRefIdeal.defs _ _).mono (fun r h => ⟨fun c => (h c).2, sem_eq_zero_of_no_sems (by decide) r.2⟩)
    (Cert.ConvFwdRefIdeal.Value.run (F := Ideal) m ρ)

/-- Kernel and reference end at the channels' gated results. -/
theorem algebraic : Cert.algebraic_ConvFwdIdeal_ConvFwdRefIdeal := by
  intro m ρ m' ρ' _ hagree
  refine ⟨fun c => (fun i => (Cert.ConvFwdIdeal.Hand.ch m c (i 1)).out (i 0) : Cert.ConvFwdIdeal.S4096x1024.Idx → EReal), ?_, ?_⟩
  · exact (θ_run Cert.ConvFwdIdeal.defs _ _).mono (fun _ h c =>
      ⟨(h c).1.trans (Cert.ConvFwdIdeal.Hand.arr6 m c), (h c).2⟩) (Cert.ConvFwdIdeal.Value.run_blocks (F := Ideal) m ρ)
  · refine (θ_run Cert.ConvFwdRefIdeal.defs _ _).mono (fun _ h c =>
      ⟨(h c).1.trans ((Cert.ConvFwdRefIdeal.Read.val_main_v43_eq m' c).trans ?_), (h c).2⟩)
      (Cert.ConvFwdRefIdeal.Value.run (F := Ideal) m' ρ')
    rw [(hagree c).1, (hagree c).2.1, (hagree c).2.2]
    funext i
    obtain ⟨r, q, rfl⟩ : ∃ (r : Fin 4096) (q : Fin 1024), i = ix2 r q := ⟨i 0, i 1, by funext a; fin_cases a <;> rfl⟩
    exact Cert.ConvFwdRefIdeal.Hand.res_at _ _ _ r q

end Cert.FwdConvClaims

end
-- ==== Proof.FwdNorm.lean ====
/-
  The first norm of the forward pass: what the kernel's body computes from its blocks, and the three result arrays as
  functions of the argument arrays, row by row. Row `R` of the interleaved tokens is token `R / 8` of sequence `R % 8`.
-/
module

public import proofs.«01_k».proof.Proof.Gen.NormInIdeal.Value
public import proofs.«01_k».proof.Proof.TailSpec
public import Idealize.ShloMosaic.Lib.Pipeline.ValueKit

@[expose] public section

set_option maxRecDepth 16384

noncomputable section

namespace Cert.FwdNorm

open Idealize.ShloMosaic
open Cert.Tail (wLen wEps)

/-- A row divided by its root mean square and scaled by the gain. -/
def nrm (x g : Fin 2048 → EReal) (n : Fin 2048) : EReal :=
  x n * Ideal.rsqrt (Ideal.div (∑ k : Fin 2048, x k * x k) wLen + wEps) * g n

/-- Row `R` of the interleaved tokens. -/
def tok (a0 : (⟨3, ![8, 512, 2048]⟩ : Shape).Idx → EReal) (R : Fin 4096) (n : Fin 2048) : EReal :=
  a0 (ix3 ⟨(R : ℕ) % 8, by omega⟩ ⟨(R : ℕ) / 8, by omega⟩ n)

/-- The gain. -/
def gain (a1 : (⟨2, ![1, 2048]⟩ : Shape).Idx → EReal) (n : Fin 2048) : EReal := a1 (ix2 0 n)

end Cert.FwdNorm

namespace Cert.NormInIdeal.Hand

open Cert.NormInIdeal Cert.NormInIdeal.Gen Idealize.ShloMosaic Idealize.ShloMosaic.TcCoe Cert.FwdNorm
open Idealize.ShloMosaic.Pipeline (Dat)

section Body

variable (x0 : Vec Ideal S8x64x2048 .f32) (x1 : Vec Ideal S1x2048 .f32)

/-- Row `p` of the interleaved block. -/
def brow (p : Fin 512) (n : Fin 2048) : EReal := x0 (ix3 ⟨(p : ℕ) % 8, by omega⟩ ⟨(p : ℕ) / 8, by omega⟩ n)

theorem pay1_at (p : Fin 512) (n : Fin 2048) : k0_pay1 x0 (ix2 p n) = brow x0 p n := by
  pointwise [k0_pay1]
  rfl

theorem pay2_at (p : Fin 512) (n : Fin 2048) : k0_pay2 x0 x1 (ix2 p n) = nrm (brow x0 p) (gain x1) n := by
  pointwise [k0_pay2]
  simp only [pay1_at]
  rfl

theorem ld0 : View.ld x0 r0_0 = x0 := View.ld_unit_zero (by funext a; fin_cases a <;> rfl) ..
theorem ld1 : View.ld x1 r0_2 = x1 := View.ld_unit_zero (by funext a; fin_cases a <;> rfl) ..

theorem out2_at (p : Fin 512) (n : Fin 2048) : out0_2 x0 x1 (ix2 p n) = brow x0 p n := by
  unfold out0_2
  rw [View.canon_unit_zero (by funext a; fin_cases a <;> rfl), ld0]
  exact pay1_at x0 p n

theorem out3_at (p : Fin 512) (n : Fin 2048) : out0_3 x0 x1 (ix2 p n) = nrm (brow x0 p) (gain x1) n := by
  unfold out0_3
  rw [View.canon_unit_zero (by funext a; fin_cases a <;> rfl), ld0, ld1]
  pointwise [k0_pay3]
  exact pay2_at x0 x1 p n

theorem out4_at (n : Fin 2048) (p : Fin 512) : out0_4 x0 x1 (ix2 n p) = nrm (brow x0 p) (gain x1) n := by
  unfold out0_4
  rw [View.canon_unit_zero (by funext a; fin_cases a <;> rfl), ld0, ld1]
  pointwise [k0_pay4]
  exact pay2_at x0 x1 p n

end Body

variable (m : (ℓ : Loc nD τ sig) → Buf (Elt Ideal) ℓ)

theorem idx_facts : ∀ t : Fin grid0.N,
    (win0_0.index t 0 = 0 ∧ win0_0.index t 1 = t.val ∧ win0_0.index t 2 = 0)
    ∧ (win0_1.index t 0 = 0 ∧ win0_1.index t 1 = 0) ∧ (win0_2.index t 0 = t.val ∧ win0_2.index t 1 = 0)
    ∧ (win0_3.index t 0 = t.val ∧ win0_3.index t 1 = 0) ∧ (win0_4.index t 0 = 0 ∧ win0_4.index t 1 = t.val) := by
  decide +kernel

/-- The row of the arrays that row `p` of point `t` is. -/
def at_ (t : Fin grid0.N) (p : Fin 512) : Fin 4096 := ⟨t * 512 + p, by have := t.isLt; have := N_0; omega⟩

theorem blk0 (c : Dev nD) (t : Fin grid0.N) (u : Fin 8) (s : Fin 64) (n : Fin 2048) :
    iblk m c 0 t (ix3 u s n) = m ((c : Thread nD τ).loc main_arg0)
      (ix3 u ⟨t * 64 + s, by have := t.isLt; have := N_0; omega⟩ n) := by
  have e := (idx_facts t).1
  show V m c (Pipeline.arrRef spec0 0) ((win0_0.rect t).emb (ix3 u s n)) = _
  refine (congrArg (V m c main_arg0) ?_).trans (congrFun (V_main_arg0 m c) _)
  funext a; apply Fin.ext; rw [win0_0.rect_emb_val]
  fin_cases a
  · show win0_0.index t 0 * 8 + u.val = u.val; rw [e.1]; omega
  · show win0_0.index t 1 * 64 + s.val = t.val * 64 + s.val; rw [e.2.1]
  · show win0_0.index t 2 * 2048 + n.val = n.val; rw [e.2.2]; omega

theorem blk1 (c : Dev nD) (t : Fin grid0.N) (n : Fin 2048) :
    iblk m c 1 t (ix2 0 n) = m ((c : Thread nD τ).loc main_arg1) (ix2 0 n) := by
  have e := (idx_facts t).2.1
  show V m c (Pipeline.arrRef spec0 1) ((win0_1.rect t).emb (ix2 0 n)) = _
  refine (congrArg (V m c main_arg1) ?_).trans (congrFun (V_main_arg1 m c) _)
  funext a; apply Fin.ext; rw [win0_1.rect_emb_val]
  fin_cases a
  · show win0_1.index t 0 * 1 + 0 = 0; rw [e.1]
  · show win0_1.index t 1 * 2048 + n.val = n.val; rw [e.2]; omega

/-- Row `R` of device `c`'s tokens, and its gain. -/
def xr (c : Dev nD) (R : Fin 4096) : Fin 2048 → EReal := tok (m ((c : Thread nD τ).loc main_arg0)) R
def gr (c : Dev nD) : Fin 2048 → EReal := gain (m ((c : Thread nD τ).loc main_arg1))

theorem row_blk (c : Dev nD) (t : Fin grid0.N) (p : Fin 512) : brow (iblk m c 0 t) p = xr m c (at_ t p) := by
  funext n
  refine (blk0 m c t _ _ n).trans (congrArg (m ((c : Thread nD τ).loc main_arg0)) ?_)
  funext a; apply Fin.ext
  fin_cases a
  · show p.val % 8 = (t.val * 512 + p.val) % 8; omega
  · show t.val * 64 + p.val / 8 = (t.val * 512 + p.val) / 8; omega
  · rfl

theorem gain_blk (c : Dev nD) (t : Fin grid0.N) : gain (iblk m c 1 t) = gr m c := funext fun n => blk1 m c t n

theorem out2_blk (c : Dev nD) (t : Fin grid0.N) (y : S512x2048.Idx) :
    out0_2 (iblk m c 0 t) (iblk m c 1 t) y
      = (fun i => xr m c (i 0) (i 1) : S4096x2048.Idx → EReal) (ix2 (at_ t (y 0)) (y 1)) := by
  refine (congrArg _ (eq_ix2 y)).trans ?_
  exact (out2_at ..).trans (congrFun (row_blk m c t (y 0)) (y 1))

theorem out3_blk (c : Dev nD) (t : Fin grid0.N) (y : S512x2048.Idx) :
    out0_3 (iblk m c 0 t) (iblk m c 1 t) y
      = (fun i => nrm (xr m c (i 0)) (gr m c) (i 1) : S4096x2048.Idx → EReal) (ix2 (at_ t (y 0)) (y 1)) := by
  refine (congrArg _ (eq_ix2 y)).trans ?_
  exact (out3_at ..).trans (congrArg₂ (fun x g => nrm x g (y 1)) (row_blk m c t (y 0)) (gain_blk m c t))

theorem out4_blk (c : Dev nD) (t : Fin grid0.N) (y : S2048x512.Idx) :
    out0_4 (iblk m c 0 t) (iblk m c 1 t) y
      = (fun i => nrm (xr m c (i 1)) (gr m c) (i 0) : S2048x4096.Idx → EReal) (ix2 (y 0) (at_ t (y 1))) := by
  refine (congrArg _ (eq_ix2 y)).trans ?_
  exact (out4_at ..).trans (congrArg₂ (fun x g => nrm x g (y 0)) (row_blk m c t (y 1)) (gain_blk m c t))

theorem arr2 (c : Dev nD) :
    (dats m 0 c).arrAt 2 cfg0.N = (fun i => xr m c (i 0) (i 1) : S4096x2048.Idx → EReal) := by
  refine (dats m 0 c).arrAt_eq_of_covers 2 _ (by decide +kernel) fun t hf y => ?_
  obtain ⟨e0, e1⟩ := (idx_facts t).2.2.1
  blk_simp
  rw [after0_2]
  refine (out2_blk m c t y).trans (congrArg (fun i => xr m c (i 0) (i 1) : S4096x2048.Idx → EReal) ?_)
  show _ = (win0_2.rect t).emb y
  funext a; apply Fin.ext; rw [win0_2.rect_emb_val]
  fin_cases a
  · show t.val * 512 + (y 0).val = win0_2.index t 0 * 512 + (y 0).val; rw [e0]
  · show (y 1).val = win0_2.index t 1 * 2048 + (y 1).val; rw [e1]; omega

theorem arr3 (c : Dev nD) :
    (dats m 0 c).arrAt 3 cfg0.N = (fun i => nrm (xr m c (i 0)) (gr m c) (i 1) : S4096x2048.Idx → EReal) := by
  refine (dats m 0 c).arrAt_eq_of_covers 3 _ (by decide +kernel) fun t hf y => ?_
  obtain ⟨e0, e1⟩ := (idx_facts t).2.2.2.1
  blk_simp
  rw [after0_3]
  refine (out3_blk m c t y).trans (congrArg (fun i => nrm (xr m c (i 0)) (gr m c) (i 1) : S4096x2048.Idx → EReal) ?_)
  show _ = (win0_3.rect t).emb y
  funext a; apply Fin.ext; rw [win0_3.rect_emb_val]
  fin_cases a
  · show t.val * 512 + (y 0).val = win0_3.index t 0 * 512 + (y 0).val; rw [e0]
  · show (y 1).val = win0_3.index t 1 * 2048 + (y 1).val; rw [e1]; omega

theorem arr4 (c : Dev nD) :
    (dats m 0 c).arrAt 4 cfg0.N = (fun i => nrm (xr m c (i 1)) (gr m c) (i 0) : S2048x4096.Idx → EReal) := by
  refine (dats m 0 c).arrAt_eq_of_covers 4 _ (by decide +kernel) fun t hf y => ?_
  obtain ⟨e0, e1⟩ := (idx_facts t).2.2.2.2
  blk_simp
  rw [after0_4]
  refine (out4_blk m c t y).trans (congrArg (fun i => nrm (xr m c (i 1)) (gr m c) (i 0) : S2048x4096.Idx → EReal) ?_)
  show _ = (win0_4.rect t).emb y
  funext a; apply Fin.ext; rw [win0_4.rect_emb_val]
  fin_cases a
  · show (y 0).val = win0_4.index t 0 * 2048 + (y 0).val; rw [e0]; omega
  · show t.val * 512 + (y 1).val = win0_4.index t 1 * 512 + (y 1).val; rw [e1]

end Cert.NormInIdeal.Hand
-- ==== Proof.FwdNormClaims.lean ====
/-
  The reference's first norm, read at an index, and the claims about that call.
-/
module

public import proofs.«01_k».proof.Defs
public import proofs.«01_k».proof.Proof.Gen.NormIn.Frame
public import proofs.«01_k».proof.Proof.Gen.NormInIdeal.Frame
public import proofs.«01_k».proof.Proof.Gen.NormInRefIdeal.Run
public import proofs.«01_k».proof.Proof.Gen.NormInRefIdeal.Read
public import proofs.«01_k».proof.Proof.FwdNorm
public import Idealize.ShloMosaic.Lib.Quiescent

@[expose] public section

set_option maxRecDepth 16384

noncomputable section

namespace Cert.NormInRefIdeal.Hand

open Cert.NormInRefIdeal Cert.NormInRefIdeal.Read Idealize.ShloMosaic Cert.FwdNorm
open Cert.Tail (wLen wEps)

variable (x0 : (⟨S8x512x2048, .f32⟩ : BufTy).Contents (Elt Ideal)) (x1 : (⟨S1x2048, .f32⟩ : BufTy).Contents (Elt Ideal))

theorem x_at (R : Fin 4096) (n : Fin 2048) : val_main_v1 x0 (ix2 R n) = tok x0 R n := by
  pointwise [val_main_v1, val_main_v0]
  rfl

theorem sum_at (R : Fin 4096) : val_main_v4 x0 (ix1 R) = ∑ k : Fin 2048, tok x0 R k * tok x0 R k := by
  rw [val_main_v4_apply, val_main_cst_apply, Ideal.ofBits_def, Ideal.ofBits_zero_f32]
  refine (zero_add _).trans (Finset.sum_congr rfl fun k _ => ?_)
  rw [show idx_main_v4 (ix1 R) k = ix2 R k from eq_ix2 _]
  pointwise [val_main_v3]
  rw [x_at]

theorem h_at (R : Fin 4096) (n : Fin 2048) : val_main_v16 x0 x1 (ix2 R n) = nrm (tok x0 R) (gain x1) n := by
  pointwise [val_main_v16, val_main_v15, val_main_v14, val_main_v13, val_main_v12, val_main_v11, val_main_v10, val_main_v9,
    val_main_v8, val_main_v7, val_main_v6, val_main_v5, val_main_v2, val_main_cst_0, val_main_cst_1]
  rw [x_at, sum_at]
  rfl

theorem ht_at (n : Fin 2048) (R : Fin 4096) : val_main_v17 x0 x1 (ix2 n R) = nrm (tok x0 R) (gain x1) n := by
  pointwise [val_main_v17]
  exact h_at x0 x1 R n

end Cert.NormInRefIdeal.Hand

namespace Cert.FwdNormClaims

open Idealize.ShloMosaic Idealize.SL.Sem Cert.FwdNorm

theorem frame_k : Cert.quiescent_NormIn := fun m ρ _ => Cert.NormIn.Gen.frame m ρ
theorem frame_ki : Cert.quiescent_NormInIdeal := fun m ρ _ => Cert.NormInIdeal.Gen.frame m ρ

/-- The reference declares no semaphore; its run leaves the arguments. -/
theorem frame_ri : Cert.quiescent_NormInRefIdeal := fun m ρ _ =>
  (θ_run Cert.NormInRefIdeal.defs _ _).mono (fun r h => ⟨fun c => (h c).2.2.2, sem_eq_zero_of_no_sems (by decide) r.2⟩)
    (Cert.NormInRefIdeal.Value.run (F := Ideal) m ρ)

/-- Kernel and reference end at the interleaved tokens, and at their normed rows, upright and on their side. -/
theorem algebraic : Cert.algebraic_NormInIdeal_NormInRefIdeal := by
  intro m ρ m' ρ' _ hagree
  refine ⟨fun c => (fun i => Cert.NormInIdeal.Hand.xr m c (i 0) (i 1) : Cert.NormInIdeal.S4096x2048.Idx → EReal),
    fun c => (fun i => nrm (Cert.NormInIdeal.Hand.xr m c (i 0)) (Cert.NormInIdeal.Hand.gr m c) (i 1)
      : Cert.NormInIdeal.S4096x2048.Idx → EReal),
    fun c => (fun i => nrm (Cert.NormInIdeal.Hand.xr m c (i 1)) (Cert.NormInIdeal.Hand.gr m c) (i 0)
      : Cert.NormInIdeal.S2048x4096.Idx → EReal), ?_, ?_⟩
  · exact (θ_run Cert.NormInIdeal.defs _ _).mono (fun _ h c =>
      ⟨(h c).1.trans (Cert.NormInIdeal.Hand.arr2 m c), (h c).2.1.trans (Cert.NormInIdeal.Hand.arr3 m c),
        (h c).2.2.1.trans (Cert.NormInIdeal.Hand.arr4 m c), (h c).2.2.2⟩) (Cert.NormInIdeal.Value.run_blocks (F := Ideal) m ρ)
  · refine (θ_run Cert.NormInRefIdeal.defs _ _).mono (fun _ h c =>
      ⟨(h c).1.trans ((Cert.NormInRefIdeal.Read.val_main_v1_eq _).trans ?_),
        (h c).2.1.trans ((Cert.NormInRefIdeal.Read.val_main_v16_eq _ _).trans ?_),
        (h c).2.2.1.trans ((Cert.NormInRefIdeal.Read.val_main_v17_eq _ _).trans ?_), (h c).2.2.2⟩)
      (Cert.NormInRefIdeal.Value.run (F := Ideal) m' ρ')
    · rw [(hagree c).1]
      funext i
      obtain ⟨r, q, rfl⟩ : ∃ (r : Fin 4096) (q : Fin 2048), i = ix2 r q := ⟨i 0, i 1, by funext a; fin_cases a <;> rfl⟩
      exact Cert.NormInRefIdeal.Hand.x_at _ r q
    · rw [(hagree c).1, (hagree c).2]
      funext i
      obtain ⟨r, q, rfl⟩ : ∃ (r : Fin 4096) (q : Fin 2048), i = ix2 r q := ⟨i 0, i 1, by funext a; fin_cases a <;> rfl⟩
      exact Cert.NormInRefIdeal.Hand.h_at _ _ r q
    · rw [(hagree c).1, (hagree c).2]
      funext i
      obtain ⟨q, r, rfl⟩ : ∃ (q : Fin 2048) (r : Fin 4096), i = ix2 q r := ⟨i 0, i 1, by funext a; fin_cases a <;> rfl⟩
      exact Cert.NormInRefIdeal.Hand.ht_at _ _ q r

end Cert.FwdNormClaims

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Pre_finite
public import proofs.«01_k».proof.Proof.Gen.DwOut
public import proofs.«01_k».proof.Proof.Gen.DwOut.Skeleton
public import proofs.«01_k».proof.Proof.Gen.DwOut.Launch
public import proofs.«01_k».proof.Proof.Gen.DwOut.Points
public import proofs.«01_k».proof.Proof.Gen.DwOut.Frame
public import proofs.«01_k».proof.Proof.Gen.DwOutIdeal
public import proofs.«01_k».proof.Proof.Gen.DwOutIdeal.Skeleton
public import proofs.«01_k».proof.Proof.Gen.DwOutIdeal.Launch
public import proofs.«01_k».proof.Proof.Gen.DwOutIdeal.Points
public import proofs.«01_k».proof.Proof.Gen.DwOutIdeal.Frame
public import proofs.«01_k».proof.Proof.Gen.DwOutIdeal.Value
public import proofs.«01_k».proof.Proof.Gen.DwOutRefIdeal
public import proofs.«01_k».proof.Proof.Gen.DwOutRefIdeal.Run
public import proofs.«01_k».proof.Proof.Gen.DwOutRefIdeal.Read
public import proofs.«01_k».proof.Proof.Gen.DwGlu
public import proofs.«01_k».proof.Proof.Gen.DwGlu.Skeleton
public import proofs.«01_k».proof.Proof.Gen.DwGlu.Launch
public import proofs.«01_k».proof.Proof.Gen.DwGlu.Points
public import proofs.«01_k».proof.Proof.Gen.DwGlu.Frame
public import proofs.«01_k».proof.Proof.Gen.DwGluIdeal
public import proofs.«01_k».proof.Proof.Gen.DwGluIdeal.Skeleton
public import proofs.«01_k».proof.Proof.Gen.DwGluIdeal.Launch
public import proofs.«01_k».proof.Proof.Gen.DwGluIdeal.Points
public import proofs.«01_k».proof.Proof.Gen.DwGluIdeal.Frame
public import proofs.«01_k».proof.Proof.Gen.DwGluIdeal.Value
public import proofs.«01_k».proof.Proof.Gen.DwGluRefIdeal
public import proofs.«01_k».proof.Proof.Gen.DwGluRefIdeal.Run
public import proofs.«01_k».proof.Proof.Gen.DwGluRefIdeal.Read
public import proofs.«01_k».proof.Proof.Gen.DwEarly
public import proofs.«01_k».proof.Proof.Gen.DwEarly.Skeleton
public import proofs.«01_k».proof.Proof.Gen.DwEarly.Launch
public import proofs.«01_k».proof.Proof.Gen.DwEarly.Points
public import proofs.«01_k».proof.Proof.Gen.DwEarly.Frame
public import proofs.«01_k».proof.Proof.Gen.DwEarlyIdeal
public import proofs.«01_k».proof.Proof.Gen.DwEarlyIdeal.Skeleton
public import proofs.«01_k».proof.Proof.Gen.DwEarlyIdeal.Launch
public import proofs.«01_k».proof.Proof.Gen.DwEarlyIdeal.Points
public import proofs.«01_k».proof.Proof.Gen.DwEarlyIdeal.Frame
public import proofs.«01_k».proof.Proof.Gen.DwEarlyIdeal.Value
public import proofs.«01_k».proof.Proof.Gen.DwEarlyRefIdeal
public import proofs.«01_k».proof.Proof.Gen.DwEarlyRefIdeal.Run
public import proofs.«01_k».proof.Proof.Gen.DwEarlyRefIdeal.Read
public import proofs.«01_k».proof.Proof.Gen.DwLate
public import proofs.«01_k».proof.Proof.Gen.DwLate.Skeleton
public import proofs.«01_k».proof.Proof.Gen.DwLate.Launch
public import proofs.«01_k».proof.Proof.Gen.DwLate.Points
public import proofs.«01_k».proof.Proof.Gen.DwLate.Frame
public import proofs.«01_k».proof.Proof.Gen.DwLateIdeal
public import proofs.«01_k».proof.Proof.Gen.DwLateIdeal.Skeleton
public import proofs.«01_k».proof.Proof.Gen.DwLateIdeal.Launch
public import proofs.«01_k».proof.Proof.Gen.DwLateIdeal.Points
public import proofs.«01_k».proof.Proof.Gen.DwLateIdeal.Frame
public import proofs.«01_k».proof.Proof.Gen.DwLateIdeal.Value
public import proofs.«01_k».proof.Proof.Gen.DwLateRefIdeal
public import proofs.«01_k».proof.Proof.Gen.DwLateRefIdeal.Run
public import proofs.«01_k».proof.Proof.Gen.DwLateRefIdeal.Read
public import proofs.«01_k».proof.Proof.Gen.Tail
public import proofs.«01_k».proof.Proof.Gen.Tail.Skeleton
public import proofs.«01_k».proof.Proof.Gen.Tail.Launch
public import proofs.«01_k».proof.Proof.Gen.Tail.Points
public import proofs.«01_k».proof.Proof.Gen.Tail.Frame
public import proofs.«01_k».proof.Proof.Gen.TailIdeal
public import proofs.«01_k».proof.Proof.Gen.TailIdeal.Skeleton
public import proofs.«01_k».proof.Proof.Gen.TailIdeal.Launch
public import proofs.«01_k».proof.Proof.Gen.TailIdeal.Points
public import proofs.«01_k».proof.Proof.Gen.TailIdeal.Frame
public import proofs.«01_k».proof.Proof.Gen.TailRefIdeal
public import proofs.«01_k».proof.Proof.Gen.TailRefIdeal.Run
public import proofs.«01_k».proof.Proof.Gen.TailRefIdeal.Read
public import proofs.«01_k».proof.Proof.Gen.Pre_finite_tail
public import proofs.«01_k».proof.Proof.Gen.BwdIn
public import proofs.«01_k».proof.Proof.Gen.BwdIn.Skeleton
public import proofs.«01_k».proof.Proof.Gen.BwdIn.Launch
public import proofs.«01_k».proof.Proof.Gen.BwdIn.Points
public import proofs.«01_k».proof.Proof.Gen.BwdInIdeal
public import proofs.«01_k».proof.Proof.Gen.BwdInIdeal.Skeleton
public import proofs.«01_k».proof.Proof.Gen.BwdInIdeal.Launch
public import proofs.«01_k».proof.Proof.Gen.BwdInIdeal.Points
public import proofs.«01_k».proof.Proof.Gen.BwdInRefIdeal
public import proofs.«01_k».proof.Proof.Gen.BwdInRefIdeal.Run
public import proofs.«01_k».proof.Proof.Gen.BwdInRefIdeal.Read
public import proofs.«01_k».proof.Proof.Gen.ConvFwd
public import proofs.«01_k».proof.Proof.Gen.ConvFwd.Skeleton
public import proofs.«01_k».proof.Proof.Gen.ConvFwd.Launch
public import proofs.«01_k».proof.Proof.Gen.ConvFwd.Points
public import proofs.«01_k».proof.Proof.Gen.ConvFwd.Frame
public import proofs.«01_k».proof.Proof.Gen.ConvFwdIdeal
public import proofs.«01_k».proof.Proof.Gen.ConvFwdIdeal.Skeleton
public import proofs.«01_k».proof.Proof.Gen.ConvFwdIdeal.Launch
public import proofs.«01_k».proof.Proof.Gen.ConvFwdIdeal.Points
public import proofs.«01_k».proof.Proof.Gen.ConvFwdIdeal.Frame
public import proofs.«01_k».proof.Proof.Gen.ConvFwdIdeal.Value
public import proofs.«01_k».proof.Proof.Gen.ConvFwdRefIdeal
public import proofs.«01_k».proof.Proof.Gen.ConvFwdRefIdeal.Run
public import proofs.«01_k».proof.Proof.Gen.ConvFwdRefIdeal.Read
public import proofs.«01_k».proof.Proof.Gen.NormIn
public import proofs.«01_k».proof.Proof.Gen.NormIn.Skeleton
public import proofs.«01_k».proof.Proof.Gen.NormIn.Launch
public import proofs.«01_k».proof.Proof.Gen.NormIn.Points
public import proofs.«01_k».proof.Proof.Gen.NormIn.Frame
public import proofs.«01_k».proof.Proof.Gen.NormInIdeal
public import proofs.«01_k».proof.Proof.Gen.NormInIdeal.Skeleton
public import proofs.«01_k».proof.Proof.Gen.NormInIdeal.Launch
public import proofs.«01_k».proof.Proof.Gen.NormInIdeal.Points
public import proofs.«01_k».proof.Proof.Gen.NormInIdeal.Frame
public import proofs.«01_k».proof.Proof.Gen.NormInIdeal.Value
public import proofs.«01_k».proof.Proof.Gen.NormInRefIdeal
public import proofs.«01_k».proof.Proof.Gen.NormInRefIdeal.Run
public import proofs.«01_k».proof.Proof.Gen.NormInRefIdeal.Read
public import proofs.«01_k».proof.Proof.Gen.On_early_parts
public import proofs.«01_k».proof.Proof.Gen.On_late_parts
public import proofs.«01_k».proof.Proof.ConvClaims
public import proofs.«01_k».proof.Proof.DwOut
public import proofs.«01_k».proof.Proof.DwGlu
public import proofs.«01_k».proof.Proof.DwEarly
public import proofs.«01_k».proof.Proof.DwLate
public import proofs.«01_k».proof.Proof.TailFrame
public import proofs.«01_k».proof.Proof.TailClaims
public import proofs.«01_k».proof.Proof.BwdClaims
public import proofs.«01_k».proof.Proof.FwdConvClaims
public import proofs.«01_k».proof.Proof.FwdNormClaims
public import Idealize.ShloMosaic.Adequacy
public import Idealize.ShloMosaic.Init

@[expose] public section

noncomputable section

namespace Cert.Proof

open Idealize.ShloMosaic Idealize.SL.Sem

theorem claim : Cert.Claim :=
  haveI := Cert.Kernel.Gen.facts
  haveI := Cert.KernelIdeal.Gen.facts
  haveI := Cert.ReferenceIdeal.Gen.facts
  haveI := Cert.DwOut.Gen.facts
  haveI := Cert.DwOutIdeal.Gen.facts
  haveI := Cert.DwOutRefIdeal.Gen.facts
  haveI := Cert.DwGlu.Gen.facts
  haveI := Cert.DwGluIdeal.Gen.facts
  haveI := Cert.DwGluRefIdeal.Gen.facts
  haveI := Cert.DwEarly.Gen.facts
  haveI := Cert.DwEarlyIdeal.Gen.facts
  haveI := Cert.DwEarlyRefIdeal.Gen.facts
  haveI := Cert.DwLate.Gen.facts
  haveI := Cert.DwLateIdeal.Gen.facts
  haveI := Cert.DwLateRefIdeal.Gen.facts
  haveI := Cert.Tail.Gen.facts
  haveI := Cert.TailIdeal.Gen.facts
  haveI := Cert.TailRefIdeal.Gen.facts
  haveI := Cert.BwdIn.Gen.facts
  haveI := Cert.BwdInIdeal.Gen.facts
  haveI := Cert.BwdInRefIdeal.Gen.facts
  haveI := Cert.ConvFwd.Gen.facts
  haveI := Cert.ConvFwdIdeal.Gen.facts
  haveI := Cert.ConvFwdRefIdeal.Gen.facts
  haveI := Cert.NormIn.Gen.facts
  haveI := Cert.NormInIdeal.Gen.facts
  haveI := Cert.NormInRefIdeal.Gen.facts
  haveI := Cert.Pre_finite.Gen.facts
  haveI := Cert.Pre_finite_tail.Gen.facts
  haveI := Cert.On_early_parts.Gen.facts
  haveI := Cert.On_late_parts.Gen.facts
  ⟨Cert.Kernel.Gen.facts, Cert.KernelIdeal.Gen.facts, Cert.ReferenceIdeal.Gen.facts, Cert.DwOut.Gen.facts, Cert.DwOutIdeal.Gen.facts, Cert.DwOutRefIdeal.Gen.facts, Cert.DwGlu.Gen.facts, Cert.DwGluIdeal.Gen.facts, Cert.DwGluRefIdeal.Gen.facts, Cert.DwEarly.Gen.facts, Cert.DwEarlyIdeal.Gen.facts, Cert.DwEarlyRefIdeal.Gen.facts, Cert.DwLate.Gen.facts, Cert.DwLateIdeal.Gen.facts, Cert.DwLateRefIdeal.Gen.facts, Cert.Tail.Gen.facts, Cert.TailIdeal.Gen.facts, Cert.TailRefIdeal.Gen.facts, Cert.BwdIn.Gen.facts, Cert.BwdInIdeal.Gen.facts, Cert.BwdInRefIdeal.Gen.facts, Cert.ConvFwd.Gen.facts, Cert.ConvFwdIdeal.Gen.facts, Cert.ConvFwdRefIdeal.Gen.facts, Cert.NormIn.Gen.facts, Cert.NormInIdeal.Gen.facts, Cert.NormInRefIdeal.Gen.facts, Cert.Pre_finite.Gen.facts, Cert.Pre_finite_tail.Gen.facts, Cert.On_early_parts.Gen.facts, Cert.On_late_parts.Gen.facts,
    Cert.ConvClaims.frame_k, Cert.ConvClaims.frame_ki, Cert.ConvClaims.frame_kip, Cert.ConvClaims.frame_ri, Cert.ConvClaims.frame_rip,
    Cert.DwOutClaims.frame_k, Cert.DwOutClaims.frame_ki, Cert.DwOutClaims.frame_ri,
    Cert.DwGluClaims.frame_k, Cert.DwGluClaims.frame_ki, Cert.DwGluClaims.frame_ri,
    Cert.DwEarlyClaims.frame_k, Cert.DwEarlyClaims.frame_ki, Cert.DwEarlyClaims.frame_ri,
    Cert.DwLateClaims.frame_k, Cert.DwLateClaims.frame_ki, Cert.DwLateClaims.frame_ri,
    Cert.TailClaims.frame_k, Cert.TailClaims.frame_ki, Cert.TailClaims.frame_kip, Cert.TailClaims.frame_ri, Cert.TailClaims.frame_rip,
    Cert.BwdInClaims.frame_k, Cert.BwdInClaims.frame_ki, Cert.BwdInClaims.frame_ri,
    Cert.FwdConvClaims.frame_k, Cert.FwdConvClaims.frame_ki, Cert.FwdConvClaims.frame_ri,
    Cert.FwdNormClaims.frame_k, Cert.FwdNormClaims.frame_ki, Cert.FwdNormClaims.frame_ri,
    trivial, Cert.ConvClaims.algebraic, trivial, Cert.DwOutClaims.algebraic, trivial, Cert.DwGluClaims.algebraic, trivial, Cert.DwEarlyClaims.algebraic, trivial, Cert.DwLateClaims.algebraic,
    Cert.TailClaims.preserves, Cert.TailClaims.algebraic,
    trivial, Cert.BwdInClaims.algebraic,
    trivial, Cert.FwdConvClaims.algebraic, trivial, Cert.FwdNormClaims.algebraic⟩

end Cert.Proof

end
